-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v76)) (v3 : (c : Dev Cert.KernelIdeal.nD) → Buf (Elt Ideal) ((c.tc : Thread Cert.KernelIdeal.nD Cert.KernelIdeal.τ).loc Cert.KernelIdeal.main_v95)) (v4 : (c : Dev Cert.KernelIdeal.nD) → Buf (Elt Ideal) ((c.tc : Thread Cert.KernelIdeal.nD Cert.KernelIdeal.τ).loc Cert.KernelIdeal.main_v114)) (v5 : (c : Dev Cert.KernelIdeal.nD) → Buf (Elt Ideal) ((c.tc : Thread Cert.KernelIdeal.nD Cert.KernelIdeal.τ).loc Cert.KernelIdeal.main_v133)) (v6 : (c : Dev Cert.KernelIdeal.nD) → Buf (Elt Ideal) ((c.tc : Thread Cert.KernelIdeal.nD Cert.KernelIdeal.τ).loc Cert.KernelIdeal.main_v152)) (v7 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_v95) = v3 c
          ∧ r.2.mem ((c.tc : Thread Cert.KernelIdeal.nD Cert.KernelIdeal.τ).loc Cert.KernelIdeal.main_v114) = v4 c
          ∧ r.2.mem ((c.tc : Thread Cert.KernelIdeal.nD Cert.KernelIdeal.τ).loc Cert.KernelIdeal.main_v133) = v5 c
          ∧ r.2.mem ((c.tc : Thread Cert.KernelIdeal.nD Cert.KernelIdeal.τ).loc Cert.KernelIdeal.main_v152) = v6 c
          ∧ r.2.mem ((c.tc : Thread Cert.KernelIdeal.nD Cert.KernelIdeal.τ).loc Cert.KernelIdeal.main_v154) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v52_9) = v1 c
          ∧ r.2.mem ((c.tc : Thread Cert.ReferenceIdeal.nD Cert.ReferenceIdeal.τ).loc Cert.ReferenceIdeal.main_v52_10) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v35) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v20) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S2x2048x1024 : Shape := ⟨3, ![2, 2048, 1024]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  bcast_S_S64x64 : S_.BroadcastsInDim S64x64 (![] : Fin 0 → Fin S64x64.rank)
  bcast_S_S64x64x16 : S_.BroadcastsInDim S64x64x16 (![] : Fin 0 → Fin S64x64x16.rank)
  bcast_S_S64x16x64 : S_.BroadcastsInDim S64x16x64 (![] : Fin 0 → Fin S64x16x64.rank)
  bcast_S_S1x1024 : S_.BroadcastsInDim S1x1024 (![] : Fin 0 → Fin S1x1024.rank)

variable [Facts]

def fn_part1 {F : FTy → Type} [FloatOps F] (main_arg6 : FVec F S64x16x64 .f32) (main_arg7 : FVec F S64x16x64 .f32) (main_arg8 : FVec F S1x1024 .f32) (main_v2 : IVec S2x2048x1024 1) (main_v5 : IVec S2x2048x1024 1) (main_v8 : IVec S64x64 1) (main_v11 : IVec S64x64 1) (main_v14 : IVec S64x64x16 1) (main_v17 : IVec S64x64x16 1) : IVec S2x2048x1024 1 × IVec S2x2048x1024 1 × IVec S64x64 1 × IVec S64x64 1 × IVec S64x64x16 1 × IVec S64x64x16 1 × IVec S64x16x64 1 × IVec S64x16x64 1 × IVec S1x1024 1 :=
  let main_v18 : FVec F S64x16x64 .f32 := Host.absf main_arg6
  let main_cst_5 : FVec F S_ .f32 := constant S_ .f32 0x7F800000#32
  let main_v19 : FVec F S64x16x64 .f32 := broadcastInDim S64x16x64 ![] bcast_S_S64x16x64 main_cst_5
  let main_v20 : IVec S64x16x64 1 := cmpf .olt main_v18 main_v19
  let main_v21 : FVec F S64x16x64 .f32 := Host.absf main_arg7
  let main_cst_6 : FVec F S_ .f32 := constant S_ .f32 0x7F800000#32
  let main_v22 : FVec F S64x16x64 .f32 := broadcastInDim S64x16x64 ![] bcast_S_S64x16x64 main_cst_6
  let main_v23 : IVec S64x16x64 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S2x2048x1024 .f32) (main_arg2 : FVec F S64x64 .f32) (main_arg3 : FVec F S64x64 .f32) (main_arg4 : FVec F S64x64x16 .f32) (main_arg5 : FVec F S64x64x16 .f32) (main_arg6 : FVec F S64x16x64 .f32) (main_arg7 : FVec F S64x16x64 .f32) (main_arg8 : FVec F S1x1024 .f32) : IVec S2x2048x1024 1 × IVec S2x2048x1024 1 × IVec S64x64 1 × IVec S64x64 1 × IVec S64x64x16 1 × IVec S64x64x16 1 × IVec S64x16x64 1 × IVec S64x16x64 1 × IVec S1x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S64x64 .f32 := Host.absf main_arg2
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_v12 : FVec F S64x64x16 .f32 := Host.absf main_arg4
  let main_cst_3 : FVec F S_ .f32 := constant S_ .f32 0x7F800000#32
  let main_v13 : FVec F S64x64x16 .f32 := broadcastInDim S64x64x16 ![] bcast_S_S64x64x16 main_cst_3
  let main_v14 : IVec S64x64x16 1 := cmpf .olt main_v12 main_v13
  let main_v15 : FVec F S64x64x16 .f32 := Host.absf main_arg5
  let main_cst_4 : FVec F S_ .f32 := constant S_ .f32 0x7F800000#32
  let main_v16 : FVec F S64x64x16 .f32 := broadcastInDim S64x64x16 ![] bcast_S_S64x64x16 main_cst_4
  let main_v17 : IVec S64x64x16 1 := cmpf .olt main_v15 main_v16
  fn_part1 (F := F) main_arg6 main_arg7 main_arg8 main_v2 main_v5 main_v8 main_v11 main_v14 main_v17
-- ==== Kernel.lean ====
abbrev S2x2048x1024 : Shape := ⟨3, ![2, 2048, 1024]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S8x8x64x16 : Shape := ⟨4, ![8, 8, 64, 16]⟩
abbrev S8x8x16x64 : Shape := ⟨4, ![8, 8, 16, 64]⟩
abbrev S8x8 : Shape := ⟨2, ![8, 8]⟩
abbrev S_ : Shape := ⟨0, ![]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1x512 : Shape := ⟨3, ![8, 1, 512]⟩
abbrev S8x16x512 : Shape := ⟨3, ![8, 16, 512]⟩
abbrev S4096x1024 : Shape := ⟨2, ![4096, 1024]⟩
abbrev S2x16x128x1024 : Shape := ⟨4, ![2, 16, 128, 1024]⟩
abbrev S2x128x16x1024 : Shape := ⟨4, ![2, 128, 16, 1024]⟩
abbrev S2x8x128x512 : Shape := ⟨4, ![2, 8, 128, 512]⟩
abbrev S2x8x512x128 : Shape := ⟨4, ![2, 8, 512, 128]⟩
abbrev S2x8x16x512 : Shape := ⟨4, ![2, 8, 16, 512]⟩
abbrev S2x8x1x128 : Shape := ⟨4, ![2, 8, 1, 128]⟩
abbrev S2048x128 : Shape := ⟨2, ![2048, 128]⟩
abbrev S1x128x512 : Shape := ⟨3, ![1, 128, 512]⟩
abbrev S1x512x128 : Shape := ⟨3, ![1, 512, 128]⟩
abbrev S1x16x512 : Shape := ⟨3, ![1, 16, 512]⟩
abbrev S1x128 : Shape := ⟨2, ![1, 128]⟩
abbrev S1x1x128x512 : Shape := ⟨4, ![1, 1, 128, 512]⟩
abbrev S1x1x512x128 : Shape := ⟨4, ![1, 1, 512, 128]⟩
abbrev S1x1x16x512 : Shape := ⟨4, ![1, 1, 16, 512]⟩
abbrev S1x1x1x128 : Shape := ⟨4, ![1, 1, 1, 128]⟩
abbrev S2048x512 : Shape := ⟨2, ![2048, 512]⟩
abbrev S16x512 : Shape := ⟨2, ![16, 512]⟩
abbrev S128x512 : Shape := ⟨2, ![128, 512]⟩
abbrev S512x128 : Shape := ⟨2, ![512, 128]⟩
abbrev S128 : Shape := ⟨1, ![128]⟩
abbrev S8x512 : Shape := ⟨2, ![8, 512]⟩
abbrev S8 : Shape := ⟨1, ![8]⟩
abbrev S8x1 : Shape := ⟨2, ![8, 1]⟩
abbrev S8x2 : Shape := ⟨2, ![8, 2]⟩
abbrev S8x1x128 : Shape := ⟨3, ![8, 1, 128]⟩

abbrev nBuf : Space → Nat
  | .hbm => 202
  | .vmem => 38
  | .smem => 0
  | _ => 0

abbrev hbmTy0_0 (i : Nat) : BufTy := match i % 128 with
  | 0 => ⟨S2x2048x1024, .f32⟩
  | 1 => ⟨S2x2048x1024, .f32⟩
  | 2 => ⟨S64x64, .f32⟩
  | 3 => ⟨S64x64, .f32⟩
  | 4 => ⟨S64x64x16, .f32⟩
  | 5 => ⟨S64x64x16, .f32⟩
  | 6 => ⟨S64x16x64, .f32⟩
  | 7 => ⟨S64x16x64, .f32⟩
  | 8 => ⟨S1x1024, .f32⟩
  | 9 => ⟨S8x8x64x16, .f32⟩
  | 10 => ⟨S8x8x16x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S8x8x16x1x64, .f32⟩
  | 19 => ⟨S1x8x1x8x1, .f32⟩
  | 20 => ⟨S8x8x16x8x64, .f32⟩
  | 21 => ⟨S8x8x16x8x64, .f32⟩
  | 22 => ⟨S8x8x16x8x64, .f32⟩
  | 23 => ⟨S8x128x512, .f32⟩
  | 24 => ⟨S8x128x512, .bf16⟩
  | 25 => ⟨S8x8x64x16, .f32⟩
  | 26 => ⟨S8x8x16x64, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S8x8x16x1x64, .f32⟩
  | 35 => ⟨S1x8x1x8x1, .f32⟩
  | 36 => ⟨S8x8x16x8x64, .f32⟩
  | 37 => ⟨S8x8x16x8x64, .f32⟩
  | 38 => ⟨S8x8x16x8x64, .f32⟩
  | 39 => ⟨S8x128x512, .f32⟩
  | 40 => ⟨S8x128x512, .bf16⟩
  | 41 => ⟨S8x8x16x64, .f32⟩
  | 42 => ⟨S8x8x64x16, .f32⟩
  | 43 => ⟨S8x8, .i32⟩
  | 44 => ⟨S8x8, .i32⟩
  | 45 => ⟨S_, .i32⟩
  | 46 => ⟨S8x8, .i32⟩
  | 47 => ⟨S8x8, .i32⟩
  | 48 => ⟨S8x8, .i1⟩
  | 49 => ⟨S8x8, .f32⟩
  | 50 => ⟨S8x8x64x1x16, .f32⟩
  | 51 => ⟨S1x8x1x8x1, .f32⟩
  | 52 => ⟨S8x8x64x8x16, .f32⟩
  | 53 => ⟨S8x8x64x8x16, .f32⟩
  | 54 => ⟨S8x8x64x8x16, .f32⟩
  | 55 => ⟨S8x512x128, .f32⟩
  | 56 => ⟨S8x512x128, .bf16⟩
  | 57 => ⟨S8x8x16x64, .f32⟩
  | 58 => ⟨S8x8x64x16, .f32⟩
  | 59 => ⟨S8x8, .i32⟩
  | 60 => ⟨S8x8, .i32⟩
  | 61 => ⟨S_, .i32⟩
  | 62 => ⟨S8x8, .i32⟩
  | 63 => ⟨S8x8, .i32⟩
  | 64 => ⟨S8x8, .i1⟩
  | 65 => ⟨S8x8, .f32⟩
  | 66 => ⟨S8x8x64x1x16, .f32⟩
  | 67 => ⟨S1x8x1x8x1, .f32⟩
  | 68 => ⟨S8x8x64x8x16, .f32⟩
  | 69 => ⟨S8x8x64x8x16, .f32⟩
  | 70 => ⟨S8x8x64x8x16, .f32⟩
  | 71 => ⟨S8x512x128, .f32⟩
  | 72 => ⟨S8x512x128, .bf16⟩
  | 73 => ⟨S8x1x512, .f32⟩
  | 74 => ⟨S8x16x512, .f32⟩
  | 75 => ⟨S8x1x512, .f32⟩
  | 76 => ⟨S8x16x512, .f32⟩
  | 77 => ⟨S4096x1024, .f32⟩
  | 78 => ⟨S2x16x128x1024, .f32⟩
  | 79 => ⟨S2x128x16x1024, .f32⟩
  | 80 => ⟨S4096x1024, .f32⟩
  | 81 => ⟨S4096x1024, .f32⟩
  | 82 => ⟨S2x16x128x1024, .f32⟩
  | 83 => ⟨S2x128x16x1024, .f32⟩
  | 84 => ⟨S4096x1024, .f32⟩
  | 85 => ⟨S4096x1024, .f32⟩
  | 86 => ⟨S2x8x128x512, .f32⟩
  | 87 => ⟨S2x8x128x512, .f32⟩
  | 88 => ⟨S2x8x512x128, .f32⟩
  | 89 => ⟨S2x8x512x128, .f32⟩
  | 90 => ⟨S2x8x16x512, .f32⟩
  | 91 => ⟨S2x8x16x512, .f32⟩
  | 92 => ⟨S2x8x1x128, .f32⟩
  | 93 => ⟨S_, .f32⟩
  | 94 => ⟨S8x512, .f32⟩
  | 95 => ⟨S64x64, .f32⟩
  | 96 => ⟨S_, .f32⟩
  | 97 => ⟨S8x512, .f32⟩
  | 98 => ⟨S64x64, .f32⟩
  | 99 => ⟨S_, .f32⟩
  | 100 => ⟨S8x128x512, .f32⟩
  | 101 => ⟨S8x8x16x8x64, .f32⟩
  | 102 => ⟨S8, .i32⟩
  | 103 => ⟨S_, .i32⟩
  | 104 => ⟨S8, .i32⟩
  | 105 => ⟨S8, .i1⟩
  | 106 => ⟨S_, .i32⟩
  | 107 => ⟨S8, .i32⟩
  | 108 => ⟨S8, .i32⟩
  | 109 => ⟨S8, .i32⟩
  | 110 => ⟨S_, .i32⟩
  | 111 => ⟨S8, .i32⟩
  | 112 => ⟨S8, .i1⟩
  | 113 => ⟨S_, .i32⟩
  | 114 => ⟨S8, .i32⟩
  | 115 => ⟨S8, .i32⟩
  | 116 => ⟨S8, .i32⟩
  | 117 => ⟨S8x1, .i32⟩
  | 118 => ⟨S8x1, .i32⟩
  | 119 => ⟨S8x2, .i32⟩
  | 120 => ⟨S8x8x16x64, .f32⟩
  | 121 => ⟨S8x8x64x16, .f32⟩
  | 122 => ⟨S64x64x16, .f32⟩
  | 123 => ⟨S_, .f32⟩
  | 124 => ⟨S8x128x512, .f32⟩
  | 125 => ⟨S8x8x16x8x64, .f32⟩
  | 126 => ⟨S8, .i32⟩
  | 127 => ⟨S_, .i32⟩
  | _ => ⟨S2x2048x1024, .f32⟩

abbrev hbmTy0_1 (i : Nat) : BufTy := match i % 128 with
  | 0 => ⟨S8, .i32⟩
  | 1 => ⟨S8, .i1⟩
  | 2 => ⟨S_, .i32⟩
  | 3 => ⟨S8, .i32⟩
  | 4 => ⟨S8, .i32⟩
  | 5 => ⟨S8, .i32⟩
  | 6 => ⟨S_, .i32⟩
  | 7 => ⟨S8, .i32⟩
  | 8 => ⟨S8, .i1⟩
  | 9 => ⟨S_, .i32⟩
  | 10 => ⟨S8, .i32⟩
  | 11 => ⟨S8, .i32⟩
  | 12 => ⟨S8, .i32⟩
  | 13 => ⟨S8x1, .i32⟩
  | 14 => ⟨S8x1, .i32⟩
  | 15 => ⟨S8x2, .i32⟩
  | 16 => ⟨S8x8x16x64, .f32⟩
  | 17 => ⟨S8x8x64x16, .f32⟩
  | 18 => ⟨S64x64x16, .f32⟩
  | 19 => ⟨S_, .f32⟩
  | 20 => ⟨S8x512x128, .f32⟩
  | 21 => ⟨S8x8x64x8x16, .f32⟩
  | 22 => ⟨S8, .i32⟩
  | 23 => ⟨S_, .i32⟩
  | 24 => ⟨S8, .i32⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i1⟩
  | 33 => ⟨S_, .i32⟩
  | 34 => ⟨S8, .i32⟩
  | 35 => ⟨S8, .i32⟩
  | 36 => ⟨S8, .i32⟩
  | 37 => ⟨S8x1, .i32⟩
  | 38 => ⟨S8x1, .i32⟩
  | 39 => ⟨S8x2, .i32⟩
  | 40 => ⟨S8x8x64x16, .f32⟩
  | 41 => ⟨S8x8x16x64, .f32⟩
  | 42 => ⟨S64x16x64, .f32⟩
  | 43 => ⟨S_, .f32⟩
  | 44 => ⟨S8x512x128, .f32⟩
  | 45 => ⟨S8x8x64x8x16, .f32⟩
  | 46 => ⟨S8, .i32⟩
  | 47 => ⟨S_, .i32⟩
  | 48 => ⟨S8, .i32⟩
  | 49 => ⟨S8, .i1⟩
  | 50 => ⟨S_, .i32⟩
  | 51 => ⟨S8, .i32⟩
  | 52 => ⟨S8, .i32⟩
  | 53 => ⟨S8, .i32⟩
  | 54 => ⟨S_, .i32⟩
  | 55 => ⟨S8, .i32⟩
  | 56 => ⟨S8, .i1⟩
  | 57 => ⟨S_, .i32⟩
  | 58 => ⟨S8, .i32⟩
  | 59 => ⟨S8, .i32⟩
  | 60 => ⟨S8, .i32⟩
  | 61 => ⟨S8x1, .i32⟩
  | 62 => ⟨S8x1, .i32⟩
  | 63 => ⟨S8x2, .i32⟩
  | 64 => ⟨S8x8x64x16, .f32⟩
  | 65 => ⟨S8x8x16x64, .f32⟩
  | 66 => ⟨S64x16x64, .f32⟩
  | 67 => ⟨S_, .f32⟩
  | 68 => ⟨S8x1x128, .f32⟩
  | 69 => ⟨S1x1024, .f32⟩
  | 70 => ⟨S2x128x16x1024, .f32⟩
  | 71 => ⟨S2x16x128x1024, .f32⟩
  | 72 => ⟨S4096x1024, .f32⟩
  | 73 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x16x512, .f32⟩
  | .local _ .vmem, ⟨13, _⟩ => ⟨S1x16x512, .f32⟩
  | .local _ .vmem, ⟨14, _⟩ => ⟨S1x16x512, .f32⟩
  | .local _ .vmem, ⟨15, _⟩ => ⟨S1x16x512, .f32⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S1x1x128x512, .f32⟩
  | .local _ .vmem, ⟨21, _⟩ => ⟨S1x1x128x512, .f32⟩
  | .local _ .vmem, ⟨22, _⟩ => ⟨S1x1x128x512, .f32⟩
  | .local _ .vmem, ⟨23, _⟩ => ⟨S1x1x128x512, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x16x512, .f32⟩
  | .local _ .vmem, ⟨29, _⟩ => ⟨S1x1x16x512, .f32⟩
  | .local _ .vmem, ⟨30, _⟩ => ⟨S1x1x16x512, .f32⟩
  | .local _ .vmem, ⟨31, _⟩ => ⟨S1x1x16x512, .f32⟩
  | .local _ .vmem, ⟨32, _⟩ => ⟨S1x1x1x128, .f32⟩
  | .local _ .vmem, ⟨33, _⟩ => ⟨S1x1x1x128, .f32⟩
  | .local _ .vmem, ⟨34, _⟩ => ⟨S2048x512, .f32⟩
  | .local _ .vmem, ⟨35, _⟩ => ⟨S2048x512, .f32⟩
  | .local _ .vmem, ⟨36, _⟩ => ⟨S2048x512, .f32⟩
  | .local _ .vmem, ⟨37, _⟩ => ⟨S2048x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72_0 : Ref sig .tc := ⟨.hbm, 85, rfl⟩
abbrev main_v72_1 : Ref sig .tc := ⟨.hbm, 86, rfl⟩
abbrev main_v72_2 : Ref sig .tc := ⟨.hbm, 87, rfl⟩
abbrev main_v72_3 : Ref sig .tc := ⟨.hbm, 88, rfl⟩
abbrev main_v72_4 : Ref sig .tc := ⟨.hbm, 89, rfl⟩
abbrev main_v72_5 : Ref sig .tc := ⟨.hbm, 90, rfl⟩
abbrev main_v72_6 : Ref sig .tc := ⟨.hbm, 91, rfl⟩
abbrev main_v72_7 : Ref sig .tc := ⟨.hbm, 92, rfl⟩
abbrev main_cst : Ref sig .tc := ⟨.hbm, 93, rfl⟩
abbrev main_v73 : Ref sig .tc := ⟨.hbm, 94, rfl⟩
abbrev main_v74 : Ref sig .tc := ⟨.hbm, 95, rfl⟩
abbrev main_cst_3 : Ref sig .tc := ⟨.hbm, 96, rfl⟩
abbrev main_v75 : Ref sig .tc := ⟨.hbm, 97, rfl⟩
abbrev main_v76 : Ref sig .tc := ⟨.hbm, 98, rfl⟩
abbrev main_cst_4 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_5 : Ref sig .tc := ⟨.hbm, 103, rfl⟩
abbrev main_v80 : Ref sig .tc := ⟨.hbm, 104, rfl⟩
abbrev main_v81 : Ref sig .tc := ⟨.hbm, 105, rfl⟩
abbrev main_c_6 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_7 : Ref sig .tc := ⟨.hbm, 110, rfl⟩
abbrev main_v85 : Ref sig .tc := ⟨.hbm, 111, rfl⟩
abbrev main_v86 : Ref sig .tc := ⟨.hbm, 112, rfl⟩
abbrev main_c_8 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_9 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_10 : Ref sig .tc := ⟨.hbm, 127, rfl⟩
abbrev main_v99 : Ref sig .tc := ⟨.hbm, 128, rfl⟩
abbrev main_v100 : Ref sig .tc := ⟨.hbm, 129, rfl⟩
abbrev main_c_11 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_12 : Ref sig .tc := ⟨.hbm, 134, rfl⟩
abbrev main_v104 : Ref sig .tc := ⟨.hbm, 135, rfl⟩
abbrev main_v105 : Ref sig .tc := ⟨.hbm, 136, rfl⟩
abbrev main_c_13 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_14 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_c_15 : Ref sig .tc := ⟨.hbm, 151, rfl⟩
abbrev main_v118 : Ref sig .tc := ⟨.hbm, 152, rfl⟩
abbrev main_v119 : Ref sig .tc := ⟨.hbm, 153, rfl⟩
abbrev main_c_16 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_17 : Ref sig .tc := ⟨.hbm, 158, rfl⟩
abbrev main_v123 : Ref sig .tc := ⟨.hbm, 159, rfl⟩
abbrev main_v124 : Ref sig .tc := ⟨.hbm, 160, rfl⟩
abbrev main_c_18 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_19 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_c_20 : Ref sig .tc := ⟨.hbm, 175, rfl⟩
abbrev main_v137 : Ref sig .tc := ⟨.hbm, 176, rfl⟩
abbrev main_v138 : Ref sig .tc := ⟨.hbm, 177, rfl⟩
abbrev main_c_21 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_c_22 : Ref sig .tc := ⟨.hbm, 182, rfl⟩
abbrev main_v142 : Ref sig .tc := ⟨.hbm, 183, rfl⟩
abbrev main_v143 : Ref sig .tc := ⟨.hbm, 184, rfl⟩
abbrev main_c_23 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_24 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c128_i32 : BitVec 32 := 128#32
  let v23 : BitVec 32 := Scalar.addi c0_i32 c128_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c16_i32 : BitVec 32 := 16#32
  let v674 : BitVec 32 := Scalar.muli arg23 c16_i32
  v674
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c16_i32 : BitVec 32 := 16#32
  let v674 : BitVec 32 := Scalar.muli arg23 c16_i32
  let v675 : BitVec 32 := v674
  let v682 : Index := Scalar.indexCast v675
  let c0_216 : Index := 0#32
  ![v682.toNat, 0]
@[reducible] def k0_t2_loop : Scf.Loop 32 :=
  let c0_i32_68 : BitVec 32 := 0#32
  let c128_i32_69 : BitVec 32 := 128#32
  let v308 : BitVec 32 := Scalar.addi c0_i32_68 c128_i32_69
  let c1_i32_70 : BitVec 32 := 1#32
  ⟨c0_i32_68, v308, c1_i32_70⟩
def k0_mult2 (k0_t2 : Fin k0_t2_loop.trips) : BitVec 32 :=
  let c0_i32_68 : BitVec 32 := 0#32
  let c1_i32_70 : BitVec 32 := 1#32
  let arg23 : BitVec 32 := Scf.iv c0_i32_68 c1_i32_70 k0_t2
  let c16_i32 : BitVec 32 := 16#32
  let v674 : BitVec 32 := Scalar.muli arg23 c16_i32
  v674
def k0_off2 (k0_t2 : Fin k0_t2_loop.trips) : Fin 2 → Nat :=
  let c0_i32_68 : BitVec 32 := 0#32
  let c1_i32_70 : BitVec 32 := 1#32
  let arg23 : BitVec 32 := Scf.iv c0_i32_68 c1_i32_70 k0_t2
  let c16_i32 : BitVec 32 := 16#32
  let v674 : BitVec 32 := Scalar.muli arg23 c16_i32
  let v675 : BitVec 32 := v674
  let v682 : Index := Scalar.indexCast v675
  let c0_216 : Index := 0#32
  ![v682.toNat, 0]
@[reducible] def k0_t3_loop : Scf.Loop 32 :=
  let c0_i32_87 : BitVec 32 := 0#32
  let c128_i32_88 : BitVec 32 := 128#32
  let v327 : BitVec 32 := Scalar.addi c0_i32_87 c128_i32_88
  let c1_i32_89 : BitVec 32 := 1#32
  ⟨c0_i32_87, v327, c1_i32_89⟩
def k0_mult3 (k0_t3 : Fin k0_t3_loop.trips) : BitVec 32 :=
  let c127_i32_216 : BitVec 32 := 127#32
  let c0_i32_87 : BitVec 32 := 0#32
  let c1_i32_89 : BitVec 32 := 1#32
  let arg23 : BitVec 32 := Scf.iv c0_i32_87 c1_i32_89 k0_t3
  let v674 : BitVec 32 := Scalar.subi c127_i32_216 arg23
  let c16_i32 : BitVec 32 := 16#32
  let v675 : BitVec 32 := Scalar.muli v674 c16_i32
  v675
def k0_off3 (k0_t3 : Fin k0_t3_loop.trips) : Fin 2 → Nat :=
  let c127_i32_216 : BitVec 32 := 127#32
  let c0_i32_87 : BitVec 32 := 0#32
  let c1_i32_89 : BitVec 32 := 1#32
  let arg23 : BitVec 32 := Scf.iv c0_i32_87 c1_i32_89 k0_t3
  let v674 : BitVec 32 := Scalar.subi c127_i32_216 arg23
  let c16_i32 : BitVec 32 := 16#32
  let v675 : BitVec 32 := Scalar.muli v674 c16_i32
  let v676 : BitVec 32 := v675
  let v683 : Index := Scalar.indexCast v676
  let c0_217 : Index := 0#32
  ![v683.toNat, 0]
@[reducible] def k0_t4_loop : Scf.Loop 32 :=
  let c0_i32_151 : BitVec 32 := 0#32
  let c128_i32_152 : BitVec 32 := 128#32
  let v612 : BitVec 32 := Scalar.addi c0_i32_151 c128_i32_152
  let c1_i32_153 : BitVec 32 := 1#32
  ⟨c0_i32_151, v612, c1_i32_153⟩
def k0_mult4 (k0_t4 : Fin k0_t4_loop.trips) : BitVec 32 :=
  let c127_i32_216 : BitVec 32 := 127#32
  let c0_i32_151 : BitVec 32 := 0#32
  let c1_i32_153 : BitVec 32 := 1#32
  let arg23 : BitVec 32 := Scf.iv c0_i32_151 c1_i32_153 k0_t4
  let v674 : BitVec 32 := Scalar.subi c127_i32_216 arg23
  let c16_i32 : BitVec 32 := 16#32
  let v675 : BitVec 32 := Scalar.muli v674 c16_i32
  v675
def k0_off4 (k0_t4 : Fin k0_t4_loop.trips) : Fin 2 → Nat :=
  let c127_i32_216 : BitVec 32 := 127#32
  let c0_i32_151 : BitVec 32 := 0#32
  let c1_i32_153 : BitVec 32 := 1#32
  let arg23 : BitVec 32 := Scf.iv c0_i32_151 c1_i32_153 k0_t4
  let v674 : BitVec 32 := Scalar.subi c127_i32_216 arg23
  let c16_i32 : BitVec 32 := 16#32
  let v675 : BitVec 32 := Scalar.muli v674 c16_i32
  let v676 : BitVec 32 := v675
  let v683 : Index := Scalar.indexCast v676
  let c0_217 : Index := 0#32
  ![v683.toNat, 0]
@[reducible] def k0_t5_loop : Scf.Loop 32 :=
  let c0_i32_159 : BitVec 32 := 0#32
  let c127_i32 : BitVec 32 := 127#32
  let v622 : BitVec 32 := Scalar.addi c0_i32_159 c127_i32
  let c1_i32_160 : BitVec 32 := 1#32
  ⟨c0_i32_159, v622, c1_i32_160⟩
def k0_mult5 (k0_t5 : Fin k0_t5_loop.trips) : BitVec 32 :=
  let c0_i32_159 : BitVec 32 := 0#32
  let c1_i32_160 : BitVec 32 := 1#32
  let arg23 : BitVec 32 := Scf.iv c0_i32_159 c1_i32_160 k0_t5
  let c1_i32_216 : BitVec 32 := 1#32
  let v674 : BitVec 32 := Scalar.addi arg23 c1_i32_216
  let c16_i32 : BitVec 32 := 16#32
  let v675 : BitVec 32 := Scalar.muli v674 c16_i32
  v675
def k0_mult6 (k0_t5 : Fin k0_t5_loop.trips) : BitVec 32 :=
  let c0_i32_159 : BitVec 32 := 0#32
  let c1_i32_160 : BitVec 32 := 1#32
  let arg23 : BitVec 32 := Scf.iv c0_i32_159 c1_i32_160 k0_t5
  let c16_i32_217 : BitVec 32 := 16#32
  let v677 : BitVec 32 := Scalar.muli arg23 c16_i32_217
  v677
def k0_off5 (k0_t5 : Fin k0_t5_loop.trips) : Fin 2 → Nat :=
  let c0_i32_159 : BitVec 32 := 0#32
  let c1_i32_160 : BitVec 32 := 1#32
  let arg23 : BitVec 32 := Scf.iv c0_i32_159 c1_i32_160 k0_t5
  let c16_i32_217 : BitVec 32 := 16#32
  let v677 : BitVec 32 := Scalar.muli arg23 c16_i32_217
  let v678 : BitVec 32 := v677
  let v679 : Index := Scalar.indexCast v678
  let c0_218 : Index := 0#32
  ![v679.toNat, 0]
def k0_off6 (k0_t5 : Fin k0_t5_loop.trips) : Fin 2 → Nat :=
  let c0_i32_159 : BitVec 32 := 0#32
  let c1_i32_160 : BitVec 32 := 1#32
  let arg23 : BitVec 32 := Scf.iv c0_i32_159 c1_i32_160 k0_t5
  let c1_i32_216 : BitVec 32 := 1#32
  let v674 : BitVec 32 := Scalar.addi arg23 c1_i32_216
  let c16_i32 : BitVec 32 := 16#32
  let v675 : BitVec 32 := Scalar.muli v674 c16_i32
  let v676 : BitVec 32 := v675
  let v683 : Index := Scalar.indexCast v676
  let c0_220 : Index := 0#32
  ![v683.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S2x2048x1024 : Shape := ⟨3, ![2, 2048, 1024]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S2x2048x64x16 : Shape := ⟨4, ![2, 2048, 64, 16]⟩
abbrev S64x2x2048x64 : Shape := ⟨4, ![64, 2, 2048, 64]⟩
abbrev S2048x2x64x64 : Shape := ⟨4, ![2048, 2, 64, 64]⟩
abbrev S_ : Shape := ⟨0, ![]⟩
abbrev S2x64x64 : Shape := ⟨3, ![2, 64, 64]⟩
abbrev S1x64x64 : Shape := ⟨3, ![1, 64, 64]⟩
abbrev S1x2x64x64 : Shape := ⟨4, ![1, 2, 64, 64]⟩
abbrev S64x2048x2x16 : Shape := ⟨4, ![64, 2048, 2, 16]⟩
abbrev S1x1x1024 : Shape := ⟨3, ![1, 1, 1024]⟩
abbrev S1024 : Shape := ⟨1, ![1024]⟩
abbrev S64x2048x2x64 : Shape := ⟨4, ![64, 2048, 2, 64]⟩
abbrev S64x2x2048x16 : Shape := ⟨4, ![64, 2, 2048, 16]⟩

abbrev nBuf : Space → Nat
  | .hbm => 241
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S64x64, .f32⟩
  | 3 => ⟨S64x64, .f32⟩
  | 4 => ⟨S64x64x16, .f32⟩
  | 5 => ⟨S64x64x16, .f32⟩
  | 6 => ⟨S64x16x64, .f32⟩
  | 7 => ⟨S64x16x64, .f32⟩
  | 8 => ⟨S1x1024, .f32⟩
  | 9 => ⟨S2x2048x64x16, .f32⟩
  | 10 => ⟨S64x2x2048x64, .f32⟩
  | 11 => ⟨S2048x2x64x64, .f32⟩
  | 12 => ⟨S64x2x2048x64, .f32⟩
  | 13 => ⟨S2048x2x64x64, .f32⟩
  | 14 => ⟨S_, .f32⟩
  | 15 => ⟨S2x64x64, .f32⟩
  | 16 => ⟨S1x64x64, .f32⟩
  | 17 => ⟨S1x64x64, .f32⟩
  | 18 => ⟨S1x64x64, .f32⟩
  | 19 => ⟨S1x64x64, .f32⟩
  | 20 => ⟨S_, .f32⟩
  | 21 => ⟨S2048x2x64x64, .f32⟩
  | 22 => ⟨S_, .f32⟩
  | 23 => ⟨S2048x2x64x64, .f32⟩
  | 24 => ⟨S_, .f32⟩
  | 25 => ⟨S2048x2x64x64, .f32⟩
  | 26 => ⟨S_, .f32⟩
  | 27 => ⟨S2048x2x64x64, .f32⟩
  | 28 => ⟨S_, .i32⟩
  | 29 => ⟨S2048x2x64x64, .f32⟩
  | 30 => ⟨S2048x2x64x64, .f32⟩
  | 31 => ⟨S1x64x64, .f32⟩
  | 32 => ⟨S1x64x64, .f32⟩
  | 33 => ⟨S1x64x64, .f32⟩
  | 34 => ⟨S1x64x64, .f32⟩
  | 35 => ⟨S_, .i32⟩
  | 36 => ⟨S2x64x64, .f32⟩
  | 37 => ⟨S2x64x64, .f32⟩
  | 38 => ⟨S2048x2x64x64, .f32⟩
  | 39 => ⟨S2048x2x64x64, .f32⟩
  | 40 => ⟨S2048x2x64x64, .f32⟩
  | 41 => ⟨S2048x2x64x64, .f32⟩
  | 42 => ⟨S_, .i32⟩
  | 43 => ⟨S_, .i1⟩
  | 44 => ⟨S_, .i32⟩
  | 45 => ⟨S_, .i32⟩
  | 46 => ⟨S_, .i32⟩
  | 47 => ⟨S1x2x64x64, .f32⟩
  | 48 => ⟨S2x64x64, .f32⟩
  | 49 => ⟨S_, .i32⟩
  | 50 => ⟨S_, .i32⟩
  | 51 => ⟨S_, .i32⟩
  | 52 => ⟨S1x2x64x64, .f32⟩
  | 53 => ⟨S2x64x64, .f32⟩
  | 54 => ⟨S2x64x64, .f32⟩
  | 55 => ⟨S2x64x64, .f32⟩
  | 56 => ⟨S2x64x64, .f32⟩
  | 57 => ⟨S2x64x64, .f32⟩
  | 58 => ⟨S2x64x64, .f32⟩
  | 59 => ⟨S2x64x64, .f32⟩
  | 60 => ⟨S2x64x64, .f32⟩
  | 61 => ⟨S2x64x64, .f32⟩
  | 62 => ⟨S2x64x64, .f32⟩
  | 63 => ⟨S2x64x64, .f32⟩
  | 64 => ⟨S2x64x64, .f32⟩
  | 65 => ⟨S2x64x64, .f32⟩
  | 66 => ⟨S1x2x64x64, .f32⟩
  | 67 => ⟨S_, .i32⟩
  | 68 => ⟨S_, .i32⟩
  | 69 => ⟨S_, .i32⟩
  | 70 => ⟨S2048x2x64x64, .f32⟩
  | 71 => ⟨S1x2x64x64, .f32⟩
  | 72 => ⟨S_, .i32⟩
  | 73 => ⟨S_, .i32⟩
  | 74 => ⟨S_, .i32⟩
  | 75 => ⟨S2048x2x64x64, .f32⟩
  | 76 => ⟨S1x2x64x64, .f32⟩
  | 77 => ⟨S_, .i32⟩
  | 78 => ⟨S_, .i32⟩
  | 79 => ⟨S_, .i32⟩
  | 80 => ⟨S2048x2x64x64, .f32⟩
  | 81 => ⟨S1x2x64x64, .f32⟩
  | 82 => ⟨S_, .i32⟩
  | 83 => ⟨S_, .i32⟩
  | 84 => ⟨S_, .i32⟩
  | 85 => ⟨S2048x2x64x64, .f32⟩
  | 86 => ⟨S_, .i32⟩
  | 87 => ⟨S_, .i32⟩
  | 88 => ⟨S64x2048x2x16, .f32⟩
  | 89 => ⟨S2x2048x64x16, .f32⟩
  | 90 => ⟨S64x2048x2x16, .f32⟩
  | 91 => ⟨S2x2048x64x16, .f32⟩
  | 92 => ⟨S2x2048x64x16, .f32⟩
  | 93 => ⟨S2x2048x1024, .f32⟩
  | 94 => ⟨S1x1x1024, .f32⟩
  | 95 => ⟨S2x2048x1024, .f32⟩
  | 96 => ⟨S2x2048x1024, .f32⟩
  | 97 => ⟨S2x2048x1024, .f32⟩
  | 98 => ⟨S_, .f32⟩
  | 99 => ⟨S2x64x64, .f32⟩
  | 100 => ⟨S_, .f32⟩
  | 101 => ⟨S2x64x64, .f32⟩
  | 102 => ⟨S2x2048x1024, .f32⟩
  | 103 => ⟨S2x2048x1024, .f32⟩
  | 104 => ⟨S2x2048x1024, .f32⟩
  | 105 => ⟨S2x2048x1024, .f32⟩
  | 106 => ⟨S2x2048x1024, .f32⟩
  | 107 => ⟨S_, .f32⟩
  | 108 => ⟨S1024, .f32⟩
  | 109 => ⟨S1x1x1024, .f32⟩
  | 110 => ⟨S_, .f32⟩
  | 111 => ⟨S1024, .f32⟩
  | 112 => ⟨S1x1024, .f32⟩
  | 113 => ⟨S2x2048x64x16, .f32⟩
  | 114 => ⟨S2x2048x64x16, .f32⟩
  | 115 => ⟨S64x2048x2x16, .f32⟩
  | 116 => ⟨S64x16x64, .f32⟩
  | 117 => ⟨S64x2048x2x64, .f32⟩
  | 118 => ⟨S2048x2x64x64, .f32⟩
  | 119 => ⟨S64x2048x2x16, .f32⟩
  | 120 => ⟨S64x16x64, .f32⟩
  | 121 => ⟨S64x2048x2x64, .f32⟩
  | 122 => ⟨S2048x2x64x64, .f32⟩
  | 123 => ⟨S_, .f32⟩
  | 124 => ⟨S2x64x64, .f32⟩
  | 125 => ⟨S_, .f32⟩
  | 126 => ⟨S2x64x64, .f32⟩
  | 127 => ⟨S_, .f32⟩
  | _ => ⟨S2x2048x1024, .f32⟩

abbrev hbmTy0_1 (i : Nat) : BufTy := match i % 128 with
  | 0 => ⟨S64x64, .f32⟩
  | 1 => ⟨S_, .f32⟩
  | 2 => ⟨S64x64, .f32⟩
  | 3 => ⟨S_, .f32⟩
  | 4 => ⟨S2048x2x64x64, .f32⟩
  | 5 => ⟨S_, .f32⟩
  | 6 => ⟨S2048x2x64x64, .f32⟩
  | 7 => ⟨S_, .i32⟩
  | 8 => ⟨S2048x2x64x64, .f32⟩
  | 9 => ⟨S2048x2x64x64, .f32⟩
  | 10 => ⟨S2048x2x64x64, .f32⟩
  | 11 => ⟨S2048x2x64x64, .f32⟩
  | 12 => ⟨S1x64x64, .f32⟩
  | 13 => ⟨S1x64x64, .f32⟩
  | 14 => ⟨S1x64x64, .f32⟩
  | 15 => ⟨S1x64x64, .f32⟩
  | 16 => ⟨S_, .i32⟩
  | 17 => ⟨S64x64, .f32⟩
  | 18 => ⟨S64x64, .f32⟩
  | 19 => ⟨S2x64x64, .f32⟩
  | 20 => ⟨S2x64x64, .f32⟩
  | 21 => ⟨S2048x2x64x64, .f32⟩
  | 22 => ⟨S2048x2x64x64, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S1x2x64x64, .f32⟩
  | 33 => ⟨S2x64x64, .f32⟩
  | 34 => ⟨S_, .i32⟩
  | 35 => ⟨S_, .i32⟩
  | 36 => ⟨S_, .i32⟩
  | 37 => ⟨S1x2x64x64, .f32⟩
  | 38 => ⟨S2x64x64, .f32⟩
  | 39 => ⟨S_, .i32⟩
  | 40 => ⟨S_, .i32⟩
  | 41 => ⟨S_, .i32⟩
  | 42 => ⟨S1x2x64x64, .f32⟩
  | 43 => ⟨S2x64x64, .f32⟩
  | 44 => ⟨S_, .i32⟩
  | 45 => ⟨S_, .i32⟩
  | 46 => ⟨S_, .i32⟩
  | 47 => ⟨S1x2x64x64, .f32⟩
  | 48 => ⟨S2x64x64, .f32⟩
  | 49 => ⟨S2x64x64, .f32⟩
  | 50 => ⟨S2x64x64, .f32⟩
  | 51 => ⟨S2x64x64, .f32⟩
  | 52 => ⟨S2x64x64, .f32⟩
  | 53 => ⟨S2x64x64, .f32⟩
  | 54 => ⟨S_, .f32⟩
  | 55 => ⟨S64x64, .f32⟩
  | 56 => ⟨S1x64x64, .f32⟩
  | 57 => ⟨S_, .f32⟩
  | 58 => ⟨S64x64, .f32⟩
  | 59 => ⟨S64x64, .f32⟩
  | 60 => ⟨S2x64x64, .f32⟩
  | 61 => ⟨S2x64x64, .f32⟩
  | 62 => ⟨S2x64x64, .f32⟩
  | 63 => ⟨S_, .f32⟩
  | 64 => ⟨S64x64, .f32⟩
  | 65 => ⟨S1x64x64, .f32⟩
  | 66 => ⟨S_, .f32⟩
  | 67 => ⟨S64x64, .f32⟩
  | 68 => ⟨S64x64, .f32⟩
  | 69 => ⟨S2x64x64, .f32⟩
  | 70 => ⟨S2x64x64, .f32⟩
  | 71 => ⟨S2x64x64, .f32⟩
  | 72 => ⟨S2x64x64, .f32⟩
  | 73 => ⟨S2x64x64, .f32⟩
  | 74 => ⟨S_, .f32⟩
  | 75 => ⟨S64x64, .f32⟩
  | 76 => ⟨S1x64x64, .f32⟩
  | 77 => ⟨S_, .f32⟩
  | 78 => ⟨S64x64, .f32⟩
  | 79 => ⟨S64x64, .f32⟩
  | 80 => ⟨S2x64x64, .f32⟩
  | 81 => ⟨S2x64x64, .f32⟩
  | 82 => ⟨S2x64x64, .f32⟩
  | 83 => ⟨S2x64x64, .f32⟩
  | 84 => ⟨S_, .f32⟩
  | 85 => ⟨S64x64, .f32⟩
  | 86 => ⟨S1x64x64, .f32⟩
  | 87 => ⟨S_, .f32⟩
  | 88 => ⟨S64x64, .f32⟩
  | 89 => ⟨S64x64, .f32⟩
  | 90 => ⟨S1x2x64x64, .f32⟩
  | 91 => ⟨S_, .i32⟩
  | 92 => ⟨S_, .i32⟩
  | 93 => ⟨S_, .i32⟩
  | 94 => ⟨S2048x2x64x64, .f32⟩
  | 95 => ⟨S1x2x64x64, .f32⟩
  | 96 => ⟨S_, .i32⟩
  | 97 => ⟨S_, .i32⟩
  | 98 => ⟨S_, .i32⟩
  | 99 => ⟨S2048x2x64x64, .f32⟩
  | 100 => ⟨S_, .i32⟩
  | 101 => ⟨S_, .i32⟩
  | 102 => ⟨S64x2x2048x64, .f32⟩
  | 103 => ⟨S64x64x16, .f32⟩
  | 104 => ⟨S64x2x2048x16, .f32⟩
  | 105 => ⟨S2x2048x64x16, .f32⟩
  | 106 => ⟨S64x2x2048x64, .f32⟩
  | 107 => ⟨S64x64x16, .f32⟩
  | 108 => ⟨S64x2x2048x16, .f32⟩
  | 109 => ⟨S2x2048x64x16, .f32⟩
  | 110 => ⟨S2x2048x64x16, .f32⟩
  | 111 => ⟨S2x2048x1024, .f32⟩
  | 112 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_c : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev main_v14_6 : Ref sig .tc := ⟨.hbm, 35, rfl⟩
abbrev main_v14_7 : Ref sig .tc := ⟨.hbm, 36, rfl⟩
abbrev main_v14_8 : Ref sig .tc := ⟨.hbm, 37, rfl⟩
abbrev main_v14_9 : Ref sig .tc := ⟨.hbm, 38, rfl⟩
abbrev main_v14_10 : Ref sig .tc := ⟨.hbm, 39, rfl⟩
abbrev main_v14_11 : Ref sig .tc := ⟨.hbm, 40, rfl⟩
abbrev main_v14_12 : Ref sig .tc := ⟨.hbm, 41, rfl⟩
abbrev main_while0c_c_27 : Ref sig .tc := ⟨.hbm, 42, rfl⟩
abbrev main_while0c_v64 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v64 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v65 : Ref sig .tc := ⟨.hbm, 53, rfl⟩
abbrev main_while0b_v66 : Ref sig .tc := ⟨.hbm, 54, rfl⟩
abbrev main_while0b_v67 : Ref sig .tc := ⟨.hbm, 55, rfl⟩
abbrev main_while0b_v68 : Ref sig .tc := ⟨.hbm, 56, rfl⟩
abbrev main_while0b_v69 : Ref sig .tc := ⟨.hbm, 57, rfl⟩
abbrev main_while0b_v70 : Ref sig .tc := ⟨.hbm, 58, rfl⟩
abbrev main_while0b_v71 : Ref sig .tc := ⟨.hbm, 59, rfl⟩
abbrev main_while0b_v72 : Ref sig .tc := ⟨.hbm, 60, rfl⟩
abbrev main_while0b_v73 : Ref sig .tc := ⟨.hbm, 61, rfl⟩
abbrev main_while0b_v74 : Ref sig .tc := ⟨.hbm, 62, rfl⟩
abbrev main_while0b_v75 : Ref sig .tc := ⟨.hbm, 63, rfl⟩
abbrev main_while0b_v76 : Ref sig .tc := ⟨.hbm, 64, rfl⟩
abbrev main_while0b_v77 : Ref sig .tc := ⟨.hbm, 65, rfl⟩
abbrev main_while0b_call2_v0 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_v78 : Ref sig .tc := ⟨.hbm, 70, rfl⟩
abbrev main_while0b_call3_v0 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_v79 : Ref sig .tc := ⟨.hbm, 75, rfl⟩
abbrev main_while0b_call4_v0 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_v80 : Ref sig .tc := ⟨.hbm, 80, rfl⟩
abbrev main_while0b_call5_v0 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_c_1 : Ref sig .tc := ⟨.hbm, 84, rfl⟩
abbrev main_while0b_v81 : Ref sig .tc := ⟨.hbm, 85, rfl⟩
abbrev main_while0b_c_27 : Ref sig .tc := ⟨.hbm, 86, rfl⟩
abbrev main_while0b_v82 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_cst_4 : Ref sig .tc := ⟨.hbm, 98, rfl⟩
abbrev main_v25 : Ref sig .tc := ⟨.hbm, 99, rfl⟩
abbrev main_cst_5 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_cst_6 : Ref sig .tc := ⟨.hbm, 107, rfl⟩
abbrev main_v32 : Ref sig .tc := ⟨.hbm, 108, rfl⟩
abbrev main_v33 : Ref sig .tc := ⟨.hbm, 109, rfl⟩
abbrev main_cst_7 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_8 : Ref sig .tc := ⟨.hbm, 123, rfl⟩
abbrev main_v46 : Ref sig .tc := ⟨.hbm, 124, rfl⟩
abbrev main_cst_9 : Ref sig .tc := ⟨.hbm, 125, rfl⟩
abbrev main_v47 : Ref sig .tc := ⟨.hbm, 126, rfl⟩
abbrev main_cst_10 : Ref sig .tc := ⟨.hbm, 127, rfl⟩
abbrev main_v48 : Ref sig .tc := ⟨.hbm, 128, rfl⟩
abbrev main_cst_11 : Ref sig .tc := ⟨.hbm, 129, rfl⟩
abbrev main_v49 : Ref sig .tc := ⟨.hbm, 130, rfl⟩
abbrev main_cst_12 : Ref sig .tc := ⟨.hbm, 131, rfl⟩
abbrev main_v50 : Ref sig .tc := ⟨.hbm, 132, rfl⟩
abbrev main_cst_13 : Ref sig .tc := ⟨.hbm, 133, rfl⟩
abbrev main_v51 : Ref sig .tc := ⟨.hbm, 134, rfl⟩
abbrev main_c_14 : Ref sig .tc := ⟨.hbm, 135, rfl⟩
abbrev main_v52_0 : Ref sig .tc := ⟨.hbm, 136, rfl⟩
abbrev main_v52_1 : Ref sig .tc := ⟨.hbm, 137, rfl⟩
abbrev main_v52_2 : Ref sig .tc := ⟨.hbm, 138, rfl⟩
abbrev main_v52_3 : Ref sig .tc := ⟨.hbm, 139, rfl⟩
abbrev main_v52_4 : Ref sig .tc := ⟨.hbm, 140, rfl⟩
abbrev main_v52_5 : Ref sig .tc := ⟨.hbm, 141, rfl⟩
abbrev main_v52_6 : Ref sig .tc := ⟨.hbm, 142, rfl⟩
abbrev main_v52_7 : Ref sig .tc := ⟨.hbm, 143, rfl⟩
abbrev main_v52_8 : Ref sig .tc := ⟨.hbm, 144, rfl⟩
abbrev main_v52_9 : Ref sig .tc := ⟨.hbm, 145, rfl⟩
abbrev main_v52_10 : Ref sig .tc := ⟨.hbm, 146, rfl⟩
abbrev main_v52_11 : Ref sig .tc := ⟨.hbm, 147, rfl⟩
abbrev main_v52_12 : Ref sig .tc := ⟨.hbm, 148, rfl⟩
abbrev main_v52_13 : Ref sig .tc := ⟨.hbm, 149, rfl⟩
abbrev main_v52_14 : Ref sig .tc := ⟨.hbm, 150, rfl⟩
abbrev main_while1c_c_29 : Ref sig .tc := ⟨.hbm, 151, rfl⟩
abbrev main_while1c_v64 : Ref sig .tc := ⟨.hbm, 152, rfl⟩
abbrev main_while1b_c_29 : Ref sig .tc := ⟨.hbm, 153, rfl⟩
abbrev main_while1b_v64 : Ref sig .tc := ⟨.hbm, 154, rfl⟩
abbrev main_while1b_c_30 : Ref sig .tc := ⟨.hbm, 155, rfl⟩
abbrev main_while1b_v65 : Ref sig .tc := ⟨.hbm, 156, rfl⟩
abbrev main_while1b_call6_c : Ref sig .tc := ⟨.hbm, 157, rfl⟩
abbrev main_while1b_call6_c_0 : Ref sig .tc := ⟨.hbm, 158, rfl⟩
abbrev main_while1b_call6_c_1 : Ref sig .tc := ⟨.hbm, 159, rfl⟩
abbrev main_while1b_call6_v0 : Ref sig .tc := ⟨.hbm, 160, rfl⟩
abbrev main_while1b_v66 : Ref sig .tc := ⟨.hbm, 161, rfl⟩
abbrev main_while1b_call7_c : Ref sig .tc := ⟨.hbm, 162, rfl⟩
abbrev main_while1b_call7_c_0 : Ref sig .tc := ⟨.hbm, 163, rfl⟩
abbrev main_while1b_call7_c_1 : Ref sig .tc := ⟨.hbm, 164, rfl⟩
abbrev main_while1b_call7_v0 : Ref sig .tc := ⟨.hbm, 165, rfl⟩
abbrev main_while1b_v67 : Ref sig .tc := ⟨.hbm, 166, rfl⟩
abbrev main_while1b_call8_c : Ref sig .tc := ⟨.hbm, 167, rfl⟩
abbrev main_while1b_call8_c_0 : Ref sig .tc := ⟨.hbm, 168, rfl⟩
abbrev main_while1b_call8_c_1 : Ref sig .tc := ⟨.hbm, 169, rfl⟩
abbrev main_while1b_call8_v0 : Ref sig .tc := ⟨.hbm, 170, rfl⟩
abbrev main_while1b_v68 : Ref sig .tc := ⟨.hbm, 171, rfl⟩
abbrev main_while1b_call9_c : Ref sig .tc := ⟨.hbm, 172, rfl⟩
abbrev main_while1b_call9_c_0 : Ref sig .tc := ⟨.hbm, 173, rfl⟩
abbrev main_while1b_call9_c_1 : Ref sig .tc := ⟨.hbm, 174, rfl⟩
abbrev main_while1b_call9_v0 : Ref sig .tc := ⟨.hbm, 175, rfl⟩
abbrev main_while1b_v69 : Ref sig .tc := ⟨.hbm, 176, rfl⟩
abbrev main_while1b_v70 : Ref sig .tc := ⟨.hbm, 177, rfl⟩
abbrev main_while1b_v71 : Ref sig .tc := ⟨.hbm, 178, rfl⟩
abbrev main_while1b_v72 : Ref sig .tc := ⟨.hbm, 179, rfl⟩
abbrev main_while1b_v73 : Ref sig .tc := ⟨.hbm, 180, rfl⟩
abbrev main_while1b_v74 : Ref sig .tc := ⟨.hbm, 181, rfl⟩
abbrev main_while1b_cst_31 : Ref sig .tc := ⟨.hbm, 182, rfl⟩
abbrev main_while1b_v75 : Ref sig .tc := ⟨.hbm, 183, rfl⟩
abbrev main_while1b_v76 : Ref sig .tc := ⟨.hbm, 184, rfl⟩
abbrev main_while1b_cst_32 : Ref sig .tc := ⟨.hbm, 185, rfl⟩
abbrev main_while1b_v77 : Ref sig .tc := ⟨.hbm, 186, rfl⟩
abbrev main_while1b_v78 : Ref sig .tc := ⟨.hbm, 187, rfl⟩
abbrev main_while1b_v79 : Ref sig .tc := ⟨.hbm, 188, rfl⟩
abbrev main_while1b_v80 : Ref sig .tc := ⟨.hbm, 189, rfl⟩
abbrev main_while1b_v81 : Ref sig .tc := ⟨.hbm, 190, rfl⟩
abbrev main_while1b_cst_33 : Ref sig .tc := ⟨.hbm, 191, rfl⟩
abbrev main_while1b_v82 : Ref sig .tc := ⟨.hbm, 192, rfl⟩
abbrev main_while1b_v83 : Ref sig .tc := ⟨.hbm, 193, rfl⟩
abbrev main_while1b_cst_34 : Ref sig .tc := ⟨.hbm, 194, rfl⟩
abbrev main_while1b_v84 : Ref sig .tc := ⟨.hbm, 195, rfl⟩
abbrev main_while1b_v85 : Ref sig .tc := ⟨.hbm, 196, rfl⟩
abbrev main_while1b_v86 : Ref sig .tc := ⟨.hbm, 197, rfl⟩
abbrev main_while1b_v87 : Ref sig .tc := ⟨.hbm, 198, rfl⟩
abbrev main_while1b_v88 : Ref sig .tc := ⟨.hbm, 199, rfl⟩
abbrev main_while1b_v89 : Ref sig .tc := ⟨.hbm, 200, rfl⟩
abbrev main_while1b_v90 : Ref sig .tc := ⟨.hbm, 201, rfl⟩
abbrev main_while1b_cst_35 : Ref sig .tc := ⟨.hbm, 202, rfl⟩
abbrev main_while1b_v91 : Ref sig .tc := ⟨.hbm, 203, rfl⟩
abbrev main_while1b_v92 : Ref sig .tc := ⟨.hbm, 204, rfl⟩
abbrev main_while1b_cst_36 : Ref sig .tc := ⟨.hbm, 205, rfl⟩
abbrev main_while1b_v93 : Ref sig .tc := ⟨.hbm, 206, rfl⟩
abbrev main_while1b_v94 : Ref sig .tc := ⟨.hbm, 207, rfl⟩
abbrev main_while1b_v95 : Ref sig .tc := ⟨.hbm, 208, rfl⟩
abbrev main_while1b_v96 : Ref sig .tc := ⟨.hbm, 209, rfl⟩
abbrev main_while1b_v97 : Ref sig .tc := ⟨.hbm, 210, rfl⟩
abbrev main_while1b_v98 : Ref sig .tc := ⟨.hbm, 211, rfl⟩
abbrev main_while1b_cst_37 : Ref sig .tc := ⟨.hbm, 212, rfl⟩
abbrev main_while1b_v99 : Ref sig .tc := ⟨.hbm, 213, rfl⟩
abbrev main_while1b_v100 : Ref sig .tc := ⟨.hbm, 214, rfl⟩
abbrev main_while1b_cst_38 : Ref sig .tc := ⟨.hbm, 215, rfl⟩
abbrev main_while1b_v101 : Ref sig .tc := ⟨.hbm, 216, rfl⟩
abbrev main_while1b_v102 : Ref sig .tc := ⟨.hbm, 217, rfl⟩
abbrev main_while1b_call10_v0 : Ref sig .tc := ⟨.hbm, 218, rfl⟩
abbrev main_while1b_call10_c : Ref sig .tc := ⟨.hbm, 219, rfl⟩
abbrev main_while1b_call10_c_0 : Ref sig .tc := ⟨.hbm, 220, rfl⟩
abbrev main_while1b_call10_c_1 : Ref sig .tc := ⟨.hbm, 221, rfl⟩
abbrev main_while1b_v103 : Ref sig .tc := ⟨.hbm, 222, rfl⟩
abbrev main_while1b_call11_v0 : Ref sig .tc := ⟨.hbm, 223, rfl⟩
abbrev main_while1b_call11_c : Ref sig .tc := ⟨.hbm, 224, rfl⟩
abbrev main_while1b_call11_c_0 : Ref sig .tc := ⟨.hbm, 225, rfl⟩
abbrev main_while1b_call11_c_1 : Ref sig .tc := ⟨.hbm, 226, rfl⟩
abbrev main_while1b_v104 : Ref sig .tc := ⟨.hbm, 227, rfl⟩
abbrev main_while1b_c_39 : Ref sig .tc := ⟨.hbm, 228, rfl⟩
abbrev main_while1b_v105 : Ref sig .tc := ⟨.hbm, 229, rfl⟩
abbrev main_v53 : Ref sig .tc := ⟨.hbm, 230, rfl⟩
abbrev main_v54 : Ref sig .tc := ⟨.hbm, 231, rfl⟩
abbrev main_v55 : Ref sig .tc := ⟨.hbm, 232, rfl⟩
abbrev main_v56 : Ref sig .tc := ⟨.hbm, 233, rfl⟩
abbrev main_v57 : Ref sig .tc := ⟨.hbm, 234, rfl⟩
abbrev main_v58 : Ref sig .tc := ⟨.hbm, 235, rfl⟩
abbrev main_v59 : Ref sig .tc := ⟨.hbm, 236, rfl⟩
abbrev main_v60 : Ref sig .tc := ⟨.hbm, 237, rfl⟩
abbrev main_v61 : Ref sig .tc := ⟨.hbm, 238, rfl⟩
abbrev main_v62 : Ref sig .tc := ⟨.hbm, 239, rfl⟩
abbrev main_v63 : Ref sig .tc := ⟨.hbm, 240, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x5632 : Shape := ⟨2, ![4096, 5632]⟩
abbrev S1024x5632 : Shape := ⟨2, ![1024, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x2x2816, .bf16⟩
  | .hbm, ⟨3, _⟩ => ⟨S2x4096x2816, .bf16⟩
  | .hbm, ⟨4, _⟩ => ⟨S1024x4x1408, .bf16⟩
  | .hbm, ⟨5, _⟩ => ⟨S4x1024x1408, .bf16⟩
  | .hbm, ⟨6, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x2x2816, .bf16⟩
  | .hbm, ⟨3, _⟩ => ⟨S2x4096x2816, .bf16⟩
  | .hbm, ⟨4, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1024x4x1408, .bf16⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x3072 : Shape := ⟨2, ![4096, 3072]⟩
abbrev S1024x3072 : Shape := ⟨2, ![1024, 3072]⟩
abbrev S4096x3x1024 : Shape := ⟨3, ![4096, 3, 1024]⟩
abbrev S3x4096x1024 : Shape := ⟨3, ![3, 4096, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x3x1024, .bf16⟩
  | .hbm, ⟨3, _⟩ => ⟨S3x4096x1024, .bf16⟩
  | .hbm, ⟨4, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S4096x3x1024 : Shape := ⟨3, ![4096, 3, 1024]⟩
abbrev S3x4096x1024 : Shape := ⟨3, ![3, 4096, 1024]⟩
abbrev S1024x3072 : Shape := ⟨2, ![1024, 3072]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x3x1024, .bf16⟩
  | .hbm, ⟨3, _⟩ => ⟨S3x4096x1024, .bf16⟩
  | .hbm, ⟨4, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x3072 : Shape := ⟨2, ![4096, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S1024x4x768, .bf16⟩
  | .hbm, ⟨3, _⟩ => ⟨S4x1024x768, .bf16⟩
  | .hbm, ⟨4, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S16x1024 : Shape := ⟨2, ![16, 1024]⟩
abbrev S1024x1536 : Shape := ⟨2, ![1024, 1536]⟩
abbrev S1536 : Shape := ⟨1, ![1536]⟩
abbrev S1x1536 : Shape := ⟨2, ![1, 1536]⟩
abbrev S16x1536 : Shape := ⟨2, ![16, 1536]⟩
abbrev S1024x768 : Shape := ⟨2, ![1024, 768]⟩
abbrev S1x768 : Shape := ⟨2, ![1, 768]⟩
abbrev S16x768 : Shape := ⟨2, ![16, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1536, .f32⟩
  | .hbm, ⟨3, _⟩ => ⟨S1x1536, .f32⟩
  | .hbm, ⟨4, _⟩ => ⟨S16x1536, .f32⟩
  | .local _ .vmem, ⟨0, _⟩ => ⟨S16x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S16x1024 : Shape := ⟨2, ![16, 1024]⟩
abbrev S1024x1536 : Shape := ⟨2, ![1024, 1536]⟩
abbrev S1536 : Shape := ⟨1, ![1536]⟩
abbrev S16x1536 : Shape := ⟨2, ![16, 1536]⟩
abbrev S1x1536 : Shape := ⟨2, ![1, 1536]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x1536, .f32⟩
  | .hbm, ⟨2, _⟩ => ⟨S1536, .f32⟩
  | .hbm, ⟨3, _⟩ => ⟨S16x1536, .f32⟩
  | .hbm, ⟨4, _⟩ => ⟨S1x1536, .f32⟩
  | .hbm, ⟨5, _⟩ => ⟨S16x1536, .f32⟩
  | .hbm, ⟨6, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S16x1024 : Shape := ⟨2, ![16, 1024]⟩
abbrev S1024x512 : Shape := ⟨2, ![1024, 512]⟩
abbrev S512 : Shape := ⟨1, ![512]⟩
abbrev S1x512 : Shape := ⟨2, ![1, 512]⟩
abbrev S16x512 : Shape := ⟨2, ![16, 512]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x512, .f32⟩
  | .hbm, ⟨2, _⟩ => ⟨S512, .f32⟩
  | .hbm, ⟨3, _⟩ => ⟨S1x512, .f32⟩
  | .hbm, ⟨4, _⟩ => ⟨S16x512, .f32⟩
  | .local _ .vmem, ⟨0, _⟩ => ⟨S16x1024, .f32⟩
  | .local _ .vmem, ⟨1, _⟩ => ⟨S1024x512, .f32⟩
  | .local _ .vmem, ⟨2, _⟩ => ⟨S1x512, .f32⟩
  | .local _ .vmem, ⟨3, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference23Ideal.lean ====
abbrev S16x1024 : Shape := ⟨2, ![16, 1024]⟩
abbrev S1024x512 : Shape := ⟨2, ![1024, 512]⟩
abbrev S512 : Shape := ⟨1, ![512]⟩
abbrev S16x512 : Shape := ⟨2, ![16, 512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x512, .f32⟩
  | .hbm, ⟨2, _⟩ => ⟨S512, .f32⟩
  | .hbm, ⟨3, _⟩ => ⟨S16x512, .f32⟩
  | .hbm, ⟨4, _⟩ => ⟨S1x512, .f32⟩
  | .hbm, ⟨5, _⟩ => ⟨S16x512, .f32⟩
  | .hbm, ⟨6, _⟩ => ⟨S16x512, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S16x1024 : Shape := ⟨2, ![16, 1024]⟩
abbrev S16x1536 : Shape := ⟨2, ![16, 1536]⟩
abbrev S1024x1536 : Shape := ⟨2, ![1024, 1536]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x768, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1536, .f32⟩
  | .hbm, ⟨5, _⟩ => ⟨S1536x1024, .f32⟩
  | .hbm, ⟨6, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S16x1024 : Shape := ⟨2, ![16, 1024]⟩
abbrev S16x512 : Shape := ⟨2, ![16, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x512, .f32⟩
  | .hbm, ⟨2, _⟩ => ⟨S1024x512, .f32⟩
  | .local _ .vmem, ⟨0, _⟩ => ⟨S16x1024, .f32⟩
  | .local _ .vmem, ⟨1, _⟩ => ⟨S16x512, .f32⟩
  | .local _ .vmem, ⟨2, _⟩ => ⟨S1024x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S16x1024 : Shape := ⟨2, ![16, 1024]⟩
abbrev S16x512 : Shape := ⟨2, ![16, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x512, .f32⟩
  | .hbm, ⟨2, _⟩ => ⟨S_, .f32⟩
  | .hbm, ⟨3, _⟩ => ⟨S1024x512, .f32⟩
  | .hbm, ⟨4, _⟩ => ⟨S16x512, .f32⟩
  | .hbm, ⟨5, _⟩ => ⟨S512x1024, .f32⟩
  | .hbm, ⟨6, _⟩ => ⟨S1024x512, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S16x1024 : Shape := ⟨2, ![16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .local _ .vmem, ⟨0, _⟩ => ⟨S16x1024, .f32⟩
  | .local _ .vmem, ⟨1, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Reference26Ideal.lean ====
abbrev S16x1024 : Shape := ⟨2, ![16, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S_, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Kernel27.lean ====
abbrev S4096x1024 : Shape := ⟨2, ![4096, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference27Ideal.lean ====
abbrev S4096x1024 : Shape := ⟨2, ![4096, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel28.lean ====
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x1024 : Shape := ⟨2, ![4096, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Product2.lean ====
/- The product of the second program, element by element. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Product

open Idealize.ShloMosaic
open Idealize.ShloMosaic.TcCoe Idealize.SL.Sem
open Cert.Kernel2Ideal Cert.Kernel2Ideal.Gen

/-- One term of the sum that makes an element of the result. -/
abbrev term (x : S4096x1024.Idx → EReal) (y : S2816x1024.Idx → EReal) (r : Fin 4096) (n : Fin 2816) (k : Fin 1024) : EReal :=
  x (ix2 r k) * y (ix2 n k)

/-- An element of the product: a sum over the axis that the arguments share. -/
def elem (x : S4096x1024.Idx → EReal) (y : S2816x1024.Idx → EReal) (r : Fin 4096) (n : Fin 2816) : EReal :=
  (∑ k : Fin 1024, term x y r n k)

/-- The product. -/
def prod (x : S4096x1024.Idx → EReal) (y : S2816x1024.Idx → EReal) : S4096x2816.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val / 2, 0] ∧ win0_1.index t = ![t.val % 2, 0]
    ∧ win0_2.index t = ![t.val / 2, t.val % 2] ∧ t.val < 8 := (by decide +kernel : ∀ t : Fin grid0.N, _)

theorem out_at (x : Vec Ideal S1024x1024 .bf16) (y : Vec Ideal S1408x1024 .bf16) (r : Fin 1024) (n : Fin 1408) :
    out0_2 x y (ix2 r n) = (∑ k : Fin 1024, x (ix2 r k) * y (ix2 n k)) := by
  unfold out0_2
  rw [View.canon_unit_zero origin]
  unfold k0_pay1
  simp only [View.ld_unit_zero (S := S1024x1024) origin, View.ld_unit_zero (S := S1408x1024) origin, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S2816x1024.Idx → EReal := m ((c : Thread nD τ).loc main_arg1)

theorem rd0 (t : Fin cfg0.N) (r : Fin 1024) (k : Fin 1024) (i0 : Fin 4096) (kk : Fin 1024) (hr : i0.val = t.val / 2 * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (n : Fin 1408) (k : Fin 1024) (i1 : Fin 2816) (kk : Fin 1024) (hn : i1.val = t.val % 2 * 1408 + n.val) (hk : kk.val = 0 * 1024 + k.val) :
    iblk m c 1 t (ix2 n k) = arg1 m c (ix2 i1 kk) := by
  unfold iblk
  exact (congrArg (V m c main_arg1) (show (win0_1.blk t).view.emb (ix2 n k) = ix2 i1 kk by blk_ext [idx t])).trans (congrFun (V_main_arg1 m c) _)

theorem block_at (t : Fin cfg0.N) (r : Fin 1024) (n : Fin 1408) (i0 : Fin 4096) (i1 : Fin 2816) (hr : i0.val = t.val / 2 * 1024 + r.val) (hn : i1.val = t.val % 2 * 1408 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t n k i1 k hn (by omega)))
  exact e.trans s

theorem array : (dats m 0 c).arrAt 2 cfg0.N = prod (arg0 m c) (arg1 m c) := by
  funext i
  idx_vars i
  exact block_at m c ⟨i0.val / 1024 * 2 + i1.val / 1408, by show _ < 8; omega⟩ ⟨i0.val % 1024, by omega⟩ ⟨i1.val % 1408, by omega⟩ i0 i1
    (by simp only []; omega) (by simp only []; omega)

end Cert.Kernel2Ideal.Product

namespace Cert.Reference2Ideal.Product

open Idealize.ShloMosaic
open Idealize.ShloMosaic.TcCoe Idealize.SL.Sem
open Cert.Reference2Ideal Cert.Reference2Ideal.Gen

theorem array (x : Vec Ideal S4096x1024 .bf16) (y : Vec Ideal S2816x1024 .bf16) :
    truncf (F := Ideal) .bf16 (Host.dotGeneral (F := Ideal) dot_S4096x1024_S2816x1024_S4096x2816_1_1_0_0_n_n none (extf (F := Ideal) .f32 x bitsLt_bf16_f32) (extf (F := Ideal) .f32 y bitsLt_bf16_f32)) bitsLt_bf16_f32
      = Kernel2Ideal.Product.prod x y := by
  funext i
  idx_vars i
  pointwise
  rfl

end Cert.Reference2Ideal.Product

end
-- ==== Proof.Product3.lean ====
/- The product of the third program, element by element. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Product

open Idealize.ShloMosaic
open Idealize.ShloMosaic.TcCoe Idealize.SL.Sem
open Cert.Kernel3Ideal Cert.Kernel3Ideal.Gen

/-- One term of the sum that makes an element of the result. -/
abbrev term (x : S4096x2816.Idx → EReal) (y : S4096x1024.Idx → EReal) (r : Fin 2816) (n : Fin 1024) (k : Fin 4096) : EReal :=
  x (ix2 k r) * y (ix2 k n)

/-- An element of the product: a sum over the axis that the arguments share. -/
def elem (x : S4096x2816.Idx → EReal) (y : S4096x1024.Idx → EReal) (r : Fin 2816) (n : Fin 1024) : EReal :=
  (∑ k : Fin 4096, term x y r n k)

/-- The product. -/
def prod (x : S4096x2816.Idx → EReal) (y : S4096x1024.Idx → EReal) : S2816x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val % 4, t.val / 4] ∧ win0_1.index t = ![t.val % 4, 0]
    ∧ win0_2.index t = ![t.val / 4, 0] ∧ t.val < 8 := (by decide +kernel : ∀ t : Fin grid0.N, _)

theorem pay_at (x : Vec Ideal S1024x1408 .bf16) (y : Vec Ideal S1024x1024 .bf16) (r : Fin 1408) (n : Fin 1024) :
    k0_pay1 x y (ix2 r n) = ∑ k : Fin 1024, x (ix2 k r) * y (ix2 k n) := by
  unfold k0_pay1
  pointwise

variable (m : (ℓ : Loc nD τ sig) → Buf (Elt Ideal) ℓ) (c : Dev nD)

/-! The arguments of the program. -/

abbrev arg0 : S4096x2816.Idx → EReal := m ((c : Thread nD τ).loc main_arg0)
abbrev arg1 : S4096x1024.Idx → EReal := m ((c : Thread nD τ).loc main_arg1)

theorem rd0 (t : Fin cfg0.N) (k : Fin 1024) (r : Fin 1408) (kk : Fin 4096) (i0 : Fin 2816) (hk : kk.val = t.val % 4 * 1024 + k.val) (hr : i0.val = t.val / 4 * 1408 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

theorem rd1 (t : Fin cfg0.N) (k : Fin 1024) (n : Fin 1024) (kk : Fin 4096) (i1 : Fin 1024) (hk : kk.val = t.val % 4 * 1024 + k.val) (hn : i1.val = 0 * 1024 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

/-- The part of an element that one tile of the shared axis makes. -/
def tile (x : S4096x2816.Idx → EReal) (y : S4096x1024.Idx → EReal) (r : Fin 2816) (n : Fin 1024) (q : Fin 4) : EReal :=
  ∑ k : Fin 1024, term x y r n ⟨q.val * 1024 + k.val, by omega⟩

theorem elem_tiles (x : S4096x2816.Idx → EReal) (y : S4096x1024.Idx → EReal) (r : Fin 2816) (n : Fin 1024) :
    elem x y r n = tile x y r n 0 + tile x y r n 1 + tile x y r n 2 + tile x y r n 3 := by
  unfold elem
  rw [Fin.sum_univ_tiles 4 1024 rfl, Fin.sum_univ_four]
  rfl

/-- What a point's two blocks multiply to. -/
theorem part_at (t : Fin cfg0.N) (r : Fin 1408) (n : Fin 1024) (i0 : Fin 2816) (i1 : Fin 1024) (hr : i0.val = t.val / 4 * 1408 + r.val) (hn : i1.val = 0 * 1024 + n.val) (q : Fin 4) (hq : t.val % 4 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1024 + k.val, by omega⟩ : Fin 4096).val = t.val % 4 * 1024 + k.val := by simp only []; omega
  exact congrArg₂ (fun p q : EReal => p * q) (rd0 m c t k r _ i0 hk hr) (rd1 m c t k n _ i1 hk hn)

/-- The first point of a sweep leaves its own part in the running sum. -/
theorem first (t : Fin cfg0.N) (h : t.val % 4 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1024x1408) origin, View.ld_unit_zero (S := S1024x1024) origin, shapeCast_self]

/-- A later point adds its part to it. -/
theorem next (t s : Fin cfg0.N) (hs : s.val + 1 = t.val) (h : ¬t.val % 4 = 0) (h' : ¬t.val % 4 = 3) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1024x1408) origin, View.ld_unit_zero (S := S1024x1024) origin, View.ld_unit_zero (S := S1408x1024) origin, shapeCast_self]

/-- The last point adds its part and writes the sum out. -/
theorem last (t s : Fin cfg0.N) (hs : s.val + 1 = t.val) (h : t.val % 4 = 3) : (outsAt0 m c t.val t.isLt).1
    = k0_pay4 (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin, View.readCov_unit_zero (S := S1408x1024) _ origin]
  unfold k0_pay3
  simp only [View.readAt_eq_ld, (hs0_0 t).read_unread, (hs0_1 t).read_unread, (Memref.isWhole_whole _).read_unread, View.ld_unit_zero (S := S1024x1408) origin, View.ld_unit_zero (S := S1024x1024) origin, View.ld_unit_zero (S := S1408x1024) origin, shapeCast_self]

theorem total (t : Fin cfg0.N) (h : t.val % 4 = 3) (r : Fin 1408) (n : Fin 1024) (i0 : Fin 2816) (i1 : Fin 1024) (hr : i0.val = t.val / 4 * 1408 + r.val) (hn : i1.val = 0 * 1024 + n.val) :
    (outsAt0 m c t.val t.isLt).1 (ix2 r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e0 := first m c ⟨t.val - 3, l3⟩ (by simp only []; omega)
  have p0 := part_at m c ⟨t.val - 3, l3⟩ r n i0 i1 (by simp only []; omega) hn 0 (by simp only []; omega)
  have e1 := next m c ⟨t.val - 2, l2⟩ ⟨t.val - 3, l3⟩ (by simp only []; omega) (by simp only []; omega) (by simp only []; omega)
  have p1 := part_at m c ⟨t.val - 2, l2⟩ r n i0 i1 (by simp only []; omega) hn 1 (by simp only []; omega)
  have e2 := next m c ⟨t.val - 1, l1⟩ ⟨t.val - 2, l2⟩ (by simp only []; omega) (by simp only []; omega) (by simp only []; omega)
  have p2 := part_at m c ⟨t.val - 1, l1⟩ r n i0 i1 (by simp only []; omega) hn 2 (by simp only []; omega)
  have e3 := last m c t ⟨t.val - 1, l1⟩ (by simp only []; omega) h
  have p3 := part_at m c t r n i0 i1 hr hn 3 h
  rw [elem_tiles, ← p0, ← p1, ← p2, ← p3, e3]
  dsimp only at e0 e1 e2
  unfold k0_pay4
  rw [e2]
  rw [e1]
  rw [e0]
  pointwise

theorem array : Value.G2 m c = prod (arg0 m c) (arg1 m c) := by
  funext i
  idx_vars i
  have hp : Value.pt2Of (ix2 i0 i1) = (i0.val / 1408 * 1 + i1.val / 1024) * 4 + 3 := by
    show 4 * (1 * (i0.val / 1408 - 0) + 1 * (i1.val / 1024 - 0)) + 3 = _
    omega
  have hl : Value.loc2Of (ix2 i0 i1) = ix2 (⟨i0.val % 1408, by omega⟩ : Fin 1408) (⟨i1.val % 1024, by omega⟩ : Fin 1024) := by
    funext d
    fin_cases d <;> rfl
  have hN : Value.pt2Of (ix2 i0 i1) < cfg0.N := by rw [hp]; show _ < 8; omega
  unfold Value.G2
  rw [dif_pos hN, ← Value.outsAt0_sweep m c _ hN, hl]
  exact total m c ⟨_, hN⟩ (by simp only [hp]; omega) ⟨i0.val % 1408, by omega⟩ ⟨i1.val % 1024, by omega⟩ i0 i1
    (by simp only [hp]; omega) (by simp only [hp]; omega)

end Cert.Kernel3Ideal.Product

namespace Cert.Reference3Ideal.Product

open Idealize.ShloMosaic
open Idealize.ShloMosaic.TcCoe Idealize.SL.Sem
open Cert.Reference3Ideal Cert.Reference3Ideal.Gen

theorem array (x : Vec Ideal S4096x2816 .bf16) (y : Vec Ideal S4096x1024 .bf16) :
    truncf (F := Ideal) .bf16 (transpose S2816x1024 [1, 0] (Host.dotGeneral (F := Ideal) dot_S4096x1024_S4096x2816_S1024x2816_0_0_1_1_n_n none (extf (F := Ideal) .f32 y bitsLt_bf16_f32) (extf (F := Ideal) .f32 x bitsLt_bf16_f32)) transposes_S1024x2816_S2816x1024_1_0) bitsLt_bf16_f32
      = Kernel3Ideal.Product.prod x y := by
  funext i
  idx_vars i
  pointwise
  exact Finset.sum_congr rfl fun k _ => mul_comm _ _

end Cert.Reference3Ideal.Product

end
-- ==== Proof.Product4.lean ====
/- The product of the fourth program, element by element. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Product

open Idealize.ShloMosaic
open Idealize.ShloMosaic.TcCoe Idealize.SL.Sem
open Cert.Kernel4Ideal Cert.Kernel4Ideal.Gen

/-- One term of the sum that makes an element of the result. -/
abbrev term (x : S4096x5632.Idx → EReal) (y : S1024x5632.Idx → EReal) (r : Fin 4096) (n : Fin 1024) (k : Fin 5632) : EReal :=
  x (ix2 r k) * y (ix2 n k)

/-- An element of the product: a sum over the axis that the arguments share. -/
def elem (x : S4096x5632.Idx → EReal) (y : S1024x5632.Idx → EReal) (r : Fin 4096) (n : Fin 1024) : EReal :=
  (∑ k : Fin 5632, term x y r n k)

/-- The product. -/
def prod (x : S4096x5632.Idx → EReal) (y : S1024x5632.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val % 4 / 2, t.val / 4, t.val % 4 % 2] ∧ win0_1.index t = ![t.val % 4, 0, 0]
    ∧ win0_2.index t = ![t.val / 4, 0] ∧ t.val < 16 := (by decide +kernel : ∀ t : Fin grid0.N, _)

theorem pay_at (x : Vec Ideal S1x1024x1408 .bf16) (y : Vec Ideal S1x1024x1408 .bf16) (r : Fin 1024) (n : Fin 1024) :
    k0_pay1 x y (ix2 r n) = ∑ k : Fin 1408, x (ix3 (0 : Fin 1) r k) * y (ix3 (0 : Fin 1) n k) := by
  unfold k0_pay1
  pointwise

variable (m : (ℓ : Loc nD τ sig) → Buf (Elt Ideal) ℓ) (c : Dev nD)

/-! The arguments of the program. -/

abbrev arg0 : S4096x5632.Idx → EReal := m ((c : Thread nD τ).loc main_arg0)
abbrev arg1 : S1024x5632.Idx → EReal := m ((c : Thread nD τ).loc main_arg1)

/-- The argument with its columns in 2 parts. -/
theorem parts0 (p : Fin 2) (s : Fin 4096) (v : Fin 2816) (g : Fin 5632) (h : g.val = p.val * 2816 + v.val) :
    V m c main_v1 (ix3 p s v) = arg0 m c (ix2 s g) := by
  entry_read
  pointwise
  have e : (p.val * 2816 + v.val) = g.val := h.symm
  blk_ext []
theorem rd0 (t : Fin cfg0.N) (r : Fin 1024) (k : Fin 1408) (i0 : Fin 4096) (kk : Fin 5632) (hr : i0.val = t.val / 4 * 1024 + r.val) (hk : kk.val = t.val % 4 * 1408 + k.val) :
    iblk m c 0 t (ix3 (0 : Fin 1) r k) = arg0 m c (ix2 i0 kk) := by
  rw [← parts0 m c (⟨kk.val / 2816, by omega⟩ : Fin 2) i0 (⟨kk.val % 2816, by omega⟩ : Fin 2816) kk (by simp only []; omega)]
  unfold iblk
  exact congrArg (V m c main_v1) (show (win0_0.blk t).view.emb (ix3 (0 : Fin 1) r k) = ix3 _ _ _ by blk_ext [idx t])

/-- The argument with its columns in 4 parts. -/
theorem parts1 (p : Fin 4) (s : Fin 1024) (v : Fin 1408) (g : Fin 5632) (h : g.val = p.val * 1408 + v.val) :
    V m c main_v3 (ix3 p s v) = arg1 m c (ix2 s g) := by
  entry_read
  pointwise
  have e : (p.val * 1408 + v.val) = g.val := h.symm
  blk_ext []
theorem rd1 (t : Fin cfg0.N) (n : Fin 1024) (k : Fin 1408) (i1 : Fin 1024) (kk : Fin 5632) (hn : i1.val = 0 * 1024 + n.val) (hk : kk.val = t.val % 4 * 1408 + k.val) :
    iblk m c 1 t (ix3 (0 : Fin 1) n k) = arg1 m c (ix2 i1 kk) := by
  rw [← parts1 m c (⟨kk.val / 1408, by omega⟩ : Fin 4) i1 (⟨kk.val % 1408, by omega⟩ : Fin 1408) kk (by simp only []; omega)]
  unfold iblk
  exact congrArg (V m c main_v3) (show (win0_1.blk t).view.emb (ix3 (0 : Fin 1) n k) = ix3 _ _ _ by blk_ext [idx t])

/-- The part of an element that one tile of the shared axis makes. -/
def tile (x : S4096x5632.Idx → EReal) (y : S1024x5632.Idx → EReal) (r : Fin 4096) (n : Fin 1024) (q : Fin 4) : EReal :=
  ∑ k : Fin 1408, term x y r n ⟨q.val * 1408 + k.val, by omega⟩

theorem elem_tiles (x : S4096x5632.Idx → EReal) (y : S1024x5632.Idx → EReal) (r : Fin 4096) (n : Fin 1024) :
    elem x y r n = tile x y r n 0 + tile x y r n 1 + tile x y r n 2 + tile x y r n 3 := by
  unfold elem
  rw [Fin.sum_univ_tiles 4 1408 rfl, Fin.sum_univ_four]
  rfl

/-- What a point's two blocks multiply to. -/
theorem part_at (t : Fin cfg0.N) (r : Fin 1024) (n : Fin 1024) (i0 : Fin 4096) (i1 : Fin 1024) (hr : i0.val = t.val / 4 * 1024 + r.val) (hn : i1.val = 0 * 1024 + n.val) (q : Fin 4) (hq : t.val % 4 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1408 + k.val, by omega⟩ : Fin 5632).val = t.val % 4 * 1408 + k.val := by simp only []; omega
  exact congrArg₂ (fun p q : EReal => p * q) (rd0 m c t r k i0 _ hr hk) (rd1 m c t n k i1 _ hn hk)

/-- The first point of a sweep leaves its own part in the running sum. -/
theorem first (t : Fin cfg0.N) (h : t.val % 4 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1x1024x1408) origin3, shapeCast_self]

/-- A later point adds its part to it. -/
theorem next (t s : Fin cfg0.N) (hs : s.val + 1 = t.val) (h : ¬t.val % 4 = 0) (h' : ¬t.val % 4 = 3) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1x1024x1408) origin3, View.ld_unit_zero (S := S1024x1024) origin, shapeCast_self]

/-- The last point adds its part and writes the sum out. -/
theorem last (t s : Fin cfg0.N) (hs : s.val + 1 = t.val) (h : t.val % 4 = 3) : (outsAt0 m c t.val t.isLt).1
    = (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread, View.ld_unit_zero (S := S1x1024x1408) origin3, View.ld_unit_zero (S := S1024x1024) origin, shapeCast_self]

theorem total (t : Fin cfg0.N) (h : t.val % 4 = 3) (r : Fin 1024) (n : Fin 1024) (i0 : Fin 4096) (i1 : Fin 1024) (hr : i0.val = t.val / 4 * 1024 + r.val) (hn : i1.val = 0 * 1024 + n.val) :
    (outsAt0 m c t.val t.isLt).1 (ix2 r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e0 := first m c ⟨t.val - 3, l3⟩ (by simp only []; omega)
  have p0 := part_at m c ⟨t.val - 3, l3⟩ r n i0 i1 (by simp only []; omega) hn 0 (by simp only []; omega)
  have e1 := next m c ⟨t.val - 2, l2⟩ ⟨t.val - 3, l3⟩ (by simp only []; omega) (by simp only []; omega) (by simp only []; omega)
  have p1 := part_at m c ⟨t.val - 2, l2⟩ r n i0 i1 (by simp only []; omega) hn 1 (by simp only []; omega)
  have e2 := next m c ⟨t.val - 1, l1⟩ ⟨t.val - 2, l2⟩ (by simp only []; omega) (by simp only []; omega) (by simp only []; omega)
  have p2 := part_at m c ⟨t.val - 1, l1⟩ r n i0 i1 (by simp only []; omega) hn 2 (by simp only []; omega)
  have e3 := last m c t ⟨t.val - 1, l1⟩ (by simp only []; omega) h
  have p3 := part_at m c t r n i0 i1 hr hn 3 h
  rw [elem_tiles, ← p0, ← p1, ← p2, ← p3, e3]
  dsimp only at e0 e1 e2
  rw [e2]
  rw [e1]
  rw [e0]
  pointwise

theorem array : Value.G2 m c = prod (arg0 m c) (arg1 m c) := by
  funext i
  idx_vars i
  have hp : Value.pt2Of (ix2 i0 i1) = (i0.val / 1024 * 1 + i1.val / 1024) * 4 + 3 := by
    show 4 * (1 * (i0.val / 1024 - 0) + 1 * (i1.val / 1024 - 0)) + 3 = _
    omega
  have hl : Value.loc2Of (ix2 i0 i1) = ix2 (⟨i0.val % 1024, by omega⟩ : Fin 1024) (⟨i1.val % 1024, by omega⟩ : Fin 1024) := by
    funext d
    fin_cases d <;> rfl
  have hN : Value.pt2Of (ix2 i0 i1) < cfg0.N := by rw [hp]; show _ < 16; omega
  unfold Value.G2
  rw [dif_pos hN, ← Value.outsAt0_sweep m c _ hN, hl]
  exact total m c ⟨_, hN⟩ (by simp only [hp]; omega) ⟨i0.val % 1024, by omega⟩ ⟨i1.val % 1024, by omega⟩ i0 i1
    (by simp only [hp]; omega) (by simp only [hp]; omega)

end Cert.Kernel4Ideal.Product

namespace Cert.Reference4Ideal.Product

open Idealize.ShloMosaic
open Idealize.ShloMosaic.TcCoe Idealize.SL.Sem
open Cert.Reference4Ideal Cert.Reference4Ideal.Gen

theorem array (x : Vec Ideal S4096x5632 .bf16) (y : Vec Ideal S1024x5632 .bf16) :
    Host.dotGeneral (F := Ideal) dot_S4096x5632_S1024x5632_S4096x1024_1_1_0_0_n_n none (extf (F := Ideal) .f32 x bitsLt_bf16_f32) (extf (F := Ideal) .f32 y bitsLt_bf16_f32)
      = Kernel4Ideal.Product.prod x y := by
  funext i
  idx_vars i
  pointwise
  rfl

end Cert.Reference4Ideal.Product

end
-- ==== Proof.Product5.lean ====
/- The product of the fifth program, element by element. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Product

open Idealize.ShloMosaic
open Idealize.ShloMosaic.TcCoe Idealize.SL.Sem
open Cert.Kernel5Ideal Cert.Kernel5Ideal.Gen

/-- One term of the sum that makes an element of the result. -/
abbrev term (x : S4096x1024.Idx → EReal) (y : S4096x5632.Idx → EReal) (r : Fin 1024) (n : Fin 5632) (k : Fin 4096) : EReal :=
  x (ix2 k r) * y (ix2 k n)

/-- An element of the product: a sum over the axis that the arguments share. -/
def elem (x : S4096x1024.Idx → EReal) (y : S4096x5632.Idx → EReal) (r : Fin 1024) (n : Fin 5632) : EReal :=
  (∑ k : Fin 4096, term x y r n k)

/-- The product, its columns in 4 parts. -/
def prod (x : S4096x1024.Idx → EReal) (y : S4096x5632.Idx → EReal) : S4x1024x1408.Idx → EReal := fun i =>
  elem x y ⟨(i 1).val, (i 1).isLt⟩ ⟨(i 0).val * 1408 + (i 2).val, by have h0 : (i 0).val < 4 := (i 0).isLt; have h2 : (i 2).val < 1408 := (i 2).isLt; omega⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val % 4, 0] ∧ win0_1.index t = ![t.val / 4 / 2, t.val % 4, t.val / 4 % 2]
    ∧ win0_2.index t = ![t.val / 4, 0, 0] ∧ t.val < 16 := (by decide +kernel : ∀ t : Fin grid0.N, _)

theorem pay_at (x : Vec Ideal S1024x1024 .bf16) (y : Vec Ideal S1x1024x1408 .bf16) (r : Fin 1024) (n : Fin 1408) :
    k0_pay1 x y (ix2 r n) = ∑ k : Fin 1024, x (ix2 k r) * y (ix3 (0 : Fin 1) k n) := by
  unfold k0_pay1
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S4096x5632.Idx → EReal := m ((c : Thread nD τ).loc main_arg1)

theorem rd0 (t : Fin cfg0.N) (k : Fin 1024) (r : Fin 1024) (kk : Fin 4096) (i0 : Fin 1024) (hk : kk.val = t.val % 4 * 1024 + k.val) (hr : i0.val = 0 * 1024 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

/-- The argument with its columns in 2 parts. -/
theorem parts1 (p : Fin 2) (s : Fin 4096) (v : Fin 2816) (g : Fin 5632) (h : g.val = p.val * 2816 + v.val) :
    V m c main_v1 (ix3 p s v) = arg1 m c (ix2 s g) := by
  entry_read
  pointwise
  have e : (p.val * 2816 + v.val) = g.val := h.symm
  blk_ext []
theorem rd1 (t : Fin cfg0.N) (k : Fin 1024) (n : Fin 1408) (kk : Fin 4096) (i1 : Fin 5632) (hk : kk.val = t.val % 4 * 1024 + k.val) (hn : i1.val = t.val / 4 * 1408 + n.val) :
    iblk m c 1 t (ix3 (0 : Fin 1) k n) = arg1 m c (ix2 kk i1) := by
  rw [← parts1 m c (⟨i1.val / 2816, by omega⟩ : Fin 2) kk (⟨i1.val % 2816, by omega⟩ : Fin 2816) i1 (by simp only []; omega)]
  unfold iblk
  exact congrArg (V m c main_v1) (show (win0_1.blk t).view.emb (ix3 (0 : Fin 1) k n) = ix3 _ _ _ by blk_ext [idx t])

/-- The part of an element that one tile of the shared axis makes. -/
def tile (x : S4096x1024.Idx → EReal) (y : S4096x5632.Idx → EReal) (r : Fin 1024) (n : Fin 5632) (q : Fin 4) : EReal :=
  ∑ k : Fin 1024, term x y r n ⟨q.val * 1024 + k.val, by omega⟩

theorem elem_tiles (x : S4096x1024.Idx → EReal) (y : S4096x5632.Idx → EReal) (r : Fin 1024) (n : Fin 5632) :
    elem x y r n = tile x y r n 0 + tile x y r n 1 + tile x y r n 2 + tile x y r n 3 := by
  unfold elem
  rw [Fin.sum_univ_tiles 4 1024 rfl, Fin.sum_univ_four]
  rfl

/-- What a point's two blocks multiply to. -/
theorem part_at (t : Fin cfg0.N) (r : Fin 1024) (n : Fin 1408) (i0 : Fin 1024) (i1 : Fin 5632) (hr : i0.val = 0 * 1024 + r.val) (hn : i1.val = t.val / 4 * 1408 + n.val) (q : Fin 4) (hq : t.val % 4 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1024 + k.val, by omega⟩ : Fin 4096).val = t.val % 4 * 1024 + k.val := by simp only []; omega
  exact congrArg₂ (fun p q : EReal => p * q) (rd0 m c t k r _ i0 hk hr) (rd1 m c t k n _ i1 hk hn)

/-- The first point of a sweep leaves its own part in the running sum. -/
theorem first (t : Fin cfg0.N) (h : t.val % 4 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1024x1024) origin, View.ld_unit_zero (S := S1x1024x1408) origin3, shapeCast_self]

/-- A later point adds its part to it. -/
theorem next (t s : Fin cfg0.N) (hs : s.val + 1 = t.val) (h : ¬t.val % 4 = 0) (h' : ¬t.val % 4 = 3) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1024x1024) origin, View.ld_unit_zero (S := S1x1024x1408) origin3, View.ld_unit_zero (S := S1024x1408) origin, shapeCast_self]

/-- The last point adds its part and writes the sum out. -/
theorem last (t s : Fin cfg0.N) (hs : s.val + 1 = t.val) (h : t.val % 4 = 3) : (outsAt0 m c t.val t.isLt).1
    = k0_pay4 (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin3, View.readCov_unit_zero (S := S1024x1408) _ origin]
  unfold k0_pay3
  simp only [View.readAt_eq_ld, (hs0_0 t).read_unread, (hs0_1 t).read_unread, (Memref.isWhole_whole _).read_unread, View.ld_unit_zero (S := S1024x1024) origin, View.ld_unit_zero (S := S1x1024x1408) origin3, View.ld_unit_zero (S := S1024x1408) origin, shapeCast_self]

theorem total (t : Fin cfg0.N) (h : t.val % 4 = 3) (r : Fin 1024) (n : Fin 1408) (i0 : Fin 1024) (i1 : Fin 5632) (hr : i0.val = 0 * 1024 + r.val) (hn : i1.val = t.val / 4 * 1408 + n.val) :
    (outsAt0 m c t.val t.isLt).1 (ix3 (0 : Fin 1) r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e0 := first m c ⟨t.val - 3, l3⟩ (by simp only []; omega)
  have p0 := part_at m c ⟨t.val - 3, l3⟩ r n i0 i1 hr (by simp only []; omega) 0 (by simp only []; omega)
  have e1 := next m c ⟨t.val - 2, l2⟩ ⟨t.val - 3, l3⟩ (by simp only []; omega) (by simp only []; omega) (by simp only []; omega)
  have p1 := part_at m c ⟨t.val - 2, l2⟩ r n i0 i1 hr (by simp only []; omega) 1 (by simp only []; omega)
  have e2 := next m c ⟨t.val - 1, l1⟩ ⟨t.val - 2, l2⟩ (by simp only []; omega) (by simp only []; omega) (by simp only []; omega)
  have p2 := part_at m c ⟨t.val - 1, l1⟩ r n i0 i1 hr (by simp only []; omega) 2 (by simp only []; omega)
  have e3 := last m c t ⟨t.val - 1, l1⟩ (by simp only []; omega) h
  have p3 := part_at m c t r n i0 i1 hr hn 3 h
  rw [elem_tiles, ← p0, ← p1, ← p2, ← p3, e3]
  dsimp only at e0 e1 e2
  unfold k0_pay4
  rw [e2]
  rw [e1]
  rw [e0]
  pointwise

theorem array : Value.G2 m c = prod (arg0 m c) (arg1 m c) := by
  funext i
  idx_vars i
  have hp : Value.pt2Of (ix3 i0 i1 i2) = i0.val * 4 + 3 := by
    show 4 * (1 * (i0.val / 1 - 0) + 1 * (i1.val / 1024 - 0) + 1 * (i2.val / 1408 - 0)) + 3 = _
    omega
  have hl : Value.loc2Of (ix3 i0 i1 i2) = ix3 (0 : Fin 1) (⟨i1.val, by omega⟩ : Fin 1024) (⟨i2.val, by omega⟩ : Fin 1408) := by
    funext d
    fin_cases d
    · exact Fin.ext (Nat.mod_one _)
    · exact Fin.ext (Nat.mod_eq_of_lt i1.isLt)
    · exact Fin.ext (Nat.mod_eq_of_lt i2.isLt)
  have hN : Value.pt2Of (ix3 i0 i1 i2) < cfg0.N := by rw [hp]; show _ < 16; omega
  unfold Value.G2
  rw [dif_pos hN, ← Value.outsAt0_sweep m c _ hN, hl]
  exact total m c ⟨_, hN⟩ (by simp only [hp]; omega) ⟨i1.val, by omega⟩ ⟨i2.val, by omega⟩ i1 ⟨i0.val * 1408 + i2.val, by omega⟩
    (by simp only [hp]; omega) (by simp only [hp]; omega)

end Cert.Kernel5Ideal.Product

namespace Cert.Reference5Ideal.Product

open Idealize.ShloMosaic
open Idealize.ShloMosaic.TcCoe Idealize.SL.Sem
open Cert.Reference5Ideal Cert.Reference5Ideal.Gen

theorem array (x : Vec Ideal S4096x1024 .bf16) (y : Vec Ideal S4096x5632 .bf16) :
    transpose S4x1024x1408 [1, 0, 2] (shapeCast S1024x4x1408 (truncf (F := Ideal) .bf16 (transpose S1024x5632 [1, 0] (Host.dotGeneral (F := Ideal) dot_S4096x5632_S4096x1024_S5632x1024_0_0_1_1_n_n none (extf (F := Ideal) .f32 y bitsLt_bf16_f32) (extf (F := Ideal) .f32 x bitsLt_bf16_f32)) transposes_S5632x1024_S1024x5632_1_0) bitsLt_bf16_f32) shapeCasts_S1024x5632_S1024x4x1408) transposes_S1024x4x1408_S4x1024x1408_1_0_2
      = Kernel5Ideal.Product.prod x y := by
  funext i
  idx_vars i
  pointwise
  exact Finset.sum_congr rfl fun k _ => mul_comm _ _

end Cert.Reference5Ideal.Product

end
-- ==== Proof.Product6.lean ====
/- The product of the sixth program, element by element. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Product

open Idealize.ShloMosaic
open Idealize.ShloMosaic.TcCoe Idealize.SL.Sem
open Cert.Kernel6Ideal Cert.Kernel6Ideal.Gen

/-- One term of the sum that makes an element of the result. -/
abbrev term (x : S4096x1024.Idx → EReal) (y : S1024x1024.Idx → EReal) (r : Fin 4096) (n : Fin 1024) (k : Fin 1024) : EReal :=
  x (ix2 r k) * y (ix2 n k)

/-- An element of the product: a sum over the axis that the arguments share. -/
def elem (x : S4096x1024.Idx → EReal) (y : S1024x1024.Idx → EReal) (r : Fin 4096) (n : Fin 1024) : EReal :=
  (∑ k : Fin 1024, term x y r n k)

/-- The product. -/
def prod (x : S4096x1024.Idx → EReal) (y : S1024x1024.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0]
    ∧ win0_2.index t = ![t.val, 0] ∧ t.val < 4 := (by decide +kernel : ∀ t : Fin grid0.N, _)

theorem out_at (x : Vec Ideal S1024x1024 .bf16) (y : Vec Ideal S1024x1024 .bf16) (r : Fin 1024) (n : Fin 1024) :
    out0_2 x y (ix2 r n) = (∑ k : Fin 1024, x (ix2 r k) * y (ix2 n k)) := by
  unfold out0_2
  rw [View.canon_unit_zero origin]
  unfold k0_pay1
  simp only [View.ld_unit_zero (S := S1024x1024) origin, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x1024.Idx → EReal := m ((c : Thread nD τ).loc main_arg1)

theorem rd0 (t : Fin cfg0.N) (r : Fin 1024) (k : Fin 1024) (i0 : Fin 4096) (kk : Fin 1024) (hr : i0.val = t.val * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (n : Fin 1024) (k : Fin 1024) (i1 : Fin 1024) (kk : Fin 1024) (hn : i1.val = 0 * 1024 + n.val) (hk : kk.val = 0 * 1024 + k.val) :
    iblk m c 1 t (ix2 n k) = arg1 m c (ix2 i1 kk) := by
  unfold iblk
  exact (congrArg (V m c main_arg1) (show (win0_1.blk t).view.emb (ix2 n k) = ix2 i1 kk by blk_ext [idx t])).trans (congrFun (V_main_arg1 m c) _)

theorem block_at (t : Fin cfg0.N) (r : Fin 1024) (n : Fin 1024) (i0 : Fin 4096) (i1 : Fin 1024) (hr : i0.val = t.val * 1024 + r.val) (hn : i1.val = 0 * 1024 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t n k i1 k hn (by omega)))
  exact e.trans s

theorem array : (dats m 0 c).arrAt 2 cfg0.N = prod (arg0 m c) (arg1 m c) := by
  funext i
  idx_vars i
  exact block_at m c ⟨i0.val / 1024 * 1 + i1.val / 1024, by show _ < 4; omega⟩ ⟨i0.val % 1024, by omega⟩ ⟨i1.val % 1024, by omega⟩ i0 i1
    (by simp only []; omega) (by simp only []; omega)

end Cert.Kernel6Ideal.Product

namespace Cert.Reference6Ideal.Product

open Idealize.ShloMosaic
open Idealize.ShloMosaic.TcCoe Idealize.SL.Sem
open Cert.Reference6Ideal Cert.Reference6Ideal.Gen

theorem array (x : Vec Ideal S4096x1024 .bf16) (y : Vec Ideal S1024x1024 .bf16) :
    Host.dotGeneral (F := Ideal) dot_S4096x1024_S1024x1024_S4096x1024_1_1_0_0_n_n none (extf (F := Ideal) .f32 x bitsLt_bf16_f32) (extf (F := Ideal) .f32 y bitsLt_bf16_f32)
      = Kernel6Ideal.Product.prod x y := by
  funext i
  idx_vars i
  pointwise
  rfl

end Cert.Reference6Ideal.Product

end
-- ==== Proof.Product7.lean ====
/- The product of the seventh program, element by element. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Product

open Idealize.ShloMosaic
open Idealize.ShloMosaic.TcCoe Idealize.SL.Sem
open Cert.Kernel7Ideal Cert.Kernel7Ideal.Gen

/-- One term of the sum that makes an element of the result. -/
abbrev term (x : S4096x1024.Idx → EReal) (y : S4096x1024.Idx → EReal) (r : Fin 1024) (n : Fin 1024) (k : Fin 4096) : EReal :=
  x (ix2 k r) * y (ix2 k n)

/-- An element of the product: a sum over the axis that the arguments share. -/
def elem (x : S4096x1024.Idx → EReal) (y : S4096x1024.Idx → EReal) (r : Fin 1024) (n : Fin 1024) : EReal :=
  (∑ k : Fin 4096, term x y r n k)

/-- The product. -/
def prod (x : S4096x1024.Idx → EReal) (y : S4096x1024.Idx → EReal) : S1024x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val % 4, 0] ∧ win0_1.index t = ![t.val % 4, 0]
    ∧ win0_2.index t = ![0, 0] ∧ t.val < 4 := (by decide +kernel : ∀ t : Fin grid0.N, _)

theorem pay_at (x : Vec Ideal S1024x1024 .bf16) (y : Vec Ideal S1024x1024 .bf16) (r : Fin 1024) (n : Fin 1024) :
    k0_pay1 x y (ix2 r n) = ∑ k : Fin 1024, x (ix2 k r) * y (ix2 k n) := by
  unfold k0_pay1
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S4096x1024.Idx → EReal := m ((c : Thread nD τ).loc main_arg1)

theorem rd0 (t : Fin cfg0.N) (k : Fin 1024) (r : Fin 1024) (kk : Fin 4096) (i0 : Fin 1024) (hk : kk.val = t.val % 4 * 1024 + k.val) (hr : i0.val = 0 * 1024 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

theorem rd1 (t : Fin cfg0.N) (k : Fin 1024) (n : Fin 1024) (kk : Fin 4096) (i1 : Fin 1024) (hk : kk.val = t.val % 4 * 1024 + k.val) (hn : i1.val = 0 * 1024 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

/-- The part of an element that one tile of the shared axis makes. -/
def tile (x : S4096x1024.Idx → EReal) (y : S4096x1024.Idx → EReal) (r : Fin 1024) (n : Fin 1024) (q : Fin 4) : EReal :=
  ∑ k : Fin 1024, term x y r n ⟨q.val * 1024 + k.val, by omega⟩

theorem elem_tiles (x : S4096x1024.Idx → EReal) (y : S4096x1024.Idx → EReal) (r : Fin 1024) (n : Fin 1024) :
    elem x y r n = tile x y r n 0 + tile x y r n 1 + tile x y r n 2 + tile x y r n 3 := by
  unfold elem
  rw [Fin.sum_univ_tiles 4 1024 rfl, Fin.sum_univ_four]
  rfl

/-- What a point's two blocks multiply to. -/
theorem part_at (t : Fin cfg0.N) (r : Fin 1024) (n : Fin 1024) (i0 : Fin 1024) (i1 : Fin 1024) (hr : i0.val = 0 * 1024 + r.val) (hn : i1.val = 0 * 1024 + n.val) (q : Fin 4) (hq : t.val % 4 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1024 + k.val, by omega⟩ : Fin 4096).val = t.val % 4 * 1024 + k.val := by simp only []; omega
  exact congrArg₂ (fun p q : EReal => p * q) (rd0 m c t k r _ i0 hk hr) (rd1 m c t k n _ i1 hk hn)

/-- The first point of a sweep leaves its own part in the running sum. -/
theorem first (t : Fin cfg0.N) (h : t.val % 4 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1024x1024) origin, shapeCast_self]

/-- A later point adds its part to it. -/
theorem next (t s : Fin cfg0.N) (hs : s.val + 1 = t.val) (h : ¬t.val % 4 = 0) (h' : ¬t.val % 4 = 3) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1024x1024) origin, shapeCast_self]

/-- The last point adds its part and writes the sum out. -/
theorem last (t s : Fin cfg0.N) (hs : s.val + 1 = t.val) (h : t.val % 4 = 3) : (outsAt0 m c t.val t.isLt).1
    = k0_pay4 (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread, View.ld_unit_zero (S := S1024x1024) origin, shapeCast_self]

theorem total (t : Fin cfg0.N) (h : t.val % 4 = 3) (r : Fin 1024) (n : Fin 1024) (i0 : Fin 1024) (i1 : Fin 1024) (hr : i0.val = 0 * 1024 + r.val) (hn : i1.val = 0 * 1024 + n.val) :
    (outsAt0 m c t.val t.isLt).1 (ix2 r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e0 := first m c ⟨t.val - 3, l3⟩ (by simp only []; omega)
  have p0 := part_at m c ⟨t.val - 3, l3⟩ r n i0 i1 hr hn 0 (by simp only []; omega)
  have e1 := next m c ⟨t.val - 2, l2⟩ ⟨t.val - 3, l3⟩ (by simp only []; omega) (by simp only []; omega) (by simp only []; omega)
  have p1 := part_at m c ⟨t.val - 2, l2⟩ r n i0 i1 hr hn 1 (by simp only []; omega)
  have e2 := next m c ⟨t.val - 1, l1⟩ ⟨t.val - 2, l2⟩ (by simp only []; omega) (by simp only []; omega) (by simp only []; omega)
  have p2 := part_at m c ⟨t.val - 1, l1⟩ r n i0 i1 hr hn 2 (by simp only []; omega)
  have e3 := last m c t ⟨t.val - 1, l1⟩ (by simp only []; omega) h
  have p3 := part_at m c t r n i0 i1 hr hn 3 h
  rw [elem_tiles, ← p0, ← p1, ← p2, ← p3, e3]
  dsimp only at e0 e1 e2
  unfold k0_pay4
  rw [e2]
  rw [e1]
  rw [e0]
  pointwise

theorem array : Value.G2 m c = prod (arg0 m c) (arg1 m c) := by
  funext i
  idx_vars i
  have hp : Value.pt2Of (ix2 i0 i1) = (i0.val / 1024 * 1 + i1.val / 1024) * 4 + 3 := by
    show 4 * (1 * (i0.val / 1024 - 0) + 1 * (i1.val / 1024 - 0)) + 3 = _
    omega
  have hl : Value.loc2Of (ix2 i0 i1) = ix2 (⟨i0.val % 1024, by omega⟩ : Fin 1024) (⟨i1.val % 1024, by omega⟩ : Fin 1024) := by
    funext d
    fin_cases d <;> rfl
  have hN : Value.pt2Of (ix2 i0 i1) < cfg0.N := by rw [hp]; show _ < 4; omega
  unfold Value.G2
  rw [dif_pos hN, ← Value.outsAt0_sweep m c _ hN, hl]
  exact total m c ⟨_, hN⟩ (by simp only [hp]; omega) ⟨i0.val % 1024, by omega⟩ ⟨i1.val % 1024, by omega⟩ i0 i1
    (by simp only [hp]; omega) (by simp only [hp]; omega)

end Cert.Kernel7Ideal.Product

namespace Cert.Reference7Ideal.Product

open Idealize.ShloMosaic
open Idealize.ShloMosaic.TcCoe Idealize.SL.Sem
open Cert.Reference7Ideal Cert.Reference7Ideal.Gen

theorem array (x : Vec Ideal S4096x1024 .bf16) (y : Vec Ideal S4096x1024 .bf16) :
    truncf (F := Ideal) .bf16 (transpose S1024x1024 [1, 0] (Host.dotGeneral (F := Ideal) dot_S4096x1024_S4096x1024_S1024x1024_0_0_1_1_n_n none (extf (F := Ideal) .f32 y bitsLt_bf16_f32) (extf (F := Ideal) .f32 x bitsLt_bf16_f32)) transposes_S1024x1024_S1024x1024_1_0) bitsLt_bf16_f32
      = Kernel7Ideal.Product.prod x y := by
  funext i
  idx_vars i
  pointwise
  exact Finset.sum_congr rfl fun k _ => mul_comm _ _

end Cert.Reference7Ideal.Product

end
-- ==== Proof.Product8.lean ====
/- The product of the eighth program, element by element. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Product

open Idealize.ShloMosaic
open Idealize.ShloMosaic.TcCoe Idealize.SL.Sem
open Cert.Kernel8Ideal Cert.Kernel8Ideal.Gen

/-- One term of the sum that makes an element of the result. -/
abbrev term (x : S4096x1024.Idx → EReal) (y : S1024x1024.Idx → EReal) (r : Fin 4096) (n : Fin 1024) (k : Fin 1024) : EReal :=
  x (ix2 r k) * y (ix2 n k)

/-- An element of the product: a sum over the axis that the arguments share. -/
def elem (x : S4096x1024.Idx → EReal) (y : S1024x1024.Idx → EReal) (r : Fin 4096) (n : Fin 1024) : EReal :=
  (∑ k : Fin 1024, term x y r n k)

/-- The product. -/
def prod (x : S4096x1024.Idx → EReal) (y : S1024x1024.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0]
    ∧ win0_2.index t = ![t.val, 0] ∧ t.val < 4 := (by decide +kernel : ∀ t : Fin grid0.N, _)

theorem out_at (x : Vec Ideal S1024x1024 .bf16) (y : Vec Ideal S1024x1024 .bf16) (r : Fin 1024) (n : Fin 1024) :
    out0_2 x y (ix2 r n) = (∑ k : Fin 1024, x (ix2 r k) * y (ix2 n k)) := by
  unfold out0_2
  rw [View.canon_unit_zero origin]
  unfold k0_pay1
  simp only [View.ld_unit_zero (S := S1024x1024) origin, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x1024.Idx → EReal := m ((c : Thread nD τ).loc main_arg1)

theorem rd0 (t : Fin cfg0.N) (r : Fin 1024) (k : Fin 1024) (i0 : Fin 4096) (kk : Fin 1024) (hr : i0.val = t.val * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (n : Fin 1024) (k : Fin 1024) (i1 : Fin 1024) (kk : Fin 1024) (hn : i1.val = 0 * 1024 + n.val) (hk : kk.val = 0 * 1024 + k.val) :
    iblk m c 1 t (ix2 n k) = arg1 m c (ix2 i1 kk) := by
  unfold iblk
  exact (congrArg (V m c main_arg1) (show (win0_1.blk t).view.emb (ix2 n k) = ix2 i1 kk by blk_ext [idx t])).trans (congrFun (V_main_arg1 m c) _)

theorem block_at (t : Fin cfg0.N) (r : Fin 1024) (n : Fin 1024) (i0 : Fin 4096) (i1 : Fin 1024) (hr : i0.val = t.val * 1024 + r.val) (hn : i1.val = 0 * 1024 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t n k i1 k hn (by omega)))
  exact e.trans s

theorem array : (dats m 0 c).arrAt 2 cfg0.N = prod (arg0 m c) (arg1 m c) := by
  funext i
  idx_vars i
  exact block_at m c ⟨i0.val / 1024 * 1 + i1.val / 1024, by show _ < 4; omega⟩ ⟨i0.val % 1024, by omega⟩ ⟨i1.val % 1024, by omega⟩ i0 i1
    (by simp only []; omega) (by simp only []; omega)

end Cert.Kernel8Ideal.Product

namespace Cert.Reference8Ideal.Product

open Idealize.ShloMosaic
open Idealize.ShloMosaic.TcCoe Idealize.SL.Sem
open Cert.Reference8Ideal Cert.Reference8Ideal.Gen

theorem array (x : Vec Ideal S4096x1024 .bf16) (y : Vec Ideal S1024x1024 .bf16) :
    truncf (F := Ideal) .bf16 (Host.dotGeneral (F := Ideal) dot_S4096x1024_S1024x1024_S4096x1024_1_1_0_0_n_n none (extf (F := Ideal) .f32 x bitsLt_bf16_f32) (extf (F := Ideal) .f32 y bitsLt_bf16_f32)) bitsLt_bf16_f32
      = Kernel8Ideal.Product.prod x y := by
  funext i
  idx_vars i
  pointwise
  rfl

end Cert.Reference8Ideal.Product

end
-- ==== Proof.Product9.lean ====
/- The product of the ninth program, element by element. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Product

open Idealize.ShloMosaic
open Idealize.ShloMosaic.TcCoe Idealize.SL.Sem
open Cert.Kernel9Ideal Cert.Kernel9Ideal.Gen

/-- One term of the sum that makes an element of the result. -/
abbrev term (x : S4096x3072.Idx → EReal) (y : S1024x3072.Idx → EReal) (r : Fin 4096) (n : Fin 1024) (k : Fin 3072) : EReal :=
  x (ix2 r k) * y (ix2 n k)

/-- An element of the product: a sum over the axis that the arguments share. -/
def elem (x : S4096x3072.Idx → EReal) (y : S1024x3072.Idx → EReal) (r : Fin 4096) (n : Fin 1024) : EReal :=
  (∑ k : Fin 3072, term x y r n k)

/-- The product. -/
def prod (x : S4096x3072.Idx → EReal) (y : S1024x3072.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val % 3, t.val / 3, 0] ∧ win0_1.index t = ![0, t.val % 3]
    ∧ win0_2.index t = ![t.val / 3, 0] ∧ t.val < 12 := (by decide +kernel : ∀ t : Fin grid0.N, _)

theorem pay_at (x : Vec Ideal S1x1024x1024 .bf16) (y : Vec Ideal S1024x1024 .bf16) (r : Fin 1024) (n : Fin 1024) :
    k0_pay1 x y (ix2 r n) = ∑ k : Fin 1024, x (ix3 (0 : Fin 1) r k) * y (ix2 n k) := by
  unfold k0_pay1
  pointwise

variable (m : (ℓ : Loc nD τ sig) → Buf (Elt Ideal) ℓ) (c : Dev nD)

/-! The arguments of the program. -/

abbrev arg0 : S4096x3072.Idx → EReal := m ((c : Thread nD τ).loc main_arg0)
abbrev arg1 : S1024x3072.Idx → EReal := m ((c : Thread nD τ).loc main_arg1)

/-- The argument with its columns in 3 parts. -/
theorem parts0 (p : Fin 3) (s : Fin 4096) (v : Fin 1024) (g : Fin 3072) (h : g.val = p.val * 1024 + v.val) :
    V m c main_v1 (ix3 p s v) = arg0 m c (ix2 s g) := by
  entry_read
  pointwise
  have e : (p.val * 1024 + v.val) = g.val := h.symm
  blk_ext []
theorem rd0 (t : Fin cfg0.N) (r : Fin 1024) (k : Fin 1024) (i0 : Fin 4096) (kk : Fin 3072) (hr : i0.val = t.val / 3 * 1024 + r.val) (hk : kk.val = t.val % 3 * 1024 + k.val) :
    iblk m c 0 t (ix3 (0 : Fin 1) r k) = arg0 m c (ix2 i0 kk) := by
  rw [← parts0 m c (⟨kk.val / 1024, by omega⟩ : Fin 3) i0 (⟨kk.val % 1024, by omega⟩ : Fin 1024) kk (by simp only []; omega)]
  unfold iblk
  exact congrArg (V m c main_v1) (show (win0_0.blk t).view.emb (ix3 (0 : Fin 1) r k) = ix3 _ _ _ by blk_ext [idx t])

theorem rd1 (t : Fin cfg0.N) (n : Fin 1024) (k : Fin 1024) (i1 : Fin 1024) (kk : Fin 3072) (hn : i1.val = 0 * 1024 + n.val) (hk : kk.val = t.val % 3 * 1024 + k.val) :
    iblk m c 1 t (ix2 n k) = arg1 m c (ix2 i1 kk) := by
  unfold iblk
  exact (congrArg (V m c main_arg1) (show (win0_1.blk t).view.emb (ix2 n k) = ix2 i1 kk by blk_ext [idx t])).trans (congrFun (V_main_arg1 m c) _)

/-- The part of an element that one tile of the shared axis makes. -/
def tile (x : S4096x3072.Idx → EReal) (y : S1024x3072.Idx → EReal) (r : Fin 4096) (n : Fin 1024) (q : Fin 3) : EReal :=
  ∑ k : Fin 1024, term x y r n ⟨q.val * 1024 + k.val, by omega⟩

theorem elem_tiles (x : S4096x3072.Idx → EReal) (y : S1024x3072.Idx → EReal) (r : Fin 4096) (n : Fin 1024) :
    elem x y r n = tile x y r n 0 + tile x y r n 1 + tile x y r n 2 := by
  unfold elem
  rw [Fin.sum_univ_tiles 3 1024 rfl, Fin.sum_univ_three]
  rfl

/-- What a point's two blocks multiply to. -/
theorem part_at (t : Fin cfg0.N) (r : Fin 1024) (n : Fin 1024) (i0 : Fin 4096) (i1 : Fin 1024) (hr : i0.val = t.val / 3 * 1024 + r.val) (hn : i1.val = 0 * 1024 + n.val) (q : Fin 3) (hq : t.val % 3 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1024 + k.val, by omega⟩ : Fin 3072).val = t.val % 3 * 1024 + k.val := by simp only []; omega
  exact congrArg₂ (fun p q : EReal => p * q) (rd0 m c t r k i0 _ hr hk) (rd1 m c t n k i1 _ hn hk)

/-- The first point of a sweep leaves its own part in the running sum. -/
theorem first (t : Fin cfg0.N) (h : t.val % 3 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1x1024x1024) origin3, View.ld_unit_zero (S := S1024x1024) origin, shapeCast_self]

/-- A later point adds its part to it. -/
theorem next (t s : Fin cfg0.N) (hs : s.val + 1 = t.val) (h : ¬t.val % 3 = 0) (h' : ¬t.val % 3 = 2) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1x1024x1024) origin3, View.ld_unit_zero (S := S1024x1024) origin, shapeCast_self]

/-- The last point adds its part and writes the sum out. -/
theorem last (t s : Fin cfg0.N) (hs : s.val + 1 = t.val) (h : t.val % 3 = 2) : (outsAt0 m c t.val t.isLt).1
    = (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread, View.ld_unit_zero (S := S1x1024x1024) origin3, View.ld_unit_zero (S := S1024x1024) origin, shapeCast_self]

theorem total (t : Fin cfg0.N) (h : t.val % 3 = 2) (r : Fin 1024) (n : Fin 1024) (i0 : Fin 4096) (i1 : Fin 1024) (hr : i0.val = t.val / 3 * 1024 + r.val) (hn : i1.val = 0 * 1024 + n.val) :
    (outsAt0 m c t.val t.isLt).1 (ix2 r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have e0 := first m c ⟨t.val - 2, l2⟩ (by simp only []; omega)
  have p0 := part_at m c ⟨t.val - 2, l2⟩ r n i0 i1 (by simp only []; omega) hn 0 (by simp only []; omega)
  have e1 := next m c ⟨t.val - 1, l1⟩ ⟨t.val - 2, l2⟩ (by simp only []; omega) (by simp only []; omega) (by simp only []; omega)
  have p1 := part_at m c ⟨t.val - 1, l1⟩ r n i0 i1 (by simp only []; omega) hn 1 (by simp only []; omega)
  have e2 := last m c t ⟨t.val - 1, l1⟩ (by simp only []; omega) h
  have p2 := part_at m c t r n i0 i1 hr hn 2 h
  rw [elem_tiles, ← p0, ← p1, ← p2, e2]
  dsimp only at e0 e1
  rw [e1]
  rw [e0]
  pointwise

theorem array : Value.G2 m c = prod (arg0 m c) (arg1 m c) := by
  funext i
  idx_vars i
  have hp : Value.pt2Of (ix2 i0 i1) = (i0.val / 1024 * 1 + i1.val / 1024) * 3 + 2 := by
    show 3 * (1 * (i0.val / 1024 - 0) + 1 * (i1.val / 1024 - 0)) + 2 = _
    omega
  have hl : Value.loc2Of (ix2 i0 i1) = ix2 (⟨i0.val % 1024, by omega⟩ : Fin 1024) (⟨i1.val % 1024, by omega⟩ : Fin 1024) := by
    funext d
    fin_cases d <;> rfl
  have hN : Value.pt2Of (ix2 i0 i1) < cfg0.N := by rw [hp]; show _ < 12; omega
  unfold Value.G2
  rw [dif_pos hN, ← Value.outsAt0_sweep m c _ hN, hl]
  exact total m c ⟨_, hN⟩ (by simp only [hp]; omega) ⟨i0.val % 1024, by omega⟩ ⟨i1.val % 1024, by omega⟩ i0 i1
    (by simp only [hp]; omega) (by simp only [hp]; omega)

end Cert.Kernel9Ideal.Product

namespace Cert.Reference9Ideal.Product

open Idealize.ShloMosaic
open Idealize.ShloMosaic.TcCoe Idealize.SL.Sem
open Cert.Reference9Ideal Cert.Reference9Ideal.Gen

theorem array (x : Vec Ideal S4096x3072 .bf16) (y : Vec Ideal S1024x3072 .bf16) :
    Host.dotGeneral (F := Ideal) dot_S4096x3072_S1024x3072_S4096x1024_1_1_0_0_n_n none (extf (F := Ideal) .f32 x bitsLt_bf16_f32) (extf (F := Ideal) .f32 y bitsLt_bf16_f32)
      = Kernel9Ideal.Product.prod x y := by
  funext i
  idx_vars i
  pointwise
  rfl

end Cert.Reference9Ideal.Product

end
-- ==== Proof.Product10.lean ====
/- The product of the tenth program, element by element. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Product

open Idealize.ShloMosaic
open Idealize.ShloMosaic.TcCoe Idealize.SL.Sem
open Cert.Kernel10Ideal Cert.Kernel10Ideal.Gen

/-- One term of the sum that makes an element of the result. -/
abbrev term (x : S4096x1024.Idx → EReal) (y : S4096x3072.Idx → EReal) (r : Fin 1024) (n : Fin 3072) (k : Fin 4096) : EReal :=
  x (ix2 k r) * y (ix2 k n)

/-- An element of the product: a sum over the axis that the arguments share. -/
def elem (x : S4096x1024.Idx → EReal) (y : S4096x3072.Idx → EReal) (r : Fin 1024) (n : Fin 3072) : EReal :=
  (∑ k : Fin 4096, term x y r n k)

/-- The product. -/
def prod (x : S4096x1024.Idx → EReal) (y : S4096x3072.Idx → EReal) : S1024x3072.Idx → EReal := fun i =>
  elem x y ⟨(i 0).val, (i 0).isLt⟩ ⟨(i 1).val, (i 1).isLt⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val % 4, 0] ∧ win0_1.index t = ![t.val / 4, t.val % 4, 0]
    ∧ win0_2.index t = ![0, t.val / 4] ∧ t.val < 12 := (by decide +kernel : ∀ t : Fin grid0.N, _)

theorem pay_at (x : Vec Ideal S1024x1024 .bf16) (y : Vec Ideal S1x1024x1024 .bf16) (r : Fin 1024) (n : Fin 1024) :
    k0_pay1 x y (ix2 r n) = ∑ k : Fin 1024, x (ix2 k r) * y (ix3 (0 : Fin 1) k n) := by
  unfold k0_pay1
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S4096x3072.Idx → EReal := m ((c : Thread nD τ).loc main_arg1)

theorem rd0 (t : Fin cfg0.N) (k : Fin 1024) (r : Fin 1024) (kk : Fin 4096) (i0 : Fin 1024) (hk : kk.val = t.val % 4 * 1024 + k.val) (hr : i0.val = 0 * 1024 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

/-- The argument with its columns in 3 parts. -/
theorem parts1 (p : Fin 3) (s : Fin 4096) (v : Fin 1024) (g : Fin 3072) (h : g.val = p.val * 1024 + v.val) :
    V m c main_v1 (ix3 p s v) = arg1 m c (ix2 s g) := by
  entry_read
  pointwise
  have e : (p.val * 1024 + v.val) = g.val := h.symm
  blk_ext []
theorem rd1 (t : Fin cfg0.N) (k : Fin 1024) (n : Fin 1024) (kk : Fin 4096) (i1 : Fin 3072) (hk : kk.val = t.val % 4 * 1024 + k.val) (hn : i1.val = t.val / 4 * 1024 + n.val) :
    iblk m c 1 t (ix3 (0 : Fin 1) k n) = arg1 m c (ix2 kk i1) := by
  rw [← parts1 m c (⟨i1.val / 1024, by omega⟩ : Fin 3) kk (⟨i1.val % 1024, by omega⟩ : Fin 1024) i1 (by simp only []; omega)]
  unfold iblk
  exact congrArg (V m c main_v1) (show (win0_1.blk t).view.emb (ix3 (0 : Fin 1) k n) = ix3 _ _ _ by blk_ext [idx t])

/-- The part of an element that one tile of the shared axis makes. -/
def tile (x : S4096x1024.Idx → EReal) (y : S4096x3072.Idx → EReal) (r : Fin 1024) (n : Fin 3072) (q : Fin 4) : EReal :=
  ∑ k : Fin 1024, term x y r n ⟨q.val * 1024 + k.val, by omega⟩

theorem elem_tiles (x : S4096x1024.Idx → EReal) (y : S4096x3072.Idx → EReal) (r : Fin 1024) (n : Fin 3072) :
    elem x y r n = tile x y r n 0 + tile x y r n 1 + tile x y r n 2 + tile x y r n 3 := by
  unfold elem
  rw [Fin.sum_univ_tiles 4 1024 rfl, Fin.sum_univ_four]
  rfl

/-- What a point's two blocks multiply to. -/
theorem part_at (t : Fin cfg0.N) (r : Fin 1024) (n : Fin 1024) (i0 : Fin 1024) (i1 : Fin 3072) (hr : i0.val = 0 * 1024 + r.val) (hn : i1.val = t.val / 4 * 1024 + n.val) (q : Fin 4) (hq : t.val % 4 = q.val) :
    k0_pay1 (iblk m c 0 t) (iblk m c 1 t) (ix2 r n) = tile (arg0 m c) (arg1 m c) i0 i1 q := by
  refine (pay_at (iblk m c 0 t) (iblk m c 1 t) r n).trans (Finset.sum_congr rfl fun k _ => ?_)
  have hk : (⟨q.val * 1024 + k.val, by omega⟩ : Fin 4096).val = t.val % 4 * 1024 + k.val := by simp only []; omega
  exact congrArg₂ (fun p q : EReal => p * q) (rd0 m c t k r _ i0 hk hr) (rd1 m c t k n _ i1 hk hn)

/-- The first point of a sweep leaves its own part in the running sum. -/
theorem first (t : Fin cfg0.N) (h : t.val % 4 = 0) : (outsAt0 m c t.val t.isLt).2 = k0_pay1 (iblk m c 0 t) (iblk m c 1 t) := by
  have hN := (idx t).2.2.2
  rw [outsAt0_A m c t h (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero origin]
  unfold k0_pay2
  simp only [View.readAt_eq_ld, (hs0_0 t).read_unread, (hs0_1 t).read_unread, View.ld_unit_zero (S := S1024x1024) origin, View.ld_unit_zero (S := S1x1024x1024) origin3, shapeCast_self]

/-- A later point adds its part to it. -/
theorem next (t s : Fin cfg0.N) (hs : s.val + 1 = t.val) (h : ¬t.val % 4 = 0) (h' : ¬t.val % 4 = 3) : (outsAt0 m c t.val t.isLt).2
    = addf (outsAt0 m c s.val s.isLt).2 (k0_pay1 (iblk m c 0 t) (iblk m c 1 t)) := by
  obtain ⟨s, ls⟩ := s
  obtain rfl : s = t.val - 1 := by simp only [] at hs; omega
  have hN := (idx t).2.2.2
  rw [outsAt0_B m c t h (by omega) h']
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero origin]
  unfold k0_pay3
  simp only [View.readAt_eq_ld, (hs0_0 t).read_unread, (hs0_1 t).read_unread, (Memref.isWhole_whole _).read_unread, View.ld_unit_zero (S := S1024x1024) origin, View.ld_unit_zero (S := S1x1024x1024) origin3, shapeCast_self]

/-- The last point adds its part and writes the sum out. -/
theorem last (t s : Fin cfg0.N) (hs : s.val + 1 = t.val) (h : t.val % 4 = 3) : (outsAt0 m c t.val t.isLt).1
    = k0_pay4 (addf (outsAt0 m c s.val s.isLt).2 (k0_pay1 (iblk m c 0 t) (iblk m c 1 t))) := by
  obtain ⟨s, ls⟩ := s
  obtain rfl : s = t.val - 1 := by simp only [] at hs; omega
  have hN := (idx t).2.2.2
  rw [outsAt0_C m c t (by omega) (by omega) h]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero origin, View.readCov_unit_zero (S := S1024x1024) _ origin]
  unfold k0_pay3
  simp only [View.readAt_eq_ld, (hs0_0 t).read_unread, (hs0_1 t).read_unread, (Memref.isWhole_whole _).read_unread, View.ld_unit_zero (S := S1024x1024) origin, View.ld_unit_zero (S := S1x1024x1024) origin3, shapeCast_self]

theorem total (t : Fin cfg0.N) (h : t.val % 4 = 3) (r : Fin 1024) (n : Fin 1024) (i0 : Fin 1024) (i1 : Fin 3072) (hr : i0.val = 0 * 1024 + r.val) (hn : i1.val = t.val / 4 * 1024 + n.val) :
    (outsAt0 m c t.val t.isLt).1 (ix2 r n) = elem (arg0 m c) (arg1 m c) i0 i1 := by
  have hN := (idx t).2.2.2
  have l1 : t.val - 1 < cfg0.N := Nat.lt_of_le_of_lt (Nat.sub_le _ _) t.isLt
  have l2 : t.val - 2 < cfg0.N := Nat.lt_of_le_of_lt (Nat.sub_le _ _) t.isLt
  have l3 : t.val - 3 < cfg0.N := Nat.lt_of_le_of_lt (Nat.sub_le _ _) t.isLt
  have e0 := first m c ⟨t.val - 3, l3⟩ (by simp only []; omega)
  have p0 := part_at m c ⟨t.val - 3, l3⟩ r n i0 i1 hr (by simp only []; omega) 0 (by simp only []; omega)
  have e1 := next m c ⟨t.val - 2, l2⟩ ⟨t.val - 3, l3⟩ (by simp only []; omega) (by simp only []; omega) (by simp only []; omega)
  have p1 := part_at m c ⟨t.val - 2, l2⟩ r n i0 i1 hr (by simp only []; omega) 1 (by simp only []; omega)
  have e2 := next m c ⟨t.val - 1, l1⟩ ⟨t.val - 2, l2⟩ (by simp only []; omega) (by simp only []; omega) (by simp only []; omega)
  have p2 := part_at m c ⟨t.val - 1, l1⟩ r n i0 i1 hr (by simp only []; omega) 2 (by simp only []; omega)
  have e3 := last m c t ⟨t.val - 1, l1⟩ (by simp only []; omega) h
  have p3 := part_at m c t r n i0 i1 hr hn 3 h
  rw [elem_tiles, ← p0, ← p1, ← p2, ← p3, e3]
  dsimp only at e0 e1 e2
  unfold k0_pay4
  rw [e2]
  rw [e1]
  rw [e0]
  pointwise

theorem array : Value.G2 m c = prod (arg0 m c) (arg1 m c) := by
  funext i
  idx_vars i
  have hp : Value.pt2Of (ix2 i0 i1) = (i0.val / 1024 * 3 + i1.val / 1024) * 4 + 3 := by
    show 4 * (3 * (i0.val / 1024 - 0) + 1 * (i1.val / 1024 - 0)) + 3 = _
    omega
  have hl : Value.loc2Of (ix2 i0 i1) = ix2 (⟨i0.val % 1024, by omega⟩ : Fin 1024) (⟨i1.val % 1024, by omega⟩ : Fin 1024) := by
    funext d
    fin_cases d <;> rfl
  have hN : Value.pt2Of (ix2 i0 i1) < cfg0.N := by rw [hp]; show _ < 12; omega
  unfold Value.G2
  rw [dif_pos hN, ← Value.outsAt0_sweep m c _ hN, hl]
  exact total m c ⟨_, hN⟩ (by simp only [hp]; omega) ⟨i0.val % 1024, by omega⟩ ⟨i1.val % 1024, by omega⟩ i0 i1
    (by simp only [hp]; omega) (by simp only [hp]; omega)

end Cert.Kernel10Ideal.Product

namespace Cert.Reference10Ideal.Product

open Idealize.ShloMosaic
open Idealize.ShloMosaic.TcCoe Idealize.SL.Sem
open Cert.Reference10Ideal Cert.Reference10Ideal.Gen

theorem array (x : Vec Ideal S4096x1024 .bf16) (y : Vec Ideal S4096x3072 .bf16) :
    truncf (F := Ideal) .bf16 (transpose S1024x3072 [1, 0] (Host.dotGeneral (F := Ideal) dot_S4096x3072_S4096x1024_S3072x1024_0_0_1_1_n_n none (extf (F := Ideal) .f32 y bitsLt_bf16_f32) (extf (F := Ideal) .f32 x bitsLt_bf16_f32)) transposes_S3072x1024_S1024x3072_1_0) bitsLt_bf16_f32
      = Kernel10Ideal.Product.prod x y := by
  funext i
  idx_vars i
  pointwise
  exact Finset.sum_congr rfl fun k _ => mul_comm _ _

end Cert.Reference10Ideal.Product

end
-- ==== Proof.Product11.lean ====
/- The product of the eleventh program, element by element. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Product

open Idealize.ShloMosaic
open Idealize.ShloMosaic.TcCoe Idealize.SL.Sem
open Cert.Kernel11Ideal Cert.Kernel11Ideal.Gen

/-- One term of the sum that makes an element of the result. -/
abbrev term (x : S4096x1024.Idx → EReal) (y : S1024x5632.Idx → EReal) (r : Fin 4096) (n : Fin 5632) (k : Fin 1024) : EReal :=
  x (ix2 r k) * y (ix2 k n)

/-- An element of the product: a sum over the axis that the arguments share. -/
def elem (x : S4096x1024.Idx → EReal) (y : S1024x5632.Idx → EReal) (r : Fin 4096) (n : Fin 5632) : EReal :=
  (∑ k : Fin 1024, term x y r n k)

/-- The product. -/
def prod (x : S4096x1024.Idx → EReal) (y : S1024x5632.Idx → EReal) : S4096x5632.Idx → EReal := fun i =>
  elem x y ⟨(i 0).val, (i 0).isLt⟩ ⟨(i 1).val, (i 1).isLt⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val / 4, 0] ∧ win0_1.index t = ![t.val % 4, 0, 0]
    ∧ win0_2.index t = ![t.val / 4, t.val % 4] ∧ t.val < 16 := (by decide +kernel : ∀ t : Fin grid0.N, _)

theorem out_at (x : Vec Ideal S1024x1024 .bf16) (y : Vec Ideal S1x1024x1408 .bf16) (r : Fin 1024) (n : Fin 1408) :
    out0_2 x y (ix2 r n) = (∑ k : Fin 1024, x (ix2 r k) * y (ix3 (0 : Fin 1) k n)) := by
  unfold out0_2
  rw [View.canon_unit_zero origin]
  unfold k0_pay1
  simp only [View.ld_unit_zero (S := S1024x1024) origin, View.ld_unit_zero (S := S1x1024x1408) origin3, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x5632.Idx → EReal := m ((c : Thread nD τ).loc main_arg1)

theorem rd0 (t : Fin cfg0.N) (r : Fin 1024) (k : Fin 1024) (i0 : Fin 4096) (kk : Fin 1024) (hr : i0.val = t.val / 4 * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

/-- The argument with its columns in 4 parts. -/
theorem parts1 (p : Fin 4) (s : Fin 1024) (v : Fin 1408) (g : Fin 5632) (h : g.val = p.val * 1408 + v.val) :
    V m c main_v1 (ix3 p s v) = arg1 m c (ix2 s g) := by
  entry_read
  pointwise
  have e : (p.val * 1408 + v.val) = g.val := h.symm
  blk_ext []
theorem rd1 (t : Fin cfg0.N) (k : Fin 1024) (n : Fin 1408) (kk : Fin 1024) (i1 : Fin 5632) (hk : kk.val = 0 * 1024 + k.val) (hn : i1.val = t.val % 4 * 1408 + n.val) :
    iblk m c 1 t (ix3 (0 : Fin 1) k n) = arg1 m c (ix2 kk i1) := by
  rw [← parts1 m c (⟨i1.val / 1408, by omega⟩ : Fin 4) kk (⟨i1.val % 1408, by omega⟩ : Fin 1408) i1 (by simp only []; omega)]
  unfold iblk
  exact congrArg (V m c main_v1) (show (win0_1.blk t).view.emb (ix3 (0 : Fin 1) k n) = ix3 _ _ _ by blk_ext [idx t])

theorem block_at (t : Fin cfg0.N) (r : Fin 1024) (n : Fin 1408) (i0 : Fin 4096) (i1 : Fin 5632) (hr : i0.val = t.val / 4 * 1024 + r.val) (hn : i1.val = t.val % 4 * 1408 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t k n k i1 (by omega) hn))
  exact e.trans s

theorem array : (dats m 0 c).arrAt 2 cfg0.N = prod (arg0 m c) (arg1 m c) := by
  funext i
  idx_vars i
  exact block_at m c ⟨i0.val / 1024 * 4 + i1.val / 1408, by show _ < 16; omega⟩ ⟨i0.val % 1024, by omega⟩ ⟨i1.val % 1408, by omega⟩ i0 i1
    (by simp only []; omega) (by simp only []; omega)

end Cert.Kernel11Ideal.Product

namespace Cert.Reference11Ideal.Product

open Idealize.ShloMosaic
open Idealize.ShloMosaic.TcCoe Idealize.SL.Sem
open Cert.Reference11Ideal Cert.Reference11Ideal.Gen

theorem array (x : Vec Ideal S4096x1024 .bf16) (y : Vec Ideal S1024x5632 .bf16) :
    truncf (F := Ideal) .bf16 (Host.dotGeneral (F := Ideal) dot_S4096x1024_S1024x5632_S4096x5632_1_0_0_1_n_n none (extf (F := Ideal) .f32 x bitsLt_bf16_f32) (extf (F := Ideal) .f32 y bitsLt_bf16_f32)) bitsLt_bf16_f32
      = Kernel11Ideal.Product.prod x y := by
  funext i
  idx_vars i
  pointwise
  rfl

end Cert.Reference11Ideal.Product

end
-- ==== Proof.Product12.lean ====
/- The product of the twelfth program, element by element. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Product

open Idealize.ShloMosaic
open Idealize.ShloMosaic.TcCoe Idealize.SL.Sem
open Cert.Kernel12Ideal Cert.Kernel12Ideal.Gen

/-- One term of the sum that makes an element of the result. -/
abbrev term (x : S4096x2816.Idx → EReal) (y : S2816x1024.Idx → EReal) (r : Fin 4096) (n : Fin 1024) (k : Fin 2816) : EReal :=
  x (ix2 r k) * y (ix2 k n)

/-- An element of the product: a sum over the axis that the arguments share. -/
def elem (x : S4096x2816.Idx → EReal) (y : S2816x1024.Idx → EReal) (r : Fin 4096) (n : Fin 1024) : EReal :=
  (∑ k : Fin 2816, term x y r n k)

/-- The product. -/
def prod (x : S4096x2816.Idx → EReal) (y : S2816x1024.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0]
    ∧ win0_2.index t = ![t.val, 0] ∧ t.val < 4 := (by decide +kernel : ∀ t : Fin grid0.N, _)

theorem out_at (x : Vec Ideal S1024x2816 .bf16) (y : Vec Ideal S2816x1024 .bf16) (r : Fin 1024) (n : Fin 1024) :
    out0_2 x y (ix2 r n) = (∑ k : Fin 2816, x (ix2 r k) * y (ix2 k n)) := by
  unfold out0_2
  rw [View.canon_unit_zero origin]
  unfold k0_pay1
  simp only [View.ld_unit_zero (S := S1024x2816) origin, View.ld_unit_zero (S := S2816x1024) origin, shapeCast_self]
  pointwise

variable (m : (ℓ : Loc nD τ sig) → Buf (Elt Ideal) ℓ) (c : Dev nD)

/-! The arguments of the program. -/

abbrev arg0 : S4096x2816.Idx → EReal := m ((c : Thread nD τ).loc main_arg0)
abbrev arg1 : S2816x1024.Idx → EReal := m ((c : Thread nD τ).loc main_arg1)

theorem rd0 (t : Fin cfg0.N) (r : Fin 1024) (k : Fin 2816) (i0 : Fin 4096) (kk : Fin 2816) (hr : i0.val = t.val * 1024 + r.val) (hk : kk.val = 0 * 2816 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (k : Fin 2816) (n : Fin 1024) (kk : Fin 2816) (i1 : Fin 1024) (hk : kk.val = 0 * 2816 + k.val) (hn : i1.val = 0 * 1024 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem block_at (t : Fin cfg0.N) (r : Fin 1024) (n : Fin 1024) (i0 : Fin 4096) (i1 : Fin 1024) (hr : i0.val = t.val * 1024 + r.val) (hn : i1.val = 0 * 1024 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t k n k i1 (by omega) hn))
  exact e.trans s

theorem array : (dats m 0 c).arrAt 2 cfg0.N = prod (arg0 m c) (arg1 m c) := by
  funext i
  idx_vars i
  exact block_at m c ⟨i0.val / 1024 * 1 + i1.val / 1024, by show _ < 4; omega⟩ ⟨i0.val % 1024, by omega⟩ ⟨i1.val % 1024, by omega⟩ i0 i1
    (by simp only []; omega) (by simp only []; omega)

end Cert.Kernel12Ideal.Product

namespace Cert.Reference12Ideal.Product

open Idealize.ShloMosaic
open Idealize.ShloMosaic.TcCoe Idealize.SL.Sem
open Cert.Reference12Ideal Cert.Reference12Ideal.Gen

theorem array (x : Vec Ideal S4096x2816 .bf16) (y : Vec Ideal S2816x1024 .bf16) :
    Host.dotGeneral (F := Ideal) dot_S4096x2816_S2816x1024_S4096x1024_1_0_0_1_n_n none (extf (F := Ideal) .f32 x bitsLt_bf16_f32) (extf (F := Ideal) .f32 y bitsLt_bf16_f32)
      = Kernel12Ideal.Product.prod x y := by
  funext i
  idx_vars i
  pointwise
  rfl

end Cert.Reference12Ideal.Product

end
-- ==== Proof.Product13.lean ====
/- The product of the thirteenth program, element by element. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Product

open Idealize.ShloMosaic
open Idealize.ShloMosaic.TcCoe Idealize.SL.Sem
open Cert.Kernel13Ideal Cert.Kernel13Ideal.Gen

/-- One term of the sum that makes an element of the result. -/
abbrev term (x : S4096x1024.Idx → EReal) (y : S1024x3072.Idx → EReal) (r : Fin 4096) (n : Fin 3072) (k : Fin 1024) : EReal :=
  x (ix2 r k) * y (ix2 k n)

/-- An element of the product: a sum over the axis that the arguments share. -/
def elem (x : S4096x1024.Idx → EReal) (y : S1024x3072.Idx → EReal) (r : Fin 4096) (n : Fin 3072) : EReal :=
  (∑ k : Fin 1024, term x y r n k)

/-- The product. -/
def prod (x : S4096x1024.Idx → EReal) (y : S1024x3072.Idx → EReal) : S4096x3072.Idx → EReal := fun i =>
  elem x y ⟨(i 0).val, (i 0).isLt⟩ ⟨(i 1).val, (i 1).isLt⟩

theorem origin : (![0, 0] : Fin 2 → Nat) = fun _ => 0 := funext fun a => by fin_cases a <;> rfl
theorem origin3 : (![0, 0, 0] : Fin 3 → Nat) = fun _ => 0 := funext fun a => by fin_cases a <;> rfl

theorem idx : ∀ t : Fin cfg0.N, win0_0.index t = ![t.val / 4, 0] ∧ win0_1.index t = ![t.val % 4, 0, 0]
    ∧ win0_2.index t = ![t.val / 4, t.val % 4] ∧ t.val < 16 := (by decide +kernel : ∀ t : Fin grid0.N, _)

theorem out_at (x : Vec Ideal S1024x1024 .bf16) (y : Vec Ideal S1x1024x768 .bf16) (r : Fin 1024) (n : Fin 768) :
    out0_2 x y (ix2 r n) = (∑ k : Fin 1024, x (ix2 r k) * y (ix3 (0 : Fin 1) k n)) := by
  unfold out0_2
  rw [View.canon_unit_zero origin]
  unfold k0_pay1
  simp only [View.ld_unit_zero (S := S1024x1024) origin, View.ld_unit_zero (S := S1x1024x768) origin3, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x3072.Idx → EReal := m ((c : Thread nD τ).loc main_arg1)

theorem rd0 (t : Fin cfg0.N) (r : Fin 1024) (k : Fin 1024) (i0 : Fin 4096) (kk : Fin 1024) (hr : i0.val = t.val / 4 * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

/-- The argument with its columns in 4 parts. -/
theorem parts1 (p : Fin 4) (s : Fin 1024) (v : Fin 768) (g : Fin 3072) (h : g.val = p.val * 768 + v.val) :
    V m c main_v1 (ix3 p s v) = arg1 m c (ix2 s g) := by
  entry_read
  pointwise
  have e : (p.val * 768 + v.val) = g.val := h.symm
  blk_ext []
theorem rd1 (t : Fin cfg0.N) (k : Fin 1024) (n : Fin 768) (kk : Fin 1024) (i1 : Fin 3072) (hk : kk.val = 0 * 1024 + k.val) (hn : i1.val = t.val % 4 * 768 + n.val) :
    iblk m c 1 t (ix3 (0 : Fin 1) k n) = arg1 m c (ix2 kk i1) := by
  rw [← parts1 m c (⟨i1.val / 768, by omega⟩ : Fin 4) kk (⟨i1.val % 768, by omega⟩ : Fin 768) i1 (by simp only []; omega)]
  unfold iblk
  exact congrArg (V m c main_v1) (show (win0_1.blk t).view.emb (ix3 (0 : Fin 1) k n) = ix3 _ _ _ by blk_ext [idx t])

theorem block_at (t : Fin cfg0.N) (r : Fin 1024) (n : Fin 768) (i0 : Fin 4096) (i1 : Fin 3072) (hr : i0.val = t.val / 4 * 1024 + r.val) (hn : i1.val = t.val % 4 * 768 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t k n k i1 (by omega) hn))
  exact e.trans s

theorem array : (dats m 0 c).arrAt 2 cfg0.N = prod (arg0 m c) (arg1 m c) := by
  funext i
  idx_vars i
  exact block_at m c ⟨i0.val / 1024 * 4 + i1.val / 768, by show _ < 16; omega⟩ ⟨i0.val % 1024, by omega⟩ ⟨i1.val % 768, by omega⟩ i0 i1
    (by simp only []; omega) (by simp only []; omega)

end Cert.Kernel13Ideal.Product

namespace Cert.Reference13Ideal.Product

open Idealize.ShloMosaic
open Idealize.ShloMosaic.TcCoe Idealize.SL.Sem
open Cert.Reference13Ideal Cert.Reference13Ideal.Gen

theorem array (x : Vec Ideal S4096x1024 .bf16) (y : Vec Ideal S1024x3072 .bf16) :
    truncf (F := Ideal) .bf16 (Host.dotGeneral (F := Ideal) dot_S4096x1024_S1024x3072_S4096x3072_1_0_0_1_n_n none (extf (F := Ideal) .f32 x bitsLt_bf16_f32) (extf (F := Ideal) .f32 y bitsLt_bf16_f32)) bitsLt_bf16_f32
      = Kernel13Ideal.Product.prod x y := by
  funext i
  idx_vars i
  pointwise
  rfl

end Cert.Reference13Ideal.Product

end
-- ==== Proof.Product14.lean ====
/- The product of the fourteenth program, element by element. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Kernel14Ideal.Product

open Idealize.ShloMosaic
open Idealize.ShloMosaic.TcCoe Idealize.SL.Sem
open Cert.Kernel14Ideal Cert.Kernel14Ideal.Gen

/-- One term of the sum that makes an element of the result. -/
abbrev term (x : S4096x1024.Idx → EReal) (y : S1024x1024.Idx → EReal) (r : Fin 4096) (n : Fin 1024) (k : Fin 1024) : EReal :=
  x (ix2 r k) * y (ix2 k n)

/-- An element of the product: a sum over the axis that the arguments share. -/
def elem (x : S4096x1024.Idx → EReal) (y : S1024x1024.Idx → EReal) (r : Fin 4096) (n : Fin 1024) : EReal :=
  (∑ k : Fin 1024, term x y r n k)

/-- The product. -/
def prod (x : S4096x1024.Idx → EReal) (y : S1024x1024.Idx → EReal) : S4096x1024.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0]
    ∧ win0_2.index t = ![t.val, 0] ∧ t.val < 4 := (by decide +kernel : ∀ t : Fin grid0.N, _)

theorem out_at (x : Vec Ideal S1024x1024 .bf16) (y : Vec Ideal S1024x1024 .bf16) (r : Fin 1024) (n : Fin 1024) :
    out0_2 x y (ix2 r n) = (∑ k : Fin 1024, x (ix2 r k) * y (ix2 k n)) := by
  unfold out0_2
  rw [View.canon_unit_zero origin]
  unfold k0_pay1
  simp only [View.ld_unit_zero (S := S1024x1024) origin, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x1024.Idx → EReal := m ((c : Thread nD τ).loc main_arg1)

theorem rd0 (t : Fin cfg0.N) (r : Fin 1024) (k : Fin 1024) (i0 : Fin 4096) (kk : Fin 1024) (hr : i0.val = t.val * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (k : Fin 1024) (n : Fin 1024) (kk : Fin 1024) (i1 : Fin 1024) (hk : kk.val = 0 * 1024 + k.val) (hn : i1.val = 0 * 1024 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem block_at (t : Fin cfg0.N) (r : Fin 1024) (n : Fin 1024) (i0 : Fin 4096) (i1 : Fin 1024) (hr : i0.val = t.val * 1024 + r.val) (hn : i1.val = 0 * 1024 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t r k i0 k hr (by omega)) (rd1 m c t k n k i1 (by omega) hn))
  exact e.trans s

theorem array : (dats m 0 c).arrAt 2 cfg0.N = prod (arg0 m c) (arg1 m c) := by
  funext i
  idx_vars i
  exact block_at m c ⟨i0.val / 1024 * 1 + i1.val / 1024, by show _ < 4; omega⟩ ⟨i0.val % 1024, by omega⟩ ⟨i1.val % 1024, by omega⟩ i0 i1
    (by simp only []; omega) (by simp only []; omega)

end Cert.Kernel14Ideal.Product

namespace Cert.Reference14Ideal.Product

open Idealize.ShloMosaic
open Idealize.ShloMosaic.TcCoe Idealize.SL.Sem
open Cert.Reference14Ideal Cert.Reference14Ideal.Gen

theorem array (x : Vec Ideal S4096x1024 .bf16) (y : Vec Ideal S1024x1024 .bf16) :
    Host.dotGeneral (F := Ideal) dot_S4096x1024_S1024x1024_S4096x1024_1_0_0_1_n_n none (extf (F := Ideal) .f32 x bitsLt_bf16_f32) (extf (F := Ideal) .f32 y bitsLt_bf16_f32)
      = Kernel14Ideal.Product.prod x y := by
  funext i
  idx_vars i
  pointwise
  rfl

end Cert.Reference14Ideal.Product

end
-- ==== Proof.Product15.lean ====
/- The product of the fifteenth program, element by element. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Product

open Idealize.ShloMosaic
open Idealize.ShloMosaic.TcCoe Idealize.SL.Sem
open Cert.Kernel15Ideal Cert.Kernel15Ideal.Gen

/-- One term of the sum that makes an element of the result. -/
abbrev term (x : S4096x1024.Idx → EReal) (y : S1024x1024.Idx → EReal) (r : Fin 4096) (n : Fin 1024) (k : Fin 1024) : EReal :=
  x (ix2 r k) * y (ix2 k n)

/-- An element of the product: a sum over the axis that the arguments share, and the element of the bias. -/
def elem (x : S4096x1024.Idx → EReal) (y : S1024x1024.Idx → EReal) (z : S1024.Idx → EReal) (r : Fin 4096) (n : Fin 1024) : EReal :=
  (∑ k : Fin 1024, term x y r n k) + z (ix1 n)

/-- The product. -/
def prod (x : S4096x1024.Idx → EReal) (y : S1024x1024.Idx → EReal) (z : S1024.Idx → EReal) : S4096x1024.Idx → EReal := fun i =>
  elem x y z ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0] ∧ win0_2.index t = ![0, 0]
    ∧ win0_3.index t = ![t.val, 0] ∧ t.val < 4 := (by decide +kernel : ∀ t : Fin grid0.N, _)

theorem out_at (x : Vec Ideal S1024x1024 .bf16) (y : Vec Ideal S1024x1024 .bf16) (z : Vec Ideal S1x1024 .f32) (r : Fin 1024) (n : Fin 1024) :
    out0_3 x y z (ix2 r n) = (∑ k : Fin 1024, x (ix2 r k) * y (ix2 k n)) + z (ix2 (0 : Fin 1) n) := by
  unfold out0_3
  rw [View.canon_unit_zero origin]
  unfold k0_pay1
  simp only [View.ld_unit_zero (S := S1024x1024) origin, View.ld_unit_zero (S := S1x1024) origin, shapeCast_self]
  pointwise

variable (m : (ℓ : Loc nD τ sig) → Buf (Elt Ideal) ℓ) (c : Dev nD)

/-! The arguments of the program. -/

abbrev arg0 : S4096x1024.Idx → EReal := m ((c : Thread nD τ).loc main_arg0)
abbrev arg1 : S1024x1024.Idx → EReal := m ((c : Thread nD τ).loc main_arg1)
abbrev arg2 : S1024.Idx → EReal := m ((c : Thread nD τ).loc main_arg2)

theorem rd0 (t : Fin cfg0.N) (r : Fin 1024) (k : Fin 1024) (i0 : Fin 4096) (kk : Fin 1024) (hr : i0.val = t.val * 1024 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (k : Fin 1024) (n : Fin 1024) (kk : Fin 1024) (i1 : Fin 1024) (hk : kk.val = 0 * 1024 + k.val) (hn : i1.val = 0 * 1024 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem row (i1 : Fin 1024) : V m c main_v0 (ix2 (0 : Fin 1) i1) = arg2 m c (ix1 i1) := by
  entry_read
  pointwise
theorem rd2 (t : Fin cfg0.N) (n : Fin 1024) (i1 : Fin 1024) (hn : i1.val = 0 * 1024 + n.val) :
    iblk m c 2 t (ix2 (0 : Fin 1) n) = arg2 m c (ix1 i1) := by
  rw [← row m c i1]
  unfold iblk
  exact congrArg (V m c main_v0) (show (win0_2.blk t).view.emb (ix2 (0 : Fin 1) n) = ix2 (0 : Fin 1) i1 by blk_ext [idx t])

theorem block_at (t : Fin cfg0.N) (r : Fin 1024) (n : Fin 1024) (i0 : Fin 4096) (i1 : Fin 1024) (hr : i0.val = t.val * 1024 + r.val) (hn : i1.val = 0 * 1024 + n.val) :
    (dats m 0 c).arrAt 3 cfg0.N (ix2 i0 i1) = prod (arg0 m c) (arg1 m c) (arg2 m c) (ix2 i0 i1) := by
  have e : (dats m 0 c).arrAt 3 cfg0.N (ix2 i0 i1) = out0_3 (iblk m c 0 t) (iblk m c 1 t) (iblk m c 2 t) (ix2 r n) :=
    (congrArg ((dats m 0 c).arrAt 3 cfg0.N) (show (win0_3.blk t).view.emb (ix2 r n) = ix2 i0 i1 by blk_ext [idx t])).symm.trans
      (congrFun ((Value.blocks3 m c t (flush0_3 t)).trans (Value.flushed3 m c t)) (ix2 r n))
  have s : out0_3 (iblk m c 0 t) (iblk m c 1 t) (iblk m c 2 t) (ix2 r n) = prod (arg0 m c) (arg1 m c) (arg2 m c) (ix2 i0 i1) :=
    (out_at (iblk m c 0 t) (iblk m c 1 t) (iblk m c 2 t) r n).trans (congrArg₂ (fun p q : EReal => p + q) (Finset.sum_congr rfl fun k _ =>
      congrArg₂ (fun p q : EReal => p * q) (rd0 m c t r k i0 k hr (by omega)) (rd1 m c t k n k i1 (by omega) hn)) (rd2 m c t n i1 hn))
  exact e.trans s

theorem array : (dats m 0 c).arrAt 3 cfg0.N = prod (arg0 m c) (arg1 m c) (arg2 m c) := by
  funext i
  idx_vars i
  exact block_at m c ⟨i0.val / 1024 * 1 + i1.val / 1024, by show _ < 4; omega⟩ ⟨i0.val % 1024, by omega⟩ ⟨i1.val % 1024, by omega⟩ i0 i1
    (by simp only []; omega) (by simp only []; omega)

end Cert.Kernel15Ideal.Product

namespace Cert.Reference15Ideal.Product

open Idealize.ShloMosaic
open Idealize.ShloMosaic.TcCoe Idealize.SL.Sem
open Cert.Reference15Ideal Cert.Reference15Ideal.Gen

theorem array (x : Vec Ideal S4096x1024 .bf16) (y : Vec Ideal S1024x1024 .bf16) (z : Vec Ideal S1024 .f32) :
    addf (F := Ideal) (Host.dotGeneral (F := Ideal) dot_S4096x1024_S1024x1024_S4096x1024_1_0_0_1_n_n none (extf (F := Ideal) .f32 x bitsLt_bf16_f32) (extf (F := Ideal) .f32 y bitsLt_bf16_f32)) (broadcastInDim S4096x1024 ![0, 1] bcast_S1x1024_S4096x1024_0_1 (broadcastInDim S1x1024 ![1] bcast_S1024_S1x1024_1 z))
      = Kernel15Ideal.Product.prod x y z := by
  funext i
  idx_vars i
  pointwise
  rfl

end Cert.Reference15Ideal.Product

end
-- ==== Proof.Product22.lean ====
/- The product of the twenty-second program, element by element. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pointwise

@[expose] public section

set_option maxRecDepth 16384

noncomputable section

namespace Cert.Kernel22Ideal.Product

open Idealize.ShloMosaic
open Idealize.ShloMosaic.TcCoe Idealize.SL.Sem
open Cert.Kernel22Ideal Cert.Kernel22Ideal.Gen

/-- One term of the sum that makes an element of the result. -/
abbrev term (x : S16x1024.Idx → EReal) (y : S1024x1536.Idx → EReal) (r : Fin 16) (n : Fin 1536) (k : Fin 1024) : EReal :=
  x (ix2 r k) * y (ix2 k n)

/-- An element of the product: a sum over the axis that the arguments share, and the element of the bias. -/
def elem (x : S16x1024.Idx → EReal) (y : S1024x1536.Idx → EReal) (z : S1536.Idx → EReal) (r : Fin 16) (n : Fin 1536) : EReal :=
  (∑ k : Fin 1024, term x y r n k) + z (ix1 n)

/-- The product. -/
def prod (x : S16x1024.Idx → EReal) (y : S1024x1536.Idx → EReal) (z : S1536.Idx → EReal) : S16x1536.Idx → EReal := fun i =>
  elem x y z ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![0, 0] ∧ win0_1.index t = ![0, t.val / 1] ∧ win0_2.index t = ![0, t.val / 1]
    ∧ win0_3.index t = ![0, t.val / 1] ∧ t.val < 2 := (by decide +kernel : ∀ t : Fin grid0.N, _)

theorem out_at (x : Vec Ideal S16x1024 .f32) (y : Vec Ideal S1024x768 .f32) (z : Vec Ideal S1x768 .f32) (r : Fin 16) (n : Fin 768) :
    out0_3 x y z (ix2 r n) = (∑ k : Fin 1024, x (ix2 r k) * y (ix2 k n)) + z (ix2 (0 : Fin 1) n) := by
  unfold out0_3
  rw [View.canon_unit_zero origin]
  unfold k0_pay1
  simp only [View.ld_unit_zero (S := S16x1024) origin, View.ld_unit_zero (S := S1024x768) origin, View.ld_unit_zero (S := S1x768) origin, shapeCast_self]
  pointwise

variable (m : (ℓ : Loc nD τ sig) → Buf (Elt Ideal) ℓ) (c : Dev nD)

/-! The arguments of the program. -/

abbrev arg0 : S16x1024.Idx → EReal := m ((c : Thread nD τ).loc main_arg0)
abbrev arg1 : S1024x1536.Idx → EReal := m ((c : Thread nD τ).loc main_arg1)
abbrev arg2 : S1536.Idx → EReal := m ((c : Thread nD τ).loc main_arg2)

theorem rd0 (t : Fin cfg0.N) (r : Fin 16) (k : Fin 1024) (i0 : Fin 16) (kk : Fin 1024) (hr : i0.val = 0 * 16 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (k : Fin 1024) (n : Fin 768) (kk : Fin 1024) (i1 : Fin 1536) (hk : kk.val = 0 * 1024 + k.val) (hn : i1.val = t.val / 1 * 768 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem row (i1 : Fin 1536) : V m c main_v0 (ix2 (0 : Fin 1) i1) = arg2 m c (ix1 i1) := by
  entry_read
  pointwise
theorem rd2 (t : Fin cfg0.N) (n : Fin 768) (i1 : Fin 1536) (hn : i1.val = t.val / 1 * 768 + n.val) :
    iblk m c 2 t (ix2 (0 : Fin 1) n) = arg2 m c (ix1 i1) := by
  rw [← row m c i1]
  unfold iblk
  exact congrArg (V m c main_v0) (show (win0_2.blk t).view.emb (ix2 (0 : Fin 1) n) = ix2 (0 : Fin 1) i1 by blk_ext [idx t])

theorem block_at (t : Fin cfg0.N) (r : Fin 16) (n : Fin 768) (i0 : Fin 16) (i1 : Fin 1536) (hr : i0.val = 0 * 16 + r.val) (hn : i1.val = t.val / 1 * 768 + n.val) :
    (dats m 0 c).arrAt 3 cfg0.N (ix2 i0 i1) = prod (arg0 m c) (arg1 m c) (arg2 m c) (ix2 i0 i1) := by
  have e : (dats m 0 c).arrAt 3 cfg0.N (ix2 i0 i1) = out0_3 (iblk m c 0 t) (iblk m c 1 t) (iblk m c 2 t) (ix2 r n) :=
    (congrArg ((dats m 0 c).arrAt 3 cfg0.N) (show (win0_3.blk t).view.emb (ix2 r n) = ix2 i0 i1 by blk_ext [idx t])).symm.trans
      (congrFun ((Value.blocks3 m c t (flush0_3 t)).trans (Value.flushed3 m c t)) (ix2 r n))
  have s : out0_3 (iblk m c 0 t) (iblk m c 1 t) (iblk m c 2 t) (ix2 r n) = prod (arg0 m c) (arg1 m c) (arg2 m c) (ix2 i0 i1) :=
    (out_at (iblk m c 0 t) (iblk m c 1 t) (iblk m c 2 t) r n).trans (congrArg₂ (fun p q : EReal => p + q) (Finset.sum_congr rfl fun k _ =>
      congrArg₂ (fun p q : EReal => p * q) (rd0 m c t r k i0 k hr (by omega)) (rd1 m c t k n k i1 (by omega) hn)) (rd2 m c t n i1 hn))
  exact e.trans s

theorem array : (dats m 0 c).arrAt 3 cfg0.N = prod (arg0 m c) (arg1 m c) (arg2 m c) := by
  funext i
  idx_vars i
  exact block_at m c ⟨i0.val / 16 * 2 + i1.val / 768, by show _ < 2; omega⟩ ⟨i0.val % 16, by omega⟩ ⟨i1.val % 768, by omega⟩ i0 i1
    (by simp only []; omega) (by simp only []; omega)

end Cert.Kernel22Ideal.Product

namespace Cert.Reference22Ideal.Product

open Idealize.ShloMosaic
open Idealize.ShloMosaic.TcCoe Idealize.SL.Sem
open Cert.Reference22Ideal Cert.Reference22Ideal.Gen

theorem array (x : Vec Ideal S16x1024 .f32) (y : Vec Ideal S1024x1536 .f32) (z : Vec Ideal S1536 .f32) :
    addf (F := Ideal) (Host.dotGeneral (F := Ideal) (φ₁ := .f32) (φ₂ := .f32) dot_S16x1024_S1024x1536_S16x1536_1_0_0_1_n_n none x y) (broadcastInDim S16x1536 ![0, 1] bcast_S1x1536_S16x1536_0_1 (broadcastInDim S1x1536 ![1] bcast_S1536_S1x1536_1 z))
      = Kernel22Ideal.Product.prod x y z := by
  funext i
  idx_vars i
  pointwise
  rfl

end Cert.Reference22Ideal.Product

end
-- ==== Proof.Product23.lean ====
/- The product of the twenty-third program, element by element. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pointwise

@[expose] public section

set_option maxRecDepth 16384

noncomputable section

namespace Cert.Kernel23Ideal.Product

open Idealize.ShloMosaic
open Idealize.ShloMosaic.TcCoe Idealize.SL.Sem
open Cert.Kernel23Ideal Cert.Kernel23Ideal.Gen

/-- One term of the sum that makes an element of the result. -/
abbrev term (x : S16x1024.Idx → EReal) (y : S1024x512.Idx → EReal) (r : Fin 16) (n : Fin 512) (k : Fin 1024) : EReal :=
  x (ix2 r k) * y (ix2 k n)

/-- An element of the product: a sum over the axis that the arguments share, and the element of the bias. -/
def elem (x : S16x1024.Idx → EReal) (y : S1024x512.Idx → EReal) (z : S512.Idx → EReal) (r : Fin 16) (n : Fin 512) : EReal :=
  (∑ k : Fin 1024, term x y r n k) + z (ix1 n)

/-- The product. -/
def prod (x : S16x1024.Idx → EReal) (y : S1024x512.Idx → EReal) (z : S512.Idx → EReal) : S16x512.Idx → EReal := fun i =>
  elem x y z ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![t.val, 0] ∧ win0_1.index t = ![0, 0] ∧ win0_2.index t = ![0, 0]
    ∧ win0_3.index t = ![t.val, 0] ∧ t.val < 1 := (by decide +kernel : ∀ t : Fin grid0.N, _)

theorem out_at (x : Vec Ideal S16x1024 .f32) (y : Vec Ideal S1024x512 .f32) (z : Vec Ideal S1x512 .f32) (r : Fin 16) (n : Fin 512) :
    out0_3 x y z (ix2 r n) = (∑ k : Fin 1024, x (ix2 r k) * y (ix2 k n)) + z (ix2 (0 : Fin 1) n) := by
  unfold out0_3
  rw [View.canon_unit_zero origin]
  unfold k0_pay1
  simp only [View.ld_unit_zero (S := S16x1024) origin, View.ld_unit_zero (S := S1024x512) origin, View.ld_unit_zero (S := S1x512) origin, shapeCast_self]
  pointwise

variable (m : (ℓ : Loc nD τ sig) → Buf (Elt Ideal) ℓ) (c : Dev nD)

/-! The arguments of the program. -/

abbrev arg0 : S16x1024.Idx → EReal := m ((c : Thread nD τ).loc main_arg0)
abbrev arg1 : S1024x512.Idx → EReal := m ((c : Thread nD τ).loc main_arg1)
abbrev arg2 : S512.Idx → EReal := m ((c : Thread nD τ).loc main_arg2)

theorem rd0 (t : Fin cfg0.N) (r : Fin 16) (k : Fin 1024) (i0 : Fin 16) (kk : Fin 1024) (hr : i0.val = t.val * 16 + r.val) (hk : kk.val = 0 * 1024 + k.val) :
    iblk m c 0 t (ix2 r k) = arg0 m c (ix2 i0 kk) := by
  unfold iblk
  exact (congrArg (V m c main_arg0) (show (win0_0.blk t).view.emb (ix2 r k) = ix2 i0 kk by blk_ext [idx t])).trans (congrFun (V_main_arg0 m c) _)

theorem rd1 (t : Fin cfg0.N) (k : Fin 1024) (n : Fin 512) (kk : Fin 1024) (i1 : Fin 512) (hk : kk.val = 0 * 1024 + k.val) (hn : i1.val = 0 * 512 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem row (i1 : Fin 512) : V m c main_v0 (ix2 (0 : Fin 1) i1) = arg2 m c (ix1 i1) := by
  entry_read
  pointwise
theorem rd2 (t : Fin cfg0.N) (n : Fin 512) (i1 : Fin 512) (hn : i1.val = 0 * 512 + n.val) :
    iblk m c 2 t (ix2 (0 : Fin 1) n) = arg2 m c (ix1 i1) := by
  rw [← row m c i1]
  unfold iblk
  exact congrArg (V m c main_v0) (show (win0_2.blk t).view.emb (ix2 (0 : Fin 1) n) = ix2 (0 : Fin 1) i1 by blk_ext [idx t])

theorem block_at (t : Fin cfg0.N) (r : Fin 16) (n : Fin 512) (i0 : Fin 16) (i1 : Fin 512) (hr : i0.val = t.val * 16 + r.val) (hn : i1.val = 0 * 512 + n.val) :
    (dats m 0 c).arrAt 3 cfg0.N (ix2 i0 i1) = prod (arg0 m c) (arg1 m c) (arg2 m c) (ix2 i0 i1) := by
  have e : (dats m 0 c).arrAt 3 cfg0.N (ix2 i0 i1) = out0_3 (iblk m c 0 t) (iblk m c 1 t) (iblk m c 2 t) (ix2 r n) :=
    (congrArg ((dats m 0 c).arrAt 3 cfg0.N) (show (win0_3.blk t).view.emb (ix2 r n) = ix2 i0 i1 by blk_ext [idx t])).symm.trans
      (congrFun ((Value.blocks3 m c t (flush0_3 t)).trans (Value.flushed3 m c t)) (ix2 r n))
  have s : out0_3 (iblk m c 0 t) (iblk m c 1 t) (iblk m c 2 t) (ix2 r n) = prod (arg0 m c) (arg1 m c) (arg2 m c) (ix2 i0 i1) :=
    (out_at (iblk m c 0 t) (iblk m c 1 t) (iblk m c 2 t) r n).trans (congrArg₂ (fun p q : EReal => p + q) (Finset.sum_congr rfl fun k _ =>
      congrArg₂ (fun p q : EReal => p * q) (rd0 m c t r k i0 k hr (by omega)) (rd1 m c t k n k i1 (by omega) hn)) (rd2 m c t n i1 hn))
  exact e.trans s

theorem array : (dats m 0 c).arrAt 3 cfg0.N = prod (arg0 m c) (arg1 m c) (arg2 m c) := by
  funext i
  idx_vars i
  exact block_at m c ⟨i0.val / 16 * 1 + i1.val / 512, by show _ < 1; omega⟩ ⟨i0.val % 16, by omega⟩ ⟨i1.val % 512, by omega⟩ i0 i1
    (by simp only []; omega) (by simp only []; omega)

end Cert.Kernel23Ideal.Product

namespace Cert.Reference23Ideal.Product

open Idealize.ShloMosaic
open Idealize.ShloMosaic.TcCoe Idealize.SL.Sem
open Cert.Reference23Ideal Cert.Reference23Ideal.Gen

theorem array (x : Vec Ideal S16x1024 .f32) (y : Vec Ideal S1024x512 .f32) (z : Vec Ideal S512 .f32) :
    addf (F := Ideal) (Host.dotGeneral (F := Ideal) (φ₁ := .f32) (φ₂ := .f32) dot_S16x1024_S1024x512_S16x512_1_0_0_1_n_n none x y) (broadcastInDim S16x512 ![0, 1] bcast_S1x512_S16x512_0_1 (broadcastInDim S1x512 ![1] bcast_S512_S1x512_1 z))
      = Kernel23Ideal.Product.prod x y z := by
  funext i
  idx_vars i
  pointwise
  rfl

end Cert.Reference23Ideal.Product

end
-- ==== Proof.Product24.lean ====
/- The product of the twenty-fourth program, element by element. -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Pointwise

@[expose] public section

set_option maxRecDepth 16384

noncomputable section

namespace Cert.Kernel24Ideal.Product

open Idealize.ShloMosaic
open Idealize.ShloMosaic.TcCoe Idealize.SL.Sem
open Cert.Kernel24Ideal Cert.Kernel24Ideal.Gen

/-- One term of the sum that makes an element of the result. -/
abbrev term (x : S16x1024.Idx → EReal) (y : S16x1536.Idx → EReal) (r : Fin 1024) (n : Fin 1536) (k : Fin 16) : EReal :=
  x (ix2 k r) * y (ix2 k n)

/-- An element of the product: a sum over the axis that the arguments share. -/
def elem (x : S16x1024.Idx → EReal) (y : S16x1536.Idx → EReal) (r : Fin 1024) (n : Fin 1536) : EReal :=
  (∑ k : Fin 16, term x y r n k)

/-- The product. -/
def prod (x : S16x1024.Idx → EReal) (y : S16x1536.Idx → EReal) : S1024x1536.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![0, 0] ∧ win0_1.index t = ![0, t.val / 1]
    ∧ win0_2.index t = ![0, t.val / 1] ∧ t.val < 2 := (by decide +kernel : ∀ t : Fin grid0.N, _)

theorem out_at (x : Vec Ideal S16x1024 .f32) (y : Vec Ideal S16x768 .f32) (r : Fin 1024) (n : Fin 768) :
    out0_2 x y (ix2 r n) = (∑ k : Fin 16, x (ix2 k r) * y (ix2 k n)) := by
  unfold out0_2
  rw [View.canon_unit_zero origin]
  unfold k0_pay1
  simp only [View.ld_unit_zero (S := S16x1024) origin, View.ld_unit_zero (S := S16x768) origin, shapeCast_self]
  pointwise

variable (m : (ℓ : Loc nD τ sig) → Buf (Elt Ideal) ℓ) (c : Dev nD)

/-! The arguments of the program. -/

abbrev arg0 : S16x1024.Idx → EReal := m ((c : Thread nD τ).loc main_arg0)
abbrev arg1 : S16x1536.Idx → EReal := m ((c : Thread nD τ).loc main_arg1)

theorem rd0 (t : Fin cfg0.N) (k : Fin 16) (r : Fin 1024) (kk : Fin 16) (i0 : Fin 1024) (hk : kk.val = 0 * 16 + k.val) (hr : i0.val = 0 * 1024 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

theorem rd1 (t : Fin cfg0.N) (k : Fin 16) (n : Fin 768) (kk : Fin 16) (i1 : Fin 1536) (hk : kk.val = 0 * 16 + k.val) (hn : i1.val = t.val / 1 * 768 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem block_at (t : Fin cfg0.N) (r : Fin 1024) (n : Fin 768) (i0 : Fin 1024) (i1 : Fin 1536) (hr : i0.val = 0 * 1024 + r.val) (hn : i1.val = t.val / 1 * 768 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t k r k i0 (by omega) hr) (rd1 m c t k n k i1 (by omega) hn))
  exact e.trans s

theorem array : (dats m 0 c).arrAt 2 cfg0.N = prod (arg0 m c) (arg1 m c) := by
  funext i
  idx_vars i
  exact block_at m c ⟨i0.val / 1024 * 2 + i1.val / 768, by show _ < 2; omega⟩ ⟨i0.val % 1024, by omega⟩ ⟨i1.val % 768, by omega⟩ i0 i1
    (by simp only []; omega) (by simp only []; omega)

end Cert.Kernel24Ideal.Product

namespace Cert.Reference24Ideal.Product

open Idealize.ShloMosaic
open Idealize.ShloMosaic.TcCoe Idealize.SL.Sem
open Cert.Reference24Ideal Cert.Reference24Ideal.Gen

theorem array (x : Vec Ideal S16x1024 .f32) (y : Vec Ideal S16x1536 .f32) :
    transpose S1024x1536 [1, 0] (Host.dotGeneral (F := Ideal) (φ₁ := .f32) (φ₂ := .f32) dot_S16x1536_S16x1024_S1536x1024_0_0_1_1_n_n none y x) transposes_S1536x1024_S1024x1536_1_0
      = Kernel24Ideal.Product.prod x y := by
  funext i
  idx_vars i
  pointwise
  exact Finset.sum_congr rfl fun k _ => mul_comm _ _

end Cert.Reference24Ideal.Product

end
-- ==== Proof.Product25.lean ====
/- The product of the twenty-fifth program, element by element. -/
module

public import proofs.«01_k».proof.Proof.Gen.Kernel25Ideal.Value
public import proofs.«01_k».proof.Proof.Gen.Reference25Ideal.Run
public import Idealize.ShloMosaic.Lib.Pipeline.ValueKit
public import Idealize.ShloMosaic.Lib.Pointwise

@[expose] public section

set_option maxRecDepth 16384

noncomputable section

namespace Cert.Kernel25Ideal.Product

open Idealize.ShloMosaic
open Idealize.ShloMosaic.TcCoe Idealize.SL.Sem
open Cert.Kernel25Ideal Cert.Kernel25Ideal.Gen

/-- One term of the sum that makes an element of the result. -/
abbrev term (x : S16x1024.Idx → EReal) (y : S16x512.Idx → EReal) (r : Fin 1024) (n : Fin 512) (k : Fin 16) : EReal :=
  x (ix2 k r) * y (ix2 k n)

/-- An element of the product: a sum over the axis that the arguments share. -/
def elem (x : S16x1024.Idx → EReal) (y : S16x512.Idx → EReal) (r : Fin 1024) (n : Fin 512) : EReal :=
  (∑ k : Fin 16, term x y r n k)

/-- The product. -/
def prod (x : S16x1024.Idx → EReal) (y : S16x512.Idx → EReal) : S1024x512.Idx → EReal := fun i =>
  elem x y ⟨(i 0).val, (i 0).isLt⟩ ⟨(i 1).val, (i 1).isLt⟩

theorem origin : (![0, 0] : Fin 2 → Nat) = fun _ => 0 := funext fun a => by fin_cases a <;> rfl
theorem idx : ∀ t : Fin cfg0.N, win0_0.index t = ![0, t.val] ∧ win0_1.index t = ![0, 0]
    ∧ win0_2.index t = ![t.val, 0] ∧ t.val < 1 := (by decide +kernel : ∀ t : Fin grid0.N, _)

theorem out_at (x : Vec Ideal S16x1024 .f32) (y : Vec Ideal S16x512 .f32) (r : Fin 1024) (n : Fin 512) :
    out0_2 x y (ix2 r n) = (∑ k : Fin 16, x (ix2 k r) * y (ix2 k n)) := by
  unfold out0_2
  rw [View.canon_unit_zero origin]
  unfold k0_pay1
  simp only [View.ld_unit_zero (S := S16x1024) origin, View.ld_unit_zero (S := S16x512) origin, shapeCast_self]
  pointwise

variable (m : (ℓ : Loc nD τ sig) → Buf (Elt Ideal) ℓ) (c : Dev nD)

/-! The arguments of the program. -/

abbrev arg0 : S16x1024.Idx → EReal := m ((c : Thread nD τ).loc main_arg0)
abbrev arg1 : S16x512.Idx → EReal := m ((c : Thread nD τ).loc main_arg1)

theorem rd0 (t : Fin cfg0.N) (k : Fin 16) (r : Fin 1024) (kk : Fin 16) (i0 : Fin 1024) (hk : kk.val = 0 * 16 + k.val) (hr : i0.val = t.val * 1024 + r.val) :
    iblk m c 0 t (ix2 k r) = arg0 m c (ix2 kk i0) := by
  unfold iblk
  exact (congrArg (V m c main_arg0) (show (win0_0.blk t).view.emb (ix2 k r) = ix2 kk i0 by blk_ext [idx t])).trans (congrFun (V_main_arg0 m c) _)

theorem rd1 (t : Fin cfg0.N) (k : Fin 16) (n : Fin 512) (kk : Fin 16) (i1 : Fin 512) (hk : kk.val = 0 * 16 + k.val) (hn : i1.val = 0 * 512 + n.val) :
    iblk m c 1 t (ix2 k n) = arg1 m c (ix2 kk i1) := by
  unfold iblk
  exact (congrArg (V m c main_arg1) (show (win0_1.blk t).view.emb (ix2 k n) = ix2 kk i1 by blk_ext [idx t])).trans (congrFun (V_main_arg1 m c) _)

theorem block_at (t : Fin cfg0.N) (r : Fin 1024) (n : Fin 512) (i0 : Fin 1024) (i1 : Fin 512) (hr : i0.val = t.val * 1024 + r.val) (hn : i1.val = 0 * 512 + n.val) :
    (dats m 0 c).arrAt 2 cfg0.N (ix2 i0 i1) = prod (arg0 m c) (arg1 m c) (ix2 i0 i1) := by
  have e : (dats m 0 c).arrAt 2 cfg0.N (ix2 i0 i1) = out0_2 (iblk m c 0 t) (iblk m c 1 t) (ix2 r n) :=
    (congrArg ((dats m 0 c).arrAt 2 cfg0.N) (show (win0_2.blk t).view.emb (ix2 r n) = ix2 i0 i1 by blk_ext [idx t])).symm.trans
      (congrFun ((Value.blocks2 m c t (flush0_2 t)).trans (Value.flushed2 m c t)) (ix2 r n))
  have s : out0_2 (iblk m c 0 t) (iblk m c 1 t) (ix2 r n) = prod (arg0 m c) (arg1 m c) (ix2 i0 i1) :=
    (out_at (iblk m c 0 t) (iblk m c 1 t) r n).trans (Finset.sum_congr rfl fun k _ =>
      congrArg₂ (fun p q : EReal => p * q) (rd0 m c t k r k i0 (by omega) hr) (rd1 m c t k n k i1 (by omega) hn))
  exact e.trans s

theorem array : (dats m 0 c).arrAt 2 cfg0.N = prod (arg0 m c) (arg1 m c) := by
  funext i
  idx_vars i
  exact block_at m c ⟨i0.val / 1024 * 1 + i1.val / 512, by show _ < 1; omega⟩ ⟨i0.val % 1024, by omega⟩ ⟨i1.val % 512, by omega⟩ i0 i1
    (by simp only []; omega) (by simp only []; omega)

end Cert.Kernel25Ideal.Product

namespace Cert.Reference25Ideal.Product

open Idealize.ShloMosaic
open Idealize.ShloMosaic.TcCoe Idealize.SL.Sem
open Cert.Reference25Ideal Cert.Reference25Ideal.Gen

theorem array (x : Vec Ideal S16x1024 .f32) (y : Vec Ideal S16x512 .f32) :
    transpose S1024x512 [1, 0] (Host.dotGeneral (F := Ideal) (φ₁ := .f32) (φ₂ := .f32) dot_S16x512_S16x1024_S512x1024_0_0_1_1_n_n none y x) transposes_S512x1024_S1024x512_1_0
      = Kernel25Ideal.Product.prod x y := by
  funext i
  idx_vars i
  pointwise
  exact Finset.sum_congr rfl fun k _ => mul_comm _ _

end Cert.Reference25Ideal.Product

end
-- ==== Proof.Update.lean ====
/- The optimiser's step: an array of weights, its gradient and its two moments, element by element. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run

@[expose] public section

set_option maxRecDepth 16384

noncomputable section

namespace Cert.Update

open Idealize.ShloMosaic
open Idealize.ShloMosaic.TcCoe Idealize.SL.Sem
open Cert

theorem update16 : algebraic_Kernel16Ideal_Reference16Ideal (hKernel16Ideal := Kernel16Ideal.Gen.facts) (hReference16Ideal := Reference16Ideal.Gen.facts) := by
  intro m g m' g' _ h
  refine ⟨_, _, _, Kernel16Ideal.Value.run m g, ?_⟩
  refine (θ_run Reference16Ideal.defs _ _).mono (fun r hr c => ?_) (Reference16Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

theorem update17 : algebraic_Kernel17Ideal_Reference17Ideal (hKernel17Ideal := Kernel17Ideal.Gen.facts) (hReference17Ideal := Reference17Ideal.Gen.facts) := by
  intro m g m' g' _ h
  refine ⟨_, _, _, Kernel17Ideal.Value.run m g, ?_⟩
  refine (θ_run Reference17Ideal.defs _ _).mono (fun r hr c => ?_) (Reference17Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

theorem update18 : algebraic_Kernel18Ideal_Reference18Ideal (hKernel18Ideal := Kernel18Ideal.Gen.facts) (hReference18Ideal := Reference18Ideal.Gen.facts) := by
  intro m g m' g' _ h
  refine ⟨_, _, _, Kernel18Ideal.Value.run m g, ?_⟩
  refine (θ_run Reference18Ideal.defs _ _).mono (fun r hr c => ?_) (Reference18Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

theorem update19 : algebraic_Kernel19Ideal_Reference19Ideal (hKernel19Ideal := Kernel19Ideal.Gen.facts) (hReference19Ideal := Reference19Ideal.Gen.facts) := by
  intro m g m' g' _ h
  refine ⟨_, _, _, Kernel19Ideal.Value.run m g, ?_⟩
  refine (θ_run Reference19Ideal.defs _ _).mono (fun r hr c => ?_) (Reference19Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

theorem update20 : algebraic_Kernel20Ideal_Reference20Ideal (hKernel20Ideal := Kernel20Ideal.Gen.facts) (hReference20Ideal := Reference20Ideal.Gen.facts) := by
  intro m g m' g' _ h
  refine ⟨_, _, _, Kernel20Ideal.Value.run m g, ?_⟩
  refine (θ_run Reference20Ideal.defs _ _).mono (fun r hr c => ?_) (Reference20Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

theorem update21 : algebraic_Kernel21Ideal_Reference21Ideal (hKernel21Ideal := Kernel21Ideal.Gen.facts) (hReference21Ideal := Reference21Ideal.Gen.facts) := by
  intro m g m' g' _ h
  refine ⟨_, _, _, Kernel21Ideal.Value.run m g, ?_⟩
  refine (θ_run Reference21Ideal.defs _ _).mono (fun r hr c => ?_) (Reference21Ideal.Value.run m' g')
  obtain ⟨h0, h1, h2, h3⟩ := h c
  obtain ⟨r0, r1, r2, k⟩ := hr c
  refine ⟨r0.trans ?_, r1.trans ?_, r2.trans ?_, k⟩ <;> simp only [h0, h1, h2, h3] <;> rfl

end Cert.Update

end
-- ==== Proof.Row.lean ====
/- The elementwise calls: the activation of the conditions, and the gate of the state-space layer's output. -/
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import Idealize.ShloMosaic.Lib.Pointwise

@[expose] public section

set_option maxRecDepth 16384

noncomputable section

namespace Cert.Row

open Idealize.ShloMosaic
open Idealize.ShloMosaic.TcCoe Idealize.SL.Sem
open Cert

/-- The factor one half, on the argument or on the sum. -/
theorem half (h y t : EReal) : y * (h * t) = h * y * t :=
  (mul_left_comm _ _ _).trans (mul_assoc _ _ _).symm

/-- The sign of the exponent, as a negation or as a difference from zero. -/
theorem sigmoid (x : EReal) : Ideal.div 1 (1 + Ideal.exp (-x)) = Ideal.div 1 (1 + Ideal.exp (0 - x)) := by
  rw [zero_sub]

theorem row26 : algebraic_Kernel26Ideal_Reference26Ideal (hKernel26Ideal := Kernel26Ideal.Gen.facts) (hReference26Ideal := Reference26Ideal.Gen.facts) := by
  intro m g m' g' _ h
  refine ⟨_, Kernel26Ideal.Value.run m g, (θ_run Reference26Ideal.defs _ _).mono (fun r hr c => ⟨(hr c).1.trans ?_, (hr c).2⟩) (Reference26Ideal.Value.run m' g')⟩
  rw [h c]
  funext i
  idx_vars i
  pointwise
  exact congrArg₂ (fun p q : EReal => p * q) rfl (sigmoid _)

theorem row27 : algebraic_Kernel27Ideal_Reference27Ideal (hKernel27Ideal := Kernel27Ideal.Gen.facts) (hReference27Ideal := Reference27Ideal.Gen.facts) := by
  intro m g m' g' _ h
  refine ⟨_, Kernel27Ideal.Value.run m g, (θ_run Reference27Ideal.defs _ _).mono (fun r hr c => ⟨(hr c).1.trans ?_, (hr c).2⟩) (Reference27Ideal.Value.run m' g')⟩
  rw [h c]
  funext i
  idx_vars i
  pointwise
  exact half _ _ _

theorem row28 : algebraic_Kernel28Ideal_Reference28Ideal (hKernel28Ideal := Kernel28Ideal.Gen.facts) (hReference28Ideal := Reference28Ideal.Gen.facts) := by
  intro m g m' g' _ h
  refine ⟨_, Kernel28Ideal.Value.run m g, (θ_run Reference28Ideal.defs _ _).mono (fun r hr c => ⟨(hr c).1.trans ?_, (hr c).2⟩) (Reference28Ideal.Value.run m' g')⟩
  rw [(h c).1, (h c).2]
  funext i
  idx_vars i
  pointwise
  exact congrArg₂ (fun p q : EReal => p * q) (half _ _ _) (sigmoid _)

end Cert.Row

end

end
-- ==== Proof.Around.lean ====
/- The host's lines around the call, in pieces that each prepare one operand or one result. -/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Around

open Idealize.ShloMosaic
open Idealize.ShloMosaic.TcCoe Idealize.SL.Sem
open Cert.KernelIdeal Cert.KernelIdeal.Gen
open StableHlo

section Lines

variable {F : FTy → Type} [FloatOps F]

/-- The contents of an array of a shape and an element type. -/
abbrev Arr (F : FTy → Type) (s : Shape) (e : EltTy) := (⟨s, e⟩ : BufTy).Contents (Elt F)

abbrev pre0 : List (HloOp τ sig (Elt F)) :=
  [ reshape main_arg4 main_v0 (rfl : (.f32 : EltTy) = .f32) shapeCasts_S64x64x16_S8x8x64x16
  , unary main_v0 main_v1 ((transpose S8x8x16x64 [0, 1, 3, 2] · transposes_S8x8x64x16_S8x8x16x64_0_1_3_2) : Arr F S8x8x64x16 .f32 → Arr F S8x8x16x64 .f32)
  , nullary main_v2 (iotaInDim S8x8 32 0)
  , nullary main_v3 (iotaInDim S8x8 32 1)
  , nullary main_c (constantI S_ 32 0#32)
  , unary main_c main_v4 (broadcastInDim S8x8 ![] bcast_S_S8x8 : Arr F S_ .i32 → Arr F S8x8 .i32)
  , binary main_v2 main_v4 main_v5 (addi : Arr F S8x8 .i32 → Arr F S8x8 .i32 → Arr F S8x8 .i32)
  , binary main_v5 main_v3 main_v6 (cmpi .eq : Arr F S8x8 .i32 → Arr F S8x8 .i32 → Arr F S8x8 .i1)
  , unary main_v6 main_v7 (uitofp .f32 : Arr F S8x8 .i1 → Arr F S8x8 .f32)
  , unary main_v1 main_v8 (broadcastInDim S8x8x16x1x64 ![0, 1, 2, 4] bcast_S8x8x16x64_S8x8x16x1x64_0_1_2_4 : Arr F S8x8x16x64 .f32 → Arr F S8x8x16x1x64 .f32)
  , unary main_v7 main_v9 (broadcastInDim S1x8x1x8x1 ![1, 3] bcast_S8x8_S1x8x1x8x1_1_3 : Arr F S8x8 .f32 → Arr F S1x8x1x8x1 .f32)
  , unary main_v8 main_v10 (broadcastInDim S8x8x16x8x64 ![0, 1, 2, 3, 4] bcast_S8x8x16x1x64_S8x8x16x8x64_0_1_2_3_4 : Arr F S8x8x16x1x64 .f32 → Arr F S8x8x16x8x64 .f32)
  , unary main_v9 main_v11 (broadcastInDim S8x8x16x8x64 ![0, 1, 2, 3, 4] bcast_S1x8x1x8x1_S8x8x16x8x64_0_1_2_3_4 : Arr F S1x8x1x8x1 .f32 → Arr F S8x8x16x8x64 .f32)
  , binary main_v10 main_v11 main_v12 (mulf : Arr F S8x8x16x8x64 .f32 → Arr F S8x8x16x8x64 .f32 → Arr F S8x8x16x8x64 .f32)
  , reshape main_v12 main_v13 (rfl : (.f32 : EltTy) = .f32) shapeCasts_S8x8x16x8x64_S8x128x512
  , unary main_v13 main_v14 ((truncf .bf16 · bitsLt_bf16_f32) : Arr F S8x128x512 .f32 → Arr F S8x128x512 .bf16) ]
abbrev pre0W : List (Ref sig .tc) := [main_v0, main_v1, main_v2, main_v3, main_c, main_v4, main_v5, main_v6, main_v7, main_v8, main_v9, main_v10, main_v11, main_v12, main_v13, main_v14]
theorem pre0_writes : (pre0 : List (HloOp τ sig (Elt F))).Forall fun op => op.writes ⊆ (pre0W.map (Proc.devRef (τ := τ) .tc)).toFinset :=
  forall_writes_sub_of_map rfl

abbrev pre1 : List (HloOp τ sig (Elt F)) :=
  [ reshape main_arg5 main_v15 (rfl : (.f32 : EltTy) = .f32) shapeCasts_S64x64x16_S8x8x64x16
  , unary main_v15 main_v16 ((transpose S8x8x16x64 [0, 1, 3, 2] · transposes_S8x8x64x16_S8x8x16x64_0_1_3_2) : Arr F S8x8x64x16 .f32 → Arr F S8x8x16x64 .f32)
  , nullary main_v17 (iotaInDim S8x8 32 0)
  , nullary main_v18 (iotaInDim S8x8 32 1)
  , nullary main_c_0 (constantI S_ 32 0#32)
  , unary main_c_0 main_v19 (broadcastInDim S8x8 ![] bcast_S_S8x8 : Arr F S_ .i32 → Arr F S8x8 .i32)
  , binary main_v17 main_v19 main_v20 (addi : Arr F S8x8 .i32 → Arr F S8x8 .i32 → Arr F S8x8 .i32)
  , binary main_v20 main_v18 main_v21 (cmpi .eq : Arr F S8x8 .i32 → Arr F S8x8 .i32 → Arr F S8x8 .i1)
  , unary main_v21 main_v22 (uitofp .f32 : Arr F S8x8 .i1 → Arr F S8x8 .f32)
  , unary main_v16 main_v23 (broadcastInDim S8x8x16x1x64 ![0, 1, 2, 4] bcast_S8x8x16x64_S8x8x16x1x64_0_1_2_4 : Arr F S8x8x16x64 .f32 → Arr F S8x8x16x1x64 .f32)
  , unary main_v22 main_v24 (broadcastInDim S1x8x1x8x1 ![1, 3] bcast_S8x8_S1x8x1x8x1_1_3 : Arr F S8x8 .f32 → Arr F S1x8x1x8x1 .f32)
  , unary main_v23 main_v25 (broadcastInDim S8x8x16x8x64 ![0, 1, 2, 3, 4] bcast_S8x8x16x1x64_S8x8x16x8x64_0_1_2_3_4 : Arr F S8x8x16x1x64 .f32 → Arr F S8x8x16x8x64 .f32)
  , unary main_v24 main_v26 (broadcastInDim S8x8x16x8x64 ![0, 1, 2, 3, 4] bcast_S1x8x1x8x1_S8x8x16x8x64_0_1_2_3_4 : Arr F S1x8x1x8x1 .f32 → Arr F S8x8x16x8x64 .f32)
  , binary main_v25 main_v26 main_v27 (mulf : Arr F S8x8x16x8x64 .f32 → Arr F S8x8x16x8x64 .f32 → Arr F S8x8x16x8x64 .f32)
  , reshape main_v27 main_v28 (rfl : (.f32 : EltTy) = .f32) shapeCasts_S8x8x16x8x64_S8x128x512
  , unary main_v28 main_v29 ((truncf .bf16 · bitsLt_bf16_f32) : Arr F S8x128x512 .f32 → Arr F S8x128x512 .bf16) ]
abbrev pre1W : List (Ref sig .tc) := [main_v15, main_v16, main_v17, main_v18, main_c_0, main_v19, main_v20, main_v21, main_v22, main_v23, main_v24, main_v25, main_v26, main_v27, main_v28, main_v29]
theorem pre1_writes : (pre1 : List (HloOp τ sig (Elt F))).Forall fun op => op.writes ⊆ (pre1W.map (Proc.devRef (τ := τ) .tc)).toFinset :=
  forall_writes_sub_of_map rfl

abbrev pre2 : List (HloOp τ sig (Elt F)) :=
  [ reshape main_arg6 main_v30 (rfl : (.f32 : EltTy) = .f32) shapeCasts_S64x16x64_S8x8x16x64
  , unary main_v30 main_v31 ((transpose S8x8x64x16 [0, 1, 3, 2] · transposes_S8x8x16x64_S8x8x64x16_0_1_3_2) : Arr F S8x8x16x64 .f32 → Arr F S8x8x64x16 .f32)
  , nullary main_v32 (iotaInDim S8x8 32 0)
  , nullary main_v33 (iotaInDim S8x8 32 1)
  , nullary main_c_1 (constantI S_ 32 0#32)
  , unary main_c_1 main_v34 (broadcastInDim S8x8 ![] bcast_S_S8x8 : Arr F S_ .i32 → Arr F S8x8 .i32)
  , binary main_v32 main_v34 main_v35 (addi : Arr F S8x8 .i32 → Arr F S8x8 .i32 → Arr F S8x8 .i32)
  , binary main_v35 main_v33 main_v36 (cmpi .eq : Arr F S8x8 .i32 → Arr F S8x8 .i32 → Arr F S8x8 .i1)
  , unary main_v36 main_v37 (uitofp .f32 : Arr F S8x8 .i1 → Arr F S8x8 .f32)
  , unary main_v31 main_v38 (broadcastInDim S8x8x64x1x16 ![0, 1, 2, 4] bcast_S8x8x64x16_S8x8x64x1x16_0_1_2_4 : Arr F S8x8x64x16 .f32 → Arr F S8x8x64x1x16 .f32)
  , unary main_v37 main_v39 (broadcastInDim S1x8x1x8x1 ![1, 3] bcast_S8x8_S1x8x1x8x1_1_3 : Arr F S8x8 .f32 → Arr F S1x8x1x8x1 .f32)
  , unary main_v38 main_v40 (broadcastInDim S8x8x64x8x16 ![0, 1, 2, 3, 4] bcast_S8x8x64x1x16_S8x8x64x8x16_0_1_2_3_4 : Arr F S8x8x64x1x16 .f32 → Arr F S8x8x64x8x16 .f32)
  , unary main_v39 main_v41 (broadcastInDim S8x8x64x8x16 ![0, 1, 2, 3, 4] bcast_S1x8x1x8x1_S8x8x64x8x16_0_1_2_3_4 : Arr F S1x8x1x8x1 .f32 → Arr F S8x8x64x8x16 .f32)
  , binary main_v40 main_v41 main_v42 (mulf : Arr F S8x8x64x8x16 .f32 → Arr F S8x8x64x8x16 .f32 → Arr F S8x8x64x8x16 .f32)
  , reshape main_v42 main_v43 (rfl : (.f32 : EltTy) = .f32) shapeCasts_S8x8x64x8x16_S8x512x128
  , unary main_v43 main_v44 ((truncf .bf16 · bitsLt_bf16_f32) : Arr F S8x512x128 .f32 → Arr F S8x512x128 .bf16) ]
abbrev pre2W : List (Ref sig .tc) := [main_v30, main_v31, main_v32, main_v33, main_c_1, main_v34, main_v35, main_v36, main_v37, main_v38, main_v39, main_v40, main_v41, main_v42, main_v43, main_v44]
theorem pre2_writes : (pre2 : List (HloOp τ sig (Elt F))).Forall fun op => op.writes ⊆ (pre2W.map (Proc.devRef (τ := τ) .tc)).toFinset :=
  forall_writes_sub_of_map rfl

abbrev pre3 : List (HloOp τ sig (Elt F)) :=
  [ reshape main_arg7 main_v45 (rfl : (.f32 : EltTy) = .f32) shapeCasts_S64x16x64_S8x8x16x64
  , unary main_v45 main_v46 ((transpose S8x8x64x16 [0, 1, 3, 2] · transposes_S8x8x16x64_S8x8x64x16_0_1_3_2) : Arr F S8x8x16x64 .f32 → Arr F S8x8x64x16 .f32)
  , nullary main_v47 (iotaInDim S8x8 32 0)
  , nullary main_v48 (iotaInDim S8x8 32 1)
  , nullary main_c_2 (constantI S_ 32 0#32)
  , unary main_c_2 main_v49 (broadcastInDim S8x8 ![] bcast_S_S8x8 : Arr F S_ .i32 → Arr F S8x8 .i32)
  , binary main_v47 main_v49 main_v50 (addi : Arr F S8x8 .i32 → Arr F S8x8 .i32 → Arr F S8x8 .i32)
  , binary main_v50 main_v48 main_v51 (cmpi .eq : Arr F S8x8 .i32 → Arr F S8x8 .i32 → Arr F S8x8 .i1)
  , unary main_v51 main_v52 (uitofp .f32 : Arr F S8x8 .i1 → Arr F S8x8 .f32)
  , unary main_v46 main_v53 (broadcastInDim S8x8x64x1x16 ![0, 1, 2, 4] bcast_S8x8x64x16_S8x8x64x1x16_0_1_2_4 : Arr F S8x8x64x16 .f32 → Arr F S8x8x64x1x16 .f32)
  , unary main_v52 main_v54 (broadcastInDim S1x8x1x8x1 ![1, 3] bcast_S8x8_S1x8x1x8x1_1_3 : Arr F S8x8 .f32 → Arr F S1x8x1x8x1 .f32)
  , unary main_v53 main_v55 (broadcastInDim S8x8x64x8x16 ![0, 1, 2, 3, 4] bcast_S8x8x64x1x16_S8x8x64x8x16_0_1_2_3_4 : Arr F S8x8x64x1x16 .f32 → Arr F S8x8x64x8x16 .f32)
  , unary main_v54 main_v56 (broadcastInDim S8x8x64x8x16 ![0, 1, 2, 3, 4] bcast_S1x8x1x8x1_S8x8x64x8x16_0_1_2_3_4 : Arr F S1x8x1x8x1 .f32 → Arr F S8x8x64x8x16 .f32)
  , binary main_v55 main_v56 main_v57 (mulf : Arr F S8x8x64x8x16 .f32 → Arr F S8x8x64x8x16 .f32 → Arr F S8x8x64x8x16 .f32)
  , reshape main_v57 main_v58 (rfl : (.f32 : EltTy) = .f32) shapeCasts_S8x8x64x8x16_S8x512x128
  , unary main_v58 main_v59 ((truncf .bf16 · bitsLt_bf16_f32) : Arr F S8x512x128 .f32 → Arr F S8x512x128 .bf16) ]
abbrev pre3W : List (Ref sig .tc) := [main_v45, main_v46, main_v47, main_v48, main_c_2, main_v49, main_v50, main_v51, main_v52, main_v53, main_v54, main_v55, main_v56, main_v57, main_v58, main_v59]
theorem pre3_writes : (pre3 : List (HloOp τ sig (Elt F))).Forall fun op => op.writes ⊆ (pre3W.map (Proc.devRef (τ := τ) .tc)).toFinset :=
  forall_writes_sub_of_map rfl

abbrev pre4 : List (HloOp τ sig (Elt F)) :=
  [ reshape main_arg2 main_v60 (rfl : (.f32 : EltTy) = .f32) shapeCasts_S64x64_S8x1x512
  , unary main_v60 main_v61 (broadcastInDim S8x16x512 ![0, 1, 2] bcast_S8x1x512_S8x16x512_0_1_2 : Arr F S8x1x512 .f32 → Arr F S8x16x512 .f32)
  , reshape main_arg3 main_v62 (rfl : (.f32 : EltTy) = .f32) shapeCasts_S64x64_S8x1x512
  , unary main_v62 main_v63 (broadcastInDim S8x16x512 ![0, 1, 2] bcast_S8x1x512_S8x16x512_0_1_2 : Arr F S8x1x512 .f32 → Arr F S8x16x512 .f32) ]
abbrev pre4W : List (Ref sig .tc) := [main_v60, main_v61, main_v62, main_v63]
theorem pre4_writes : (pre4 : List (HloOp τ sig (Elt F))).Forall fun op => op.writes ⊆ (pre4W.map (Proc.devRef (τ := τ) .tc)).toFinset :=
  forall_writes_sub_of_map rfl

abbrev pre5 : List (HloOp τ sig (Elt F)) :=
  [ reshape main_arg0 main_v64 (rfl : (.f32 : EltTy) = .f32) shapeCasts_S2x2048x1024_S4096x1024
  , reshape main_v64 main_v65 (rfl : (.f32 : EltTy) = .f32) shapeCasts_S4096x1024_S2x16x128x1024
  , unary main_v65 main_v66 ((transpose S2x128x16x1024 [0, 2, 1, 3] · transposes_S2x16x128x1024_S2x128x16x1024_0_2_1_3) : Arr F S2x16x128x1024 .f32 → Arr F S2x128x16x1024 .f32)
  , reshape main_v66 main_v67 (rfl : (.f32 : EltTy) = .f32) shapeCasts_S2x128x16x1024_S4096x1024 ]
abbrev pre5W : List (Ref sig .tc) := [main_v64, main_v65, main_v66, main_v67]
theorem pre5_writes : (pre5 : List (HloOp τ sig (Elt F))).Forall fun op => op.writes ⊆ (pre5W.map (Proc.devRef (τ := τ) .tc)).toFinset :=
  forall_writes_sub_of_map rfl

abbrev pre6 : List (HloOp τ sig (Elt F)) :=
  [ reshape main_arg1 main_v68 (rfl : (.f32 : EltTy) = .f32) shapeCasts_S2x2048x1024_S4096x1024
  , reshape main_v68 main_v69 (rfl : (.f32 : EltTy) = .f32) shapeCasts_S4096x1024_S2x16x128x1024
  , unary main_v69 main_v70 ((transpose S2x128x16x1024 [0, 2, 1, 3] · transposes_S2x16x128x1024_S2x128x16x1024_0_2_1_3) : Arr F S2x16x128x1024 .f32 → Arr F S2x128x16x1024 .f32)
  , reshape main_v70 main_v71 (rfl : (.f32 : EltTy) = .f32) shapeCasts_S2x128x16x1024_S4096x1024 ]
abbrev pre6W : List (Ref sig .tc) := [main_v68, main_v69, main_v70, main_v71]
theorem pre6_writes : (pre6 : List (HloOp τ sig (Elt F))).Forall fun op => op.writes ⊆ (pre6W.map (Proc.devRef (τ := τ) .tc)).toFinset :=
  forall_writes_sub_of_map rfl

abbrev post0 : List (HloOp τ sig (Elt F)) :=
  [ nullary main_cst (constant S_ .f32 0x00000000#32)
  , binary main_v72_5 main_cst main_v73 ((fun x v => Host.reduceAdd x v reducesTo_S2x8x16x512_S8x512_d0_2 h_S_) : Arr F S2x8x16x512 .f32 → Arr F S_ .f32 → Arr F S8x512 .f32)
  , reshape main_v73 main_v74 (rfl : (.f32 : EltTy) = .f32) shapeCasts_S8x512_S64x64 ]
abbrev post0W : List (Ref sig .tc) := [main_cst, main_v73, main_v74]
theorem post0_writes : (post0 : List (HloOp τ sig (Elt F))).Forall fun op => op.writes ⊆ (post0W.map (Proc.devRef (τ := τ) .tc)).toFinset :=
  forall_writes_sub_of_map rfl

abbrev post1 : List (HloOp τ sig (Elt F)) :=
  [ nullary main_cst_3 (constant S_ .f32 0x00000000#32)
  , binary main_v72_6 main_cst_3 main_v75 ((fun x v => Host.reduceAdd x v reducesTo_S2x8x16x512_S8x512_d0_2 h_S_) : Arr F S2x8x16x512 .f32 → Arr F S_ .f32 → Arr F S8x512 .f32)
  , reshape main_v75 main_v76 (rfl : (.f32 : EltTy) = .f32) shapeCasts_S8x512_S64x64 ]
abbrev post1W : List (Ref sig .tc) := [main_cst_3, main_v75, main_v76]
theorem post1_writes : (post1 : List (HloOp τ sig (Elt F))).Forall fun op => op.writes ⊆ (post1W.map (Proc.devRef (τ := τ) .tc)).toFinset :=
  forall_writes_sub_of_map rfl

abbrev post2 : List (HloOp τ sig (Elt F)) :=
  [ nullary main_cst_4 (constant S_ .f32 0x00000000#32)
  , binary main_v72_1 main_cst_4 main_v77 ((fun x v => Host.reduceAdd x v reducesTo_S2x8x128x512_S8x128x512_d0 h_S_) : Arr F S2x8x128x512 .f32 → Arr F S_ .f32 → Arr F S8x128x512 .f32)
  , reshape main_v77 main_v78 (rfl : (.f32 : EltTy) = .f32) shapeCasts_S8x128x512_S8x8x16x8x64
  , nullary main_v79 (iotaInDim S8 32 0)
  , nullary main_c_5 (constantI S_ 32 0#32)
  , unary main_c_5 main_v80 (broadcastInDim S8 ![] bcast_S_S8 : Arr F S_ .i32 → Arr F S8 .i32)
  , binary main_v79 main_v80 main_v81 (cmpi .slt : Arr F S8 .i32 → Arr F S8 .i32 → Arr F S8 .i1)
  , nullary main_c_6 (constantI S_ 32 8#32)
  , unary main_c_6 main_v82 (broadcastInDim S8 ![] bcast_S_S8 : Arr F S_ .i32 → Arr F S8 .i32)
  , binary main_v79 main_v82 main_v83 (addi : Arr F S8 .i32 → Arr F S8 .i32 → Arr F S8 .i32)
  , ternary main_v81 main_v83 main_v79 main_v84 (select : Arr F S8 .i1 → Arr F S8 .i32 → Arr F S8 .i32 → Arr F S8 .i32)
  , nullary main_c_7 (constantI S_ 32 0#32)
  , unary main_c_7 main_v85 (broadcastInDim S8 ![] bcast_S_S8 : Arr F S_ .i32 → Arr F S8 .i32)
  , binary main_v79 main_v85 main_v86 (cmpi .slt : Arr F S8 .i32 → Arr F S8 .i32 → Arr F S8 .i1)
  , nullary main_c_8 (constantI S_ 32 8#32)
  , unary main_c_8 main_v87 (broadcastInDim S8 ![] bcast_S_S8 : Arr F S_ .i32 → Arr F S8 .i32)
  , binary main_v79 main_v87 main_v88 (addi : Arr F S8 .i32 → Arr F S8 .i32 → Arr F S8 .i32)
  , ternary main_v86 main_v88 main_v79 main_v89 (select : Arr F S8 .i1 → Arr F S8 .i32 → Arr F S8 .i32 → Arr F S8 .i32)
  , unary main_v84 main_v90 (broadcastInDim S8x1 ![0] bcast_S8_S8x1_0 : Arr F S8 .i32 → Arr F S8x1 .i32)
  , unary main_v89 main_v91 (broadcastInDim S8x1 ![0] bcast_S8_S8x1_0 : Arr F S8 .i32 → Arr F S8x1 .i32)
  , binary main_v90 main_v91 main_v92 ((fun a b => concatenate S8x2 1 [⟨S8x1, a⟩, ⟨S8x1, b⟩] concatenates_S8x1_S8x1_S8x2_d1) : Arr F S8x1 .i32 → Arr F S8x1 .i32 → Arr F S8x2 .i32)
  , binary main_v78 main_v92 main_v93 ((fun x i => Host.gather gather_S8x8x16x8x64_S8x2_S8x8x16x64_123_13_n_n_13_1_8116164 x i) : Arr F S8x8x16x8x64 .f32 → Arr F S8x2 .i32 → Arr F S8x8x16x64 .f32)
  , unary main_v93 main_v94 ((transpose S8x8x64x16 [1, 0, 3, 2] · transposes_S8x8x16x64_S8x8x64x16_1_0_3_2) : Arr F S8x8x16x64 .f32 → Arr F S8x8x64x16 .f32)
  , reshape main_v94 main_v95 (rfl : (.f32 : EltTy) = .f32) shapeCasts_S8x8x64x16_S64x64x16 ]
abbrev post2W : List (Ref sig .tc) := [main_cst_4, main_v77, main_v78, main_v79, main_c_5, main_v80, main_v81, main_c_6, main_v82, main_v83, main_v84, main_c_7, main_v85, main_v86, main_c_8, main_v87, main_v88, main_v89, main_v90, main_v91, main_v92, main_v93, main_v94, main_v95]
theorem post2_writes : (post2 : List (HloOp τ sig (Elt F))).Forall fun op => op.writes ⊆ (post2W.map (Proc.devRef (τ := τ) .tc)).toFinset :=
  forall_writes_sub_of_map rfl

abbrev post3 : List (HloOp τ sig (Elt F)) :=
  [ nullary main_cst_9 (constant S_ .f32 0x00000000#32)
  , binary main_v72_2 main_cst_9 main_v96 ((fun x v => Host.reduceAdd x v reducesTo_S2x8x128x512_S8x128x512_d0 h_S_) : Arr F S2x8x128x512 .f32 → Arr F S_ .f32 → Arr F S8x128x512 .f32)
  , reshape main_v96 main_v97 (rfl : (.f32 : EltTy) = .f32) shapeCasts_S8x128x512_S8x8x16x8x64
  , nullary main_v98 (iotaInDim S8 32 0)
  , nullary main_c_10 (constantI S_ 32 0#32)
  , unary main_c_10 main_v99 (broadcastInDim S8 ![] bcast_S_S8 : Arr F S_ .i32 → Arr F S8 .i32)
  , binary main_v98 main_v99 main_v100 (cmpi .slt : Arr F S8 .i32 → Arr F S8 .i32 → Arr F S8 .i1)
  , nullary main_c_11 (constantI S_ 32 8#32)
  , unary main_c_11 main_v101 (broadcastInDim S8 ![] bcast_S_S8 : Arr F S_ .i32 → Arr F S8 .i32)
  , binary main_v98 main_v101 main_v102 (addi : Arr F S8 .i32 → Arr F S8 .i32 → Arr F S8 .i32)
  , ternary main_v100 main_v102 main_v98 main_v103 (select : Arr F S8 .i1 → Arr F S8 .i32 → Arr F S8 .i32 → Arr F S8 .i32)
  , nullary main_c_12 (constantI S_ 32 0#32)
  , unary main_c_12 main_v104 (broadcastInDim S8 ![] bcast_S_S8 : Arr F S_ .i32 → Arr F S8 .i32)
  , binary main_v98 main_v104 main_v105 (cmpi .slt : Arr F S8 .i32 → Arr F S8 .i32 → Arr F S8 .i1)
  , nullary main_c_13 (constantI S_ 32 8#32)
  , unary main_c_13 main_v106 (broadcastInDim S8 ![] bcast_S_S8 : Arr F S_ .i32 → Arr F S8 .i32)
  , binary main_v98 main_v106 main_v107 (addi : Arr F S8 .i32 → Arr F S8 .i32 → Arr F S8 .i32)
  , ternary main_v105 main_v107 main_v98 main_v108 (select : Arr F S8 .i1 → Arr F S8 .i32 → Arr F S8 .i32 → Arr F S8 .i32)
  , unary main_v103 main_v109 (broadcastInDim S8x1 ![0] bcast_S8_S8x1_0 : Arr F S8 .i32 → Arr F S8x1 .i32)
  , unary main_v108 main_v110 (broadcastInDim S8x1 ![0] bcast_S8_S8x1_0 : Arr F S8 .i32 → Arr F S8x1 .i32)
  , binary main_v109 main_v110 main_v111 ((fun a b => concatenate S8x2 1 [⟨S8x1, a⟩, ⟨S8x1, b⟩] concatenates_S8x1_S8x1_S8x2_d1) : Arr F S8x1 .i32 → Arr F S8x1 .i32 → Arr F S8x2 .i32)
  , binary main_v97 main_v111 main_v112 ((fun x i => Host.gather gather_S8x8x16x8x64_S8x2_S8x8x16x64_123_13_n_n_13_1_8116164 x i) : Arr F S8x8x16x8x64 .f32 → Arr F S8x2 .i32 → Arr F S8x8x16x64 .f32)
  , unary main_v112 main_v113 ((transpose S8x8x64x16 [1, 0, 3, 2] · transposes_S8x8x16x64_S8x8x64x16_1_0_3_2) : Arr F S8x8x16x64 .f32 → Arr F S8x8x64x16 .f32)
  , reshape main_v113 main_v114 (rfl : (.f32 : EltTy) = .f32) shapeCasts_S8x8x64x16_S64x64x16 ]
abbrev post3W : List (Ref sig .tc) := [main_cst_9, main_v96, main_v97, main_v98, main_c_10, main_v99, main_v100, main_c_11, main_v101, main_v102, main_v103, main_c_12, main_v104, main_v105, main_c_13, main_v106, main_v107, main_v108, main_v109, main_v110, main_v111, main_v112, main_v113, main_v114]
theorem post3_writes : (post3 : List (HloOp τ sig (Elt F))).Forall fun op => op.writes ⊆ (post3W.map (Proc.devRef (τ := τ) .tc)).toFinset :=
  forall_writes_sub_of_map rfl

abbrev post4 : List (HloOp τ sig (Elt F)) :=
  [ nullary main_cst_14 (constant S_ .f32 0x00000000#32)
  , binary main_v72_3 main_cst_14 main_v115 ((fun x v => Host.reduceAdd x v reducesTo_S2x8x512x128_S8x512x128_d0 h_S_) : Arr F S2x8x512x128 .f32 → Arr F S_ .f32 → Arr F S8x512x128 .f32)
  , reshape main_v115 main_v116 (rfl : (.f32 : EltTy) = .f32) shapeCasts_S8x512x128_S8x8x64x8x16
  , nullary main_v117 (iotaInDim S8 32 0)
  , nullary main_c_15 (constantI S_ 32 0#32)
  , unary main_c_15 main_v118 (broadcastInDim S8 ![] bcast_S_S8 : Arr F S_ .i32 → Arr F S8 .i32)
  , binary main_v117 main_v118 main_v119 (cmpi .slt : Arr F S8 .i32 → Arr F S8 .i32 → Arr F S8 .i1)
  , nullary main_c_16 (constantI S_ 32 8#32)
  , unary main_c_16 main_v120 (broadcastInDim S8 ![] bcast_S_S8 : Arr F S_ .i32 → Arr F S8 .i32)
  , binary main_v117 main_v120 main_v121 (addi : Arr F S8 .i32 → Arr F S8 .i32 → Arr F S8 .i32)
  , ternary main_v119 main_v121 main_v117 main_v122 (select : Arr F S8 .i1 → Arr F S8 .i32 → Arr F S8 .i32 → Arr F S8 .i32)
  , nullary main_c_17 (constantI S_ 32 0#32)
  , unary main_c_17 main_v123 (broadcastInDim S8 ![] bcast_S_S8 : Arr F S_ .i32 → Arr F S8 .i32)
  , binary main_v117 main_v123 main_v124 (cmpi .slt : Arr F S8 .i32 → Arr F S8 .i32 → Arr F S8 .i1)
  , nullary main_c_18 (constantI S_ 32 8#32)
  , unary main_c_18 main_v125 (broadcastInDim S8 ![] bcast_S_S8 : Arr F S_ .i32 → Arr F S8 .i32)
  , binary main_v117 main_v125 main_v126 (addi : Arr F S8 .i32 → Arr F S8 .i32 → Arr F S8 .i32)
  , ternary main_v124 main_v126 main_v117 main_v127 (select : Arr F S8 .i1 → Arr F S8 .i32 → Arr F S8 .i32 → Arr F S8 .i32)
  , unary main_v122 main_v128 (broadcastInDim S8x1 ![0] bcast_S8_S8x1_0 : Arr F S8 .i32 → Arr F S8x1 .i32)
  , unary main_v127 main_v129 (broadcastInDim S8x1 ![0] bcast_S8_S8x1_0 : Arr F S8 .i32 → Arr F S8x1 .i32)
  , binary main_v128 main_v129 main_v130 ((fun a b => concatenate S8x2 1 [⟨S8x1, a⟩, ⟨S8x1, b⟩] concatenates_S8x1_S8x1_S8x2_d1) : Arr F S8x1 .i32 → Arr F S8x1 .i32 → Arr F S8x2 .i32)
  , binary main_v116 main_v130 main_v131 ((fun x i => Host.gather gather_S8x8x64x8x16_S8x2_S8x8x64x16_123_13_n_n_13_1_8164116 x i) : Arr F S8x8x64x8x16 .f32 → Arr F S8x2 .i32 → Arr F S8x8x64x16 .f32)
  , unary main_v131 main_v132 ((transpose S8x8x16x64 [1, 0, 3, 2] · transposes_S8x8x64x16_S8x8x16x64_1_0_3_2) : Arr F S8x8x64x16 .f32 → Arr F S8x8x16x64 .f32)
  , reshape main_v132 main_v133 (rfl : (.f32 : EltTy) = .f32) shapeCasts_S8x8x16x64_S64x16x64 ]
abbrev post4W : List (Ref sig .tc) := [main_cst_14, main_v115, main_v116, main_v117, main_c_15, main_v118, main_v119, main_c_16, main_v120, main_v121, main_v122, main_c_17, main_v123, main_v124, main_c_18, main_v125, main_v126, main_v127, main_v128, main_v129, main_v130, main_v131, main_v132, main_v133]
theorem post4_writes : (post4 : List (HloOp τ sig (Elt F))).Forall fun op => op.writes ⊆ (post4W.map (Proc.devRef (τ := τ) .tc)).toFinset :=
  forall_writes_sub_of_map rfl

abbrev post5 : List (HloOp τ sig (Elt F)) :=
  [ nullary main_cst_19 (constant S_ .f32 0x00000000#32)
  , binary main_v72_4 main_cst_19 main_v134 ((fun x v => Host.reduceAdd x v reducesTo_S2x8x512x128_S8x512x128_d0 h_S_) : Arr F S2x8x512x128 .f32 → Arr F S_ .f32 → Arr F S8x512x128 .f32)
  , reshape main_v134 main_v135 (rfl : (.f32 : EltTy) = .f32) shapeCasts_S8x512x128_S8x8x64x8x16
  , nullary main_v136 (iotaInDim S8 32 0)
  , nullary main_c_20 (constantI S_ 32 0#32)
  , unary main_c_20 main_v137 (broadcastInDim S8 ![] bcast_S_S8 : Arr F S_ .i32 → Arr F S8 .i32)
  , binary main_v136 main_v137 main_v138 (cmpi .slt : Arr F S8 .i32 → Arr F S8 .i32 → Arr F S8 .i1)
  , nullary main_c_21 (constantI S_ 32 8#32)
  , unary main_c_21 main_v139 (broadcastInDim S8 ![] bcast_S_S8 : Arr F S_ .i32 → Arr F S8 .i32)
  , binary main_v136 main_v139 main_v140 (addi : Arr F S8 .i32 → Arr F S8 .i32 → Arr F S8 .i32)
  , ternary main_v138 main_v140 main_v136 main_v141 (select : Arr F S8 .i1 → Arr F S8 .i32 → Arr F S8 .i32 → Arr F S8 .i32)
  , nullary main_c_22 (constantI S_ 32 0#32)
  , unary main_c_22 main_v142 (broadcastInDim S8 ![] bcast_S_S8 : Arr F S_ .i32 → Arr F S8 .i32)
  , binary main_v136 main_v142 main_v143 (cmpi .slt : Arr F S8 .i32 → Arr F S8 .i32 → Arr F S8 .i1)
  , nullary main_c_23 (constantI S_ 32 8#32)
  , unary main_c_23 main_v144 (broadcastInDim S8 ![] bcast_S_S8 : Arr F S_ .i32 → Arr F S8 .i32)
  , binary main_v136 main_v144 main_v145 (addi : Arr F S8 .i32 → Arr F S8 .i32 → Arr F S8 .i32)
  , ternary main_v143 main_v145 main_v136 main_v146 (select : Arr F S8 .i1 → Arr F S8 .i32 → Arr F S8 .i32 → Arr F S8 .i32)
  , unary main_v141 main_v147 (broadcastInDim S8x1 ![0] bcast_S8_S8x1_0 : Arr F S8 .i32 → Arr F S8x1 .i32)
  , unary main_v146 main_v148 (broadcastInDim S8x1 ![0] bcast_S8_S8x1_0 : Arr F S8 .i32 → Arr F S8x1 .i32)
  , binary main_v147 main_v148 main_v149 ((fun a b => concatenate S8x2 1 [⟨S8x1, a⟩, ⟨S8x1, b⟩] concatenates_S8x1_S8x1_S8x2_d1) : Arr F S8x1 .i32 → Arr F S8x1 .i32 → Arr F S8x2 .i32)
  , binary main_v135 main_v149 main_v150 ((fun x i => Host.gather gather_S8x8x64x8x16_S8x2_S8x8x64x16_123_13_n_n_13_1_8164116 x i) : Arr F S8x8x64x8x16 .f32 → Arr F S8x2 .i32 → Arr F S8x8x64x16 .f32)
  , unary main_v150 main_v151 ((transpose S8x8x16x64 [1, 0, 3, 2] · transposes_S8x8x64x16_S8x8x16x64_1_0_3_2) : Arr F S8x8x64x16 .f32 → Arr F S8x8x16x64 .f32)
  , reshape main_v151 main_v152 (rfl : (.f32 : EltTy) = .f32) shapeCasts_S8x8x16x64_S64x16x64 ]
abbrev post5W : List (Ref sig .tc) := [main_cst_19, main_v134, main_v135, main_v136, main_c_20, main_v137, main_v138, main_c_21, main_v139, main_v140, main_v141, main_c_22, main_v142, main_v143, main_c_23, main_v144, main_v145, main_v146, main_v147, main_v148, main_v149, main_v150, main_v151, main_v152]
theorem post5_writes : (post5 : List (HloOp τ sig (Elt F))).Forall fun op => op.writes ⊆ (post5W.map (Proc.devRef (τ := τ) .tc)).toFinset :=
  forall_writes_sub_of_map rfl

abbrev post6 : List (HloOp τ sig (Elt F)) :=
  [ nullary main_cst_24 (constant S_ .f32 0x00000000#32)
  , binary main_v72_7 main_cst_24 main_v153 ((fun x v => Host.reduceAdd x v reducesTo_S2x8x1x128_S8x1x128_d0 h_S_) : Arr F S2x8x1x128 .f32 → Arr F S_ .f32 → Arr F S8x1x128 .f32)
  , reshape main_v153 main_v154 (rfl : (.f32 : EltTy) = .f32) shapeCasts_S8x1x128_S1x1024 ]
abbrev post6W : List (Ref sig .tc) := [main_cst_24, main_v153, main_v154]
theorem post6_writes : (post6 : List (HloOp τ sig (Elt F))).Forall fun op => op.writes ⊆ (post6W.map (Proc.devRef (τ := τ) .tc)).toFinset :=
  forall_writes_sub_of_map rfl

abbrev post7 : List (HloOp τ sig (Elt F)) :=
  [ reshape main_v72_0 main_v155 (rfl : (.f32 : EltTy) = .f32) shapeCasts_S4096x1024_S2x128x16x1024
  , unary main_v155 main_v156 ((transpose S2x16x128x1024 [0, 2, 1, 3] · transposes_S2x128x16x1024_S2x16x128x1024_0_2_1_3) : Arr F S2x128x16x1024 .f32 → Arr F S2x16x128x1024 .f32)
  , reshape main_v156 main_v157 (rfl : (.f32 : EltTy) = .f32) shapeCasts_S2x16x128x1024_S4096x1024
  , reshape main_v157 main_v158 (rfl : (.f32 : EltTy) = .f32) shapeCasts_S4096x1024_S2x2048x1024 ]
abbrev post7W : List (Ref sig .tc) := [main_v155, main_v156, main_v157, main_v158]
theorem post7_writes : (post7 : List (HloOp τ sig (Elt F))).Forall fun op => op.writes ⊆ (post7W.map (Proc.devRef (τ := τ) .tc)).toFinset :=
  forall_writes_sub_of_map rfl

theorem after_app (l k : List (HloOp τ sig (Elt F))) (V : Valuation τ sig (Elt F)) :
    after (l ++ k) V = after k (after l V) := by
  induction l generalizing V with
  | nil => rfl
  | cons op l ih => exact ih _

theorem pre_eq (V : Valuation τ sig (Elt F)) : after (List.flatten [hostOps0]) V = after pre6 (after pre5 (after pre4 (after pre3 (after pre2 (after pre1 (after pre0 (V))))))) :=
  rfl

theorem post_eq (V : Valuation τ sig (Elt F)) : after (List.flatten [hostOps1]) V = after post7 (after post6 (after post5 (after post4 (after post3 (after post2 (after post1 (after post0 (V)))))))) :=
  rfl

end Lines

section Pure

/-- The lane in group k of lane group l: one where they agree. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The input matrices as block diagonals, eight groups at a time. -/
def inB (a : FVec Ideal S64x64x16 .f32) : FVec Ideal S8x128x512 .bf16 :=
  truncf .bf16 (shapeCast S8x128x512 (mulf
    (broadcastInDim S8x8x16x8x64 ![0, 1, 2, 3, 4] bcast_S8x8x16x1x64_S8x8x16x8x64_0_1_2_3_4
      (broadcastInDim S8x8x16x1x64 ![0, 1, 2, 4] bcast_S8x8x16x64_S8x8x16x1x64_0_1_2_4
        (transpose S8x8x16x64 [0, 1, 3, 2] (shapeCast S8x8x64x16 a shapeCasts_S64x64x16_S8x8x64x16) transposes_S8x8x64x16_S8x8x16x64_0_1_3_2)))
    (broadcastInDim S8x8x16x8x64 ![0, 1, 2, 3, 4] bcast_S1x8x1x8x1_S8x8x16x8x64_0_1_2_3_4
      (broadcastInDim S1x8x1x8x1 ![1, 3] bcast_S8x8_S1x8x1x8x1_1_3 eye))) shapeCasts_S8x8x16x8x64_S8x128x512) bitsLt_bf16_f32

/-- The output matrices likewise. -/
def inC (a : FVec Ideal S64x16x64 .f32) : FVec Ideal S8x512x128 .bf16 :=
  truncf .bf16 (shapeCast S8x512x128 (mulf
    (broadcastInDim S8x8x64x8x16 ![0, 1, 2, 3, 4] bcast_S8x8x64x1x16_S8x8x64x8x16_0_1_2_3_4
      (broadcastInDim S8x8x64x1x16 ![0, 1, 2, 4] bcast_S8x8x64x16_S8x8x64x1x16_0_1_2_4
        (transpose S8x8x64x16 [0, 1, 3, 2] (shapeCast S8x8x16x64 a shapeCasts_S64x16x64_S8x8x16x64) transposes_S8x8x16x64_S8x8x64x16_0_1_3_2)))
    (broadcastInDim S8x8x64x8x16 ![0, 1, 2, 3, 4] bcast_S1x8x1x8x1_S8x8x64x8x16_0_1_2_3_4
      (broadcastInDim S1x8x1x8x1 ![1, 3] bcast_S8x8_S1x8x1x8x1_1_3 eye))) shapeCasts_S8x8x64x8x16_S8x512x128) bitsLt_bf16_f32

/-- A factor's part, for sixteen rows. -/
def inL (a : FVec Ideal S64x64 .f32) : FVec Ideal S8x16x512 .f32 :=
  broadcastInDim S8x16x512 ![0, 1, 2] bcast_S8x1x512_S8x16x512_0_1_2 (shapeCast S8x1x512 a shapeCasts_S64x64_S8x1x512)

/-- The rows of a batch, step 128 s + i at row 16 i + s. -/
def inU (a : FVec Ideal S2x2048x1024 .f32) : FVec Ideal S4096x1024 .f32 :=
  shapeCast S4096x1024 (transpose S2x128x16x1024 [0, 2, 1, 3]
    (shapeCast S2x16x128x1024 (shapeCast S4096x1024 a shapeCasts_S2x2048x1024_S4096x1024) shapeCasts_S4096x1024_S2x16x128x1024)
    transposes_S2x16x128x1024_S2x128x16x1024_0_2_1_3) shapeCasts_S2x128x16x1024_S4096x1024

/-- and back. -/
def outU (a : FVec Ideal S4096x1024 .f32) : FVec Ideal S2x2048x1024 .f32 :=
  shapeCast S2x2048x1024 (shapeCast S4096x1024 (transpose S2x16x128x1024 [0, 2, 1, 3]
    (shapeCast S2x128x16x1024 a shapeCasts_S4096x1024_S2x128x16x1024)
    transposes_S2x128x16x1024_S2x16x128x1024_0_2_1_3) shapeCasts_S2x16x128x1024_S4096x1024) shapeCasts_S4096x1024_S2x2048x1024

/-- The factor's gradient, summed over batch rows and pieces. -/
def outL (a : FVec Ideal S2x8x16x512 .f32) : FVec Ideal S64x64 .f32 :=
  shapeCast S64x64 (Host.reduceAdd a (constant S_ .f32 0x00000000#32) reducesTo_S2x8x16x512_S8x512_d0_2 h_S_) shapeCasts_S8x512_S64x64

/-- The skip's gradient. -/
def outD (a : FVec Ideal S2x8x1x128 .f32) : FVec Ideal S1x1024 .f32 :=
  shapeCast S1x1024 (Host.reduceAdd a (constant S_ .f32 0x00000000#32) reducesTo_S2x8x1x128_S8x1x128_d0 h_S_) shapeCasts_S8x1x128_S1x1024

/-- The places of the diagonal blocks. -/
def place : Vec Ideal S8 .i32 :=
  select (cmpi .slt (iotaInDim S8 32 0) (broadcastInDim S8 ![] bcast_S_S8 (constantI S_ 32 0#32)))
    (addi (iotaInDim S8 32 0) (broadcastInDim S8 ![] bcast_S_S8 (constantI S_ 32 8#32))) (iotaInDim S8 32 0)
def places : Vec Ideal S8x2 .i32 :=
  concatenate S8x2 1 [⟨S8x1, broadcastInDim S8x1 ![0] bcast_S8_S8x1_0 place⟩, ⟨S8x1, broadcastInDim S8x1 ![0] bcast_S8_S8x1_0 place⟩] concatenates_S8x1_S8x1_S8x2_d1

/-- The diagonal blocks of a gradient of the input matrices, -/
def outB (a : FVec Ideal S2x8x128x512 .f32) : FVec Ideal S64x64x16 .f32 :=
  shapeCast S64x64x16 (transpose S8x8x64x16 [1, 0, 3, 2]
    (Host.gather gather_S8x8x16x8x64_S8x2_S8x8x16x64_123_13_n_n_13_1_8116164
      (shapeCast S8x8x16x8x64 (Host.reduceAdd a (constant S_ .f32 0x00000000#32) reducesTo_S2x8x128x512_S8x128x512_d0 h_S_) shapeCasts_S8x128x512_S8x8x16x8x64)
      places) transposes_S8x8x16x64_S8x8x64x16_1_0_3_2) shapeCasts_S8x8x64x16_S64x64x16

/-- and of the output matrices. -/
def outC (a : FVec Ideal S2x8x512x128 .f32) : FVec Ideal S64x16x64 .f32 :=
  shapeCast S64x16x64 (transpose S8x8x16x64 [1, 0, 3, 2]
    (Host.gather gather_S8x8x64x8x16_S8x2_S8x8x64x16_123_13_n_n_13_1_8164116
      (shapeCast S8x8x64x8x16 (Host.reduceAdd a (constant S_ .f32 0x00000000#32) reducesTo_S2x8x512x128_S8x512x128_d0 h_S_) shapeCasts_S8x512x128_S8x8x64x8x16)
      places) transposes_S8x8x64x16_S8x8x16x64_1_0_3_2) shapeCasts_S8x8x16x64_S64x16x64

end Pure

section Reads

variable (V : Valuation τ sig (Elt Ideal))

theorem pre0_read : after pre0 V (Proc.devRef .tc main_v14) = inB (V (Proc.devRef .tc main_arg4)) := by
  after_results
  rfl

theorem pre1_read : after pre1 V (Proc.devRef .tc main_v29) = inB (V (Proc.devRef .tc main_arg5)) := by
  after_results
  rfl

theorem pre2_read : after pre2 V (Proc.devRef .tc main_v44) = inC (V (Proc.devRef .tc main_arg6)) := by
  after_results
  rfl

theorem pre3_read : after pre3 V (Proc.devRef .tc main_v59) = inC (V (Proc.devRef .tc main_arg7)) := by
  after_results
  rfl

theorem pre4_read_main_v61 : after pre4 V (Proc.devRef .tc main_v61) = inL (V (Proc.devRef .tc main_arg2)) := by
  after_results
  rfl

theorem pre4_read_main_v63 : after pre4 V (Proc.devRef .tc main_v63) = inL (V (Proc.devRef .tc main_arg3)) := by
  after_results
  rfl

theorem pre5_read_main_v67 : after pre5 V (Proc.devRef .tc main_v67) = inU (V (Proc.devRef .tc main_arg0)) := by
  after_results
  rfl

theorem pre6_read_main_v71 : after pre6 V (Proc.devRef .tc main_v71) = inU (V (Proc.devRef .tc main_arg1)) := by
  after_results
  rfl

theorem post0_read : after post0 V (Proc.devRef .tc main_v74) = outL (V (Proc.devRef .tc main_v72_5)) := by
  after_results
  rfl

theorem post1_read : after post1 V (Proc.devRef .tc main_v76) = outL (V (Proc.devRef .tc main_v72_6)) := by
  after_results
  rfl

theorem post2_read : after post2 V (Proc.devRef .tc main_v95) = outB (V (Proc.devRef .tc main_v72_1)) := by
  after_results
  rfl

theorem post3_read : after post3 V (Proc.devRef .tc main_v114) = outB (V (Proc.devRef .tc main_v72_2)) := by
  after_results
  rfl

theorem post4_read : after post4 V (Proc.devRef .tc main_v133) = outC (V (Proc.devRef .tc main_v72_3)) := by
  after_results
  rfl

theorem post5_read : after post5 V (Proc.devRef .tc main_v152) = outC (V (Proc.devRef .tc main_v72_4)) := by
  after_results
  rfl

theorem post6_read : after post6 V (Proc.devRef .tc main_v154) = outD (V (Proc.devRef .tc main_v72_7)) := by
  after_results
  rfl

theorem post7_read : after post7 V (Proc.devRef .tc main_v158) = outU (V (Proc.devRef .tc main_v72_0)) := by
  after_results
  rfl

end Reads

end Cert.KernelIdeal.Around
end
-- ==== Proof.Scan.lean ====
/- The complex linear recurrence both programs compute, and the pairs of extended reals that stand for its numbers.

   `loc a x` is the recurrence h(k+1) = a h(k) + x(k) from h(0) = 0. Started in the middle of its sequence it differs from
   the whole by the power of `a` times the value there (`loc_add`); that is what lets the kernel run sixteen pieces of a
   sequence side by side and add a carried value to each afterwards. -/
module

public import Idealize.ShloMosaic.PureOps.Ideal
public import Mathlib.Data.Complex.BigOperators
public import Mathlib.Data.EReal.Operations
public import Mathlib.Algebra.BigOperators.Intervals
public import Mathlib.Tactic.Ring

@[expose] public section

noncomputable section

namespace Scan

open scoped BigOperators

/-! ## The recurrence -/

/-- The recurrence h(k+1) = a h(k) + x(k), from zero. -/
def loc (a : ℂ) (x : ℕ → ℂ) : ℕ → ℂ
  | 0 => 0
  | k + 1 => a * loc a x k + x k

@[simp] theorem loc_zero (a : ℂ) (x : ℕ → ℂ) : loc a x 0 = 0 := rfl
theorem loc_succ (a : ℂ) (x : ℕ → ℂ) (k : ℕ) : loc a x (k + 1) = a * loc a x k + x k := rfl

/-- The recurrence read from position `m` on: that of the shifted sequence, and the power of `a` times what stood at `m`. -/
theorem loc_add (a : ℂ) (x : ℕ → ℂ) (m k : ℕ) :
    loc a x (m + k) = loc a (fun j => x (m + j)) k + a ^ k * loc a x m := by
  induction k with
  | zero => simp
  | succ k ih => rw [← Nat.add_assoc, loc_succ, ih, loc_succ]; ring

/-- Only the first `k` terms matter. -/
theorem loc_congr (a : ℂ) {x y : ℕ → ℂ} (k : ℕ) (h : ∀ j < k, x j = y j) : loc a x k = loc a y k := by
  induction k with
  | zero => rfl
  | succ k ih => rw [loc_succ, loc_succ, ih (fun j hj => h j (by omega)), h k (by omega)]

/-! ## Pairs of extended reals -/

/-- The two extended reals are the parts of the complex number. -/
def Cx (re im : EReal) (z : ℂ) : Prop := re = ((z.re : ℝ) : EReal) ∧ im = ((z.im : ℝ) : EReal)

theorem Cx.mk (a b : ℝ) : Cx (a : EReal) (b : EReal) ⟨a, b⟩ := ⟨rfl, rfl⟩

theorem Cx.of_eq {a b : EReal} {z w : ℂ} (h : Cx a b z) (e : z = w) : Cx a b w := e ▸ h

theorem Cx.zero : Cx 0 0 0 := ⟨by simp, by simp⟩

theorem Cx.add {a b c d : EReal} {z w : ℂ} (h : Cx a b z) (k : Cx c d w) : Cx (a + c) (b + d) (z + w) := by
  obtain ⟨rfl, rfl⟩ := h; obtain ⟨rfl, rfl⟩ := k
  exact ⟨by rw [Complex.add_re, EReal.coe_add], by rw [Complex.add_im, EReal.coe_add]⟩

/-- The product of two pairs, in the order the kernel writes it. -/
theorem Cx.mul {a b c d : EReal} {z w : ℂ} (h : Cx a b z) (k : Cx c d w) :
    Cx (a * c - b * d) (a * d + b * c) (z * w) := by
  obtain ⟨rfl, rfl⟩ := h; obtain ⟨rfl, rfl⟩ := k
  exact ⟨by rw [Complex.mul_re, EReal.coe_sub, EReal.coe_mul, EReal.coe_mul],
    by rw [Complex.mul_im, EReal.coe_add, EReal.coe_mul, EReal.coe_mul]⟩

/-- The product with the conjugate of the first pair. -/
theorem Cx.conj_mul {a b c d : EReal} {z w : ℂ} (h : Cx a b z) (k : Cx c d w) :
    Cx (a * c + b * d) (a * d - b * c) (starRingEnd ℂ z * w) := by
  obtain ⟨rfl, rfl⟩ := h; obtain ⟨rfl, rfl⟩ := k
  refine ⟨?_, ?_⟩
  · rw [Complex.mul_re, Complex.conj_re, Complex.conj_im, neg_mul, sub_neg_eq_add, EReal.coe_add, EReal.coe_mul, EReal.coe_mul]
  · rw [Complex.mul_im, Complex.conj_re, Complex.conj_im, neg_mul, ← sub_eq_add_neg, EReal.coe_sub, EReal.coe_mul, EReal.coe_mul]

/-- A product with a conjugate, added part by part to what is there. -/
theorem Cx.add_conj_mul {a b c d e f : EReal} {z w v : ℂ} (k : Cx e f v) (h : Cx a b z) (l : Cx c d w) :
    Cx (e + a * c + b * d) (f + a * d - b * c) (v + starRingEnd ℂ z * w) := by
  have h' := k.add (h.conj_mul l)
  refine ⟨(add_assoc _ _ _).trans h'.1, ?_⟩
  rw [sub_eq_add_neg, add_assoc, ← sub_eq_add_neg]
  exact h'.2

/-- The conjugate, its imaginary part taken from zero. -/
theorem Cx.conj {a b : EReal} {z : ℂ} (h : Cx a b z) : Cx a (0 - b) (starRingEnd ℂ z) := by
  obtain ⟨rfl, rfl⟩ := h
  exact ⟨by rw [Complex.conj_re], by rw [Complex.conj_im, EReal.coe_neg, zero_sub]⟩

/-- A finite sum of real numbers, taken among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A finite sum of products of real numbers, taken among the extended reals. -/
theorem coe_sum_mul {ι : Type*} [Fintype ι] {f g : ι → EReal} (f' g' : ι → ℝ) (hf : ∀ i, f i = f' i) (hg : ∀ i, g i = g' i) :
    ∑ i, f i * g i = ((∑ i, f' i * g' i : ℝ) : EReal) := by
  rw [← coe_sum]
  exact Finset.sum_congr rfl fun i _ => by rw [hf, hg, EReal.coe_mul]

end Scan
end
-- ==== Proof.Lanes.lean ====
/- Blocks of numbers as pairs of arrays, and what a loop over the rows of two scratch arrays leaves in them.

   The kernel keeps a complex sequence of one block in two arrays of 2048 rows and 512 lanes, real parts in one, imaginary
   parts in the other. Row 16 i + s holds step i of piece s. Each loop of the kernel goes once over the 128 groups of
   sixteen rows, up or down, reads the group, changes a pair of carried arrays and writes the group back (`pass`). -/
module

public import proofs.«01_k».proof.Proof.Scan
public import proofs.«01_k».proof.KernelIdeal
public import Idealize.ShloMosaic.Lib.Pointwise
public import Idealize.ShloMosaic.Lib.Pipeline.FrameBody
public import Idealize.ShloMosaic.Lib.VecWindow

@[expose] public section

noncomputable section

namespace Cert.KernelIdeal.Lanes

open Idealize.ShloMosaic
open Scan

/-- Sixteen rows of 512 numbers each. -/
abbrev V := FVec Ideal S16x512 .f32

/-- The whole sequence of a block, one part of it. -/
abbrev W := FVec Ideal S2048x512 .f32

/-- The row of step `i` of piece `s`. -/
def row (i : ℕ) (hi : i < 128) (s : Fin 16) : Fin 2048 := ⟨16 * i + s.val, by have := s.isLt; omega⟩

/-- Two arrays of sixteen rows hold the parts of `z`. -/
def Pair (a b : V) (z : Fin 16 → Fin 512 → ℂ) : Prop := ∀ s w, Cx (a (ix2 s w)) (b (ix2 s w)) (z s w)

/-- Two whole arrays hold the parts of `z`. -/
def Holds (a b : W) (z : ℕ → Fin 16 → Fin 512 → ℂ) : Prop :=
  ∀ i (hi : i < 128) s w, Cx (a (ix2 (row i hi s) w)) (b (ix2 (row i hi s) w)) (z i s w)

theorem Pair.congr {a b : V} {z z' : Fin 16 → Fin 512 → ℂ} (h : Pair a b z) (e : ∀ s w, z s w = z' s w) : Pair a b z' :=
  fun s w => (h s w).of_eq (e s w)

theorem Holds.congr {a b : W} {z z' : ℕ → Fin 16 → Fin 512 → ℂ} (h : Holds a b z) (e : ∀ i < 128, ∀ s w, z i s w = z' i s w) :
    Holds a b z' := fun i hi s w => (h i hi s w).of_eq (e i hi s w)

/-- The rectangle of a group of sixteen rows. -/
abbrev grp (off : Fin 2 → ℕ) (inb : ∀ a, off a + (![16, 512] : Fin 2 → ℕ) a ≤ S2048x512.size a) : Rect S2048x512 :=
  Rect.unit (s := S2048x512) off ![16, 512] inb

section Rows

variable {sp : Space} (v : View sig .tc sp S2048x512 .f32)

/-- A group of sixteen rows, read. -/
theorem readAt_rows (f : v.ty.Contents (Elt Ideal)) {off : Fin 2 → ℕ} (inb : ∀ a, off a + (![16, 512] : Fin 2 → ℕ) a ≤ S2048x512.size a)
    (i : ℕ) (hi : i < 128) (e : off = ![16 * i, 0]) (s : Fin 16) (w : Fin 512) :
    v.readAt (Elt Ideal) (grp off inb).toLoadRect f (ix2 s w) = v.read (Elt Ideal) f (ix2 (row i hi s) w) := by
  subst e
  refine congrArg (v.read (Elt Ideal) f) (funext fun a => Fin.ext ?_)
  match a with
  | ⟨0, _⟩ => show 16 * i + 1 * s.val = 16 * i + s.val; omega
  | ⟨1, _⟩ => show 0 + 1 * w.val = w.val; omega

/-- The last group written is what was written; -/
theorem read_rows_same (f : v.ty.Contents (Elt Ideal)) {off : Fin 2 → ℕ} (inb : ∀ a, off a + (![16, 512] : Fin 2 → ℕ) a ≤ S2048x512.size a)
    (i : ℕ) (hi : i < 128) (e : off = ![16 * i, 0]) (x : V) (L : List (View.Piece (Elt Ideal) S2048x512 .f32)) (s : Fin 16) (w : Fin 512) :
    v.read (Elt Ideal) (v.writes (Elt Ideal) f (⟨grp off inb, x⟩ :: L)) (ix2 (row i hi s) w) = x (ix2 s w) :=
  View.read_writes_cons_unit_of_mem v f inb x L _ (ix2 s w) e fun a => by
    match a with
    | ⟨0, _⟩ => rfl
    | ⟨1, _⟩ => show w.val = 0 + w.val; omega

/-- the other groups are as they were. -/
theorem read_rows_other (f : v.ty.Contents (Elt Ideal)) {off : Fin 2 → ℕ} (inb : ∀ a, off a + (![16, 512] : Fin 2 → ℕ) a ≤ S2048x512.size a)
    (j : ℕ) (e : off = ![16 * j, 0]) (x : V) (L : List (View.Piece (Elt Ideal) S2048x512 .f32))
    (i : ℕ) (hi : i < 128) (hij : i ≠ j) (s : Fin 16) (w : Fin 512) :
    v.read (Elt Ideal) (v.writes (Elt Ideal) f (⟨grp off inb, x⟩ :: L)) (ix2 (row i hi s) w)
      = v.read (Elt Ideal) (v.writes (Elt Ideal) f L) (ix2 (row i hi s) w) := by
  rw [View.read_writes_cons_unit v f inb x L _ e]
  refine dif_neg fun h => ?_
  have h0 : 16 * j ≤ 16 * i + s.val ∧ 16 * i + s.val < 16 * j + 16 := h 0
  have := s.isLt
  omega

end Rows

/-- What a loop over the groups of rows leaves. `P` is what the carried pair is before each trip, `z` what the arrays hold
    at the start and `z'` what they hold at the end; `p` is the order in which the groups are visited. -/
theorem pass {sp sp' : Space} (v : View sig .tc sp S2048x512 .f32) (u : View sig .tc sp' S2048x512 .f32)
    (G : v.ty.Contents (Elt Ideal)) (H : u.ty.Contents (Elt Ideal))
    (T : ℕ) (hT : T = 128) (off : Fin T → Fin 2 → ℕ) (inb : ∀ k a, off k a + (![16, 512] : Fin 2 → ℕ) a ≤ S2048x512.size a)
    (p : ℕ → ℕ) (hp : ∀ k < 128, p k < 128) (hinj : ∀ j < 128, ∀ k < 128, p j = p k → j = k)
    (hoff : ∀ k : Fin T, off k = ![16 * p k.val, 0])
    (S : ℕ → (V × V) × List (View.Piece (Elt Ideal) S2048x512 .f32) × List (View.Piece (Elt Ideal) S2048x512 .f32))
    (R₁ R₂ W₁ W₂ : V × V → V → V → V)
    (hS : ∀ k : Fin T, S (k.val + 1)
      = ((R₁ (S k.val).1 (v.readAt (Elt Ideal) (grp (off k) (inb k)).toLoadRect (v.writes (Elt Ideal) G (S k.val).2.1))
            (u.readAt (Elt Ideal) (grp (off k) (inb k)).toLoadRect (u.writes (Elt Ideal) H (S k.val).2.2)),
          R₂ (S k.val).1 (v.readAt (Elt Ideal) (grp (off k) (inb k)).toLoadRect (v.writes (Elt Ideal) G (S k.val).2.1))
            (u.readAt (Elt Ideal) (grp (off k) (inb k)).toLoadRect (u.writes (Elt Ideal) H (S k.val).2.2))),
        ⟨grp (off k) (inb k),
          W₁ (S k.val).1 (v.readAt (Elt Ideal) (grp (off k) (inb k)).toLoadRect (v.writes (Elt Ideal) G (S k.val).2.1))
            (u.readAt (Elt Ideal) (grp (off k) (inb k)).toLoadRect (u.writes (Elt Ideal) H (S k.val).2.2))⟩ :: (S k.val).2.1,
        ⟨grp (off k) (inb k),
          W₂ (S k.val).1 (v.readAt (Elt Ideal) (grp (off k) (inb k)).toLoadRect (v.writes (Elt Ideal) G (S k.val).2.1))
            (u.readAt (Elt Ideal) (grp (off k) (inb k)).toLoadRect (u.writes (Elt Ideal) H (S k.val).2.2))⟩ :: (S k.val).2.2))
    (h1 : (S 0).2.1 = []) (h2 : (S 0).2.2 = [])
    (P : ℕ → Fin 16 → Fin 512 → ℂ) (z z' : ℕ → Fin 16 → Fin 512 → ℂ)
    (h0 : Pair (S 0).1.1 (S 0).1.2 (P 0))
    (hz : Holds (v.read (Elt Ideal) G) (u.read (Elt Ideal) H) z)
    (hR : ∀ k < 128, ∀ (acc : V × V) (x y : V), Pair acc.1 acc.2 (P k) → Pair x y (z (p k)) →
      Pair (R₁ acc x y) (R₂ acc x y) (P (k + 1)) ∧ Pair (W₁ acc x y) (W₂ acc x y) (z' (p k))) :
    Pair (S T).1.1 (S T).1.2 (P 128)
      ∧ Holds (v.read (Elt Ideal) (v.writes (Elt Ideal) G (S T).2.1)) (u.read (Elt Ideal) (u.writes (Elt Ideal) H (S T).2.2)) z' := by
  subst hT
  have key : ∀ k ≤ 128, Pair (S k).1.1 (S k).1.2 (P k)
      ∧ (∀ i (hi : i < 128) s w, (∀ j < k, p j ≠ i) → Cx (v.read (Elt Ideal) (v.writes (Elt Ideal) G (S k).2.1) (ix2 (row i hi s) w))
          (u.read (Elt Ideal) (u.writes (Elt Ideal) H (S k).2.2) (ix2 (row i hi s) w)) (z i s w))
      ∧ (∀ i (hi : i < 128) s w, (∃ j < k, p j = i) → Cx (v.read (Elt Ideal) (v.writes (Elt Ideal) G (S k).2.1) (ix2 (row i hi s) w))
          (u.read (Elt Ideal) (u.writes (Elt Ideal) H (S k).2.2) (ix2 (row i hi s) w)) (z' i s w)) := by
    intro k
    induction k with
    | zero =>
      intro _
      refine ⟨h0, ?_, ?_⟩
      · intro i hi s w _
        rw [h1, h2]
        exact hz i hi s w
      · rintro i hi s w ⟨j, hj, _⟩
        exact absurd hj (Nat.not_lt_zero j)
    | succ k ih =>
      intro hk
      obtain ⟨ha, hb, hc⟩ := ih (by omega)
      have hk' : k < 128 := hk
      obtain ⟨hr, hw⟩ := hR k hk' (S k).1
        (v.readAt (Elt Ideal) (grp (off ⟨k, hk'⟩) (inb ⟨k, hk'⟩)).toLoadRect (v.writes (Elt Ideal) G (S k).2.1))
        (u.readAt (Elt Ideal) (grp (off ⟨k, hk'⟩) (inb ⟨k, hk'⟩)).toLoadRect (u.writes (Elt Ideal) H (S k).2.2)) ha (fun s w => by
        rw [readAt_rows v _ (inb ⟨k, hk'⟩) (p k) (hp k hk') (hoff ⟨k, hk'⟩) s w,
          readAt_rows u _ (inb ⟨k, hk'⟩) (p k) (hp k hk') (hoff ⟨k, hk'⟩) s w]
        exact hb (p k) (hp k hk') s w fun j hj e => by
          have := hinj j (by omega) k hk' e
          omega)
      have e := hS ⟨k, hk'⟩
      rw [e]
      refine ⟨hr, ?_, ?_⟩
      · intro i hi s w hne
        have hne' : i ≠ p k := fun h => hne k (by omega) h.symm
        rw [read_rows_other v _ _ (p k) (hoff ⟨k, hk'⟩) _ _ i hi hne' s w, read_rows_other u _ _ (p k) (hoff ⟨k, hk'⟩) _ _ i hi hne' s w]
        exact hb i hi s w fun j hj => hne j (by omega)
      · rintro i hi s w ⟨j, hj, hji⟩
        by_cases hik : i = p k
        · subst hik
          rw [read_rows_same v _ _ (p k) hi (hoff ⟨k, hk'⟩), read_rows_same u _ _ (p k) hi (hoff ⟨k, hk'⟩)]
          exact hw s w
        · rw [read_rows_other v _ _ (p k) (hoff ⟨k, hk'⟩) _ _ i hi hik s w, read_rows_other u _ _ (p k) (hoff ⟨k, hk'⟩) _ _ i hi hik s w]
          refine hc i hi s w ⟨j, ?_, hji⟩
          rcases Nat.lt_succ_iff_lt_or_eq.mp hj with h | h
          · exact h
          · subst h; exact absurd hji.symm hik
  obtain ⟨ha, _, hc⟩ := key 128 le_rfl
  refine ⟨ha, fun i hi s w => hc i hi s w ?_⟩
  have hsurj : Function.Surjective (fun k : Fin 128 => (⟨p k.val, hp k.val k.isLt⟩ : Fin 128)) :=
    Finite.surjective_of_injective fun j k h => Fin.ext (hinj j.val j.isLt k.val k.isLt (by simpa using h))
  obtain ⟨j, hj⟩ := hsurj ⟨i, hi⟩
  exact ⟨j.val, j.isLt, congrArg Fin.val hj⟩

/-! ## Arithmetic on pairs -/

theorem Pair.add {a b c d : V} {z w : Fin 16 → Fin 512 → ℂ} (h : Pair a b z) (k : Pair c d w) :
    Pair (addf a c) (addf b d) (fun s l => z s l + w s l) := fun s l => (h s l).add (k s l)

theorem Pair.mul {a b c d : V} {z w : Fin 16 → Fin 512 → ℂ} (h : Pair a b z) (k : Pair c d w) :
    Pair (subf (mulf a c) (mulf b d)) (addf (mulf a d) (mulf b c)) (fun s l => z s l * w s l) := fun s l => (h s l).mul (k s l)

theorem Pair.conj_mul {a b c d : V} {z w : Fin 16 → Fin 512 → ℂ} (h : Pair a b z) (k : Pair c d w) :
    Pair (addf (mulf a c) (mulf b d)) (subf (mulf a d) (mulf b c)) (fun s l => starRingEnd ℂ (z s l) * w s l) :=
  fun s l => (h s l).conj_mul (k s l)

end Cert.KernelIdeal.Lanes
end
-- ==== Proof.Carry.lean ====
/- The carry from piece to piece.

   The sequence of a block is cut into sixteen pieces of 128 steps. Each piece is summed from zero first; the value with which
   a piece begins is then found from the piece before it, `c (s + 1) = λ ^ 128 * c s + (last value of piece s)`, in fifteen
   steps, each of which rotates the sixteen rows by one and keeps the one row that is new. The adjoint runs the other way. -/
module

public import proofs.«01_k».proof.Proof.Lanes
public import proofs.«01_k».proof.Proof.Gen.KernelIdeal.Skeleton
public import Idealize.ShloMosaic.Lib.Pointwise

@[expose] public section

set_option maxRecDepth 16384

noncomputable section

namespace Cert.KernelIdeal.Lanes

open Idealize.ShloMosaic
open Cert.KernelIdeal.Gen
open Scan

/-- What a lane's sixteen pieces hold, laid end to end. -/
def seq (x : ℕ → Fin 16 → Fin 512 → ℂ) (w : Fin 512) (t : ℕ) : ℂ := x (t % 128) (Fin.ofNat 16 (t / 128)) w

/-- The last value of each piece, summed from zero. -/
def fz (a : Fin 512 → ℂ) (x : ℕ → Fin 16 → Fin 512 → ℂ) (s : Fin 16) (w : Fin 512) : ℂ := loc (a w) (fun j => x j s w) 128

/-- The values with which the pieces begin, as far as the first `n` steps have found them. -/
def fc (a : Fin 512 → ℂ) (x : ℕ → Fin 16 → Fin 512 → ℂ) (n : ℕ) (s : Fin 16) (w : Fin 512) : ℂ :=
  if s.val ≤ n then loc (a w) (seq x w) (128 * s.val) else 0

theorem seq_at (x : ℕ → Fin 16 → Fin 512 → ℂ) (w : Fin 512) (s : Fin 16) (j : ℕ) (hj : j < 128) :
    seq x w (128 * s.val + j) = x j s w := by
  unfold seq
  have e1 : (128 * s.val + j) % 128 = j := by omega
  have e2 : (128 * s.val + j) / 128 = s.val := by omega
  rw [e1, e2]
  congr 1
  exact Fin.ext (Nat.mod_eq_of_lt s.isLt)

/-- Within a piece: the piece's own sum, and the power of the factor times the value at its start. -/
theorem loc_piece (a : Fin 512 → ℂ) (x : ℕ → Fin 16 → Fin 512 → ℂ) (s : Fin 16) (w : Fin 512) (k : ℕ) (hk : k ≤ 128) :
    loc (a w) (seq x w) (128 * s.val + k)
      = loc (a w) (fun j => x j s w) k + a w ^ k * loc (a w) (seq x w) (128 * s.val) := by
  rw [loc_add]
  congr 1
  exact loc_congr _ _ fun j hj => seq_at x w s j (by omega)

theorem fc_zero (a : Fin 512 → ℂ) (x : ℕ → Fin 16 → Fin 512 → ℂ) (s : Fin 16) (w : Fin 512) : fc a x 0 s w = 0 := by
  unfold fc
  split
  · rename_i h
    have : s.val = 0 := by omega
    rw [this]; rfl
  · rfl

theorem fc_succ (a : Fin 512 → ℂ) (x : ℕ → Fin 16 → Fin 512 → ℂ) (n : ℕ) (hn : n < 15) (s : Fin 16) (w : Fin 512) :
    fc a x (n + 1) s w
      = if s.val = n + 1 then a w ^ 128 * fc a x n (s - 1) w + fz a x (s - 1) w else fc a x n s w := by
  by_cases h : s.val = n + 1
  · have hs : (s - 1).val = n := by
      show (16 - 1 + s.val) % 16 = n
      omega
    have e := loc_piece a x (s - 1) w 128 le_rfl
    rw [if_pos h]
    unfold fc fz
    rw [if_pos (by omega), if_pos (by omega), h, add_comm (a w ^ 128 * _), ← e, hs]
    congr 1
  · rw [if_neg h]
    unfold fc
    by_cases h' : s.val ≤ n
    · rw [if_pos h', if_pos (by omega)]
    · rw [if_neg h', if_neg (by omega)]

theorem fc_last (a : Fin 512 → ℂ) (x : ℕ → Fin 16 → Fin 512 → ℂ) (s : Fin 16) (w : Fin 512) :
    fc a x 15 s w = loc (a w) (seq x w) (128 * s.val) := if_pos (by have := s.isLt; omega)

/-! ## The rows rotated, and one row taken -/

theorem Pair.rot1 {a b : V} {z : Fin 16 → Fin 512 → ℂ} (h : Pair a b z) (hr : S16x512.Rotates 0 none) :
    Pair (dynamicRotate 0 1#32 none a hr) (dynamicRotate 0 1#32 none b hr) (fun s w => z (s - 1) w) := by
  intro s w
  have e : ∀ x : V, dynamicRotate 0 1#32 none x hr (ix2 s w) = x (ix2 (s - 1) w) := fun x => by
    rw [Pointwise.dynamicRotate_apply]
    refine congrArg x (funext fun b => Fin.ext ?_)
    match b with
    | ⟨0, _⟩ =>
      show (s.val + 16 - (1 + 0) % 16) % 16 = (16 - 1 + s.val) % 16
      omega
    | ⟨1, _⟩ => rfl
  rw [e, e]
  exact h (s - 1) w

theorem Pair.rot15 {a b : V} {z : Fin 16 → Fin 512 → ℂ} (h : Pair a b z) (hr : S16x512.Rotates 0 none) :
    Pair (dynamicRotate 0 15#32 none a hr) (dynamicRotate 0 15#32 none b hr) (fun s w => z (s + 1) w) := by
  intro s w
  have e : ∀ x : V, dynamicRotate 0 15#32 none x hr (ix2 s w) = x (ix2 (s + 1) w) := fun x => by
    rw [Pointwise.dynamicRotate_apply]
    refine congrArg x (funext fun b => Fin.ext ?_)
    match b with
    | ⟨0, _⟩ =>
      show (s.val + 16 - (15 + 0) % 16) % 16 = (s.val + 1) % 16
      omega
    | ⟨1, _⟩ => rfl
  rw [e, e]
  exact h (s + 1) w

/-- The rows' numbers. -/
abbrev rows : IVec S16x512 32 := iota .tc S16x512 32 [0] iota_S16x512_d0_w32

theorem Pair.take {a b c d : V} {z y : Fin 16 → Fin 512 → ℂ} (h : Pair a b z) (k : Pair c d y) (n : ℕ) (hn : n < 16) :
    Pair (select (cmpi .eq rows (broadcast S16x512 (BitVec.ofNat 32 n))) a c)
      (select (cmpi .eq rows (broadcast S16x512 (BitVec.ofNat 32 n))) b d)
      (fun s w => if s.val = n then z s w else y s w) := by
  intro s w
  have e : ∀ x y : V, select (cmpi .eq rows (broadcast S16x512 (BitVec.ofNat 32 n))) x y (ix2 s w)
      = if s.val = n then x (ix2 s w) else y (ix2 s w) := fun x y => by
    have hc : ∀ (n s : Fin 16), IntOp.cmpi .eq (BitVec.ofNat 32 s.val) (BitVec.ofNat 32 n.val) = if s.val = n.val then 1#1 else 0#1 := by
      decide +kernel
    pointwise
    rw [hc ⟨n, hn⟩ s]
    by_cases h : s.val = n
    · rw [if_pos h, if_pos h]; rfl
    · rw [if_neg h, if_neg h]; rfl
  rw [e, e]
  show Cx _ _ (if s.val = n then z s w else y s w)
  by_cases hs : s.val = n
  · rw [if_pos hs, if_pos hs, if_pos hs]; exact h s w
  · rw [if_neg hs, if_neg hs, if_neg hs]; exact k s w

/-! ## One step of the carry -/

variable {a : Fin 512 → ℂ} {x : ℕ → Fin 16 → Fin 512 → ℂ}

/-- What is found in the next row: the factor times the value so far, plus the piece's last value. -/
def fn (a : Fin 512 → ℂ) (x : ℕ → Fin 16 → Fin 512 → ℂ) (n : ℕ) (s : Fin 16) (w : Fin 512) : ℂ :=
  a w ^ 128 * fc a x n s w + fz a x s w

theorem step_mul {p q c d e f : V} {n : ℕ} (hp : Pair p q (fun _ w => a w ^ 128)) (hc : Pair c d (fc a x n)) (hz : Pair e f (fz a x)) :
    Pair (addf (subf (mulf p c) (mulf q d)) e) (addf (addf (mulf p d) (mulf q c)) f) (fn a x n) :=
  (hp.mul hc).add hz

/-- Downwards: the rows rotated by one, row `n + 1` taken. -/
theorem step_fwd {p q c d e f : V} (n : ℕ) (hn : n < 15) (hp : Pair p q (fun _ w => a w ^ 128)) (hc : Pair c d (fc a x n)) (hz : Pair e f (fz a x)) :
    Pair (select (cmpi .eq rows (broadcast S16x512 (BitVec.ofNat 32 (n + 1))))
        (dynamicRotate 0 1#32 none (addf (subf (mulf p c) (mulf q d)) e) rotates_S16x512_d0) c)
      (select (cmpi .eq rows (broadcast S16x512 (BitVec.ofNat 32 (n + 1))))
        (dynamicRotate 0 1#32 none (addf (addf (mulf p d) (mulf q c)) f) rotates_S16x512_d0) d) (fc a x (n + 1)) :=
  (((step_mul hp hc hz).rot1 _).take hc (n + 1) (by omega)).congr fun s w => (fc_succ a x n hn s w).symm

/-- Upwards, piece `s` standing in row `15 - s`: what the rotated rows hold. -/
theorem step_rot {p q c d e f : V} (n : ℕ) (hp : Pair p q (fun _ w => a w ^ 128)) (hc : Pair c d (fun s w => fc a x n s.rev w))
    (hz : Pair e f (fun s w => fz a x s.rev w)) :
    Pair (dynamicRotate 0 15#32 none (addf (subf (mulf p c) (mulf q d)) e) rotates_S16x512_d0)
      (dynamicRotate 0 15#32 none (addf (addf (mulf p d) (mulf q c)) f) rotates_S16x512_d0) (fun s w => fn a x n (s + 1).rev w) :=
  ((hp.mul hc).add hz).rot15 _

/-- The row taken from them. -/
theorem step_rev {c d u v : V} (n : ℕ) (hn : n < 15) (hc : Pair c d (fun s w => fc a x n s.rev w))
    (hu : Pair u v (fun s w => fn a x n (s + 1).rev w)) :
    Pair (select (cmpi .eq rows (broadcast S16x512 (BitVec.ofNat 32 (14 - n)))) u c)
      (select (cmpi .eq rows (broadcast S16x512 (BitVec.ofNat 32 (14 - n)))) v d) (fun s w => fc a x (n + 1) s.rev w) :=
  (hu.take hc (14 - n) (by omega)).congr fun s w => by
    rw [fc_succ a x n hn s.rev w]
    have hs := s.isLt
    have e : s.rev.val = n + 1 ↔ s.val = 14 - n := by rw [Fin.val_rev]; omega
    by_cases h : s.val = 14 - n
    · rw [if_pos h, if_pos (e.mpr h)]
      have : (s + 1).rev = s.rev - 1 := by
        apply Fin.ext
        rw [Fin.val_rev, Fin.val_add]
        show 16 - ((s.val + 1) % 16 + 1) = (16 - 1 + (16 - (s.val + 1))) % 16
        omega
      rw [this]
      rfl
    · rw [if_neg h, if_neg (fun h' => h (e.mp h'))]

/-! ## The kernel's own terms -/

variable {v6 v8 : Vec Ideal S1x16x512 .f32}

theorem zeroPair : Pair (k0_pay11 (F := Ideal)) k0_pay11 (fun _ _ => 0) := fun s w => by
  have e : k0_pay11 (F := Ideal) (ix2 s w) = 0 := by pointwise [k0_pay11]
  rw [e]; exact Cx.zero

theorem zeroPair' : Pair (k0_pay73 (F := Ideal)) k0_pay73 (fun _ _ => 0) := fun s w => by
  have e : k0_pay73 (F := Ideal) (ix2 s w) = 0 := by pointwise [k0_pay73]
  rw [e]; exact Cx.zero

/-- The factor to the power 128, by squaring. -/
theorem power {a : Fin 512 → ℂ} (h : Pair (k0_pay7 v6) (k0_pay8 v8) (fun _ w => a w)) :
    Pair (k0_pay29 (k0_pay7 v6) (k0_pay8 v8) (k0_pay16 v6 v8) (k0_pay17 v6 v8))
      (k0_pay30 (k0_pay7 v6) (k0_pay8 v8) (k0_pay16 v6 v8) (k0_pay17 v6 v8)) (fun _ w => a w ^ 128) := by
  have h2 : Pair (k0_pay16 v6 v8) (k0_pay18 (k0_pay7 v6) (k0_pay8 v8) (k0_pay17 v6 v8)) _ := h.mul h
  have h4 : Pair (k0_pay19 (k0_pay7 v6) (k0_pay8 v8) (k0_pay16 v6 v8) (k0_pay17 v6 v8))
    (k0_pay20 (k0_pay7 v6) (k0_pay8 v8) (k0_pay16 v6 v8) (k0_pay17 v6 v8)) _ := h2.mul h2
  have h8 : Pair (k0_pay21 (k0_pay7 v6) (k0_pay8 v8) (k0_pay16 v6 v8) (k0_pay17 v6 v8))
    (k0_pay22 (k0_pay7 v6) (k0_pay8 v8) (k0_pay16 v6 v8) (k0_pay17 v6 v8)) _ := h4.mul h4
  have h16 : Pair (k0_pay23 (k0_pay7 v6) (k0_pay8 v8) (k0_pay16 v6 v8) (k0_pay17 v6 v8))
    (k0_pay24 (k0_pay7 v6) (k0_pay8 v8) (k0_pay16 v6 v8) (k0_pay17 v6 v8)) _ := h8.mul h8
  have h32 : Pair (k0_pay25 (k0_pay7 v6) (k0_pay8 v8) (k0_pay16 v6 v8) (k0_pay17 v6 v8))
    (k0_pay26 (k0_pay7 v6) (k0_pay8 v8) (k0_pay16 v6 v8) (k0_pay17 v6 v8)) _ := h16.mul h16
  have h64 : Pair (k0_pay27 (k0_pay7 v6) (k0_pay8 v8) (k0_pay16 v6 v8) (k0_pay17 v6 v8))
    (k0_pay28 (k0_pay7 v6) (k0_pay8 v8) (k0_pay16 v6 v8) (k0_pay17 v6 v8)) _ := h32.mul h32
  have h128 : Pair (k0_pay29 (k0_pay7 v6) (k0_pay8 v8) (k0_pay16 v6 v8) (k0_pay17 v6 v8))
    (k0_pay30 (k0_pay7 v6) (k0_pay8 v8) (k0_pay16 v6 v8) (k0_pay17 v6 v8)) _ := h64.mul h64
  exact h128.congr fun s w => by ring

variable {l m : V}

/-- The conjugate factor, -/
theorem conjPair {l m : V} {a : Fin 512 → ℂ} (h : Pair l m (fun _ w => a w)) : Pair l (k0_pay72 m) (fun _ w => starRingEnd ℂ (a w)) := fun s w => by
  have e : k0_pay72 m (ix2 s w) = 0 - m (ix2 s w) := by pointwise [k0_pay72]
  rw [e]; exact (h s w).conj

/-- and its power. -/
theorem power' {b : Fin 512 → ℂ} (h : Pair l (k0_pay72 m) (fun _ w => b w)) :
    Pair (k0_pay92 (k0_pay88 l m) (k0_pay89 l m) (k0_pay90 l m)) (k0_pay93 (k0_pay88 l m) (k0_pay89 l m) (k0_pay90 l m))
      (fun _ w => b w ^ 128) := by
  have h2 : Pair (k0_pay78 l m) (k0_pay79 l m) _ := h.mul h
  have h4 : Pair (k0_pay80 l m) (k0_pay81 l m) _ := h2.mul h2
  have h8 : Pair (k0_pay82 l m) (k0_pay83 l m) _ := h4.mul h4
  have h16 : Pair (k0_pay84 l m) (k0_pay85 l m) _ := h8.mul h8
  have h32 : Pair (k0_pay86 l m) (k0_pay87 l m) _ := h16.mul h16
  have h64 : Pair (k0_pay88 l m) (k0_pay91 (k0_pay89 l m) (k0_pay90 l m)) _ := h32.mul h32
  have h128 : Pair (k0_pay92 (k0_pay88 l m) (k0_pay89 l m) (k0_pay90 l m)) (k0_pay93 (k0_pay88 l m) (k0_pay89 l m) (k0_pay90 l m)) _ := h64.mul h64
  exact h128.congr fun s w => by ring

section Chain

variable {a b : Fin 512 → ℂ} {x : ℕ → Fin 16 → Fin 512 → ℂ} {v7 v9 v27 v28 p q e f c d g : V}

theorem carry1 (hp : Pair (k0_pay29 v7 v9 v27 v28) (k0_pay30 v7 v9 v27 v28) (fun _ w => a w ^ 128)) (hz : Pair e f (fz a x)) :
    Pair (k0_pay31 v7 v9 k0_pay11 e v27 v28) (k0_pay32 v7 v9 k0_pay11 f v27 v28) (fc a x 1) :=
  step_fwd 0 (by omega) hp (zeroPair.congr fun s w => (fc_zero a x s w).symm) hz

theorem carry4 (hp : Pair p q (fun _ w => a w ^ 128)) (hz : Pair e f (fz a x)) (hc : Pair c d (fc a x 1)) :
    Pair (k0_pay38 e f p q rows c d (mulf p c)) (k0_pay39 e f p q rows c d (mulf p c)) (fc a x 4) := by
  have h1 : Pair (k0_pay34 e q rows c d (mulf p c)) (k0_pay35 f p q rows c d) (fc a x 2) := step_fwd 1 (by omega) hp hc hz
  have h2 : Pair (k0_pay36 e f p q rows c d (mulf p c)) (k0_pay37 e f p q rows c d (mulf p c)) (fc a x 3) := step_fwd 2 (by omega) hp h1 hz
  exact step_fwd 3 (by omega) hp h2 hz

theorem carry7 (hp : Pair p q (fun _ w => a w ^ 128)) (hz : Pair e f (fz a x)) (hc : Pair c d (fc a x 4)) :
    Pair (k0_pay45 e f p q rows c d (mulf p c)) (k0_pay46 e f p q rows c d (mulf p c)) (fc a x 7) := by
  have h1 : Pair (k0_pay41 e q rows c d (mulf p c)) (k0_pay42 f p q rows c d) (fc a x 5) := step_fwd 4 (by omega) hp hc hz
  have h2 : Pair (k0_pay43 e f p q rows c d (mulf p c)) (k0_pay44 e f p q rows c d (mulf p c)) (fc a x 6) := step_fwd 5 (by omega) hp h1 hz
  exact step_fwd 6 (by omega) hp h2 hz

theorem carry10 (hp : Pair p q (fun _ w => a w ^ 128)) (hz : Pair e f (fz a x)) (hc : Pair c d (fc a x 7)) :
    Pair (k0_pay52 e f p q rows c d (mulf p c)) (k0_pay53 e f p q rows c d (mulf p c)) (fc a x 10) := by
  have h1 : Pair (k0_pay48 e q rows c d (mulf p c)) (k0_pay49 f p q rows c d) (fc a x 8) := step_fwd 7 (by omega) hp hc hz
  have h2 : Pair (k0_pay50 e f p q rows c d (mulf p c)) (k0_pay51 e f p q rows c d (mulf p c)) (fc a x 9) := step_fwd 8 (by omega) hp h1 hz
  exact step_fwd 9 (by omega) hp h2 hz

theorem carry13 (hp : Pair p q (fun _ w => a w ^ 128)) (hz : Pair e f (fz a x)) (hc : Pair c d (fc a x 10)) :
    Pair (k0_pay59 e f p q rows c d (mulf p c)) (k0_pay60 e f p q rows c d (mulf p c)) (fc a x 13) := by
  have h1 : Pair (k0_pay55 e q rows c d (mulf p c)) (k0_pay56 f p q rows c d) (fc a x 11) := step_fwd 10 (by omega) hp hc hz
  have h2 : Pair (k0_pay57 e f p q rows c d (mulf p c)) (k0_pay58 e f p q rows c d (mulf p c)) (fc a x 12) := step_fwd 11 (by omega) hp h1 hz
  exact step_fwd 12 (by omega) hp h2 hz

theorem carry15 (hp : Pair p q (fun _ w => a w ^ 128)) (hz : Pair e f (fz a x)) (hc : Pair c d (fc a x 13)) :
    Pair (k0_pay64 e f p q rows c d (mulf p c)) (k0_pay65 e f p q rows c d (mulf p c)) (fc a x 15) := by
  have h1 : Pair (k0_pay62 e q rows c d (mulf p c)) (k0_pay63 f p q rows c d) (fc a x 14) := step_fwd 13 (by omega) hp hc hz
  exact step_fwd 14 (by omega) hp h1 hz

/-! The adjoint's. -/

theorem back2 {v361 v362 v363 : V} (hp : Pair (k0_pay92 v361 v362 v363) (k0_pay93 v361 v362 v363) (fun _ w => b w ^ 128))
    (hz : Pair e f (fun s w => fz b x s.rev w)) :
    Pair (k0_pay96 k0_pay73 e f v361 v362 v363) (k0_pay97 k0_pay73 e f v361 v362 v363) (fun s w => fc b x 2 s.rev w)
      ∧ Pair (k0_pay98 k0_pay73 e f v361 v362 v363) (k0_pay99 k0_pay73 e f v361 v362 v363) (fun s w => fn b x 2 (s + 1).rev w) := by
  have h0 : Pair (k0_pay73 (F := Ideal)) k0_pay73 (fun s w => fc b x 0 s.rev w) := zeroPair'.congr fun s w => (fc_zero b x s.rev w).symm
  have h1 : Pair (k0_pay94 k0_pay73 e v361 v362 v363) (k0_pay95 k0_pay73 f v361 v362 v363) (fun s w => fc b x 1 s.rev w) :=
    step_rev 0 (by omega) h0 (step_rot 0 hp h0 hz)
  have h2 : Pair (k0_pay96 k0_pay73 e f v361 v362 v363) (k0_pay97 k0_pay73 e f v361 v362 v363) (fun s w => fc b x 2 s.rev w) :=
    step_rev 1 (by omega) h1 (step_rot 1 hp h1 hz)
  exact ⟨h2, step_rot 2 hp h2 hz⟩

theorem back5 {u v : V} (hp : Pair p q (fun _ w => b w ^ 128)) (hz : Pair e f (fun s w => fz b x s.rev w))
    (hc : Pair c d (fun s w => fc b x 2 s.rev w)) (hu : Pair u v (fun s w => fn b x 2 (s + 1).rev w)) :
    Pair (k0_pay104 e f p q rows c d u v) (k0_pay105 e f p q rows c d u v) (fun s w => fc b x 5 s.rev w)
      ∧ Pair (k0_pay106 e f p q rows c d u v) (k0_pay107 e f p q rows c d u v) (fun s w => fn b x 5 (s + 1).rev w) := by
  have h1 : Pair (k0_pay100 rows c u) (k0_pay101 rows d v) (fun s w => fc b x 3 s.rev w) := step_rev 2 (by omega) hc hu
  have h2 : Pair (k0_pay102 e p q rows c d u v) (k0_pay103 f p q rows c d u v) (fun s w => fc b x 4 s.rev w) :=
    step_rev 3 (by omega) h1 (step_rot 3 hp h1 hz)
  have h3 : Pair (k0_pay104 e f p q rows c d u v) (k0_pay105 e f p q rows c d u v) (fun s w => fc b x 5 s.rev w) :=
    step_rev 4 (by omega) h2 (step_rot 4 hp h2 hz)
  exact ⟨h3, step_rot 5 hp h3 hz⟩

theorem back8 {u v : V} (hp : Pair p q (fun _ w => b w ^ 128)) (hz : Pair e f (fun s w => fz b x s.rev w))
    (hc : Pair c d (fun s w => fc b x 5 s.rev w)) (hu : Pair u v (fun s w => fn b x 5 (s + 1).rev w)) :
    Pair (k0_pay112 e f p q rows c d u v) (k0_pay113 e f p q rows c d u v) (fun s w => fc b x 8 s.rev w)
      ∧ Pair (k0_pay114 e f p q rows c d u v) (k0_pay115 e f p q rows c d u v) (fun s w => fn b x 8 (s + 1).rev w) := by
  have h1 : Pair (k0_pay108 rows c u) (k0_pay109 rows d v) (fun s w => fc b x 6 s.rev w) := step_rev 5 (by omega) hc hu
  have h2 : Pair (k0_pay110 e p q rows c d u v) (k0_pay111 f p q rows c d u v) (fun s w => fc b x 7 s.rev w) :=
    step_rev 6 (by omega) h1 (step_rot 6 hp h1 hz)
  have h3 : Pair (k0_pay112 e f p q rows c d u v) (k0_pay113 e f p q rows c d u v) (fun s w => fc b x 8 s.rev w) :=
    step_rev 7 (by omega) h2 (step_rot 7 hp h2 hz)
  exact ⟨h3, step_rot 8 hp h3 hz⟩

theorem back11 {u v : V} (hp : Pair p q (fun _ w => b w ^ 128)) (hz : Pair e f (fun s w => fz b x s.rev w))
    (hc : Pair c d (fun s w => fc b x 8 s.rev w)) (hu : Pair u v (fun s w => fn b x 8 (s + 1).rev w)) :
    Pair (k0_pay120 e f p q rows c d u v) (k0_pay121 e f p q rows c d u v) (fun s w => fc b x 11 s.rev w)
      ∧ Pair (k0_pay122 e f p q rows c d u v) (k0_pay123 e f p q rows c d u v) (fun s w => fn b x 11 (s + 1).rev w) := by
  have h1 : Pair (k0_pay116 rows c u) (k0_pay117 rows d v) (fun s w => fc b x 9 s.rev w) := step_rev 8 (by omega) hc hu
  have h2 : Pair (k0_pay118 e p q rows c d u v) (k0_pay119 f p q rows c d u v) (fun s w => fc b x 10 s.rev w) :=
    step_rev 9 (by omega) h1 (step_rot 9 hp h1 hz)
  have h3 : Pair (k0_pay120 e f p q rows c d u v) (k0_pay121 e f p q rows c d u v) (fun s w => fc b x 11 s.rev w) :=
    step_rev 10 (by omega) h2 (step_rot 10 hp h2 hz)
  exact ⟨h3, step_rot 11 hp h3 hz⟩

theorem back14 {u v : V} (hp : Pair p q (fun _ w => b w ^ 128)) (hz : Pair e f (fun s w => fz b x s.rev w))
    (hc : Pair c d (fun s w => fc b x 11 s.rev w)) (hu : Pair u v (fun s w => fn b x 11 (s + 1).rev w)) :
    Pair (k0_pay128 e f p q rows c d u v) (k0_pay129 e f p q rows c d u v) (fun s w => fc b x 14 s.rev w)
      ∧ Pair (k0_pay130 e f p q rows c d u v) (k0_pay131 e f p q rows c d u v) (fun s w => fn b x 14 (s + 1).rev w) := by
  have h1 : Pair (k0_pay124 rows c u) (k0_pay125 rows d v) (fun s w => fc b x 12 s.rev w) := step_rev 11 (by omega) hc hu
  have h2 : Pair (k0_pay126 e p q rows c d u v) (k0_pay127 f p q rows c d u v) (fun s w => fc b x 13 s.rev w) :=
    step_rev 12 (by omega) h1 (step_rot 12 hp h1 hz)
  have h3 : Pair (k0_pay128 e f p q rows c d u v) (k0_pay129 e f p q rows c d u v) (fun s w => fc b x 14 s.rev w) :=
    step_rev 13 (by omega) h2 (step_rot 13 hp h2 hz)
  exact ⟨h3, step_rot 14 hp h3 hz⟩

theorem back15 {u v : V} (hc : Pair c d (fun s w => fc b x 14 s.rev w)) (hu : Pair u v (fun s w => fn b x 14 (s + 1).rev w)) :
    Pair (k0_pay132 rows c u) (k0_pay133 rows d v) (fun s w => fc b x 15 s.rev w) := step_rev 14 (by omega) hc hu

end Chain

end Cert.KernelIdeal.Lanes
end
-- ==== Proof.Passes.lean ====
/- What each loop of the kernel leaves.

   The first loop sums each piece of the forward sequence from zero, the second adds to every step of a piece the power of the
   factor times the value at the piece's start. The third and fourth do the same for the adjoint, from the last step to the
   first. The fifth only reads: it sums the products that make up the factor's own gradient. -/
module

public import proofs.«01_k».proof.Proof.Carry
public import proofs.«01_k».proof.Proof.Gen.KernelIdeal.Loops

@[expose] public section

set_option maxRecDepth 16384

noncomputable section

namespace Cert.KernelIdeal.Lanes

open Idealize.ShloMosaic
open Idealize.ShloMosaic.TcCoe Idealize.SL.Sem
open Cert.KernelIdeal Cert.KernelIdeal.Gen
open Scan

theorem off1_eq : ∀ k : Fin k0_t1_loop.trips, k0_off1 k = ![16 * k.val, 0] := by decide +kernel
theorem off2_eq : ∀ k : Fin k0_t2_loop.trips, k0_off2 k = ![16 * k.val, 0] := by decide +kernel
theorem off3_eq : ∀ k : Fin k0_t3_loop.trips, k0_off3 k = ![16 * (127 - k.val), 0] := by decide +kernel
theorem off4_eq : ∀ k : Fin k0_t4_loop.trips, k0_off4 k = ![16 * (127 - k.val), 0] := by decide +kernel
theorem off5_eq : ∀ k : Fin k0_t5_loop.trips, k0_off5 k = ![16 * k.val, 0] := by decide +kernel
theorem off6_eq : ∀ k : Fin k0_t5_loop.trips, k0_off6 k = ![16 * (k.val + 1), 0] := by decide +kernel

/-- A reshape to the same shape changes nothing. -/
theorem Pair.cast {a b : V} {z : Fin 16 → Fin 512 → ℂ} (h : Pair a b z) (e : S16x512.ShapeCasts S16x512) :
    Pair (shapeCast S16x512 a e) (shapeCast S16x512 b e) z := by rw [shapeCast_id, shapeCast_id]; exact h

variable (𝒱 : Variants) (c : Dev nD) (bd : Option 𝒱.V) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S1x128x512 .bf16) (harg4 : arg4.IsWhole)
  (arg5 : Memref sig .tc .vmem S1x128x512 .bf16) (harg5 : arg5.IsWhole)
  (arg6 : Memref sig .tc .vmem S1x512x128 .bf16) (harg6 : arg6.IsWhole)
  (arg7 : Memref sig .tc .vmem S1x512x128 .bf16) (harg7 : arg7.IsWhole)
  (arg8 : Memref sig .tc .vmem S1x16x512 .f32) (harg8 : arg8.IsWhole)
  (arg9 : Memref sig .tc .vmem S1x16x512 .f32) (harg9 : arg9.IsWhole)
  (arg10 : Memref sig .tc .vmem S1x128 .f32) (harg10 : arg10.IsWhole)
  (arg11 : Memref sig .tc .vmem S2048x128 .f32) (harg11 : arg11.IsWhole)
  (arg12 : Memref sig .tc .vmem S1x1x128x512 .f32) (harg12 : arg12.IsWhole)
  (arg13 : Memref sig .tc .vmem S1x1x128x512 .f32) (harg13 : arg13.IsWhole)
  (arg14 : Memref sig .tc .vmem S1x1x512x128 .f32) (harg14 : arg14.IsWhole)
  (arg15 : Memref sig .tc .vmem S1x1x512x128 .f32) (harg15 : arg15.IsWhole)
  (arg16 : Memref sig .tc .vmem S1x1x16x512 .f32) (harg16 : arg16.IsWhole)
  (arg17 : Memref sig .tc .vmem S1x1x16x512 .f32) (harg17 : arg17.IsWhole)
  (arg18 : Memref sig .tc .vmem S1x1x1x128 .f32) (harg18 : arg18.IsWhole)
  (arg19 : Memref sig .tc .vmem S2048x512 .f32) (harg19 : arg19.IsWhole)
  (arg20 : Memref sig .tc .vmem S2048x512 .f32) (harg20 : arg20.IsWhole)
  (arg21 : Memref sig .tc .vmem S2048x512 .f32) (harg21 : arg21.IsWhole)
  (arg22 : Memref sig .tc .vmem S2048x512 .f32) (harg22 : arg22.IsWhole)

/-- The forward sums of each piece. -/
theorem loop1 (v6 v8 : Vec Ideal S1x16x512 .f32)
    (G : BufTy.Contents (Elt Ideal) arg19.view.ty) (H : BufTy.Contents (Elt Ideal) arg20.view.ty) (init : V × V) {a : Fin 512 → ℂ} {x : ℕ → Fin 16 → Fin 512 → ℂ}
    (ha : Pair (k0_pay7 v6) (k0_pay8 v8) (fun _ w => a w)) (h0 : Pair init.1 init.2 (fun _ _ => 0))
    (hx : Holds (arg19.view.read (Elt Ideal) G) (arg20.view.read (Elt Ideal) H) x) :
    Pair (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init k0_t1_loop.trips).1.1
        (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init k0_t1_loop.trips).1.2 (fz a x)
      ∧ Holds (arg19.view.read (Elt Ideal) (arg19.view.writes (Elt Ideal) G
            (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init k0_t1_loop.trips).2.1))
          (arg20.view.read (Elt Ideal) (arg20.view.writes (Elt Ideal) H
            (st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init k0_t1_loop.trips).2.2)) (fun i s w => loc (a w) (fun j => x j s w) (i + 1)) :=
  pass arg19.view arg20.view G H k0_t1_loop.trips (by decide +kernel) k0_off1 (fun k => k0_off1_inb k)
    (fun k => k) (fun _ h => h) (fun _ _ _ _ h => h)
    off1_eq (fun n => st_k0_t1 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init n)
    (fun acc x y => k0_pay12 v6 v8 acc.1 acc.2 x) (fun acc x y => k0_pay13 v6 v8 acc.1 acc.2 y)
    (fun acc x y => k0_pay14 v6 v8 acc.1 acc.2 x) (fun acc x y => k0_pay15 v6 v8 acc.1 acc.2 y)
    (fun k => by
      refine (st_k0_t1_succ (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v6 v8 G H init k).trans ?_
      unfold tripR_k0_t1 tripL_k0_t1 trip_k0_t1
      rfl)
    rfl rfl
    (fun k s w => loc (a w) (fun j => x j s w) k) x _ h0 hx
    (fun k hk acc u v hacc hu => by
      have h : Pair (k0_pay12 v6 v8 acc.1 acc.2 u) (k0_pay13 v6 v8 acc.1 acc.2 v) (fun s w => loc (a w) (fun j => x j s w) (k + 1)) :=
        (ha.mul hacc).add hu
      exact ⟨h, h.cast _⟩)

/-- The forward sequence itself. -/
theorem loop2 (v5 : FVec Ideal S2048x128 .bf16) (v7 v9 v24_0 v24_1 v63 v66 : V) (v67 : IVec S16x512 32) (v272 v275 v276 : V)
    (G : BufTy.Contents (Elt Ideal) arg19.view.ty) (H : BufTy.Contents (Elt Ideal) arg20.view.ty) (init : V × V) {a : Fin 512 → ℂ} {x : ℕ → Fin 16 → Fin 512 → ℂ} {z : Fin 16 → Fin 512 → ℂ}
    (ha : Pair v7 v9 (fun _ w => a w)) (h0 : Pair init.1 init.2 (fun _ w => a w))
    (hc : Pair (k0_pay64 v24_0 v24_1 v63 v66 v67 v272 v275 v276) (k0_pay65 v24_0 v24_1 v63 v66 v67 v272 v275 v276) z)
    (hx : Holds (arg19.view.read (Elt Ideal) G) (arg20.view.read (Elt Ideal) H) x) :
    Pair (st_k0_t2 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init k0_t2_loop.trips).1.1
        (st_k0_t2 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init k0_t2_loop.trips).1.2 (fun _ w => a w ^ 129)
      ∧ Holds (arg19.view.read (Elt Ideal) (arg19.view.writes (Elt Ideal) G
            (st_k0_t2 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init k0_t2_loop.trips).2.1))
          (arg20.view.read (Elt Ideal) (arg20.view.writes (Elt Ideal) H
            (st_k0_t2 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init k0_t2_loop.trips).2.2)) (fun i s w => x i s w + a w ^ (i + 1) * z s w) :=
  pass arg19.view arg20.view G H k0_t2_loop.trips (by decide +kernel) k0_off2 (fun k => k0_off2_inb k)
    (fun k => k) (fun _ h => h) (fun _ _ _ _ h => h)
    off2_eq (fun n => st_k0_t2 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init n)
    (fun acc x y => k0_pay68 v7 v9 acc.1 acc.2) (fun acc x y => k0_pay69 v7 v9 acc.1 acc.2)
    (fun acc x y => k0_pay66 v24_0 v24_1 v63 v66 v67 v272 v275 v276 acc.1 acc.2 x) (fun acc x y => k0_pay67 v24_0 v24_1 v63 v66 v67 v272 v275 v276 acc.1 acc.2 y)
    (fun k => by
      refine (st_k0_t2_succ (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 v24_0 v24_1 v63 v66 v67 v272 v275 v276 G H init k).trans ?_
      unfold tripR_k0_t2 tripL_k0_t2 trip_k0_t2
      rfl)
    rfl rfl
    (fun k s w => a w ^ (k + 1)) x _ (h0.congr fun s w => (pow_one _).symm) hx
    (fun k hk acc u v hacc hu => by
      have h : Pair (k0_pay68 v7 v9 acc.1 acc.2) (k0_pay69 v7 v9 acc.1 acc.2) (fun s w => a w ^ (k + 1 + 1)) :=
        (ha.mul hacc).congr fun s w => (pow_succ' _ _).symm
      exact ⟨h, (hu.add (hacc.mul hc)).cast _⟩)

/-- The adjoint sums of each piece. -/
theorem loop3 (v5 : FVec Ideal S2048x128 .bf16) (v7 v9 : V)
    (G : BufTy.Contents (Elt Ideal) arg21.view.ty) (H : BufTy.Contents (Elt Ideal) arg22.view.ty) (init : V × V) {b : Fin 512 → ℂ} {y : ℕ → Fin 16 → Fin 512 → ℂ}
    (hb : Pair v7 (k0_pay72 v9) (fun _ w => b w)) (h0 : Pair init.1 init.2 (fun _ _ => 0))
    (hy : Holds (arg21.view.read (Elt Ideal) G) (arg22.view.read (Elt Ideal) H) y) :
    Pair (st_k0_t3 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init k0_t3_loop.trips).1.1
        (st_k0_t3 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init k0_t3_loop.trips).1.2 (fun s w => loc (b w) (fun j => y (127 - j) s w) 128)
      ∧ Holds (arg21.view.read (Elt Ideal) (arg21.view.writes (Elt Ideal) G
            (st_k0_t3 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init k0_t3_loop.trips).2.1))
          (arg22.view.read (Elt Ideal) (arg22.view.writes (Elt Ideal) H
            (st_k0_t3 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init k0_t3_loop.trips).2.2)) (fun i s w => loc (b w) (fun j => y (127 - j) s w) (128 - i)) :=
  pass arg21.view arg22.view G H k0_t3_loop.trips (by decide +kernel) k0_off3 (fun k => k0_off3_inb k)
    (fun k => 127 - k) (fun _ _ => by omega) (fun _ _ _ _ h => by omega)
    off3_eq (fun n => st_k0_t3 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init n)
    (fun acc x y => k0_pay74 v7 v9 acc.1 acc.2 x) (fun acc x y => k0_pay75 v7 v9 acc.1 acc.2 y)
    (fun acc x y => k0_pay76 v7 v9 acc.1 acc.2 x) (fun acc x y => k0_pay77 v7 v9 acc.1 acc.2 y)
    (fun k => by
      refine (st_k0_t3_succ (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v5 v7 v9 G H init k).trans ?_
      unfold tripR_k0_t3 tripL_k0_t3 trip_k0_t3
      rfl)
    rfl rfl
    (fun k s w => loc (b w) (fun j => y (127 - j) s w) k) y _ h0 hy
    (fun k hk acc u v hacc hu => by
      have h : Pair (k0_pay74 v7 v9 acc.1 acc.2 u) (k0_pay75 v7 v9 acc.1 acc.2 v) (fun s w => loc (b w) (fun j => y (127 - j) s w) (k + 1)) :=
        (hb.mul hacc).add hu
      refine ⟨h, (h.cast shapeCasts_S16x512_S16x512).congr fun s w => ?_⟩
      show _ = loc (b w) (fun j => y (127 - j) s w) (128 - (127 - k))
      rw [show 128 - (127 - k) = k + 1 by omega])

/-- The adjoint itself. -/
theorem loop4 (v7 v304 v307 v325 : V) (v371 : IVec S16x512 32) (v592 v595 v604 v605 : V)
    (G : BufTy.Contents (Elt Ideal) arg21.view.ty) (H : BufTy.Contents (Elt Ideal) arg22.view.ty) (init : V × V) {b : Fin 512 → ℂ} {y : ℕ → Fin 16 → Fin 512 → ℂ} {z : Fin 16 → Fin 512 → ℂ}
    (hb : Pair v7 v325 (fun _ w => b w)) (h0 : Pair init.1 init.2 (fun _ w => b w))
    (hc : Pair (k0_pay132 v371 v592 v604) (k0_pay133 v371 v595 v605) z)
    (hy : Holds (arg21.view.read (Elt Ideal) G) (arg22.view.read (Elt Ideal) H) y) :
    Pair (st_k0_t4 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init k0_t4_loop.trips).1.1
        (st_k0_t4 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init k0_t4_loop.trips).1.2 (fun _ w => b w ^ 129)
      ∧ Holds (arg21.view.read (Elt Ideal) (arg21.view.writes (Elt Ideal) G
            (st_k0_t4 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init k0_t4_loop.trips).2.1))
          (arg22.view.read (Elt Ideal) (arg22.view.writes (Elt Ideal) H
            (st_k0_t4 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init k0_t4_loop.trips).2.2)) (fun i s w => y i s w + b w ^ (128 - i) * z s w) :=
  pass arg21.view arg22.view G H k0_t4_loop.trips (by decide +kernel) k0_off4 (fun k => k0_off4_inb k)
    (fun k => 127 - k) (fun _ _ => by omega) (fun _ _ _ _ h => by omega)
    off4_eq (fun n => st_k0_t4 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init n)
    (fun acc x y => k0_pay136 v7 v325 acc.1 acc.2) (fun acc x y => k0_pay137 v7 v325 acc.1 acc.2)
    (fun acc x y => k0_pay134 v371 v592 v595 v604 v605 acc.1 acc.2 x) (fun acc x y => k0_pay135 v371 v592 v595 v604 v605 acc.1 acc.2 y)
    (fun k => by
      refine (st_k0_t4_succ (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 G H init k).trans ?_
      unfold tripR_k0_t4 tripL_k0_t4 trip_k0_t4
      rfl)
    rfl rfl
    (fun k s w => b w ^ (k + 1)) y _ (h0.congr fun s w => (pow_one _).symm) hy
    (fun k hk acc u v hacc hu => by
      have h : Pair (k0_pay136 v7 v325 acc.1 acc.2) (k0_pay137 v7 v325 acc.1 acc.2) (fun s w => b w ^ (k + 1 + 1)) :=
        (hb.mul hacc).congr fun s w => (pow_succ' _ _).symm
      have h' : Pair (k0_pay134 v371 v592 v595 v604 v605 acc.1 acc.2 u) (k0_pay135 v371 v592 v595 v604 v605 acc.1 acc.2 v) _ := (hu.add (hacc.mul hc)).cast shapeCasts_S16x512_S16x512
      refine ⟨h, h'.congr fun s w => ?_⟩
      show _ = y (127 - k) s w + b w ^ (128 - (127 - k)) * z s w
      rw [show 128 - (127 - k) = k + 1 by omega])

/-- The products of the factor's own gradient, summed over the steps. -/
theorem loop5 (v7 v304 v307 v325 : V) (v371 : IVec S16x512 32) (v592 v595 v604 v605 : V)
    (X : BufTy.Contents (Elt Ideal) arg19.view.ty) (Y : BufTy.Contents (Elt Ideal) arg20.view.ty)
    (Z : BufTy.Contents (Elt Ideal) arg21.view.ty) (T : BufTy.Contents (Elt Ideal) arg22.view.ty) (init : V × V)
    {h g : ℕ → Fin 16 → Fin 512 → ℂ} {z : Fin 16 → Fin 512 → ℂ} (h0 : Pair init.1 init.2 z)
    (hh : Holds (arg19.view.read (Elt Ideal) X) (arg20.view.read (Elt Ideal) Y) h)
    (hg : Holds (arg21.view.read (Elt Ideal) Z) (arg22.view.read (Elt Ideal) T) g) :
    Pair (st_k0_t5 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 X Y Z T init k0_t5_loop.trips).1 (st_k0_t5 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 X Y Z T init k0_t5_loop.trips).2
      (fun s w => z s w + ∑ k ∈ Finset.range 127, starRingEnd ℂ (h k s w) * g (k + 1) s w) := by
  have ht : k0_t5_loop.trips = 127 := by decide +kernel
  have key : ∀ n ≤ 127, Pair (st_k0_t5 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 X Y Z T init n).1 (st_k0_t5 (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 X Y Z T init n).2
      (fun s w => z s w + ∑ k ∈ Finset.range n, starRingEnd ℂ (h k s w) * g (k + 1) s w) := by
    intro n
    induction n with
    | zero => intro _; exact h0.congr fun s w => by simp
    | succ n ih =>
      intro hn
      have hk : n < k0_t5_loop.trips := by omega
      have e := st_k0_t5_succ (F := Ideal) 𝒱 c bd i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 v7 v304 v307 v325 v371 v592 v595 v604 v605 X Y Z T init ⟨n, hk⟩
      unfold tripR_k0_t5 trip_k0_t5 at e
      dsimp only at e
      rw [e]
      intro s w
      have h1 := hh n (by omega) s w
      have h2 := hg (n + 1) (by omega) s w
      rw [← readAt_rows arg19.view X (k0_off5_inb ⟨n, hk⟩) n (by omega) (off5_eq ⟨n, hk⟩) s w,
        ← readAt_rows arg20.view Y (k0_off5_inb ⟨n, hk⟩) n (by omega) (off5_eq ⟨n, hk⟩) s w] at h1
      rw [← readAt_rows arg21.view Z (k0_off6_inb ⟨n, hk⟩) (n + 1) (by omega) (off6_eq ⟨n, hk⟩) s w,
        ← readAt_rows arg22.view T (k0_off6_inb ⟨n, hk⟩) (n + 1) (by omega) (off6_eq ⟨n, hk⟩) s w] at h2
      refine Cx.of_eq (Cx.add_conj_mul (ih (by omega) s w) h1 h2) ?_
      dsimp only
      rw [Finset.sum_range_succ, add_assoc]
  have e := key 127 le_rfl
  rw [ht]
  exact e

end Cert.KernelIdeal.Lanes
end
-- ==== Proof.Block.lean ====
/- What the kernel's body leaves in its result blocks.

   One call of the body has one batch row and eight groups of the state: 2048 steps of 128 inputs, 512 lanes of complex state.
   Row 16 i + s of its arrays is step 128 s + i. -/
module

public import proofs.«01_k».proof.Proof.Passes
public import proofs.«01_k».proof.Proof.Gen.KernelIdeal.Frame.RunA

@[expose] public section

set_option maxRecDepth 16384

noncomputable section

namespace Cert.KernelIdeal.Lanes

open Idealize.ShloMosaic
open Idealize.ShloMosaic.TcCoe Idealize.SL.Sem
open Cert.KernelIdeal Cert.KernelIdeal.Gen
open Scan

/-- The numbers a call of the body works on. -/
structure Blk where
  U : Fin 2048 → Fin 128 → ℝ
  DY : Fin 2048 → Fin 128 → ℝ
  BR : Fin 128 → Fin 512 → ℝ
  BI : Fin 128 → Fin 512 → ℝ
  CR : Fin 512 → Fin 128 → ℝ
  CI : Fin 512 → Fin 128 → ℝ
  lam : Fin 512 → ℂ
  D : Fin 128 → ℝ

/-- Row 16 i + s. -/
def rowN (i : ℕ) (s : Fin 16) : Fin 2048 := Fin.ofNat 2048 (16 * i + s.val)

theorem row_eq (i : ℕ) (hi : i < 128) (s : Fin 16) : row i hi s = rowN i s :=
  Fin.ext (Nat.mod_eq_of_lt (row i hi s).isLt).symm

namespace Blk

variable (b : Blk)

/-- What drives the forward sequence, -/
def X (i : ℕ) (s : Fin 16) (w : Fin 512) : ℂ := ⟨∑ c, b.U (rowN i s) c * b.BR c w, ∑ c, b.U (rowN i s) c * b.BI c w⟩

/-- what drives the adjoint, -/
def Y (i : ℕ) (s : Fin 16) (w : Fin 512) : ℂ := ⟨∑ c, b.DY (rowN i s) c * b.CR w c, -∑ c, b.DY (rowN i s) c * b.CI w c⟩

/-- the same from the last step to the first, -/
def R (i : ℕ) (s : Fin 16) (w : Fin 512) : ℂ := b.Y (127 - i) s.rev w

/-- the conjugate factor, -/
def mu (w : Fin 512) : ℂ := starRingEnd ℂ (b.lam w)

/-- the states, -/
def H (i : ℕ) (s : Fin 16) (w : Fin 512) : ℂ := loc (b.lam w) (seq b.X w) (128 * s.val + (i + 1))

/-- and their adjoints. -/
def A (i : ℕ) (s : Fin 16) (w : Fin 512) : ℂ := loc (b.mu w) (seq b.R w) (128 * s.rev.val + (128 - i))

/-- The arrays of a call hold these numbers. -/
structure Is (x0 x1 : Vec Ideal S2048x128 .f32) (x2 x3 : Vec Ideal S1x128x512 .bf16) (x4 x5 : Vec Ideal S1x512x128 .bf16)
    (x6 x7 : Vec Ideal S1x16x512 .f32) (x8 : Vec Ideal S1x128 .f32) : Prop where
  hU : ∀ r c, (show EReal from x0 (ix2 r c)) = (b.U r c : ℝ)
  hDY : ∀ r c, (show EReal from x1 (ix2 r c)) = (b.DY r c : ℝ)
  hBR : ∀ c w, (show EReal from x2 (ix3 (0 : Fin 1) c w)) = (b.BR c w : ℝ)
  hBI : ∀ c w, (show EReal from x3 (ix3 (0 : Fin 1) c w)) = (b.BI c w : ℝ)
  hCR : ∀ w c, (show EReal from x4 (ix3 (0 : Fin 1) w c)) = (b.CR w c : ℝ)
  hCI : ∀ w c, (show EReal from x5 (ix3 (0 : Fin 1) w c)) = (b.CI w c : ℝ)
  hlam : ∀ (s : Fin 16) w, Cx (x6 (ix3 (0 : Fin 1) s w)) (x7 (ix3 (0 : Fin 1) s w)) (b.lam w)
  hD : ∀ c, (show EReal from x8 (ix2 (0 : Fin 1) c)) = (b.D c : ℝ)

end Blk

/-! ## The products -/

section Payloads

variable {b : Blk} {x0 x1 : Vec Ideal S2048x128 .f32} {x2 x3 : Vec Ideal S1x128x512 .bf16} {x4 x5 : Vec Ideal S1x512x128 .bf16}
  {x6 x7 : Vec Ideal S1x16x512 .f32} {x8 : Vec Ideal S1x128 .f32}

theorem lamPair (h : b.Is x0 x1 x2 x3 x4 x5 x6 x7 x8) : Pair (k0_pay7 x6) (k0_pay8 x7) (fun _ w => b.lam w) := fun s w => by
  have e1 : k0_pay7 x6 (ix2 s w) = x6 (ix3 (0 : Fin 1) s w) := by pointwise [k0_pay7]
  have e2 : k0_pay8 x7 (ix2 s w) = x7 (ix3 (0 : Fin 1) s w) := by pointwise [k0_pay8]
  rw [e1, e2]; exact h.hlam s w

theorem pay9_at (u : Vec Ideal S2048x128 .f32) (v : Vec Ideal S1x128x512 .bf16) (r : Fin 2048) (w : Fin 512) :
    k0_pay9 u v (ix2 r w) = ∑ c : Fin 128, (show EReal from u (ix2 r c)) * (show EReal from v (ix3 (0 : Fin 1) c w)) := by
  pointwise [k0_pay9, k0_pay5, k0_pay3]

theorem pay10_at (u : Vec Ideal S2048x128 .f32) (v : Vec Ideal S1x128x512 .bf16) (r : Fin 2048) (w : Fin 512) :
    k0_pay10 u v (ix2 r w) = ∑ c : Fin 128, (show EReal from u (ix2 r c)) * (show EReal from v (ix3 (0 : Fin 1) c w)) := by
  pointwise [k0_pay10, k0_pay5, k0_pay3]

theorem pay70_at (u : Vec Ideal S2048x128 .f32) (v : Vec Ideal S1x512x128 .bf16) (r : Fin 2048) (w : Fin 512) :
    k0_pay70 (k0_pay6 u) v (ix2 r w) = ∑ c : Fin 128, (show EReal from u (ix2 r c)) * (show EReal from v (ix3 (0 : Fin 1) w c)) := by
  pointwise [k0_pay70, k0_pay6, k0_pay4]

theorem pay71_at (u : Vec Ideal S2048x128 .f32) (v : Vec Ideal S1x512x128 .bf16) (r : Fin 2048) (w : Fin 512) :
    k0_pay71 (k0_pay6 u) v (ix2 r w) = 0 - ∑ c : Fin 128, (show EReal from u (ix2 r c)) * (show EReal from v (ix3 (0 : Fin 1) w c)) := by
  pointwise [k0_pay71, k0_pay6, k0_pay4]

theorem drive (h : b.Is x0 x1 x2 x3 x4 x5 x6 x7 x8) : Holds (k0_pay9 x0 x2) (k0_pay10 x0 x3) b.X := fun i hi s w => by
  rw [pay9_at, pay10_at, row_eq]
  exact ⟨coe_sum_mul _ _ (fun c => h.hU _ c) (fun c => h.hBR c w), coe_sum_mul _ _ (fun c => h.hU _ c) (fun c => h.hBI c w)⟩

theorem drive' (h : b.Is x0 x1 x2 x3 x4 x5 x6 x7 x8) : Holds (k0_pay70 (k0_pay6 x1) x4) (k0_pay71 (k0_pay6 x1) x5) b.Y := fun i hi s w => by
  rw [pay70_at, pay71_at, row_eq]
  refine ⟨coe_sum_mul _ _ (fun c => h.hDY _ c) (fun c => h.hCR w c), ?_⟩
  rw [coe_sum_mul _ _ (fun c => h.hDY _ c) (fun c => h.hCI w c), zero_sub, ← EReal.coe_neg]
  rfl

end Payloads

/-! ## The run -/

theorem H_eq (b : Blk) (s : Fin 16) (l : Fin 512) (k : ℕ) (hk : k < 128) :
    loc (b.lam l) (fun j => b.X j s l) (k + 1) + b.lam l ^ (k + 1) * fc b.lam b.X 15 s l = b.H k s l := by
  rw [fc_last, ← loc_piece b.lam b.X s l (k + 1) (by omega)]; rfl

theorem A_eq (b : Blk) (s : Fin 16) (l : Fin 512) (k : ℕ) (hk : k < 128) :
    loc (b.mu l) (fun j => b.Y (127 - j) s l) (128 - k) + b.mu l ^ (128 - k) * fc b.mu b.R 15 s.rev l = b.A k s l := by
  have e : (fun j => b.Y (127 - j) s l) = fun j => b.R j s.rev l := by
    funext j; unfold Blk.R; rw [Fin.rev_rev]
  rw [fc_last, e, ← loc_piece b.mu b.R s.rev l (128 - k) (by omega)]; rfl

/-- Pieces written one list after the other. -/
theorem Holds.app {sp sp' : Space} {v : View sig .tc sp S2048x512 .f32} {u : View sig .tc sp' S2048x512 .f32}
    {G : v.ty.Contents (Elt Ideal)} {H : u.ty.Contents (Elt Ideal)} {L L' M M' : List (View.Piece (Elt Ideal) S2048x512 .f32)}
    {z : ℕ → Fin 16 → Fin 512 → ℂ}
    (h : Holds (v.read (Elt Ideal) (v.writes (Elt Ideal) (v.writes (Elt Ideal) G L') L))
      (u.read (Elt Ideal) (u.writes (Elt Ideal) (u.writes (Elt Ideal) H M') M)) z) :
    Holds (v.read (Elt Ideal) (v.writes (Elt Ideal) G (L ++ L'))) (u.read (Elt Ideal) (u.writes (Elt Ideal) H (M ++ M'))) z := by
  rw [View.writes_append, View.writes_append]; exact h

section Run

variable {b : Blk} {x0 x1 : Vec Ideal S2048x128 .f32} {x2 x3 : Vec Ideal S1x128x512 .bf16} {x4 x5 : Vec Ideal S1x512x128 .bf16}
  {x6 x7 : Vec Ideal S1x16x512 .f32} {x8 : Vec Ideal S1x128 .f32}

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S1x128x512 .bf16) (harg4 : arg4.IsWhole)
  (arg5 : Memref sig .tc .vmem S1x128x512 .bf16) (harg5 : arg5.IsWhole)
  (arg6 : Memref sig .tc .vmem S1x512x128 .bf16) (harg6 : arg6.IsWhole)
  (arg7 : Memref sig .tc .vmem S1x512x128 .bf16) (harg7 : arg7.IsWhole)
  (arg8 : Memref sig .tc .vmem S1x16x512 .f32) (harg8 : arg8.IsWhole)
  (arg9 : Memref sig .tc .vmem S1x16x512 .f32) (harg9 : arg9.IsWhole)
  (arg10 : Memref sig .tc .vmem S1x128 .f32) (harg10 : arg10.IsWhole)
  (arg11 : Memref sig .tc .vmem S2048x128 .f32) (harg11 : arg11.IsWhole)
  (arg12 : Memref sig .tc .vmem S1x1x128x512 .f32) (harg12 : arg12.IsWhole)
  (arg13 : Memref sig .tc .vmem S1x1x128x512 .f32) (harg13 : arg13.IsWhole)
  (arg14 : Memref sig .tc .vmem S1x1x512x128 .f32) (harg14 : arg14.IsWhole)
  (arg15 : Memref sig .tc .vmem S1x1x512x128 .f32) (harg15 : arg15.IsWhole)
  (arg16 : Memref sig .tc .vmem S1x1x16x512 .f32) (harg16 : arg16.IsWhole)
  (arg17 : Memref sig .tc .vmem S1x1x16x512 .f32) (harg17 : arg17.IsWhole)
  (arg18 : Memref sig .tc .vmem S1x1x1x128 .f32) (harg18 : arg18.IsWhole)
  (arg19 : Memref sig .tc .vmem S2048x512 .f32) (harg19 : arg19.IsWhole)
  (arg20 : Memref sig .tc .vmem S2048x512 .f32) (harg20 : arg20.IsWhole)
  (arg21 : Memref sig .tc .vmem S2048x512 .f32) (harg21 : arg21.IsWhole)
  (arg22 : Memref sig .tc .vmem S2048x512 .f32) (harg22 : arg22.IsWhole)

/-- A whole input block, read. -/
theorem raw2 : (View.readAt (Elt Ideal) arg2.view (Rect.unit ![0, 0] S2048x128.size inb_S2048x128_S2048x128_0_0).toLoadRect (harg2.unread x0)) = x0 := by
  rw [View.readAt_full]; exact harg2.read_unread x0

theorem raw3 : (View.readAt (Elt Ideal) arg3.view (Rect.unit ![0, 0] S2048x128.size inb_S2048x128_S2048x128_0_0).toLoadRect (harg3.unread x1)) = x1 := by
  rw [View.readAt_full]; exact harg3.read_unread x1

theorem raw4 : (View.readAt (Elt Ideal) arg4.view (Rect.unit ![0, 0, 0] S1x128x512.size inb_S1x128x512_S1x128x512_0_0_0).toLoadRect (harg4.unread x2)) = x2 := by
  rw [View.readAt_full]; exact harg4.read_unread x2

theorem raw5 : (View.readAt (Elt Ideal) arg5.view (Rect.unit ![0, 0, 0] S1x128x512.size inb_S1x128x512_S1x128x512_0_0_0).toLoadRect (harg5.unread x3)) = x3 := by
  rw [View.readAt_full]; exact harg5.read_unread x3

theorem raw6 : (View.readAt (Elt Ideal) arg6.view (Rect.unit ![0, 0, 0] S1x512x128.size inb_S1x512x128_S1x512x128_0_0_0).toLoadRect (harg6.unread x4)) = x4 := by
  rw [View.readAt_full]; exact harg6.read_unread x4

theorem raw7 : (View.readAt (Elt Ideal) arg7.view (Rect.unit ![0, 0, 0] S1x512x128.size inb_S1x512x128_S1x512x128_0_0_0).toLoadRect (harg7.unread x5)) = x5 := by
  rw [View.readAt_full]; exact harg7.read_unread x5

theorem raw8 : (View.readAt (Elt Ideal) arg8.view (Rect.unit ![0, 0, 0] S1x16x512.size inb_S1x16x512_S1x16x512_0_0_0).toLoadRect (harg8.unread x6)) = x6 := by
  rw [View.readAt_full]; exact harg8.read_unread x6

theorem raw9 : (View.readAt (Elt Ideal) arg9.view (Rect.unit ![0, 0, 0] S1x16x512.size inb_S1x16x512_S1x16x512_0_0_0).toLoadRect (harg9.unread x7)) = x7 := by
  rw [View.readAt_full]; exact harg9.read_unread x7

theorem raw10 : (View.readAt (Elt Ideal) arg10.view (Rect.unit ![0, 0] S1x128.size inb_S1x128_S1x128_0_0).toLoadRect (harg10.unread x8)) = x8 := by
  rw [View.readAt_full]; exact harg10.read_unread x8

include c i harg2 harg3 harg4 harg5 harg6 harg7 harg8 harg9 harg10 harg11 harg12 harg13 harg14 harg15 harg16 harg17 harg18 harg19 harg20 harg21 harg22

theorem r04 (h : b.Is x0 x1 x2 x3 x4 x5 x6 x7 x8) : Pair (kernelRun0_A.sl.r_4 (F := Ideal) c arg8 harg8 x6) (kernelRun0_A.sl.r_5 (F := Ideal) c arg9 harg9 x7) (fun _ w => b.lam w) := by
  unfold kernelRun0_A.sl.r_4 kernelRun0_A.sl.r_5
  rw [raw8, raw9]; exact lamPair h

theorem r04' (h : b.Is x0 x1 x2 x3 x4 x5 x6 x7 x8) : Pair (k0_pay7 (View.readAt (Elt Ideal) arg8.view (Rect.unit ![0, 0, 0] S1x16x512.size inb_S1x16x512_S1x16x512_0_0_0).toLoadRect (harg8.unread x6))) (k0_pay8 (View.readAt (Elt Ideal) arg9.view (Rect.unit ![0, 0, 0] S1x16x512.size inb_S1x16x512_S1x16x512_0_0_0).toLoadRect (harg9.unread x7))) (fun _ w => b.lam w) := by
  rw [raw8, raw9]; exact lamPair h

theorem r1011 (h : b.Is x0 x1 x2 x3 x4 x5 x6 x7 x8) : Pair (kernelRun0_A.sl.r_10 (F := Ideal) c arg8 harg8 arg9 harg9 x6 x7) (kernelRun0_A.sl.r_11 (F := Ideal) c arg8 harg8 arg9 harg9 x6 x7) (fun _ w => b.lam w ^ 128) :=
  by unfold kernelRun0_A.sl.r_10 kernelRun0_A.sl.r_11 kernelRun0_A.sl.r_4 kernelRun0_A.sl.r_5 kernelRun0_A.sl.r_8 kernelRun0_A.sl.r_9; exact power (r04' c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem start1 (h : b.Is x0 x1 x2 x3 x4 x5 x6 x7 x8) : Holds (arg19.view.read (Elt Ideal) (arg19.view.writes (Elt Ideal) arg19.view.junk (kernelRun0_A.sl.HS0_1 (F := Ideal) c arg2 harg2 arg4 harg4 x0 x2))) (arg20.view.read (Elt Ideal) (arg20.view.writes (Elt Ideal) arg20.view.junk (kernelRun0_A.sl.HS1_1 (F := Ideal) c arg2 harg2 arg5 harg5 x0 x3))) b.X := by
  unfold kernelRun0_A.sl.HS0_1 kernelRun0_A.sl.HS1_1
  rw [View.read_writes_full, View.read_writes_full, raw2, raw4, raw5]
  exact drive h

theorem start3 (h : b.Is x0 x1 x2 x3 x4 x5 x6 x7 x8) : Holds (arg21.view.read (Elt Ideal) (arg21.view.writes (Elt Ideal) arg21.view.junk (kernelRun0_A.sl.HS2_1 (F := Ideal) c arg3 harg3 arg6 harg6 x1 x4))) (arg22.view.read (Elt Ideal) (arg22.view.writes (Elt Ideal) arg22.view.junk (kernelRun0_A.sl.HS3_1 (F := Ideal) c arg3 harg3 arg7 harg7 x1 x5))) b.Y := by
  unfold kernelRun0_A.sl.HS2_1 kernelRun0_A.sl.HS3_1 kernelRun0_A.sl.r_3
  rw [View.read_writes_full, View.read_writes_full, raw3, raw6, raw7]
  exact drive' h

theorem r67 (h : b.Is x0 x1 x2 x3 x4 x5 x6 x7 x8) : Pair (kernelRun0_A.sl.r_6 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_7 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fz b.lam b.X) := by
  unfold kernelRun0_A.sl.r_6 kernelRun0_A.sl.r_7
  exact (loop1 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ (r04' c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) zeroPair (start1 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)).1

theorem r12 (h : b.Is x0 x1 x2 x3 x4 x5 x6 x7 x8) : Pair (kernelRun0_A.sl.r_12 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_13 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 1) := by
  unfold kernelRun0_A.sl.r_12 kernelRun0_A.sl.r_13
  exact carry1 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r14 : kernelRun0_A.sl.r_14 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7 = mulf (kernelRun0_A.sl.r_10 (F := Ideal) c arg8 harg8 arg9 harg9 x6 x7) (kernelRun0_A.sl.r_12 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) := rfl

theorem r15 (h : b.Is x0 x1 x2 x3 x4 x5 x6 x7 x8) : Pair (kernelRun0_A.sl.r_15 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_16 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 4) := by
  unfold kernelRun0_A.sl.r_15 kernelRun0_A.sl.r_16
  rw [r14]
  exact carry4 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r12 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r17 : kernelRun0_A.sl.r_17 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7 = mulf (kernelRun0_A.sl.r_10 (F := Ideal) c arg8 harg8 arg9 harg9 x6 x7) (kernelRun0_A.sl.r_15 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) := rfl

theorem r18 (h : b.Is x0 x1 x2 x3 x4 x5 x6 x7 x8) : Pair (kernelRun0_A.sl.r_18 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_19 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 7) := by
  unfold kernelRun0_A.sl.r_18 kernelRun0_A.sl.r_19
  rw [r17]
  exact carry7 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r15 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r20 : kernelRun0_A.sl.r_20 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7 = mulf (kernelRun0_A.sl.r_10 (F := Ideal) c arg8 harg8 arg9 harg9 x6 x7) (kernelRun0_A.sl.r_18 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) := rfl

theorem r21 (h : b.Is x0 x1 x2 x3 x4 x5 x6 x7 x8) : Pair (kernelRun0_A.sl.r_21 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_22 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 10) := by
  unfold kernelRun0_A.sl.r_21 kernelRun0_A.sl.r_22
  rw [r20]
  exact carry10 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r18 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r23 : kernelRun0_A.sl.r_23 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7 = mulf (kernelRun0_A.sl.r_10 (F := Ideal) c arg8 harg8 arg9 harg9 x6 x7) (kernelRun0_A.sl.r_21 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) := rfl

theorem r24 (h : b.Is x0 x1 x2 x3 x4 x5 x6 x7 x8) : Pair (kernelRun0_A.sl.r_24 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_25 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 13) := by
  unfold kernelRun0_A.sl.r_24 kernelRun0_A.sl.r_25
  rw [r23]
  exact carry13 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r21 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r26 : kernelRun0_A.sl.r_26 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7 = mulf (kernelRun0_A.sl.r_10 (F := Ideal) c arg8 harg8 arg9 harg9 x6 x7) (kernelRun0_A.sl.r_24 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) := rfl

theorem r27 (h : b.Is x0 x1 x2 x3 x4 x5 x6 x7 x8) : Pair (kernelRun0_A.sl.r_27 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_28 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (fc b.lam b.X 15) := by
  unfold kernelRun0_A.sl.r_27 kernelRun0_A.sl.r_28
  rw [r26]
  exact carry15 (r1011 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r67 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r24 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r29 (h : b.Is x0 x1 x2 x3 x4 x5 x6 x7 x8) : Pair (kernelRun0_A.sl.r_4 (F := Ideal) c arg8 harg8 x6) (kernelRun0_A.sl.r_29 (F := Ideal) c arg9 harg9 x7) (fun _ w => b.mu w) := by
  unfold kernelRun0_A.sl.r_29
  exact conjPair (r04 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r3536 (h : b.Is x0 x1 x2 x3 x4 x5 x6 x7 x8) : Pair (kernelRun0_A.sl.r_35 (F := Ideal) c arg8 harg8 arg9 harg9 x6 x7) (kernelRun0_A.sl.r_36 (F := Ideal) c arg8 harg8 arg9 harg9 x6 x7) (fun _ w => b.mu w ^ 128) := by
  unfold kernelRun0_A.sl.r_35 kernelRun0_A.sl.r_36 kernelRun0_A.sl.r_32 kernelRun0_A.sl.r_33 kernelRun0_A.sl.r_34
  exact power' (r29 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r30 (h : b.Is x0 x1 x2 x3 x4 x5 x6 x7 x8) : Pair (kernelRun0_A.sl.r_30 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_31 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fz b.mu b.R s.rev w) := by
  unfold kernelRun0_A.sl.r_30 kernelRun0_A.sl.r_31
  refine ((loop3 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ _ (r29 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) zeroPair' (start3 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)).1).congr fun s w => ?_
  unfold fz Blk.R
  rw [Fin.rev_rev]

theorem r37 (h : b.Is x0 x1 x2 x3 x4 x5 x6 x7 x8) : Pair (kernelRun0_A.sl.r_37 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_38 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fc b.mu b.R 2 s.rev w)
    ∧ Pair (kernelRun0_A.sl.r_39 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_40 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fn b.mu b.R 2 (s + 1).rev w) := by
  unfold kernelRun0_A.sl.r_37 kernelRun0_A.sl.r_38 kernelRun0_A.sl.r_39 kernelRun0_A.sl.r_40
  exact back2 (r3536 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r30 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)

theorem r41 (h : b.Is x0 x1 x2 x3 x4 x5 x6 x7 x8) : Pair (kernelRun0_A.sl.r_41 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_42 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fc b.mu b.R 5 s.rev w)
    ∧ Pair (kernelRun0_A.sl.r_43 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_44 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fn b.mu b.R 5 (s + 1).rev w) := by
  unfold kernelRun0_A.sl.r_41 kernelRun0_A.sl.r_42 kernelRun0_A.sl.r_43 kernelRun0_A.sl.r_44
  exact back5 (r3536 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r30 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r37 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).1 (r37 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).2

theorem r45 (h : b.Is x0 x1 x2 x3 x4 x5 x6 x7 x8) : Pair (kernelRun0_A.sl.r_45 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_46 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fc b.mu b.R 8 s.rev w)
    ∧ Pair (kernelRun0_A.sl.r_47 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_48 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fn b.mu b.R 8 (s + 1).rev w) := by
  unfold kernelRun0_A.sl.r_45 kernelRun0_A.sl.r_46 kernelRun0_A.sl.r_47 kernelRun0_A.sl.r_48
  exact back8 (r3536 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r30 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r41 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).1 (r41 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).2

theorem r49 (h : b.Is x0 x1 x2 x3 x4 x5 x6 x7 x8) : Pair (kernelRun0_A.sl.r_49 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_50 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fc b.mu b.R 11 s.rev w)
    ∧ Pair (kernelRun0_A.sl.r_51 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_52 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fn b.mu b.R 11 (s + 1).rev w) := by
  unfold kernelRun0_A.sl.r_49 kernelRun0_A.sl.r_50 kernelRun0_A.sl.r_51 kernelRun0_A.sl.r_52
  exact back11 (r3536 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r30 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r45 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).1 (r45 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).2

theorem r53 (h : b.Is x0 x1 x2 x3 x4 x5 x6 x7 x8) : Pair (kernelRun0_A.sl.r_53 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_54 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fc b.mu b.R 14 s.rev w)
    ∧ Pair (kernelRun0_A.sl.r_55 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_56 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (fun s w => fn b.mu b.R 14 (s + 1).rev w) := by
  unfold kernelRun0_A.sl.r_53 kernelRun0_A.sl.r_54 kernelRun0_A.sl.r_55 kernelRun0_A.sl.r_56
  exact back14 (r3536 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r30 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r49 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).1 (r49 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).2

theorem last (h : b.Is x0 x1 x2 x3 x4 x5 x6 x7 x8) : Pair (k0_pay132 kernelRun0_A.sl.v371 (kernelRun0_A.sl.r_53 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_55 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7))
    (k0_pay133 kernelRun0_A.sl.v371 (kernelRun0_A.sl.r_54 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7) (kernelRun0_A.sl.r_56 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x1 x4 x5 x6 x7)) (fun s w => fc b.mu b.R 15 s.rev w) :=
  back15 (r53 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).1 (r53 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).2

theorem states (h : b.Is x0 x1 x2 x3 x4 x5 x6 x7 x8) : Holds (kernelRun0_A.sl.v654 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x6 x7) (kernelRun0_A.sl.v660 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x6 x7) b.H := by
  unfold kernelRun0_A.sl.v654 kernelRun0_A.sl.v660 View.readCov
  rw [View.readAt_full arg19.view, View.readAt_full arg20.view]
  refine Holds.app ?_
  refine Holds.congr ((loop2 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ _ _ _ _ _ _ _ _ _ (r04 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r04 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r27 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) ?_).2) fun k hk s l => H_eq b s l k hk
  refine Holds.app ?_
  exact (loop1 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ (r04' c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) zeroPair (start1 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)).2

theorem adjoints (h : b.Is x0 x1 x2 x3 x4 x5 x6 x7 x8) : Holds (kernelRun0_A.sl.v630 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) (kernelRun0_A.sl.v632 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) b.A := by
  unfold kernelRun0_A.sl.v630 kernelRun0_A.sl.v632 View.readCov
  rw [View.readAt_full arg21.view, View.readAt_full arg22.view]
  refine Holds.app ?_
  refine Holds.congr ((loop4 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ _ _ _ _ _ _ _ (r29 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (r29 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) (last c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) ?_).2) fun k hk s l => A_eq b s l k hk
  refine Holds.app ?_
  exact (loop3 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ _ (r29 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h) zeroPair' (start3 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)).2

theorem adjoint0 (h : b.Is x0 x1 x2 x3 x4 x5 x6 x7 x8) : Pair (kernelRun0_A.sl.v614 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) (kernelRun0_A.sl.v615 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) (b.A 0) := by
  intro s l
  have e := adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h 0 (by omega) s l
  unfold kernelRun0_A.sl.v630 kernelRun0_A.sl.v632 View.readCov at e
  rw [View.readAt_full arg21.view, View.readAt_full arg22.view] at e
  unfold kernelRun0_A.sl.v614 kernelRun0_A.sl.v615 View.readCov
  rw [← readAt_rows arg21.view _ inb_S2048x512_S16x512_0_0 0 (by omega) rfl s l,
    ← readAt_rows arg22.view _ inb_S2048x512_S16x512_0_0 0 (by omega) rfl s l] at e
  exact e

end Run
end Cert.KernelIdeal.Lanes
end
-- ==== Proof.Outs.lean ====
/- The result blocks of one call of the kernel's body, number by number. -/
module

public import proofs.«01_k».proof.Proof.Block
public import proofs.«01_k».proof.Proof.Gen.KernelIdeal.Frame

@[expose] public section

set_option maxRecDepth 16384

noncomputable section

namespace Cert.KernelIdeal.Lanes

open Idealize.ShloMosaic
open Idealize.ShloMosaic.TcCoe Idealize.SL.Sem
open Cert.KernelIdeal Cert.KernelIdeal.Gen
open Scan

theorem Holds.at {a b : W} {z : ℕ → Fin 16 → Fin 512 → ℂ} (h : Holds a b z) (r : Fin 2048) (l : Fin 512) :
    Cx (a (ix2 r l)) (b (ix2 r l)) (z (r.val / 16) (Fin.ofNat 16 r.val) l) := by
  have hr := r.isLt
  have e := h (r.val / 16) (by omega) (Fin.ofNat 16 r.val) l
  have e' : row (r.val / 16) (by omega) (Fin.ofNat 16 r.val) = r := Fin.ext (by
    show 16 * (r.val / 16) + r.val % 16 = r.val
    omega)
  rw [e'] at e
  exact e

namespace Blk

variable (b : Blk)

/-- The state and its adjoint in a row. -/
def HH (r : Fin 2048) (l : Fin 512) : ℂ := b.H (r.val / 16) (Fin.ofNat 16 r.val) l
def AA (r : Fin 2048) (l : Fin 512) : ℂ := b.A (r.val / 16) (Fin.ofNat 16 r.val) l

/-- The factor's own gradient, a piece's part of it. -/
def G (s : Fin 16) (l : Fin 512) : ℂ :=
  starRingEnd ℂ (loc (b.lam l) (seq b.X l) (128 * s.val)) * b.A 0 s l
    + ∑ k ∈ Finset.range 127, starRingEnd ℂ (b.H k s l) * b.A (k + 1) s l

end Blk

section Payloads

theorem pay146_at (v3 : FVec Ideal S2048x128 .f32) (p q : FVec Ideal S2048x512 .bf16) (u v : Vec Ideal S1x128x512 .bf16) (d : Vec Ideal S1x128 .f32)
    (r : Fin 2048) (j : Fin 128) :
    k0_pay146 v3 p q u v d (ix2 r j)
      = (∑ l : Fin 512, (show EReal from p (ix2 r l)) * (show EReal from u (ix3 (0 : Fin 1) j l))
          + ∑ l : Fin 512, (show EReal from q (ix2 r l)) * (show EReal from v (ix3 (0 : Fin 1) j l)))
        + (show EReal from d (ix2 (0 : Fin 1) j)) * (show EReal from v3 (ix2 r j)) := by
  pointwise [k0_pay146]

theorem pay147_at (u : FVec Ideal S2048x128 .bf16) (p : FVec Ideal S2048x512 .bf16) (j : Fin 128) (l : Fin 512) :
    k0_pay147 u p (ix4 (0 : Fin 1) (0 : Fin 1) j l) = ∑ r : Fin 2048, (show EReal from u (ix2 r j)) * (show EReal from p (ix2 r l)) := by
  pointwise [k0_pay147]

theorem pay148_at (u : FVec Ideal S2048x128 .bf16) (p : FVec Ideal S2048x512 .bf16) (j : Fin 128) (l : Fin 512) :
    k0_pay148 u p (ix4 (0 : Fin 1) (0 : Fin 1) j l) = ∑ r : Fin 2048, (show EReal from u (ix2 r j)) * (show EReal from p (ix2 r l)) := by
  pointwise [k0_pay148]

theorem pay149_at (u : FVec Ideal S2048x128 .bf16) (p : Vec Ideal S2048x512 .f32) (j : Fin 128) (l : Fin 512) :
    k0_pay149 u p (ix4 (0 : Fin 1) (0 : Fin 1) l j) = ∑ r : Fin 2048, (show EReal from p (ix2 r l)) * (show EReal from u (ix2 r j)) := by
  pointwise [k0_pay149]

theorem pay1_at (u : FVec Ideal S2048x128 .bf16) (p : Vec Ideal S2048x512 .f32) (j : Fin 128) (l : Fin 512) :
    k0_pay1 u (k0_pay150 p) (kernelRun0_A.sl.cst_205) (ix4 (0 : Fin 1) (0 : Fin 1) l j) = 0 - ∑ r : Fin 2048, (show EReal from p (ix2 r l)) * (show EReal from u (ix2 r j)) := by
  pointwise [k0_pay1, k0_pay150, kernelRun0_A.sl.cst_205]

theorem pay2_at (u v : FVec Ideal S2048x128 .f32) (j : Fin 128) :
    k0_pay2 u v (ix4 (0 : Fin 1) (0 : Fin 1) (0 : Fin 1) j) = ∑ r : Fin 2048, (show EReal from v (ix2 r j)) * (show EReal from u (ix2 r j)) := by
  pointwise [k0_pay2]

theorem pay142_at (p : V) (s : Fin 16) (l : Fin 512) : k0_pay142 p (ix4 (0 : Fin 1) (0 : Fin 1) s l) = p (ix2 s l) := by
  pointwise [k0_pay142]

theorem pay143_at (p : V) (s : Fin 16) (l : Fin 512) : k0_pay143 p (ix4 (0 : Fin 1) (0 : Fin 1) s l) = p (ix2 s l) := by
  pointwise [k0_pay143]

theorem r_at (x : Vec Ideal S2048x128 .f32) (r : Fin 2048) (j : Fin 128) : k0_pay3 x (ix2 r j) = (show EReal from x (ix2 r j)) := by
  pointwise [k0_pay3]

theorem r1_at (x : Vec Ideal S2048x128 .f32) (r : Fin 2048) (j : Fin 128) : k0_pay4 x (ix2 r j) = (show EReal from x (ix2 r j)) := by
  pointwise [k0_pay4]

theorem r2_at (x : Vec Ideal S2048x128 .f32) (r : Fin 2048) (j : Fin 128) : k0_pay5 x (ix2 r j) = (show EReal from x (ix2 r j)) := by
  pointwise [k0_pay5, k0_pay3]

theorem r3_at (x : Vec Ideal S2048x128 .f32) (r : Fin 2048) (j : Fin 128) : k0_pay6 x (ix2 r j) = (show EReal from x (ix2 r j)) := by
  pointwise [k0_pay6, k0_pay4]

theorem r57_at (p : Vec Ideal S2048x512 .f32) (r : Fin 2048) (l : Fin 512) : k0_pay144 p (ix2 r l) = (show EReal from p (ix2 r l)) := by
  pointwise [k0_pay144]

theorem r58_at (p : Vec Ideal S2048x512 .f32) (r : Fin 2048) (l : Fin 512) : k0_pay145 p (ix2 r l) = (show EReal from p (ix2 r l)) := by
  pointwise [k0_pay145]

end Payloads

section Run

variable {b : Blk} {x0 x1 : Vec Ideal S2048x128 .f32} {x2 x3 : Vec Ideal S1x128x512 .bf16} {x4 x5 : Vec Ideal S1x512x128 .bf16}
  {x6 x7 : Vec Ideal S1x16x512 .f32} {x8 : Vec Ideal S1x128 .f32}

variable (c : Dev nD) (i : grid0.Coords)
  (arg2 : Memref sig .tc .vmem S2048x128 .f32) (harg2 : arg2.IsWhole)
  (arg3 : Memref sig .tc .vmem S2048x128 .f32) (harg3 : arg3.IsWhole)
  (arg4 : Memref sig .tc .vmem S1x128x512 .bf16) (harg4 : arg4.IsWhole)
  (arg5 : Memref sig .tc .vmem S1x128x512 .bf16) (harg5 : arg5.IsWhole)
  (arg6 : Memref sig .tc .vmem S1x512x128 .bf16) (harg6 : arg6.IsWhole)
  (arg7 : Memref sig .tc .vmem S1x512x128 .bf16) (harg7 : arg7.IsWhole)
  (arg8 : Memref sig .tc .vmem S1x16x512 .f32) (harg8 : arg8.IsWhole)
  (arg9 : Memref sig .tc .vmem S1x16x512 .f32) (harg9 : arg9.IsWhole)
  (arg10 : Memref sig .tc .vmem S1x128 .f32) (harg10 : arg10.IsWhole)
  (arg11 : Memref sig .tc .vmem S2048x128 .f32) (harg11 : arg11.IsWhole)
  (arg12 : Memref sig .tc .vmem S1x1x128x512 .f32) (harg12 : arg12.IsWhole)
  (arg13 : Memref sig .tc .vmem S1x1x128x512 .f32) (harg13 : arg13.IsWhole)
  (arg14 : Memref sig .tc .vmem S1x1x512x128 .f32) (harg14 : arg14.IsWhole)
  (arg15 : Memref sig .tc .vmem S1x1x512x128 .f32) (harg15 : arg15.IsWhole)
  (arg16 : Memref sig .tc .vmem S1x1x16x512 .f32) (harg16 : arg16.IsWhole)
  (arg17 : Memref sig .tc .vmem S1x1x16x512 .f32) (harg17 : arg17.IsWhole)
  (arg18 : Memref sig .tc .vmem S1x1x1x128 .f32) (harg18 : arg18.IsWhole)
  (arg19 : Memref sig .tc .vmem S2048x512 .f32) (harg19 : arg19.IsWhole)
  (arg20 : Memref sig .tc .vmem S2048x512 .f32) (harg20 : arg20.IsWhole)
  (arg21 : Memref sig .tc .vmem S2048x512 .f32) (harg21 : arg21.IsWhole)
  (arg22 : Memref sig .tc .vmem S2048x512 .f32) (harg22 : arg22.IsWhole)

theorem out9 (h : b.Is x0 x1 x2 x3 x4 x5 x6 x7 x8) (r : Fin 2048) (j : Fin 128) : (show EReal from out0_A_9 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix2 r j))
    = ((∑ l, (b.AA r l).re * b.BR j l + ∑ l, (b.AA r l).im * b.BI j l + b.D j * b.DY r j : ℝ) : EReal) := by
  unfold out0_A_9 kernelRun0_A
  dsimp only
  rw [View.read_writes_full]
  unfold kernelRun0_A.sl.r_1 kernelRun0_A.sl.r_57 kernelRun0_A.sl.r_58 kernelRun0_A.sl.r_59
  rw [raw3, raw4, raw5, raw10, pay146_at, EReal.coe_add, EReal.coe_add, EReal.coe_mul]
  refine congrArg₂ (· + ·) (congrArg₂ (· + ·) ?_ ?_) (congrArg₂ (· * ·) (h.hD j) ((r1_at _ _ _).trans (h.hDY r j)))
  · exact coe_sum_mul _ _ (fun l => (r57_at _ _ _).trans ((adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).1) (fun l => h.hBR j l)
  · exact coe_sum_mul _ _ (fun l => (r58_at _ _ _).trans ((adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).2) (fun l => h.hBI j l)

theorem out10 (h : b.Is x0 x1 x2 x3 x4 x5 x6 x7 x8) (j : Fin 128) (l : Fin 512) : (show EReal from out0_A_10 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) j l))
    = ((∑ r, b.U r j * (b.AA r l).re : ℝ) : EReal) := by
  unfold out0_A_10 kernelRun0_A
  dsimp only
  rw [View.read_writes_full]
  unfold kernelRun0_A.sl.r_2 kernelRun0_A.sl.r_57
  rw [raw2, pay147_at]
  exact coe_sum_mul _ _ (fun r => (r2_at _ _ _).trans (h.hU r j)) (fun r => (r57_at _ _ _).trans ((adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).1)

theorem out11 (h : b.Is x0 x1 x2 x3 x4 x5 x6 x7 x8) (j : Fin 128) (l : Fin 512) : (show EReal from out0_A_11 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) j l))
    = ((∑ r, b.U r j * (b.AA r l).im : ℝ) : EReal) := by
  unfold out0_A_11 kernelRun0_A
  dsimp only
  rw [View.read_writes_full]
  unfold kernelRun0_A.sl.r_2 kernelRun0_A.sl.r_58
  rw [raw2, pay148_at]
  exact coe_sum_mul _ _ (fun r => (r2_at _ _ _).trans (h.hU r j)) (fun r => (r58_at _ _ _).trans ((adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).2)

theorem out12 (h : b.Is x0 x1 x2 x3 x4 x5 x6 x7 x8) (l : Fin 512) (j : Fin 128) : (show EReal from out0_A_12 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) l j))
    = ((∑ r, (b.HH r l).re * b.DY r j : ℝ) : EReal) := by
  unfold out0_A_12 kernelRun0_A
  dsimp only
  rw [View.read_writes_full]
  unfold kernelRun0_A.sl.r_3
  rw [raw3, pay149_at]
  exact coe_sum_mul _ _ (fun r => ((states c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).1) (fun r => (r3_at _ _ _).trans (h.hDY r j))

theorem out13 (h : b.Is x0 x1 x2 x3 x4 x5 x6 x7 x8) (l : Fin 512) (j : Fin 128) : (show EReal from out0_A_13 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) l j))
    = ((-∑ r, (b.HH r l).im * b.DY r j : ℝ) : EReal) := by
  unfold out0_A_13 kernelRun0_A
  dsimp only
  rw [View.read_writes_full]
  unfold kernelRun0_A.sl.r_3 kernelRun0_A.sl.r_60
  rw [raw3, pay1_at, EReal.coe_neg, ← zero_sub]
  exact congrArg (0 - ·) (coe_sum_mul _ _ (fun r => ((states c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).at r l).2) (fun r => (r3_at _ _ _).trans (h.hDY r j)))

theorem out16 (h : b.Is x0 x1 x2 x3 x4 x5 x6 x7 x8) (j : Fin 128) : (show EReal from out0_A_16 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) (0 : Fin 1) j))
    = ((∑ r, b.DY r j * b.U r j : ℝ) : EReal) := by
  unfold out0_A_16 kernelRun0_A
  dsimp only
  rw [View.read_writes_full]
  unfold kernelRun0_A.sl.r kernelRun0_A.sl.r_1
  rw [raw2, raw3, pay2_at]
  exact coe_sum_mul _ _ (fun r => (r1_at _ _ _).trans (h.hDY r j)) (fun r => (r_at _ _ _).trans (h.hU r j))

theorem out1415 (h : b.Is x0 x1 x2 x3 x4 x5 x6 x7 x8) (s : Fin 16) (l : Fin 512) : Cx (out0_A_14 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) s l))
    (out0_A_15 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7 x8 (ix4 (0 : Fin 1) (0 : Fin 1) s l)) (b.G s l) := by
  unfold out0_A_14 out0_A_15 kernelRun0_A
  dsimp only
  rw [View.read_writes_full, View.read_writes_full, pay142_at, pay143_at]
  have hH := states c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h
  have hA := adjoints c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h
  unfold kernelRun0_A.sl.v654 kernelRun0_A.sl.v660 View.readCov at hH
  unfold kernelRun0_A.sl.v630 kernelRun0_A.sl.v632 View.readCov at hA
  rw [View.readAt_full arg19.view, View.readAt_full arg20.view] at hH
  rw [View.readAt_full arg21.view, View.readAt_full arg22.view] at hA
  have h0 : Pair (k0_pay138 (kernelRun0_A.sl.r_27 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_28 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.v614 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) (kernelRun0_A.sl.v615 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7))
      (k0_pay139 (kernelRun0_A.sl.r_27 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.r_28 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x2 x3 x6 x7) (kernelRun0_A.sl.v614 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7) (kernelRun0_A.sl.v615 (F := Ideal) c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 x7))
      (fun s l => starRingEnd ℂ (fc b.lam b.X 15 s l) * b.A 0 s l) := (r27 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h).conj_mul (adjoint0 c i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 h)
  refine Cx.of_eq (loop5 _ c none i _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 _ _ _ _ _ _ _ _ _ _ _ _ _ _ h0 hH hA s l) ?_
  unfold Blk.G
  dsimp only
  rw [fc_last]

end Run
end Cert.KernelIdeal.Lanes
end
-- ==== Proof.Model.lean ====
/- The gradients of the layer, as sums of real and complex numbers.

   For a batch row b, a group g and a state p the layer runs h(t+1) = λ h(t) + x(t); its adjoint runs back,
   a(t) = conj λ a(t+1) + w(t). Every gradient is a sum over these two. -/
module

public import proofs.«01_k».proof.Proof.Outs
public import Idealize.ShloMosaic.Lib.Pipeline.ValueKit
public import Idealize.ShloMosaic.Lib.Pointwise

@[expose] public section

set_option maxRecDepth 16384

noncomputable section

namespace Model

open Scan
open Idealize.ShloMosaic (Fin.sum_univ_tiles)
open Cert.KernelIdeal.Lanes (Blk seq rowN)

/-- The numbers the arguments hold. -/
structure Vals where
  u : Fin 2 → Fin 2048 → Fin 1024 → ℝ
  dy : Fin 2 → Fin 2048 → Fin 1024 → ℝ
  lr : Fin 64 → Fin 64 → ℝ
  li : Fin 64 → Fin 64 → ℝ
  br : Fin 64 → Fin 64 → Fin 16 → ℝ
  bi : Fin 64 → Fin 64 → Fin 16 → ℝ
  cr : Fin 64 → Fin 16 → Fin 64 → ℝ
  ci : Fin 64 → Fin 16 → Fin 64 → ℝ
  d : Fin 1024 → ℝ

/-- Channel h of group g. -/
def ch (g : Fin 64) (h : Fin 16) : Fin 1024 := ⟨16 * g.val + h.val, by omega⟩
/-- A channel's group and its place there. -/
def cg (c : Fin 1024) : Fin 64 := ⟨c.val / 16, by omega⟩
def cp (c : Fin 1024) : Fin 16 := ⟨c.val % 16, by omega⟩

namespace Vals

variable (v : Vals)

def lam (g p : Fin 64) : ℂ := ⟨v.lr g p, v.li g p⟩
def x (b : Fin 2) (g p : Fin 64) (t : ℕ) : ℂ :=
  ⟨∑ h, v.u b (Fin.ofNat 2048 t) (ch g h) * v.br g p h, ∑ h, v.u b (Fin.ofNat 2048 t) (ch g h) * v.bi g p h⟩
def w (b : Fin 2) (g p : Fin 64) (t : ℕ) : ℂ :=
  ⟨∑ h, v.dy b (Fin.ofNat 2048 t) (ch g h) * v.cr g h p, -∑ h, v.dy b (Fin.ofNat 2048 t) (ch g h) * v.ci g h p⟩
/-- The state after t steps. -/
def st (b : Fin 2) (g p : Fin 64) (t : ℕ) : ℂ := loc (v.lam g p) (v.x b g p) t
/-- The adjoint of the state, t steps from the end. -/
def ad (b : Fin 2) (g p : Fin 64) (t : ℕ) : ℂ := loc (starRingEnd ℂ (v.lam g p)) (fun j => v.w b g p (2047 - j)) t
/-- The adjoint at step t. -/
def aj (b : Fin 2) (g p : Fin 64) (t : Fin 2048) : ℂ := v.ad b g p (2048 - t.val)

/-! The gradients. -/

def du (b : Fin 2) (t : Fin 2048) (c : Fin 1024) : ℝ :=
  ∑ p, (v.aj b (cg c) p t).re * v.br (cg c) p (cp c) + ∑ p, (v.aj b (cg c) p t).im * v.bi (cg c) p (cp c) + v.d c * v.dy b t c
def dlam (g p : Fin 64) : ℂ := ∑ b, ∑ t : Fin 2048, starRingEnd ℂ (v.st b g p t.val) * v.aj b g p t
def dbr (g p : Fin 64) (h : Fin 16) : ℝ := ∑ b, ∑ t, v.u b t (ch g h) * (v.aj b g p t).re
def dbi (g p : Fin 64) (h : Fin 16) : ℝ := ∑ b, ∑ t, v.u b t (ch g h) * (v.aj b g p t).im
def dcr (g : Fin 64) (h : Fin 16) (p : Fin 64) : ℝ := ∑ b, ∑ t : Fin 2048, (v.st b g p (t.val + 1)).re * v.dy b t (ch g h)
def dci (g : Fin 64) (h : Fin 16) (p : Fin 64) : ℝ := ∑ b, -∑ t : Fin 2048, (v.st b g p (t.val + 1)).im * v.dy b t (ch g h)
def dd (c : Fin 1024) : ℝ := ∑ b, ∑ t, v.dy b t c * v.u b t c

end Vals

/-! ## The sums of a block -/

theorem sum_rows (f : Fin 2048 → ℝ) (F : Fin 2048 → ℝ)
    (h : ∀ (i : Fin 128) (s : Fin 16), f ⟨i.val * 16 + s.val, by omega⟩ = F ⟨s.val * 128 + i.val, by omega⟩) : ∑ r, f r = ∑ t, F t := by
  rw [Fin.sum_univ_tiles 128 16 rfl f, Fin.sum_univ_tiles 16 128 rfl F, Finset.sum_comm]
  exact Finset.sum_congr rfl fun s _ => Finset.sum_congr rfl fun i _ => h i s

theorem sum_in (q : ℕ) (hq : q < 8) (f F : Fin 128 → ℝ) :
    ∑ c : Fin 128, f c * (if c.val / 16 = q then F c else 0)
      = ∑ h : Fin 16, f ⟨16 * q + h.val, by omega⟩ * F ⟨16 * q + h.val, by omega⟩ := by
  rw [Fin.sum_univ_tiles 8 16 rfl, Finset.sum_eq_single ⟨q, hq⟩]
  · refine Finset.sum_congr rfl fun h _ => ?_
    have e1 : (16 * q + h.val) / 16 = q := by omega
    simp only [mul_comm q 16, e1, if_pos]
  · intro j _ hj
    refine Finset.sum_eq_zero fun h _ => ?_
    have e1 : (j.val * 16 + h.val) / 16 = j.val := by omega
    simp only [e1, if_neg (fun e => hj (Fin.ext e) : ¬ j.val = q), mul_zero]
  · intro h; exact absurd (Finset.mem_univ _) h

theorem sum_lanes (q : ℕ) (hq : q < 8) (f F : Fin 512 → ℝ) :
    ∑ c : Fin 512, f c * (if q = c.val / 64 then F c else 0)
      = ∑ h : Fin 64, f ⟨64 * q + h.val, by omega⟩ * F ⟨64 * q + h.val, by omega⟩ := by
  rw [Fin.sum_univ_tiles 8 64 rfl, Finset.sum_eq_single ⟨q, hq⟩]
  · refine Finset.sum_congr rfl fun h _ => ?_
    have e1 : (64 * q + h.val) / 64 = q := by omega
    simp only [mul_comm q 64, e1, if_pos]
  · intro j _ hj
    refine Finset.sum_eq_zero fun h _ => ?_
    have e1 : (j.val * 64 + h.val) / 64 = j.val := by omega
    simp only [e1, if_neg (fun e => hj (Fin.ext e.symm) : ¬ q = j.val), mul_zero]
  · intro h; exact absurd (Finset.mem_univ _) h

/-! ## One block -/

/-- The group and the state of a lane of block j, and the channel of a column. -/
def lg (j : Fin 8) (l : Fin 512) : Fin 64 := ⟨8 * j.val + l.val / 64, by omega⟩
def lp (l : Fin 512) : Fin 64 := ⟨l.val % 64, by omega⟩
def cc (j : Fin 8) (c : Fin 128) : Fin 1024 := ⟨128 * j.val + c.val, by omega⟩
def cl (c : Fin 128) : Fin 16 := ⟨c.val % 16, by omega⟩
/-- The step of a row. -/
def tm (r : Fin 2048) : Fin 2048 := ⟨128 * (r.val % 16) + r.val / 16, by omega⟩

/-- The numbers of block j of batch row b. -/
def blk (v : Vals) (b : Fin 2) (j : Fin 8) : Blk where
  U r c := v.u b (tm r) (cc j c)
  DY r c := v.dy b (tm r) (cc j c)
  BR c l := if c.val / 16 = l.val / 64 then v.br (lg j l) (lp l) (cl c) else 0
  BI c l := if c.val / 16 = l.val / 64 then v.bi (lg j l) (lp l) (cl c) else 0
  CR l c := if c.val / 16 = l.val / 64 then v.cr (lg j l) (cl c) (lp l) else 0
  CI l c := if c.val / 16 = l.val / 64 then v.ci (lg j l) (cl c) (lp l) else 0
  lam l := v.lam (lg j l) (lp l)
  D c := v.d (cc j c)

variable (v : Vals) (b : Fin 2) (j : Fin 8)

theorem tm_row (i : ℕ) (hi : i < 128) (s : Fin 16) : tm (rowN i s) = Fin.ofNat 2048 (128 * s.val + i) := by
  refine Fin.ext ?_
  have hs := s.isLt
  show 128 * ((16 * i + s.val) % 2048 % 16) + (16 * i + s.val) % 2048 / 16 = (128 * s.val + i) % 2048
  rw [Nat.mod_eq_of_lt (by omega : 16 * i + s.val < 2048), Nat.mod_eq_of_lt (by omega : 128 * s.val + i < 2048)]
  omega

theorem cc_in (l : Fin 512) (h : Fin 16) (hh : 16 * (l.val / 64) + h.val < 128) : cc j ⟨16 * (l.val / 64) + h.val, hh⟩ = ch (lg j l) h :=
  Fin.ext (by show 128 * j.val + (16 * (l.val / 64) + h.val) = 16 * (8 * j.val + l.val / 64) + h.val; omega)

theorem cl_in (l : Fin 512) (h : Fin 16) (hh : 16 * (l.val / 64) + h.val < 128) : cl ⟨16 * (l.val / 64) + h.val, hh⟩ = h :=
  Fin.ext (by show (16 * (l.val / 64) + h.val) % 16 = h.val; omega)

theorem X_eq (i : ℕ) (hi : i < 128) (s : Fin 16) (l : Fin 512) : (blk v b j).X i s l = v.x b (lg j l) (lp l) (128 * s.val + i) := by
  refine congrArg₂ Complex.mk ?_ ?_
  · exact (sum_in (l.val / 64) (by omega) (fun c => v.u b (tm (rowN i s)) (cc j c)) (fun c => v.br (lg j l) (lp l) (cl c))).trans
      (Finset.sum_congr rfl fun h _ => by simp only [cc_in, cl_in, tm_row i hi])
  · exact (sum_in (l.val / 64) (by omega) (fun c => v.u b (tm (rowN i s)) (cc j c)) (fun c => v.bi (lg j l) (lp l) (cl c))).trans
      (Finset.sum_congr rfl fun h _ => by simp only [cc_in, cl_in, tm_row i hi])

theorem Y_eq (i : ℕ) (hi : i < 128) (s : Fin 16) (l : Fin 512) : (blk v b j).Y i s l = v.w b (lg j l) (lp l) (128 * s.val + i) := by
  refine congrArg₂ Complex.mk ?_ (congrArg Neg.neg ?_)
  · exact (sum_in (l.val / 64) (by omega) (fun c => v.dy b (tm (rowN i s)) (cc j c)) (fun c => v.cr (lg j l) (cl c) (lp l))).trans
      (Finset.sum_congr rfl fun h _ => by simp only [cc_in, cl_in, tm_row i hi])
  · exact (sum_in (l.val / 64) (by omega) (fun c => v.dy b (tm (rowN i s)) (cc j c)) (fun c => v.ci (lg j l) (cl c) (lp l))).trans
      (Finset.sum_congr rfl fun h _ => by simp only [cc_in, cl_in, tm_row i hi])

theorem H_eq (i : ℕ) (hi : i < 128) (s : Fin 16) (l : Fin 512) : (blk v b j).H i s l = v.st b (lg j l) (lp l) (128 * s.val + i + 1) := by
  unfold Blk.H Vals.st
  refine loc_congr _ _ fun t ht => ?_
  have := s.isLt
  unfold seq
  rw [X_eq v b j (t % 128) (by omega)]
  congr 1
  show 128 * (t / 128 % 16) + t % 128 = t
  omega

theorem A_eq (i : ℕ) (hi : i < 128) (s : Fin 16) (l : Fin 512) :
    (blk v b j).A i s l = v.ad b (lg j l) (lp l) (2048 - (128 * s.val + i)) := by
  have hs := s.isLt
  unfold Blk.A Vals.ad
  have e : 128 * s.rev.val + (128 - i) = 2048 - (128 * s.val + i) := by rw [Fin.val_rev]; omega
  rw [e]
  refine loc_congr _ _ fun t ht => ?_
  unfold seq Blk.R
  rw [Y_eq v b j (127 - t % 128) (by omega), Fin.val_rev]
  congr 1
  show 128 * (16 - (t / 128 % 16 + 1)) + (127 - t % 128) = 2047 - t
  omega

/-! ## The block's results -/

theorem HH_eq (r : Fin 2048) (l : Fin 512) : (blk v b j).HH r l = v.st b (lg j l) (lp l) ((tm r).val + 1) := by
  unfold Blk.HH
  rw [H_eq v b j (r.val / 16) (by omega)]; rfl

theorem AA_eq (r : Fin 2048) (l : Fin 512) : (blk v b j).AA r l = v.aj b (lg j l) (lp l) (tm r) := by
  unfold Blk.AA
  rw [A_eq v b j (r.val / 16) (by omega)]; rfl

theorem rows_tm (F : Fin 2048 → ℝ) : ∑ r, F (tm r) = ∑ t, F t :=
  sum_rows _ _ fun i s => congrArg F (Fin.ext (by
    show 128 * ((i.val * 16 + s.val) % 16) + (i.val * 16 + s.val) / 16 = s.val * 128 + i.val
    omega))

theorem du_eq (r : Fin 2048) (c : Fin 128) :
    ∑ l, ((blk v b j).AA r l).re * (blk v b j).BR c l + ∑ l, ((blk v b j).AA r l).im * (blk v b j).BI c l + (blk v b j).D c * (blk v b j).DY r c
      = v.du b (tm r) (cc j c) := by
  have eg (p : Fin 64) (hp : 64 * (c.val / 16) + p.val < 512) : lg j ⟨64 * (c.val / 16) + p.val, hp⟩ = cg (cc j c) :=
    Fin.ext (by show 8 * j.val + (64 * (c.val / 16) + p.val) / 64 = (128 * j.val + c.val) / 16; omega)
  have ep (p : Fin 64) (hp : 64 * (c.val / 16) + p.val < 512) : lp ⟨64 * (c.val / 16) + p.val, hp⟩ = p :=
    Fin.ext (by show (64 * (c.val / 16) + p.val) % 64 = p.val; omega)
  have eh : cl c = cp (cc j c) := Fin.ext (by show c.val % 16 = (128 * j.val + c.val) % 16; omega)
  refine congrArg₂ (· + ·) (congrArg₂ (· + ·) ?_ ?_) rfl
  · exact (sum_lanes (c.val / 16) (by omega) (fun l => ((blk v b j).AA r l).re) (fun l => v.br (lg j l) (lp l) (cl c))).trans
      (Finset.sum_congr rfl fun p _ => by simp only [AA_eq, eg, ep, eh])
  · exact (sum_lanes (c.val / 16) (by omega) (fun l => ((blk v b j).AA r l).im) (fun l => v.bi (lg j l) (lp l) (cl c))).trans
      (Finset.sum_congr rfl fun p _ => by simp only [AA_eq, eg, ep, eh])

theorem dbr_eq (c : Fin 128) (l : Fin 512) :
    ∑ r, (blk v b j).U r c * ((blk v b j).AA r l).re = ∑ t, v.u b t (cc j c) * (v.aj b (lg j l) (lp l) t).re := by
  simp only [AA_eq]
  exact rows_tm fun t => v.u b t (cc j c) * (v.aj b (lg j l) (lp l) t).re

theorem dbi_eq (c : Fin 128) (l : Fin 512) :
    ∑ r, (blk v b j).U r c * ((blk v b j).AA r l).im = ∑ t, v.u b t (cc j c) * (v.aj b (lg j l) (lp l) t).im := by
  simp only [AA_eq]
  exact rows_tm fun t => v.u b t (cc j c) * (v.aj b (lg j l) (lp l) t).im

theorem dcr_eq (l : Fin 512) (c : Fin 128) :
    ∑ r, ((blk v b j).HH r l).re * (blk v b j).DY r c = ∑ t : Fin 2048, (v.st b (lg j l) (lp l) (t.val + 1)).re * v.dy b t (cc j c) := by
  simp only [HH_eq]
  exact rows_tm fun t => (v.st b (lg j l) (lp l) (t.val + 1)).re * v.dy b t (cc j c)

theorem dci_eq (l : Fin 512) (c : Fin 128) :
    -∑ r, ((blk v b j).HH r l).im * (blk v b j).DY r c = -∑ t : Fin 2048, (v.st b (lg j l) (lp l) (t.val + 1)).im * v.dy b t (cc j c) := by
  simp only [HH_eq]
  exact congrArg Neg.neg (rows_tm fun t => (v.st b (lg j l) (lp l) (t.val + 1)).im * v.dy b t (cc j c))

theorem dd_eq (c : Fin 128) : ∑ r, (blk v b j).DY r c * (blk v b j).U r c = ∑ t, v.dy b t (cc j c) * v.u b t (cc j c) :=
  rows_tm fun t => v.dy b t (cc j c) * v.u b t (cc j c)

theorem dlam_eq (l : Fin 512) :
    ∑ s, (blk v b j).G s l = ∑ t : Fin 2048, starRingEnd ℂ (v.st b (lg j l) (lp l) t.val) * v.aj b (lg j l) (lp l) t := by
  rw [Fin.sum_univ_tiles 16 128 rfl]
  refine Finset.sum_congr rfl fun s _ => ?_
  have hs := s.isLt
  have e (i : ℕ) (hi : i < 128) : (blk v b j).A i s l = v.ad b (lg j l) (lp l) (2048 - (s.val * 128 + i)) := by
    rw [A_eq v b j i hi, mul_comm 128]
  have e0 : loc ((blk v b j).lam l) (seq (blk v b j).X l) (128 * s.val) = v.st b (lg j l) (lp l) (s.val * 128 + 0) := by
    unfold Vals.st
    rw [add_zero, mul_comm s.val]
    refine loc_congr _ _ fun t ht => ?_
    unfold seq
    rw [X_eq v b j (t % 128) (by omega)]
    congr 1
    show 128 * (t / 128 % 16) + t % 128 = t
    omega
  unfold Blk.G
  rw [e0, e 0 (by omega), add_comm]
  show _ = ∑ i : Fin 128, (fun i : ℕ => starRingEnd ℂ (v.st b (lg j l) (lp l) (s.val * 128 + i)) * v.ad b (lg j l) (lp l) (2048 - (s.val * 128 + i))) i.val
  rw [Fin.sum_univ_eq_sum_range (fun i : ℕ => starRingEnd ℂ (v.st b (lg j l) (lp l) (s.val * 128 + i)) * v.ad b (lg j l) (lp l) (2048 - (s.val * 128 + i))) 128,
    Finset.sum_range_succ' _ 127]
  refine congrArg₂ (· + ·) (Finset.sum_congr rfl fun k hk => ?_) rfl
  have hk := Finset.mem_range.mp hk
  rw [e (k + 1) (by omega), H_eq v b j k (by omega), mul_comm 128, ← add_assoc]

end Model

end
-- ==== Proof.Elements.lean ====
/- The host's lines around the call, read at an element. -/
module

public import proofs.«01_k».proof.Proof.Around
public import proofs.«01_k».proof.Proof.Model

@[expose] public section

set_option maxRecDepth 16384

noncomputable section

namespace Cert.KernelIdeal.Around

open Idealize.ShloMosaic
open Idealize.ShloMosaic.TcCoe Idealize.SL.Sem
open Cert.KernelIdeal Cert.KernelIdeal.Gen
open Model (lg lp cc cl tm cg cp)

theorem at3 {n0 n1 n2 : ℕ} {α : Type} (a : (⟨3, ![n0, n1, n2]⟩ : Shape).Idx → α) {x x' : Fin n0} {y y' : Fin n1} {z z' : Fin n2}
    (hx : x.val = x'.val) (hy : y.val = y'.val) (hz : z.val = z'.val) : a (ix3 x y z) = a (ix3 x' y' z') := by
  cases Fin.ext hx; cases Fin.ext hy; cases Fin.ext hz; rfl

theorem at2 {n0 n1 : ℕ} {α : Type} (a : (⟨2, ![n0, n1]⟩ : Shape).Idx → α) {x x' : Fin n0} {y y' : Fin n1}
    (hx : x.val = x'.val) (hy : y.val = y'.val) : a (ix2 x y) = a (ix2 x' y') := by
  cases Fin.ext hx; cases Fin.ext hy; rfl

/-- Row r of batch row b. -/
def row (b : Fin 2) (r : Fin 2048) : Fin 4096 := ⟨b.val * 2048 + r.val, by omega⟩

theorem inU_at (a : FVec Ideal S2x2048x1024 .f32) (b : Fin 2) (r : Fin 2048) (c : Fin 1024) : inU a (ix2 (row b r) c) = a (ix3 b (tm r) c) := by
  pointwise [inU]
  refine at3 a ?_ ?_ rfl
  · show (b.val * 2048 + r.val) / 2048 = b.val; omega
  · show (b.val * 2048 + r.val) % 16 * 128 + (b.val * 2048 + r.val) / 16 % 128 = 128 * (r.val % 16) + r.val / 16; omega

/-- The row of a step. -/
def rt (t : Fin 2048) : Fin 2048 := ⟨t.val % 128 * 16 + t.val / 128, by omega⟩

theorem tm_rt (t : Fin 2048) : tm (rt t) = t := Fin.ext (by
  show 128 * ((t.val % 128 * 16 + t.val / 128) % 16) + (t.val % 128 * 16 + t.val / 128) / 16 = t.val; omega)

theorem outU_at (a : FVec Ideal S4096x1024 .f32) (b : Fin 2) (t : Fin 2048) (c : Fin 1024) : outU a (ix3 b t c) = a (ix2 (row b (rt t)) c) := by
  pointwise [outU]
  exact at2 a (by show b.val * 2048 + t.val % 128 * 16 + t.val / 128 = b.val * 2048 + (t.val % 128 * 16 + t.val / 128); omega) rfl

theorem inL_at (a : FVec Ideal S64x64 .f32) (j : Fin 8) (s : Fin 16) (l : Fin 512) : inL a (ix3 j s l) = a (ix2 (lg j l) (lp l)) := by
  pointwise [inL]
  exact at2 a (by show j.val * 8 + l.val / 64 = 8 * j.val + l.val / 64; omega) rfl

/-- A comparison's bit as a number, on a product. -/
theorem mul_bit (x : EReal) (m n : ℕ) (hm : m < 8) (hn : n < 8) :
    x * (FloatOps.uitofp (F := Ideal) FTy.f32 (IntOp.cmpi CmpIPredicate.eq (IntOp.addi (BitVec.ofNat 32 m) 0#32) (BitVec.ofNat 32 n)) : EReal)
      = if m = n then x else 0 := by
  have h : ∀ m n : Fin 8, IntOp.cmpi CmpIPredicate.eq (IntOp.addi (BitVec.ofNat 32 m.val) 0#32) (BitVec.ofNat 32 n.val) = if m = n then 1#1 else 0#1 := by
    decide
  have h' := h ⟨m, hm⟩ ⟨n, hn⟩
  simp only [Fin.mk.injEq] at h'
  rw [h']
  split
  · show x * (((1#1 : BitVec 1).toNat : ℝ) : EReal) = x
    norm_num
  · show x * (((0#1 : BitVec 1).toNat : ℝ) : EReal) = 0
    norm_num

theorem inB_at (a : FVec Ideal S64x64x16 .f32) (j : Fin 8) (c : Fin 128) (l : Fin 512) :
    inB a (ix3 j c l) = if c.val / 16 = l.val / 64 then a (ix3 (lg j l) (lp l) (cl c)) else (0 : EReal) := by
  pointwise [inB, eye]
  refine (mul_bit _ _ _ (by omega) (by omega)).trans ?_
  split
  · next h => exact at3 a (by show j.val * 8 + c.val / 16 = 8 * j.val + l.val / 64; omega) rfl rfl
  · rfl

theorem inC_at (a : FVec Ideal S64x16x64 .f32) (j : Fin 8) (c : Fin 128) (l : Fin 512) :
    inC a (ix3 j l c) = if c.val / 16 = l.val / 64 then a (ix3 (lg j l) (cl c) (lp l)) else (0 : EReal) := by
  pointwise [inC, eye]
  refine (mul_bit _ _ _ (by omega) (by omega)).trans ?_
  by_cases h : l.val / 64 = c.val / 16
  · rw [if_pos h, if_pos h.symm]
    exact at3 a (by show j.val * 8 + l.val / 64 = 8 * j.val + l.val / 64; omega) rfl rfl
  · rw [if_neg h, if_neg fun e => h e.symm]

/-! ## The results -/

/-- The block of a group, and the lane and the column of an entry. -/
def bl (g : Fin 64) : Fin 8 := ⟨g.val / 8, by omega⟩
def ln (g p : Fin 64) : Fin 512 := ⟨g.val % 8 * 64 + p.val, by omega⟩
def cn (g : Fin 64) (h : Fin 16) : Fin 128 := ⟨g.val % 8 * 16 + h.val, by omega⟩

theorem lg_ln (g p : Fin 64) : lg (bl g) (ln g p) = g := Fin.ext (by
  show 8 * (g.val / 8) + (g.val % 8 * 64 + p.val) / 64 = g.val; omega)
theorem lp_ln (g p : Fin 64) : lp (ln g p) = p := Fin.ext (by show (g.val % 8 * 64 + p.val) % 64 = p.val; omega)
theorem cc_cn (g : Fin 64) (h : Fin 16) : cc (bl g) (cn g h) = Model.ch g h := Fin.ext (by
  show 128 * (g.val / 8) + (g.val % 8 * 16 + h.val) = 16 * g.val + h.val; omega)

theorem sum_two (hr : S2x8x16x512.ReducesTo [0, 2] S8x512) (a : S2x8x16x512.Idx → EReal) (j : Fin 8) (l : Fin 512) :
    Ideal.hostReduceAdd hr a 0 (ix2 j l) = ∑ b : Fin 2, ∑ s : Fin 16, a (ix4 b j s l) := by
  unfold Ideal.hostReduceAdd
  rw [zero_add, ← Fintype.sum_prod_type']
  symm
  refine Finset.sum_nbij' (fun q => ix4 q.1 j q.2 l) (fun i => (i 0, i 2)) ?_ ?_ ?_ ?_ ?_
  · intro q _
    refine Finset.mem_filter.2 ⟨Finset.mem_univ _, ?_⟩
    funext x; fin_cases x <;> rfl
  · intro i _; exact Finset.mem_univ _
  · intro q _; rfl
  · intro i hi
    have h := (Finset.mem_filter.1 hi).2
    have h0 : i 1 = j := congrFun h 0
    have h1 : i 3 = l := congrFun h 1
    funext x; fin_cases x
    · rfl
    · exact h0.symm
    · rfl
    · exact h1.symm
  · intro q _; rfl

theorem outL_at (a : FVec Ideal S2x8x16x512 .f32) (g p : Fin 64) : outL a (ix2 g p) = ∑ b : Fin 2, ∑ s : Fin 16, a (ix4 b (bl g) s (ln g p)) := by
  pointwise [outL]
  exact sum_two _ a _ _

theorem outD_at (a : FVec Ideal S2x8x1x128 .f32) (p : Fin 1024) :
    outD a (ix2 0 p) = ∑ b : Fin 2, (show EReal from a (ix4 b (⟨p.val / 128, by omega⟩ : Fin 8) 0 (⟨p.val % 128, by omega⟩ : Fin 128))) := by
  pointwise [outD]

theorem places_at (a : Fin 8) (p : Fin 2) : (places (ix2 a p)).toInt.toNat = a.val := by
  pointwise [places, place]
  have h : ∀ a : Fin 8, (Scalar.select (IntOp.cmpi CmpIPredicate.slt (BitVec.ofNat 32 a.val) 0#32) (IntOp.addi (BitVec.ofNat 32 a.val) 8#32)
      (BitVec.ofNat 32 a.val)).toInt.toNat = a.val := by decide
  split <;> exact h a

theorem pickB {α : Type} (x : S8x8x16x8x64.Idx → α) (k q : Fin 8) (h : Fin 16) (p : Fin 64) :
    Host.gather gather_S8x8x16x8x64_S8x2_S8x8x16x64_123_13_n_n_13_1_8116164 x places (ix4 k q h p) = x (ix5 q k h k p) := by
  unfold Host.gather
  congr 1
  funext a
  refine Fin.ext ?_
  have e1 : ∀ n : Fin 2, (gather_S8x8x16x8x64_S8x2_S8x8x16x64_123_13_n_n_13_1_8116164).siIdx (ix4 k q h p) n = ix2 k n := fun n => by
    funext b; fin_cases b
    · rfl
    · rfl
  fin_cases a
  · show 0 + 0 + q.val = q.val; omega
  · show min (places ((gather_S8x8x16x8x64_S8x2_S8x8x16x64_123_13_n_n_13_1_8116164).siIdx (ix4 k q h p) (0 : Fin 2))).toInt.toNat (8 - 1) + 0 + 0 = k.val
    rw [e1, places_at]; omega
  · show 0 + 0 + h.val = h.val; omega
  · show min (places ((gather_S8x8x16x8x64_S8x2_S8x8x16x64_123_13_n_n_13_1_8116164).siIdx (ix4 k q h p) (1 : Fin 2))).toInt.toNat (8 - 1) + 0 + 0 = k.val
    rw [e1, places_at]; omega
  · show 0 + 0 + p.val = p.val; omega

theorem pickC {α : Type} (x : S8x8x64x8x16.Idx → α) (k q : Fin 8) (p : Fin 64) (h : Fin 16) :
    Host.gather gather_S8x8x64x8x16_S8x2_S8x8x64x16_123_13_n_n_13_1_8164116 x places (ix4 k q p h) = x (ix5 q k p k h) := by
  unfold Host.gather
  congr 1
  funext a
  refine Fin.ext ?_
  have e1 : ∀ n : Fin 2, (gather_S8x8x64x8x16_S8x2_S8x8x64x16_123_13_n_n_13_1_8164116).siIdx (ix4 k q p h) n = ix2 k n := fun n => by
    funext b; fin_cases b
    · rfl
    · rfl
  fin_cases a
  · show 0 + 0 + q.val = q.val; omega
  · show min (places ((gather_S8x8x64x8x16_S8x2_S8x8x64x16_123_13_n_n_13_1_8164116).siIdx (ix4 k q p h) (0 : Fin 2))).toInt.toNat (8 - 1) + 0 + 0 = k.val
    rw [e1, places_at]; omega
  · show 0 + 0 + p.val = p.val; omega
  · show min (places ((gather_S8x8x64x8x16_S8x2_S8x8x64x16_123_13_n_n_13_1_8164116).siIdx (ix4 k q p h) (1 : Fin 2))).toInt.toNat (8 - 1) + 0 + 0 = k.val
    rw [e1, places_at]; omega
  · show 0 + 0 + h.val = h.val; omega

theorem outB_at (a : FVec Ideal S2x8x128x512 .f32) (g p : Fin 64) (h : Fin 16) :
    outB a (ix3 g p h) = ∑ b : Fin 2, (show EReal from a (ix4 b (bl g) (cn g h) (ln g p))) := by
  pointwise [outB, pickB]
  refine Finset.sum_congr rfl fun b _ => congrArg a ?_
  refine congrArg₂ (fun (x : Fin 128) (y : Fin 512) => ix4 b (bl g) x y) (Fin.ext ?_) (Fin.ext ?_)
  · show _ = g.val % 8 * 16 + h.val; rfl
  · show _ = g.val % 8 * 64 + p.val; rfl

theorem outC_at (a : FVec Ideal S2x8x512x128 .f32) (g p : Fin 64) (h : Fin 16) :
    outC a (ix3 g h p) = ∑ b : Fin 2, (show EReal from a (ix4 b (bl g) (ln g p) (cn g h))) := by
  pointwise [outC, pickC]
  refine Finset.sum_congr rfl fun b _ => congrArg a ?_
  refine congrArg₂ (fun (x : Fin 512) (y : Fin 128) => ix4 b (bl g) x y) (Fin.ext ?_) (Fin.ext ?_)
  · show _ = g.val % 8 * 64 + p.val; rfl
  · show _ = g.val % 8 * 16 + h.val; rfl

end Cert.KernelIdeal.Around
end
-- ==== Proof.Entry.lean ====
/- The arrays the call reads, from the arguments. -/
module

public import proofs.«01_k».proof.Proof.Around

@[expose] public section

set_option maxRecDepth 16384

noncomputable section

namespace Cert.KernelIdeal.Around

open Idealize.ShloMosaic
open Idealize.ShloMosaic.TcCoe Idealize.SL.Sem
open Cert.KernelIdeal Cert.KernelIdeal.Gen
open StableHlo

section Keeps

variable (V : Valuation τ sig (Elt Ideal))

theorem pre6_keep_main_v14 : after pre6 V (Proc.devRef .tc main_v14) = V (Proc.devRef .tc main_v14) :=
  after_of_writes_sub pre6 V pre6_writes (by decide +kernel)

theorem pre5_keep_main_v14 : after pre5 V (Proc.devRef .tc main_v14) = V (Proc.devRef .tc main_v14) :=
  after_of_writes_sub pre5 V pre5_writes (by decide +kernel)

theorem pre4_keep_main_v14 : after pre4 V (Proc.devRef .tc main_v14) = V (Proc.devRef .tc main_v14) :=
  after_of_writes_sub pre4 V pre4_writes (by decide +kernel)

theorem pre3_keep_main_v14 : after pre3 V (Proc.devRef .tc main_v14) = V (Proc.devRef .tc main_v14) :=
  after_of_writes_sub pre3 V pre3_writes (by decide +kernel)

theorem pre2_keep_main_v14 : after pre2 V (Proc.devRef .tc main_v14) = V (Proc.devRef .tc main_v14) :=
  after_of_writes_sub pre2 V pre2_writes (by decide +kernel)

theorem pre1_keep_main_v14 : after pre1 V (Proc.devRef .tc main_v14) = V (Proc.devRef .tc main_v14) :=
  after_of_writes_sub pre1 V pre1_writes (by decide +kernel)

theorem pre6_keep_main_v29 : after pre6 V (Proc.devRef .tc main_v29) = V (Proc.devRef .tc main_v29) :=
  after_of_writes_sub pre6 V pre6_writes (by decide +kernel)

theorem pre5_keep_main_v29 : after pre5 V (Proc.devRef .tc main_v29) = V (Proc.devRef .tc main_v29) :=
  after_of_writes_sub pre5 V pre5_writes (by decide +kernel)

theorem pre4_keep_main_v29 : after pre4 V (Proc.devRef .tc main_v29) = V (Proc.devRef .tc main_v29) :=
  after_of_writes_sub pre4 V pre4_writes (by decide +kernel)

theorem pre3_keep_main_v29 : after pre3 V (Proc.devRef .tc main_v29) = V (Proc.devRef .tc main_v29) :=
  after_of_writes_sub pre3 V pre3_writes (by decide +kernel)

theorem pre2_keep_main_v29 : after pre2 V (Proc.devRef .tc main_v29) = V (Proc.devRef .tc main_v29) :=
  after_of_writes_sub pre2 V pre2_writes (by decide +kernel)

theorem pre0_keep_main_arg5 : after pre0 V (Proc.devRef .tc main_arg5) = V (Proc.devRef .tc main_arg5) :=
  after_of_writes_sub pre0 V pre0_writes (by decide +kernel)

theorem pre6_keep_main_v44 : after pre6 V (Proc.devRef .tc main_v44) = V (Proc.devRef .tc main_v44) :=
  after_of_writes_sub pre6 V pre6_writes (by decide +kernel)

theorem pre5_keep_main_v44 : after pre5 V (Proc.devRef .tc main_v44) = V (Proc.devRef .tc main_v44) :=
  after_of_writes_sub pre5 V pre5_writes (by decide +kernel)

theorem pre4_keep_main_v44 : after pre4 V (Proc.devRef .tc main_v44) = V (Proc.devRef .tc main_v44) :=
  after_of_writes_sub pre4 V pre4_writes (by decide +kernel)

theorem pre3_keep_main_v44 : after pre3 V (Proc.devRef .tc main_v44) = V (Proc.devRef .tc main_v44) :=
  after_of_writes_sub pre3 V pre3_writes (by decide +kernel)

theorem pre1_keep_main_arg6 : after pre1 V (Proc.devRef .tc main_arg6) = V (Proc.devRef .tc main_arg6) :=
  after_of_writes_sub pre1 V pre1_writes (by decide +kernel)

theorem pre0_keep_main_arg6 : after pre0 V (Proc.devRef .tc main_arg6) = V (Proc.devRef .tc main_arg6) :=
  after_of_writes_sub pre0 V pre0_writes (by decide +kernel)

theorem pre6_keep_main_v59 : after pre6 V (Proc.devRef .tc main_v59) = V (Proc.devRef .tc main_v59) :=
  after_of_writes_sub pre6 V pre6_writes (by decide +kernel)

theorem pre5_keep_main_v59 : after pre5 V (Proc.devRef .tc main_v59) = V (Proc.devRef .tc main_v59) :=
  after_of_writes_sub pre5 V pre5_writes (by decide +kernel)

theorem pre4_keep_main_v59 : after pre4 V (Proc.devRef .tc main_v59) = V (Proc.devRef .tc main_v59) :=
  after_of_writes_sub pre4 V pre4_writes (by decide +kernel)

theorem pre2_keep_main_arg7 : after pre2 V (Proc.devRef .tc main_arg7) = V (Proc.devRef .tc main_arg7) :=
  after_of_writes_sub pre2 V pre2_writes (by decide +kernel)

theorem pre1_keep_main_arg7 : after pre1 V (Proc.devRef .tc main_arg7) = V (Proc.devRef .tc main_arg7) :=
  after_of_writes_sub pre1 V pre1_writes (by decide +kernel)

theorem pre0_keep_main_arg7 : after pre0 V (Proc.devRef .tc main_arg7) = V (Proc.devRef .tc main_arg7) :=
  after_of_writes_sub pre0 V pre0_writes (by decide +kernel)

theorem pre6_keep_main_v61 : after pre6 V (Proc.devRef .tc main_v61) = V (Proc.devRef .tc main_v61) :=
  after_of_writes_sub pre6 V pre6_writes (by decide +kernel)

theorem pre5_keep_main_v61 : after pre5 V (Proc.devRef .tc main_v61) = V (Proc.devRef .tc main_v61) :=
  after_of_writes_sub pre5 V pre5_writes (by decide +kernel)

theorem pre3_keep_main_arg2 : after pre3 V (Proc.devRef .tc main_arg2) = V (Proc.devRef .tc main_arg2) :=
  after_of_writes_sub pre3 V pre3_writes (by decide +kernel)

theorem pre2_keep_main_arg2 : after pre2 V (Proc.devRef .tc main_arg2) = V (Proc.devRef .tc main_arg2) :=
  after_of_writes_sub pre2 V pre2_writes (by decide +kernel)

theorem pre1_keep_main_arg2 : after pre1 V (Proc.devRef .tc main_arg2) = V (Proc.devRef .tc main_arg2) :=
  after_of_writes_sub pre1 V pre1_writes (by decide +kernel)

theorem pre0_keep_main_arg2 : after pre0 V (Proc.devRef .tc main_arg2) = V (Proc.devRef .tc main_arg2) :=
  after_of_writes_sub pre0 V pre0_writes (by decide +kernel)

theorem pre6_keep_main_v63 : after pre6 V (Proc.devRef .tc main_v63) = V (Proc.devRef .tc main_v63) :=
  after_of_writes_sub pre6 V pre6_writes (by decide +kernel)

theorem pre5_keep_main_v63 : after pre5 V (Proc.devRef .tc main_v63) = V (Proc.devRef .tc main_v63) :=
  after_of_writes_sub pre5 V pre5_writes (by decide +kernel)

theorem pre3_keep_main_arg3 : after pre3 V (Proc.devRef .tc main_arg3) = V (Proc.devRef .tc main_arg3) :=
  after_of_writes_sub pre3 V pre3_writes (by decide +kernel)

theorem pre2_keep_main_arg3 : after pre2 V (Proc.devRef .tc main_arg3) = V (Proc.devRef .tc main_arg3) :=
  after_of_writes_sub pre2 V pre2_writes (by decide +kernel)

theorem pre1_keep_main_arg3 : after pre1 V (Proc.devRef .tc main_arg3) = V (Proc.devRef .tc main_arg3) :=
  after_of_writes_sub pre1 V pre1_writes (by decide +kernel)

theorem pre0_keep_main_arg3 : after pre0 V (Proc.devRef .tc main_arg3) = V (Proc.devRef .tc main_arg3) :=
  after_of_writes_sub pre0 V pre0_writes (by decide +kernel)

theorem pre6_keep_main_v67 : after pre6 V (Proc.devRef .tc main_v67) = V (Proc.devRef .tc main_v67) :=
  after_of_writes_sub pre6 V pre6_writes (by decide +kernel)

theorem pre4_keep_main_arg0 : after pre4 V (Proc.devRef .tc main_arg0) = V (Proc.devRef .tc main_arg0) :=
  after_of_writes_sub pre4 V pre4_writes (by decide +kernel)

theorem pre3_keep_main_arg0 : after pre3 V (Proc.devRef .tc main_arg0) = V (Proc.devRef .tc main_arg0) :=
  after_of_writes_sub pre3 V pre3_writes (by decide +kernel)

theorem pre2_keep_main_arg0 : after pre2 V (Proc.devRef .tc main_arg0) = V (Proc.devRef .tc main_arg0) :=
  after_of_writes_sub pre2 V pre2_writes (by decide +kernel)

theorem pre1_keep_main_arg0 : after pre1 V (Proc.devRef .tc main_arg0) = V (Proc.devRef .tc main_arg0) :=
  after_of_writes_sub pre1 V pre1_writes (by decide +kernel)

theorem pre0_keep_main_arg0 : after pre0 V (Proc.devRef .tc main_arg0) = V (Proc.devRef .tc main_arg0) :=
  after_of_writes_sub pre0 V pre0_writes (by decide +kernel)

theorem pre5_keep_main_arg1 : after pre5 V (Proc.devRef .tc main_arg1) = V (Proc.devRef .tc main_arg1) :=
  after_of_writes_sub pre5 V pre5_writes (by decide +kernel)

theorem pre4_keep_main_arg1 : after pre4 V (Proc.devRef .tc main_arg1) = V (Proc.devRef .tc main_arg1) :=
  after_of_writes_sub pre4 V pre4_writes (by decide +kernel)

theorem pre3_keep_main_arg1 : after pre3 V (Proc.devRef .tc main_arg1) = V (Proc.devRef .tc main_arg1) :=
  after_of_writes_sub pre3 V pre3_writes (by decide +kernel)

theorem pre2_keep_main_arg1 : after pre2 V (Proc.devRef .tc main_arg1) = V (Proc.devRef .tc main_arg1) :=
  after_of_writes_sub pre2 V pre2_writes (by decide +kernel)

theorem pre1_keep_main_arg1 : after pre1 V (Proc.devRef .tc main_arg1) = V (Proc.devRef .tc main_arg1) :=
  after_of_writes_sub pre1 V pre1_writes (by decide +kernel)

theorem pre0_keep_main_arg1 : after pre0 V (Proc.devRef .tc main_arg1) = V (Proc.devRef .tc main_arg1) :=
  after_of_writes_sub pre0 V pre0_writes (by decide +kernel)

theorem pre_at_main_v14 : after (List.flatten [hostOps0]) V (Proc.devRef .tc main_v14) = inB (V (Proc.devRef .tc main_arg4)) := by
  rw [pre_eq, pre6_keep_main_v14, pre5_keep_main_v14, pre4_keep_main_v14, pre3_keep_main_v14, pre2_keep_main_v14, pre1_keep_main_v14, pre0_read]

theorem pre_at_main_v29 : after (List.flatten [hostOps0]) V (Proc.devRef .tc main_v29) = inB (V (Proc.devRef .tc main_arg5)) := by
  rw [pre_eq, pre6_keep_main_v29, pre5_keep_main_v29, pre4_keep_main_v29, pre3_keep_main_v29, pre2_keep_main_v29, pre1_read, pre0_keep_main_arg5]

theorem pre_at_main_v44 : after (List.flatten [hostOps0]) V (Proc.devRef .tc main_v44) = inC (V (Proc.devRef .tc main_arg6)) := by
  rw [pre_eq, pre6_keep_main_v44, pre5_keep_main_v44, pre4_keep_main_v44, pre3_keep_main_v44, pre2_read, pre1_keep_main_arg6, pre0_keep_main_arg6]

theorem pre_at_main_v59 : after (List.flatten [hostOps0]) V (Proc.devRef .tc main_v59) = inC (V (Proc.devRef .tc main_arg7)) := by
  rw [pre_eq, pre6_keep_main_v59, pre5_keep_main_v59, pre4_keep_main_v59, pre3_read, pre2_keep_main_arg7, pre1_keep_main_arg7, pre0_keep_main_arg7]

theorem pre_at_main_v61 : after (List.flatten [hostOps0]) V (Proc.devRef .tc main_v61) = inL (V (Proc.devRef .tc main_arg2)) := by
  rw [pre_eq, pre6_keep_main_v61, pre5_keep_main_v61, pre4_read_main_v61, pre3_keep_main_arg2, pre2_keep_main_arg2, pre1_keep_main_arg2, pre0_keep_main_arg2]

theorem pre_at_main_v63 : after (List.flatten [hostOps0]) V (Proc.devRef .tc main_v63) = inL (V (Proc.devRef .tc main_arg3)) := by
  rw [pre_eq, pre6_keep_main_v63, pre5_keep_main_v63, pre4_read_main_v63, pre3_keep_main_arg3, pre2_keep_main_arg3, pre1_keep_main_arg3, pre0_keep_main_arg3]

theorem pre_at_main_v67 : after (List.flatten [hostOps0]) V (Proc.devRef .tc main_v67) = inU (V (Proc.devRef .tc main_arg0)) := by
  rw [pre_eq, pre6_keep_main_v67, pre5_read_main_v67, pre4_keep_main_arg0, pre3_keep_main_arg0, pre2_keep_main_arg0, pre1_keep_main_arg0, pre0_keep_main_arg0]

theorem pre_at_main_v71 : after (List.flatten [hostOps0]) V (Proc.devRef .tc main_v71) = inU (V (Proc.devRef .tc main_arg1)) := by
  rw [pre_eq, pre6_read_main_v71, pre5_keep_main_arg1, pre4_keep_main_arg1, pre3_keep_main_arg1, pre2_keep_main_arg1, pre1_keep_main_arg1, pre0_keep_main_arg1]

theorem post7_keep_main_v74 : after post7 V (Proc.devRef .tc main_v74) = V (Proc.devRef .tc main_v74) :=
  after_of_writes_sub post7 V post7_writes (by decide +kernel)

theorem post6_keep_main_v74 : after post6 V (Proc.devRef .tc main_v74) = V (Proc.devRef .tc main_v74) :=
  after_of_writes_sub post6 V post6_writes (by decide +kernel)

theorem post5_keep_main_v74 : after post5 V (Proc.devRef .tc main_v74) = V (Proc.devRef .tc main_v74) :=
  after_of_writes_sub post5 V post5_writes (by decide +kernel)

theorem post4_keep_main_v74 : after post4 V (Proc.devRef .tc main_v74) = V (Proc.devRef .tc main_v74) :=
  after_of_writes_sub post4 V post4_writes (by decide +kernel)

theorem post3_keep_main_v74 : after post3 V (Proc.devRef .tc main_v74) = V (Proc.devRef .tc main_v74) :=
  after_of_writes_sub post3 V post3_writes (by decide +kernel)

theorem post2_keep_main_v74 : after post2 V (Proc.devRef .tc main_v74) = V (Proc.devRef .tc main_v74) :=
  after_of_writes_sub post2 V post2_writes (by decide +kernel)

theorem post1_keep_main_v74 : after post1 V (Proc.devRef .tc main_v74) = V (Proc.devRef .tc main_v74) :=
  after_of_writes_sub post1 V post1_writes (by decide +kernel)

theorem post7_keep_main_v76 : after post7 V (Proc.devRef .tc main_v76) = V (Proc.devRef .tc main_v76) :=
  after_of_writes_sub post7 V post7_writes (by decide +kernel)

theorem post6_keep_main_v76 : after post6 V (Proc.devRef .tc main_v76) = V (Proc.devRef .tc main_v76) :=
  after_of_writes_sub post6 V post6_writes (by decide +kernel)

theorem post5_keep_main_v76 : after post5 V (Proc.devRef .tc main_v76) = V (Proc.devRef .tc main_v76) :=
  after_of_writes_sub post5 V post5_writes (by decide +kernel)

theorem post4_keep_main_v76 : after post4 V (Proc.devRef .tc main_v76) = V (Proc.devRef .tc main_v76) :=
  after_of_writes_sub post4 V post4_writes (by decide +kernel)

theorem post3_keep_main_v76 : after post3 V (Proc.devRef .tc main_v76) = V (Proc.devRef .tc main_v76) :=
  after_of_writes_sub post3 V post3_writes (by decide +kernel)

theorem post2_keep_main_v76 : after post2 V (Proc.devRef .tc main_v76) = V (Proc.devRef .tc main_v76) :=
  after_of_writes_sub post2 V post2_writes (by decide +kernel)

theorem post0_keep_main_v72_6 : after post0 V (Proc.devRef .tc main_v72_6) = V (Proc.devRef .tc main_v72_6) :=
  after_of_writes_sub post0 V post0_writes (by decide +kernel)

theorem post7_keep_main_v95 : after post7 V (Proc.devRef .tc main_v95) = V (Proc.devRef .tc main_v95) :=
  after_of_writes_sub post7 V post7_writes (by decide +kernel)

theorem post6_keep_main_v95 : after post6 V (Proc.devRef .tc main_v95) = V (Proc.devRef .tc main_v95) :=
  after_of_writes_sub post6 V post6_writes (by decide +kernel)

theorem post5_keep_main_v95 : after post5 V (Proc.devRef .tc main_v95) = V (Proc.devRef .tc main_v95) :=
  after_of_writes_sub post5 V post5_writes (by decide +kernel)

theorem post4_keep_main_v95 : after post4 V (Proc.devRef .tc main_v95) = V (Proc.devRef .tc main_v95) :=
  after_of_writes_sub post4 V post4_writes (by decide +kernel)

theorem post3_keep_main_v95 : after post3 V (Proc.devRef .tc main_v95) = V (Proc.devRef .tc main_v95) :=
  after_of_writes_sub post3 V post3_writes (by decide +kernel)

theorem post1_keep_main_v72_1 : after post1 V (Proc.devRef .tc main_v72_1) = V (Proc.devRef .tc main_v72_1) :=
  after_of_writes_sub post1 V post1_writes (by decide +kernel)

theorem post0_keep_main_v72_1 : after post0 V (Proc.devRef .tc main_v72_1) = V (Proc.devRef .tc main_v72_1) :=
  after_of_writes_sub post0 V post0_writes (by decide +kernel)

theorem post7_keep_main_v114 : after post7 V (Proc.devRef .tc main_v114) = V (Proc.devRef .tc main_v114) :=
  after_of_writes_sub post7 V post7_writes (by decide +kernel)

theorem post6_keep_main_v114 : after post6 V (Proc.devRef .tc main_v114) = V (Proc.devRef .tc main_v114) :=
  after_of_writes_sub post6 V post6_writes (by decide +kernel)

theorem post5_keep_main_v114 : after post5 V (Proc.devRef .tc main_v114) = V (Proc.devRef .tc main_v114) :=
  after_of_writes_sub post5 V post5_writes (by decide +kernel)

theorem post4_keep_main_v114 : after post4 V (Proc.devRef .tc main_v114) = V (Proc.devRef .tc main_v114) :=
  after_of_writes_sub post4 V post4_writes (by decide +kernel)

theorem post2_keep_main_v72_2 : after post2 V (Proc.devRef .tc main_v72_2) = V (Proc.devRef .tc main_v72_2) :=
  after_of_writes_sub post2 V post2_writes (by decide +kernel)

theorem post1_keep_main_v72_2 : after post1 V (Proc.devRef .tc main_v72_2) = V (Proc.devRef .tc main_v72_2) :=
  after_of_writes_sub post1 V post1_writes (by decide +kernel)

theorem post0_keep_main_v72_2 : after post0 V (Proc.devRef .tc main_v72_2) = V (Proc.devRef .tc main_v72_2) :=
  after_of_writes_sub post0 V post0_writes (by decide +kernel)

theorem post7_keep_main_v133 : after post7 V (Proc.devRef .tc main_v133) = V (Proc.devRef .tc main_v133) :=
  after_of_writes_sub post7 V post7_writes (by decide +kernel)

theorem post6_keep_main_v133 : after post6 V (Proc.devRef .tc main_v133) = V (Proc.devRef .tc main_v133) :=
  after_of_writes_sub post6 V post6_writes (by decide +kernel)

theorem post5_keep_main_v133 : after post5 V (Proc.devRef .tc main_v133) = V (Proc.devRef .tc main_v133) :=
  after_of_writes_sub post5 V post5_writes (by decide +kernel)

theorem post3_keep_main_v72_3 : after post3 V (Proc.devRef .tc main_v72_3) = V (Proc.devRef .tc main_v72_3) :=
  after_of_writes_sub post3 V post3_writes (by decide +kernel)

theorem post2_keep_main_v72_3 : after post2 V (Proc.devRef .tc main_v72_3) = V (Proc.devRef .tc main_v72_3) :=
  after_of_writes_sub post2 V post2_writes (by decide +kernel)

theorem post1_keep_main_v72_3 : after post1 V (Proc.devRef .tc main_v72_3) = V (Proc.devRef .tc main_v72_3) :=
  after_of_writes_sub post1 V post1_writes (by decide +kernel)

theorem post0_keep_main_v72_3 : after post0 V (Proc.devRef .tc main_v72_3) = V (Proc.devRef .tc main_v72_3) :=
  after_of_writes_sub post0 V post0_writes (by decide +kernel)

theorem post7_keep_main_v152 : after post7 V (Proc.devRef .tc main_v152) = V (Proc.devRef .tc main_v152) :=
  after_of_writes_sub post7 V post7_writes (by decide +kernel)

theorem post6_keep_main_v152 : after post6 V (Proc.devRef .tc main_v152) = V (Proc.devRef .tc main_v152) :=
  after_of_writes_sub post6 V post6_writes (by decide +kernel)

theorem post4_keep_main_v72_4 : after post4 V (Proc.devRef .tc main_v72_4) = V (Proc.devRef .tc main_v72_4) :=
  after_of_writes_sub post4 V post4_writes (by decide +kernel)

theorem post3_keep_main_v72_4 : after post3 V (Proc.devRef .tc main_v72_4) = V (Proc.devRef .tc main_v72_4) :=
  after_of_writes_sub post3 V post3_writes (by decide +kernel)

theorem post2_keep_main_v72_4 : after post2 V (Proc.devRef .tc main_v72_4) = V (Proc.devRef .tc main_v72_4) :=
  after_of_writes_sub post2 V post2_writes (by decide +kernel)

theorem post1_keep_main_v72_4 : after post1 V (Proc.devRef .tc main_v72_4) = V (Proc.devRef .tc main_v72_4) :=
  after_of_writes_sub post1 V post1_writes (by decide +kernel)

theorem post0_keep_main_v72_4 : after post0 V (Proc.devRef .tc main_v72_4) = V (Proc.devRef .tc main_v72_4) :=
  after_of_writes_sub post0 V post0_writes (by decide +kernel)

theorem post7_keep_main_v154 : after post7 V (Proc.devRef .tc main_v154) = V (Proc.devRef .tc main_v154) :=
  after_of_writes_sub post7 V post7_writes (by decide +kernel)

theorem post5_keep_main_v72_7 : after post5 V (Proc.devRef .tc main_v72_7) = V (Proc.devRef .tc main_v72_7) :=
  after_of_writes_sub post5 V post5_writes (by decide +kernel)

theorem post4_keep_main_v72_7 : after post4 V (Proc.devRef .tc main_v72_7) = V (Proc.devRef .tc main_v72_7) :=
  after_of_writes_sub post4 V post4_writes (by decide +kernel)

theorem post3_keep_main_v72_7 : after post3 V (Proc.devRef .tc main_v72_7) = V (Proc.devRef .tc main_v72_7) :=
  after_of_writes_sub post3 V post3_writes (by decide +kernel)

theorem post2_keep_main_v72_7 : after post2 V (Proc.devRef .tc main_v72_7) = V (Proc.devRef .tc main_v72_7) :=
  after_of_writes_sub post2 V post2_writes (by decide +kernel)

theorem post1_keep_main_v72_7 : after post1 V (Proc.devRef .tc main_v72_7) = V (Proc.devRef .tc main_v72_7) :=
  after_of_writes_sub post1 V post1_writes (by decide +kernel)

theorem post0_keep_main_v72_7 : after post0 V (Proc.devRef .tc main_v72_7) = V (Proc.devRef .tc main_v72_7) :=
  after_of_writes_sub post0 V post0_writes (by decide +kernel)

theorem post6_keep_main_v72_0 : after post6 V (Proc.devRef .tc main_v72_0) = V (Proc.devRef .tc main_v72_0) :=
  after_of_writes_sub post6 V post6_writes (by decide +kernel)

theorem post5_keep_main_v72_0 : after post5 V (Proc.devRef .tc main_v72_0) = V (Proc.devRef .tc main_v72_0) :=
  after_of_writes_sub post5 V post5_writes (by decide +kernel)

theorem post4_keep_main_v72_0 : after post4 V (Proc.devRef .tc main_v72_0) = V (Proc.devRef .tc main_v72_0) :=
  after_of_writes_sub post4 V post4_writes (by decide +kernel)

theorem post3_keep_main_v72_0 : after post3 V (Proc.devRef .tc main_v72_0) = V (Proc.devRef .tc main_v72_0) :=
  after_of_writes_sub post3 V post3_writes (by decide +kernel)

theorem post2_keep_main_v72_0 : after post2 V (Proc.devRef .tc main_v72_0) = V (Proc.devRef .tc main_v72_0) :=
  after_of_writes_sub post2 V post2_writes (by decide +kernel)

theorem post1_keep_main_v72_0 : after post1 V (Proc.devRef .tc main_v72_0) = V (Proc.devRef .tc main_v72_0) :=
  after_of_writes_sub post1 V post1_writes (by decide +kernel)

theorem post0_keep_main_v72_0 : after post0 V (Proc.devRef .tc main_v72_0) = V (Proc.devRef .tc main_v72_0) :=
  after_of_writes_sub post0 V post0_writes (by decide +kernel)

theorem post_at_main_v74 : after (List.flatten [hostOps1]) V (Proc.devRef .tc main_v74) = outL (V (Proc.devRef .tc main_v72_5)) := by
  rw [post_eq, post7_keep_main_v74, post6_keep_main_v74, post5_keep_main_v74, post4_keep_main_v74, post3_keep_main_v74, post2_keep_main_v74, post1_keep_main_v74, post0_read]

theorem post_at_main_v76 : after (List.flatten [hostOps1]) V (Proc.devRef .tc main_v76) = outL (V (Proc.devRef .tc main_v72_6)) := by
  rw [post_eq, post7_keep_main_v76, post6_keep_main_v76, post5_keep_main_v76, post4_keep_main_v76, post3_keep_main_v76, post2_keep_main_v76, post1_read, post0_keep_main_v72_6]

theorem post_at_main_v95 : after (List.flatten [hostOps1]) V (Proc.devRef .tc main_v95) = outB (V (Proc.devRef .tc main_v72_1)) := by
  rw [post_eq, post7_keep_main_v95, post6_keep_main_v95, post5_keep_main_v95, post4_keep_main_v95, post3_keep_main_v95, post2_read, post1_keep_main_v72_1, post0_keep_main_v72_1]

theorem post_at_main_v114 : after (List.flatten [hostOps1]) V (Proc.devRef .tc main_v114) = outB (V (Proc.devRef .tc main_v72_2)) := by
  rw [post_eq, post7_keep_main_v114, post6_keep_main_v114, post5_keep_main_v114, post4_keep_main_v114, post3_read, post2_keep_main_v72_2, post1_keep_main_v72_2, post0_keep_main_v72_2]

theorem post_at_main_v133 : after (List.flatten [hostOps1]) V (Proc.devRef .tc main_v133) = outC (V (Proc.devRef .tc main_v72_3)) := by
  rw [post_eq, post7_keep_main_v133, post6_keep_main_v133, post5_keep_main_v133, post4_read, post3_keep_main_v72_3, post2_keep_main_v72_3, post1_keep_main_v72_3, post0_keep_main_v72_3]

theorem post_at_main_v152 : after (List.flatten [hostOps1]) V (Proc.devRef .tc main_v152) = outC (V (Proc.devRef .tc main_v72_4)) := by
  rw [post_eq, post7_keep_main_v152, post6_keep_main_v152, post5_read, post4_keep_main_v72_4, post3_keep_main_v72_4, post2_keep_main_v72_4, post1_keep_main_v72_4, post0_keep_main_v72_4]

theorem post_at_main_v154 : after (List.flatten [hostOps1]) V (Proc.devRef .tc main_v154) = outD (V (Proc.devRef .tc main_v72_7)) := by
  rw [post_eq, post7_keep_main_v154, post6_read, post5_keep_main_v72_7, post4_keep_main_v72_7, post3_keep_main_v72_7, post2_keep_main_v72_7, post1_keep_main_v72_7, post0_keep_main_v72_7]

theorem post_at_main_v158 : after (List.flatten [hostOps1]) V (Proc.devRef .tc main_v158) = outU (V (Proc.devRef .tc main_v72_0)) := by
  rw [post_eq, post7_read, post6_keep_main_v72_0, post5_keep_main_v72_0, post4_keep_main_v72_0, post3_keep_main_v72_0, post2_keep_main_v72_0, post1_keep_main_v72_0, post0_keep_main_v72_0]

end Keeps

end Cert.KernelIdeal.Around
end
-- ==== Proof.Geometry.lean ====
/- Where a block of an array lies. -/
module

public import proofs.«01_k».proof.Proof.Elements
public import proofs.«01_k».proof.Proof.Entry

@[expose] public section

set_option maxRecDepth 16384

noncomputable section

namespace Model

open Idealize.ShloMosaic

/-- Arrays that hold the numbers. -/
structure Vals.Of (v : Vals) (a0 a1 : (⟨3, ![2, 2048, 1024]⟩ : Shape).Idx → EReal) (a2 a3 : (⟨2, ![64, 64]⟩ : Shape).Idx → EReal)
    (a4 a5 : (⟨3, ![64, 64, 16]⟩ : Shape).Idx → EReal) (a6 a7 : (⟨3, ![64, 16, 64]⟩ : Shape).Idx → EReal)
    (a8 : (⟨2, ![1, 1024]⟩ : Shape).Idx → EReal) : Prop where
  u : ∀ b t c, a0 (ix3 b t c) = (v.u b t c : ℝ)
  dy : ∀ b t c, a1 (ix3 b t c) = (v.dy b t c : ℝ)
  lr : ∀ g p, a2 (ix2 g p) = (v.lr g p : ℝ)
  li : ∀ g p, a3 (ix2 g p) = (v.li g p : ℝ)
  br : ∀ g p h, a4 (ix3 g p h) = (v.br g p h : ℝ)
  bi : ∀ g p h, a5 (ix3 g p h) = (v.bi g p h : ℝ)
  cr : ∀ g h p, a6 (ix3 g h p) = (v.cr g h p : ℝ)
  ci : ∀ g h p, a7 (ix3 g h p) = (v.ci g h p : ℝ)
  d : ∀ c, a8 (ix2 0 c) = (v.d c : ℝ)

end Model

namespace Cert.KernelIdeal.Around

open Idealize.ShloMosaic
open Idealize.ShloMosaic.TcCoe Idealize.SL.Sem
open Cert.KernelIdeal Cert.KernelIdeal.Gen
open Cert.KernelIdeal.Lanes
open Model (lg lp cc cl tm cg cp Vals blk)

theorem coe_if (P : Prop) [Decidable P] (x : ℝ) : (if P then (x : EReal) else 0) = ((if P then x else 0 : ℝ) : EReal) := by
  split <;> rfl

theorem idx : ∀ t : Fin cfg0.N, win0_0.index t = ![t.val / 8, t.val % 8] ∧ win0_1.index t = ![t.val / 8, t.val % 8]
    ∧ win0_2.index t = ![t.val % 8, 0, 0] ∧ win0_3.index t = ![t.val % 8, 0, 0] ∧ win0_4.index t = ![t.val % 8, 0, 0]
    ∧ win0_5.index t = ![t.val % 8, 0, 0] ∧ win0_6.index t = ![t.val % 8, 0, 0] ∧ win0_7.index t = ![t.val % 8, 0, 0]
    ∧ win0_8.index t = ![0, t.val % 8] ∧ win0_9.index t = ![t.val / 8, t.val % 8]
    ∧ win0_10.index t = ![t.val / 8, t.val % 8, 0, 0] ∧ win0_11.index t = ![t.val / 8, t.val % 8, 0, 0] ∧ win0_12.index t = ![t.val / 8, t.val % 8, 0, 0]
    ∧ win0_13.index t = ![t.val / 8, t.val % 8, 0, 0] ∧ win0_14.index t = ![t.val / 8, t.val % 8, 0, 0] ∧ win0_15.index t = ![t.val / 8, t.val % 8, 0, 0]
    ∧ win0_16.index t = ![t.val / 8, t.val % 8, 0, 0] ∧ t.val < 16 := (by decide +kernel : ∀ t : Fin grid0.N, _)

/-- The batch row and the block of a point. -/
def bt (t : Fin cfg0.N) : Fin 2 := ⟨t.val / 8, by have := (idx t).2.2.2.2.2.2.2.2.2.2.2.2.2.2.2.2.2; omega⟩
def jt (t : Fin cfg0.N) : Fin 8 := ⟨t.val % 8, by omega⟩

theorem emb0 (t : Fin cfg0.N) (r : Fin 2048) (k : Fin 128) : (win0_0.blk t).view.emb (ix2 r k) = ix2 (row (bt t) r) (cc (jt t) k) := by
  blk_ext [idx t, bt, jt, row, cc]

theorem emb1 (t : Fin cfg0.N) (r : Fin 2048) (k : Fin 128) : (win0_1.blk t).view.emb (ix2 r k) = ix2 (row (bt t) r) (cc (jt t) k) := by
  blk_ext [idx t, bt, jt, row, cc]

theorem emb2 (t : Fin cfg0.N) (k : Fin 128) (l : Fin 512) : (win0_2.blk t).view.emb (ix3 (0 : Fin 1) k l) = ix3 (jt t) k l := by
  blk_ext [idx t, bt, jt, row, cc]

theorem emb3 (t : Fin cfg0.N) (k : Fin 128) (l : Fin 512) : (win0_3.blk t).view.emb (ix3 (0 : Fin 1) k l) = ix3 (jt t) k l := by
  blk_ext [idx t, bt, jt, row, cc]

theorem emb4 (t : Fin cfg0.N) (l : Fin 512) (k : Fin 128) : (win0_4.blk t).view.emb (ix3 (0 : Fin 1) l k) = ix3 (jt t) l k := by
  blk_ext [idx t, bt, jt, row, cc]

theorem emb5 (t : Fin cfg0.N) (l : Fin 512) (k : Fin 128) : (win0_5.blk t).view.emb (ix3 (0 : Fin 1) l k) = ix3 (jt t) l k := by
  blk_ext [idx t, bt, jt, row, cc]

theorem emb6 (t : Fin cfg0.N) (s : Fin 16) (l : Fin 512) : (win0_6.blk t).view.emb (ix3 (0 : Fin 1) s l) = ix3 (jt t) s l := by
  blk_ext [idx t, bt, jt, row, cc]

theorem emb7 (t : Fin cfg0.N) (s : Fin 16) (l : Fin 512) : (win0_7.blk t).view.emb (ix3 (0 : Fin 1) s l) = ix3 (jt t) s l := by
  blk_ext [idx t, bt, jt, row, cc]

theorem emb8 (t : Fin cfg0.N) (k : Fin 128) : (win0_8.blk t).view.emb (ix2 (0 : Fin 1) k) = ix2 (0 : Fin 1) (cc (jt t) k) := by
  blk_ext [idx t, bt, jt, row, cc]

theorem emb9 (t : Fin cfg0.N) (r : Fin 2048) (k : Fin 128) : (win0_9.blk t).view.emb (ix2 r k) = ix2 (row (bt t) r) (cc (jt t) k) := by
  blk_ext [idx t, bt, jt, row, cc]

theorem emb10 (t : Fin cfg0.N) (k : Fin 128) (l : Fin 512) : (win0_10.blk t).view.emb (ix4 (0 : Fin 1) (0 : Fin 1) k l) = ix4 (bt t) (jt t) k l := by
  blk_ext [idx t, bt, jt, row, cc]

theorem emb11 (t : Fin cfg0.N) (k : Fin 128) (l : Fin 512) : (win0_11.blk t).view.emb (ix4 (0 : Fin 1) (0 : Fin 1) k l) = ix4 (bt t) (jt t) k l := by
  blk_ext [idx t, bt, jt, row, cc]

theorem emb12 (t : Fin cfg0.N) (l : Fin 512) (k : Fin 128) : (win0_12.blk t).view.emb (ix4 (0 : Fin 1) (0 : Fin 1) l k) = ix4 (bt t) (jt t) l k := by
  blk_ext [idx t, bt, jt, row, cc]

theorem emb13 (t : Fin cfg0.N) (l : Fin 512) (k : Fin 128) : (win0_13.blk t).view.emb (ix4 (0 : Fin 1) (0 : Fin 1) l k) = ix4 (bt t) (jt t) l k := by
  blk_ext [idx t, bt, jt, row, cc]

theorem emb14 (t : Fin cfg0.N) (s : Fin 16) (l : Fin 512) : (win0_14.blk t).view.emb (ix4 (0 : Fin 1) (0 : Fin 1) s l) = ix4 (bt t) (jt t) s l := by
  blk_ext [idx t, bt, jt, row, cc]

theorem emb15 (t : Fin cfg0.N) (s : Fin 16) (l : Fin 512) : (win0_15.blk t).view.emb (ix4 (0 : Fin 1) (0 : Fin 1) s l) = ix4 (bt t) (jt t) s l := by
  blk_ext [idx t, bt, jt, row, cc]

theorem emb16 (t : Fin cfg0.N) (k : Fin 128) : (win0_16.blk t).view.emb (ix4 (0 : Fin 1) (0 : Fin 1) (0 : Fin 1) k) = ix4 (bt t) (jt t) (0 : Fin 1) k := by
  blk_ext [idx t, bt, jt, row, cc]

end Cert.KernelIdeal.Around
end
-- ==== Proof.Finite.lean ====
/- Arrays whose elements are all below infinity in size hold real numbers. -/
module

public import proofs.«01_k».proof.Defs
public import proofs.«01_k».proof.Proof.Geometry
public import Idealize.ShloMosaic.Lib.Pointwise

@[expose] public section

noncomputable section

namespace Cert.Pre_finite.Real

open Idealize.ShloMosaic

theorem facts : Cert.Pre_finite.Facts where
  bcast_S_S2x2048x1024 := by decide
  bcast_S_S64x64 := by decide
  bcast_S_S64x64x16 := by decide
  bcast_S_S64x16x64 := by decide
  bcast_S_S1x1024 := by decide

/-- A number below another in size is neither infinity. -/
theorem coe_of_lt {x y : EReal} (h : max x (-x) < y) : x = ((x.toReal : ℝ) : EReal) := by
  have ht : max x (-x) < ⊤ := lt_of_lt_of_le h le_top
  refine (EReal.coe_toReal (fun e => ?_) (fun e => ?_)).symm
  · subst e; simp at ht
  · subst e; simp at ht

theorem real_of {s : Shape} (hb : S_.BroadcastsInDim s (![] : Fin 0 → Fin s.rank)) (a : FVec Ideal s .f32)
    (h : cmpf .olt (Host.absf a) (broadcastInDim s ![] hb (constant S_ .f32 0x7F800000#32)) = fun _ => 1#1)
    (i : s.Idx) : a i = ((EReal.toReal (a i) : ℝ) : EReal) := by
  have h' := congrFun h i
  pointwise at h'
  by_cases hl : FloatOps.absf (a i) < Ideal.ofBits FTy.f32 2139095040#32
  · exact coe_of_lt hl
  · rw [decide_eq_false hl] at h'
    exact absurd h' (by decide)

end Cert.Pre_finite.Real

namespace Cert.KernelIdeal

open Idealize.ShloMosaic Idealize.SL.Sem

/-- The real numbers in nine argument arrays. -/
def realVals (a0 a1 : (⟨3, ![2, 2048, 1024]⟩ : Shape).Idx → EReal) (a2 a3 : (⟨2, ![64, 64]⟩ : Shape).Idx → EReal)
    (a4 a5 : (⟨3, ![64, 64, 16]⟩ : Shape).Idx → EReal) (a6 a7 : (⟨3, ![64, 16, 64]⟩ : Shape).Idx → EReal)
    (a8 : (⟨2, ![1, 1024]⟩ : Shape).Idx → EReal) : Model.Vals where
  u b t c := (a0 (ix3 b t c)).toReal
  dy b t c := (a1 (ix3 b t c)).toReal
  lr g p := (a2 (ix2 g p)).toReal
  li g p := (a3 (ix2 g p)).toReal
  br g p h := (a4 (ix3 g p h)).toReal
  bi g p h := (a5 (ix3 g p h)).toReal
  cr g h p := (a6 (ix3 g h p)).toReal
  ci g h p := (a7 (ix3 g h p)).toReal
  d c := (a8 (ix2 0 c)).toReal

/-- The real numbers in the argument arrays of device `c`. -/
def vals (m : (ℓ : Loc nD τ sig) → Buf (Elt Ideal) ℓ) (c : Dev nD) : Model.Vals :=
  realVals (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7)) (m (c, Proc.devRef .tc main_arg8))

theorem holds_vals (m : (ℓ : Loc nD τ sig) → Buf (Elt Ideal) ℓ) (h : @Cert.Pre_KernelIdeal_finite Cert.Pre_finite.Real.facts m)
    (c : Dev nD) : (vals m c).Of (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7)) (m (c, Proc.devRef .tc main_arg8)) := by
  obtain ⟨h0, h1, h2, h3, h4, h5, h6, h7, h8⟩ := h c
  exact {
    u := fun b t k => Pre_finite.Real.real_of _ _ h0 (ix3 b t k)
    dy := fun b t k => Pre_finite.Real.real_of _ _ h1 (ix3 b t k)
    lr := fun g p => Pre_finite.Real.real_of _ _ h2 (ix2 g p)
    li := fun g p => Pre_finite.Real.real_of _ _ h3 (ix2 g p)
    br := fun g p k => Pre_finite.Real.real_of _ _ h4 (ix3 g p k)
    bi := fun g p k => Pre_finite.Real.real_of _ _ h5 (ix3 g p k)
    cr := fun g k p => Pre_finite.Real.real_of _ _ h6 (ix3 g k p)
    ci := fun g k p => Pre_finite.Real.real_of _ _ h7 (ix3 g k p)
    d := fun k => Pre_finite.Real.real_of _ _ h8 (ix2 0 k) }

end Cert.KernelIdeal
end
-- ==== Proof.Arrays.lean ====
/- What the scan kernel reads, and what it leaves in its arrays. -/
module

public import proofs.«01_k».proof.Proof.Geometry
public import proofs.«01_k».proof.Proof.Entry

@[expose] public section

set_option maxRecDepth 16384

noncomputable section

namespace Cert.KernelIdeal.Around

open Idealize.ShloMosaic
open Idealize.ShloMosaic.TcCoe Idealize.SL.Sem
open Cert.KernelIdeal Cert.KernelIdeal.Gen
open Cert.KernelIdeal.Lanes
open Model (lg lp cc cl tm cg cp Vals blk)

variable (m : (ℓ : Loc nD τ sig) → Buf (Elt Ideal) ℓ) (c : Dev nD)

/-- The arguments a device holds. -/
abbrev Holds (v : Vals) : Prop :=
  v.Of (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8))

section Blocks

variable (f : (b : Ref sig .tc) → Buf (Elt Ideal) ((c : Thread nD τ).loc b)) (t : Fin cfg0.N)

theorem rd0 (r : Fin 2048) (k : Fin 128) : ((cfg0.win 0).blk t).view.read (Elt Ideal) (f (Pipeline.arrRef spec0 0)) (ix2 r k) = f main_v67 (ix2 (row (bt t) r) (cc (jt t) k)) :=
  congrArg (f main_v67) (emb0 t r k)
theorem blk0 (r : Fin 2048) (k : Fin 128) : iblk m c 0 t (ix2 r k) = V m c main_v67 (ix2 (row (bt t) r) (cc (jt t) k)) := by
  unfold iblk
  exact rd0 c (V m c) t r k

theorem rd1 (r : Fin 2048) (k : Fin 128) : ((cfg0.win 1).blk t).view.read (Elt Ideal) (f (Pipeline.arrRef spec0 1)) (ix2 r k) = f main_v71 (ix2 (row (bt t) r) (cc (jt t) k)) :=
  congrArg (f main_v71) (emb1 t r k)
theorem blk1 (r : Fin 2048) (k : Fin 128) : iblk m c 1 t (ix2 r k) = V m c main_v71 (ix2 (row (bt t) r) (cc (jt t) k)) := by
  unfold iblk
  exact rd1 c (V m c) t r k

theorem rd2 (k : Fin 128) (l : Fin 512) : ((cfg0.win 2).blk t).view.read (Elt Ideal) (f (Pipeline.arrRef spec0 2)) (ix3 (0 : Fin 1) k l) = f main_v14 (ix3 (jt t) k l) :=
  congrArg (f main_v14) (emb2 t k l)
theorem blk2 (k : Fin 128) (l : Fin 512) : iblk m c 2 t (ix3 (0 : Fin 1) k l) = V m c main_v14 (ix3 (jt t) k l) := by
  unfold iblk
  exact rd2 c (V m c) t k l

theorem rd3 (k : Fin 128) (l : Fin 512) : ((cfg0.win 3).blk t).view.read (Elt Ideal) (f (Pipeline.arrRef spec0 3)) (ix3 (0 : Fin 1) k l) = f main_v29 (ix3 (jt t) k l) :=
  congrArg (f main_v29) (emb3 t k l)
theorem blk3 (k : Fin 128) (l : Fin 512) : iblk m c 3 t (ix3 (0 : Fin 1) k l) = V m c main_v29 (ix3 (jt t) k l) := by
  unfold iblk
  exact rd3 c (V m c) t k l

theorem rd4 (l : Fin 512) (k : Fin 128) : ((cfg0.win 4).blk t).view.read (Elt Ideal) (f (Pipeline.arrRef spec0 4)) (ix3 (0 : Fin 1) l k) = f main_v44 (ix3 (jt t) l k) :=
  congrArg (f main_v44) (emb4 t l k)
theorem blk4 (l : Fin 512) (k : Fin 128) : iblk m c 4 t (ix3 (0 : Fin 1) l k) = V m c main_v44 (ix3 (jt t) l k) := by
  unfold iblk
  exact rd4 c (V m c) t l k

theorem rd5 (l : Fin 512) (k : Fin 128) : ((cfg0.win 5).blk t).view.read (Elt Ideal) (f (Pipeline.arrRef spec0 5)) (ix3 (0 : Fin 1) l k) = f main_v59 (ix3 (jt t) l k) :=
  congrArg (f main_v59) (emb5 t l k)
theorem blk5 (l : Fin 512) (k : Fin 128) : iblk m c 5 t (ix3 (0 : Fin 1) l k) = V m c main_v59 (ix3 (jt t) l k) := by
  unfold iblk
  exact rd5 c (V m c) t l k

theorem rd6 (s : Fin 16) (l : Fin 512) : ((cfg0.win 6).blk t).view.read (Elt Ideal) (f (Pipeline.arrRef spec0 6)) (ix3 (0 : Fin 1) s l) = f main_v61 (ix3 (jt t) s l) :=
  congrArg (f main_v61) (emb6 t s l)
theorem blk6 (s : Fin 16) (l : Fin 512) : iblk m c 6 t (ix3 (0 : Fin 1) s l) = V m c main_v61 (ix3 (jt t) s l) := by
  unfold iblk
  exact rd6 c (V m c) t s l

theorem rd7 (s : Fin 16) (l : Fin 512) : ((cfg0.win 7).blk t).view.read (Elt Ideal) (f (Pipeline.arrRef spec0 7)) (ix3 (0 : Fin 1) s l) = f main_v63 (ix3 (jt t) s l) :=
  congrArg (f main_v63) (emb7 t s l)
theorem blk7 (s : Fin 16) (l : Fin 512) : iblk m c 7 t (ix3 (0 : Fin 1) s l) = V m c main_v63 (ix3 (jt t) s l) := by
  unfold iblk
  exact rd7 c (V m c) t s l

theorem rd8 (k : Fin 128) : ((cfg0.win 8).blk t).view.read (Elt Ideal) (f (Pipeline.arrRef spec0 8)) (ix2 (0 : Fin 1) k) = f main_arg8 (ix2 (0 : Fin 1) (cc (jt t) k)) :=
  congrArg (f main_arg8) (emb8 t k)
theorem blk8 (k : Fin 128) : iblk m c 8 t (ix2 (0 : Fin 1) k) = V m c main_arg8 (ix2 (0 : Fin 1) (cc (jt t) k)) := by
  unfold iblk
  exact rd8 c (V m c) t k

end Blocks

variable {m c} {v : Vals}

section Reads

variable (h : Holds m c v) (t : Fin cfg0.N)
include h

theorem has0 (r : Fin 2048) (k : Fin 128) : (show EReal from iblk m c 0 t (ix2 r k)) = ((blk v (bt t) (jt t)).U r k : ℝ) := by
  refine (blk0 m c t r k).trans ?_
  refine (congrFun (pre_at_main_v67 _) _).trans ?_
  refine (inU_at _ _ _ _).trans ?_
  exact h.u _ _ _

theorem has1 (r : Fin 2048) (k : Fin 128) : (show EReal from iblk m c 1 t (ix2 r k)) = ((blk v (bt t) (jt t)).DY r k : ℝ) := by
  refine (blk1 m c t r k).trans ?_
  refine (congrFun (pre_at_main_v71 _) _).trans ?_
  refine (inU_at _ _ _ _).trans ?_
  exact h.dy _ _ _

theorem has2 (k : Fin 128) (l : Fin 512) : (show EReal from iblk m c 2 t (ix3 (0 : Fin 1) k l)) = ((blk v (bt t) (jt t)).BR k l : ℝ) := by
  refine (blk2 m c t k l).trans ?_
  refine (congrFun (pre_at_main_v14 _) _).trans ?_
  refine (inB_at _ _ _ _).trans ?_
  refine (if_congr Iff.rfl (h.br _ _ _) rfl).trans ?_
  exact coe_if _ _

theorem has3 (k : Fin 128) (l : Fin 512) : (show EReal from iblk m c 3 t (ix3 (0 : Fin 1) k l)) = ((blk v (bt t) (jt t)).BI k l : ℝ) := by
  refine (blk3 m c t k l).trans ?_
  refine (congrFun (pre_at_main_v29 _) _).trans ?_
  refine (inB_at _ _ _ _).trans ?_
  refine (if_congr Iff.rfl (h.bi _ _ _) rfl).trans ?_
  exact coe_if _ _

theorem has4 (l : Fin 512) (k : Fin 128) : (show EReal from iblk m c 4 t (ix3 (0 : Fin 1) l k)) = ((blk v (bt t) (jt t)).CR l k : ℝ) := by
  refine (blk4 m c t l k).trans ?_
  refine (congrFun (pre_at_main_v44 _) _).trans ?_
  refine (inC_at _ _ _ _).trans ?_
  refine (if_congr Iff.rfl (h.cr _ _ _) rfl).trans ?_
  exact coe_if _ _

theorem has5 (l : Fin 512) (k : Fin 128) : (show EReal from iblk m c 5 t (ix3 (0 : Fin 1) l k)) = ((blk v (bt t) (jt t)).CI l k : ℝ) := by
  refine (blk5 m c t l k).trans ?_
  refine (congrFun (pre_at_main_v59 _) _).trans ?_
  refine (inC_at _ _ _ _).trans ?_
  refine (if_congr Iff.rfl (h.ci _ _ _) rfl).trans ?_
  exact coe_if _ _

theorem has6 (s : Fin 16) (l : Fin 512) : (show EReal from iblk m c 6 t (ix3 (0 : Fin 1) s l)) = (((blk v (bt t) (jt t)).lam l).re : ℝ) := by
  refine (blk6 m c t s l).trans ?_
  refine (congrFun (pre_at_main_v61 _) _).trans ?_
  refine (inL_at _ _ _ _).trans ?_
  exact h.lr _ _

theorem has7 (s : Fin 16) (l : Fin 512) : (show EReal from iblk m c 7 t (ix3 (0 : Fin 1) s l)) = (((blk v (bt t) (jt t)).lam l).im : ℝ) := by
  refine (blk7 m c t s l).trans ?_
  refine (congrFun (pre_at_main_v63 _) _).trans ?_
  refine (inL_at _ _ _ _).trans ?_
  exact h.li _ _

theorem has8 (k : Fin 128) : (show EReal from iblk m c 8 t (ix2 (0 : Fin 1) k)) = ((blk v (bt t) (jt t)).D k : ℝ) := by
  refine (blk8 m c t k).trans ?_
  refine (congrFun (V_main_arg8 m c) _).trans ?_
  exact h.d _

/-- What the kernel reads at a point are the numbers of a block. -/
theorem isBlk : (blk v (bt t) (jt t)).Is (iblk m c 0 t) (iblk m c 1 t) (iblk m c 2 t) (iblk m c 3 t)
    (iblk m c 4 t) (iblk m c 5 t) (iblk m c 6 t) (iblk m c 7 t) (iblk m c 8 t) where
  hU := has0 h t
  hDY := has1 h t
  hBR := has2 h t
  hBI := has3 h t
  hCR := has4 h t
  hCI := has5 h t
  hlam s l := ⟨has6 h t s l, has7 h t s l⟩
  hD := has8 h t

end Reads

/-! ## The arrays it leaves -/

def F9 (v : Vals) (b : Fin 2) (r : Fin 2048) (j : Fin 8) (k : Fin 128) : EReal :=
  ((∑ l, ((blk v b j).AA r l).re * (blk v b j).BR k l + ∑ l, ((blk v b j).AA r l).im * (blk v b j).BI k l
    + (blk v b j).D k * (blk v b j).DY r k : ℝ) : EReal)
theorem F9_congr (v : Vals) {b b' : Fin 2} {r r' : Fin 2048} {j j' : Fin 8} {k k' : Fin 128} (hb : b.val = b'.val) (hr : r.val = r'.val)
    (hj : j.val = j'.val) (hk : k.val = k'.val) : F9 v b r j k = F9 v b' r' j' k' := by
  cases Fin.ext hb; cases Fin.ext hr; cases Fin.ext hj; cases Fin.ext hk; rfl

def G9 (v : Vals) : S4096x1024.Idx → EReal := fun i =>
  F9 v ⟨(i 0).val / 2048, by have : (i 0).val < 4096 := (i 0).isLt; omega⟩ ⟨(i 0).val % 2048, by omega⟩
    ⟨(i 1).val / 128, by have : (i 1).val < 1024 := (i 1).isLt; omega⟩ ⟨(i 1).val % 128, by omega⟩

theorem G9_at (v : Vals) (b : Fin 2) (r : Fin 2048) (j : Fin 8) (k : Fin 128) : G9 v (ix2 (row b r) (cc j k)) = F9 v b r j k :=
  F9_congr v (by show (b.val * 2048 + r.val) / 2048 = b.val; omega) (by show (b.val * 2048 + r.val) % 2048 = r.val; omega)
    (by show (128 * j.val + k.val) / 128 = j.val; omega) (by show (128 * j.val + k.val) % 128 = k.val; omega)

def G10 (v : Vals) : S2x8x128x512.Idx → EReal := fun i => ((∑ r, (blk v (i 0 : Fin 2) (i 1 : Fin 8)).U r (i 2 : Fin 128) * ((blk v (i 0 : Fin 2) (i 1 : Fin 8)).AA r (i 3 : Fin 512)).re : ℝ) : EReal)

def G11 (v : Vals) : S2x8x128x512.Idx → EReal := fun i => ((∑ r, (blk v (i 0 : Fin 2) (i 1 : Fin 8)).U r (i 2 : Fin 128) * ((blk v (i 0 : Fin 2) (i 1 : Fin 8)).AA r (i 3 : Fin 512)).im : ℝ) : EReal)

def G12 (v : Vals) : S2x8x512x128.Idx → EReal := fun i => ((∑ r, ((blk v (i 0 : Fin 2) (i 1 : Fin 8)).HH r (i 2 : Fin 512)).re * (blk v (i 0 : Fin 2) (i 1 : Fin 8)).DY r (i 3 : Fin 128) : ℝ) : EReal)

def G13 (v : Vals) : S2x8x512x128.Idx → EReal := fun i => ((-∑ r, ((blk v (i 0 : Fin 2) (i 1 : Fin 8)).HH r (i 2 : Fin 512)).im * (blk v (i 0 : Fin 2) (i 1 : Fin 8)).DY r (i 3 : Fin 128) : ℝ) : EReal)

def G14 (v : Vals) : S2x8x16x512.Idx → EReal := fun i => ((((blk v (i 0 : Fin 2) (i 1 : Fin 8)).G (i 2 : Fin 16) (i 3 : Fin 512)).re : ℝ) : EReal)

def G15 (v : Vals) : S2x8x16x512.Idx → EReal := fun i => ((((blk v (i 0 : Fin 2) (i 1 : Fin 8)).G (i 2 : Fin 16) (i 3 : Fin 512)).im : ℝ) : EReal)

def G16 (v : Vals) : S2x8x1x128.Idx → EReal := fun i => ((∑ r, (blk v (i 0 : Fin 2) (i 1 : Fin 8)).DY r (i 3 : Fin 128) * (blk v (i 0 : Fin 2) (i 1 : Fin 8)).U r (i 3 : Fin 128) : ℝ) : EReal)

section Outs

variable (h : Holds m c v) (t : Fin cfg0.N)
include h

theorem left9 (r : Fin 2048) (k : Fin 128) : (show EReal from (outsAt0 m c t).1 (ix2 r k)) = F9 v (bt t) r (jt t) k := by
  unfold outsAt0
  dsimp only
  exact out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) r k

theorem left10 (k : Fin 128) (l : Fin 512) : (show EReal from (outsAt0 m c t).2.1 (ix4 (0 : Fin 1) (0 : Fin 1) k l)) = ((∑ r, (blk v (bt t) (jt t)).U r k * ((blk v (bt t) (jt t)).AA r l).re : ℝ) : EReal) := by
  unfold outsAt0
  dsimp only
  exact out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) k l

theorem left11 (k : Fin 128) (l : Fin 512) : (show EReal from (outsAt0 m c t).2.2.1 (ix4 (0 : Fin 1) (0 : Fin 1) k l)) = ((∑ r, (blk v (bt t) (jt t)).U r k * ((blk v (bt t) (jt t)).AA r l).im : ℝ) : EReal) := by
  unfold outsAt0
  dsimp only
  exact out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) k l

theorem left12 (l : Fin 512) (k : Fin 128) : (show EReal from (outsAt0 m c t).2.2.2.1 (ix4 (0 : Fin 1) (0 : Fin 1) l k)) = ((∑ r, ((blk v (bt t) (jt t)).HH r l).re * (blk v (bt t) (jt t)).DY r k : ℝ) : EReal) := by
  unfold outsAt0
  dsimp only
  exact out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) l k

theorem left13 (l : Fin 512) (k : Fin 128) : (show EReal from (outsAt0 m c t).2.2.2.2.1 (ix4 (0 : Fin 1) (0 : Fin 1) l k)) = ((-∑ r, ((blk v (bt t) (jt t)).HH r l).im * (blk v (bt t) (jt t)).DY r k : ℝ) : EReal) := by
  unfold outsAt0
  dsimp only
  exact out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) l k

theorem left14 (s : Fin 16) (l : Fin 512) : (show EReal from (outsAt0 m c t).2.2.2.2.2.1 (ix4 (0 : Fin 1) (0 : Fin 1) s l)) = ((((blk v (bt t) (jt t)).G s l).re : ℝ) : EReal) := by
  unfold outsAt0
  dsimp only
  exact (out1415 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) s l).1

theorem left15 (s : Fin 16) (l : Fin 512) : (show EReal from (outsAt0 m c t).2.2.2.2.2.2.1 (ix4 (0 : Fin 1) (0 : Fin 1) s l)) = ((((blk v (bt t) (jt t)).G s l).im : ℝ) : EReal) := by
  unfold outsAt0
  dsimp only
  exact (out1415 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) s l).2

theorem left16 (k : Fin 128) : (show EReal from (outsAt0 m c t).2.2.2.2.2.2.2 (ix4 (0 : Fin 1) (0 : Fin 1) (0 : Fin 1) k)) = ((∑ r, (blk v (bt t) (jt t)).DY r k * (blk v (bt t) (jt t)).U r k : ℝ) : EReal) := by
  unfold outsAt0
  dsimp only
  exact out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (isBlk h t) k

end Outs

theorem arr9 (h : Holds m c v) : (dats m 0 c).arrAt 9 cfg0.N = G9 v := by
  refine (dats m 0 c).arrAt_eq_of_covers 9 (G9 v) (by decide +kernel) fun t _ y => ?_
  blk_simp
  rw [after0_9]
  idx_vars y
  exact ((left9 h t y0 y1).trans (G9_at v _ _ _ _).symm).trans (congrArg (G9 v) (emb9 t y0 y1)).symm

theorem arr10 (h : Holds m c v) : (dats m 0 c).arrAt 10 cfg0.N = G10 v := by
  refine (dats m 0 c).arrAt_eq_of_covers 10 (G10 v) (by decide +kernel) fun t _ y => ?_
  blk_simp
  rw [after0_10]
  idx_vars y
  obtain rfl : y0 = 0 := Subsingleton.elim _ _
  obtain rfl : y1 = 0 := Subsingleton.elim _ _
  exact (left10 h t y2 y3).trans (congrArg (G10 v) (emb10 t y2 y3)).symm

theorem arr11 (h : Holds m c v) : (dats m 0 c).arrAt 11 cfg0.N = G11 v := by
  refine (dats m 0 c).arrAt_eq_of_covers 11 (G11 v) (by decide +kernel) fun t _ y => ?_
  blk_simp
  rw [after0_11]
  idx_vars y
  obtain rfl : y0 = 0 := Subsingleton.elim _ _
  obtain rfl : y1 = 0 := Subsingleton.elim _ _
  exact (left11 h t y2 y3).trans (congrArg (G11 v) (emb11 t y2 y3)).symm

theorem arr12 (h : Holds m c v) : (dats m 0 c).arrAt 12 cfg0.N = G12 v := by
  refine (dats m 0 c).arrAt_eq_of_covers 12 (G12 v) (by decide +kernel) fun t _ y => ?_
  blk_simp
  rw [after0_12]
  idx_vars y
  obtain rfl : y0 = 0 := Subsingleton.elim _ _
  obtain rfl : y1 = 0 := Subsingleton.elim _ _
  exact (left12 h t y2 y3).trans (congrArg (G12 v) (emb12 t y2 y3)).symm

theorem arr13 (h : Holds m c v) : (dats m 0 c).arrAt 13 cfg0.N = G13 v := by
  refine (dats m 0 c).arrAt_eq_of_covers 13 (G13 v) (by decide +kernel) fun t _ y => ?_
  blk_simp
  rw [after0_13]
  idx_vars y
  obtain rfl : y0 = 0 := Subsingleton.elim _ _
  obtain rfl : y1 = 0 := Subsingleton.elim _ _
  exact (left13 h t y2 y3).trans (congrArg (G13 v) (emb13 t y2 y3)).symm

theorem arr14 (h : Holds m c v) : (dats m 0 c).arrAt 14 cfg0.N = G14 v := by
  refine (dats m 0 c).arrAt_eq_of_covers 14 (G14 v) (by decide +kernel) fun t _ y => ?_
  blk_simp
  rw [after0_14]
  idx_vars y
  obtain rfl : y0 = 0 := Subsingleton.elim _ _
  obtain rfl : y1 = 0 := Subsingleton.elim _ _
  exact (left14 h t y2 y3).trans (congrArg (G14 v) (emb14 t y2 y3)).symm

theorem arr15 (h : Holds m c v) : (dats m 0 c).arrAt 15 cfg0.N = G15 v := by
  refine (dats m 0 c).arrAt_eq_of_covers 15 (G15 v) (by decide +kernel) fun t _ y => ?_
  blk_simp
  rw [after0_15]
  idx_vars y
  obtain rfl : y0 = 0 := Subsingleton.elim _ _
  obtain rfl : y1 = 0 := Subsingleton.elim _ _
  exact (left15 h t y2 y3).trans (congrArg (G15 v) (emb15 t y2 y3)).symm

theorem arr16 (h : Holds m c v) : (dats m 0 c).arrAt 16 cfg0.N = G16 v := by
  refine (dats m 0 c).arrAt_eq_of_covers 16 (G16 v) (by decide +kernel) fun t _ y => ?_
  blk_simp
  rw [after0_16]
  idx_vars y
  obtain rfl : y0 = 0 := Subsingleton.elim _ _
  obtain rfl : y1 = 0 := Subsingleton.elim _ _
  obtain rfl : y2 = 0 := Subsingleton.elim _ _
  exact (left16 h t y3).trans (congrArg (G16 v) (emb16 t y3)).symm

end Cert.KernelIdeal.Around
end
-- ==== Proof.Results.lean ====
/- What the kernel's program leaves in its results. -/
module

public import proofs.«01_k».proof.Proof.Arrays

@[expose] public section

set_option maxRecDepth 16384

noncomputable section

namespace Model

open Idealize.ShloMosaic

namespace Vals

variable (v : Vals)

/-! The results, as arrays. -/

def Du : (⟨3, ![2, 2048, 1024]⟩ : Shape).Idx → EReal := fun i => ((v.du (i 0) (i 1) (i 2) : ℝ) : EReal)
def Dlr : (⟨2, ![64, 64]⟩ : Shape).Idx → EReal := fun i => (((v.dlam (i 0) (i 1)).re : ℝ) : EReal)
def Dli : (⟨2, ![64, 64]⟩ : Shape).Idx → EReal := fun i => (((v.dlam (i 0) (i 1)).im : ℝ) : EReal)
def Dbr : (⟨3, ![64, 64, 16]⟩ : Shape).Idx → EReal := fun i => ((v.dbr (i 0) (i 1) (i 2) : ℝ) : EReal)
def Dbi : (⟨3, ![64, 64, 16]⟩ : Shape).Idx → EReal := fun i => ((v.dbi (i 0) (i 1) (i 2) : ℝ) : EReal)
def Dcr : (⟨3, ![64, 16, 64]⟩ : Shape).Idx → EReal := fun i => ((v.dcr (i 0) (i 1) (i 2) : ℝ) : EReal)
def Dci : (⟨3, ![64, 16, 64]⟩ : Shape).Idx → EReal := fun i => ((v.dci (i 0) (i 1) (i 2) : ℝ) : EReal)
def Dd : (⟨2, ![1, 1024]⟩ : Shape).Idx → EReal := fun i => ((v.dd (i 1) : ℝ) : EReal)

end Vals

end Model

namespace Cert.KernelIdeal.Around

open Idealize.ShloMosaic
open Idealize.ShloMosaic.TcCoe Idealize.SL.Sem
open Cert.KernelIdeal Cert.KernelIdeal.Gen
open Cert.KernelIdeal.Lanes
open Model (lg lp cc cl tm cg cp Vals blk)
open Scan (coe_sum)

variable (v : Vals)

/-- The block of a channel and its column. -/
def cj (c : Fin 1024) : Fin 8 := ⟨c.val / 128, by omega⟩
def ck (c : Fin 1024) : Fin 128 := ⟨c.val % 128, by omega⟩
theorem cc_cj (c : Fin 1024) : cc (cj c) (ck c) = c := Fin.ext (by show 128 * (c.val / 128) + c.val % 128 = c.val; omega)

theorem res_du : outU (G9 v) = v.Du := by
  funext i
  idx_vars i
  refine (outU_at _ _ _ _).trans ?_
  refine (congrArg (fun c => G9 v (ix2 (row i0 (rt i1)) c)) (cc_cj i2).symm).trans ?_
  refine (G9_at v _ _ _ _).trans (congrArg ((↑) : ℝ → EReal) ?_)
  rw [Model.du_eq, tm_rt, cc_cj]; rfl

theorem res_dlr : outL (G14 v) = v.Dlr := by
  funext i
  idx_vars i
  refine (outL_at _ _ _).trans ?_
  show ∑ b : Fin 2, ∑ s : Fin 16, ((((blk v b (bl i0)).G s (ln i0 i1)).re : ℝ) : EReal) = (((v.dlam i0 i1).re : ℝ) : EReal)
  simp only [coe_sum]
  refine congrArg ((↑) : ℝ → EReal) ?_
  unfold Vals.dlam
  rw [Complex.re_sum]
  refine Finset.sum_congr rfl fun b _ => ?_
  rw [← Complex.re_sum, Model.dlam_eq, lg_ln, lp_ln]

theorem res_dli : outL (G15 v) = v.Dli := by
  funext i
  idx_vars i
  refine (outL_at _ _ _).trans ?_
  show ∑ b : Fin 2, ∑ s : Fin 16, ((((blk v b (bl i0)).G s (ln i0 i1)).im : ℝ) : EReal) = (((v.dlam i0 i1).im : ℝ) : EReal)
  simp only [coe_sum]
  refine congrArg ((↑) : ℝ → EReal) ?_
  unfold Vals.dlam
  rw [Complex.im_sum]
  refine Finset.sum_congr rfl fun b _ => ?_
  rw [← Complex.im_sum, Model.dlam_eq, lg_ln, lp_ln]

theorem res_dd : outD (G16 v) = v.Dd := by
  funext i
  idx_vars i
  obtain rfl : i0 = 0 := Subsingleton.elim _ _
  refine (outD_at _ _).trans ?_
  show ∑ b : Fin 2, ((∑ r, (blk v b (cj i1)).DY r (ck i1) * (blk v b (cj i1)).U r (ck i1) : ℝ) : EReal) = ((v.dd i1 : ℝ) : EReal)
  simp only [coe_sum]
  refine congrArg ((↑) : ℝ → EReal) (Finset.sum_congr rfl fun b _ => ?_)
  rw [Model.dd_eq, cc_cj]

theorem res_dbr : outB (G10 v) = v.Dbr := by
  funext i
  idx_vars i
  refine (outB_at _ _ _ _).trans ?_
  show ∑ b : Fin 2, ((∑ r, (blk v b (bl i0)).U r (cn i0 i2) * ((blk v b (bl i0)).AA r (ln i0 i1)).re : ℝ) : EReal) = ((v.dbr i0 i1 i2 : ℝ) : EReal)
  simp only [coe_sum]
  refine congrArg ((↑) : ℝ → EReal) (Finset.sum_congr rfl fun b _ => ?_)
  rw [Model.dbr_eq, cc_cn, lg_ln, lp_ln]

theorem res_dbi : outB (G11 v) = v.Dbi := by
  funext i
  idx_vars i
  refine (outB_at _ _ _ _).trans ?_
  show ∑ b : Fin 2, ((∑ r, (blk v b (bl i0)).U r (cn i0 i2) * ((blk v b (bl i0)).AA r (ln i0 i1)).im : ℝ) : EReal) = ((v.dbi i0 i1 i2 : ℝ) : EReal)
  simp only [coe_sum]
  refine congrArg ((↑) : ℝ → EReal) (Finset.sum_congr rfl fun b _ => ?_)
  rw [Model.dbi_eq, cc_cn, lg_ln, lp_ln]

theorem res_dcr : outC (G12 v) = v.Dcr := by
  funext i
  idx_vars i
  refine (outC_at _ _ _ _).trans ?_
  show ∑ b : Fin 2, ((∑ r, ((blk v b (bl i0)).HH r (ln i0 i2)).re * (blk v b (bl i0)).DY r (cn i0 i1) : ℝ) : EReal) = ((v.dcr i0 i1 i2 : ℝ) : EReal)
  simp only [coe_sum]
  refine congrArg ((↑) : ℝ → EReal) (Finset.sum_congr rfl fun b _ => ?_)
  rw [Model.dcr_eq, cc_cn, lg_ln, lp_ln]

theorem res_dci : outC (G13 v) = v.Dci := by
  funext i
  idx_vars i
  refine (outC_at _ _ _ _).trans ?_
  show ∑ b : Fin 2, ((-∑ r, ((blk v b (bl i0)).HH r (ln i0 i2)).im * (blk v b (bl i0)).DY r (cn i0 i1) : ℝ) : EReal) = ((v.dci i0 i1 i2 : ℝ) : EReal)
  simp only [coe_sum]
  refine congrArg ((↑) : ℝ → EReal) (Finset.sum_congr rfl fun b _ => ?_)
  rw [Model.dci_eq, cc_cn, lg_ln, lp_ln]

/-! ## After the last line -/

theorem arr_inj : Function.Injective (Pipeline.arrRef spec0) := by decide +kernel

section Results

variable {m : (ℓ : Loc nD τ sig) → Buf (Elt Ideal) ℓ} {c : Dev nD} {v}

/-- What the last lines start from. -/
def exit (m : (ℓ : Loc nD τ sig) → Buf (Elt Ideal) ℓ) (c : Dev nD) : Valuation τ sig (Elt Ideal) :=
  Pipeline.withArrays spec0 c (V0 m c) fun w => (dats m 0 c).arrAt w cfg0.N

theorem exit_arr (w : Fin 17) : exit m c (Proc.devRef .tc (Pipeline.arrRef spec0 w)) = (dats m 0 c).arrAt w cfg0.N :=
  Pipeline.withArrays_arr spec0 arr_inj c (V0 m c) _ w

theorem tail_eq (b : Ref sig .tc) :
    Pipeline.afterTail₀ cfgs (dats m) 0 (V0 m) [hostOps1] c b = StableHlo.after (List.flatten [hostOps1]) (exit m c) (Proc.devRef .tc b) := rfl

theorem exit_9 (h : Holds m c v) : exit m c (Proc.devRef .tc main_v72_0) = G9 v := (exit_arr 9).trans (arr9 h)
theorem end_du (h : Holds m c v) : Pipeline.afterTail₀ cfgs (dats m) 0 (V0 m) [hostOps1] c main_v158 = v.Du := by
  rw [tail_eq, post_at_main_v158, exit_9 h]
  exact res_du v

theorem exit_14 (h : Holds m c v) : exit m c (Proc.devRef .tc main_v72_5) = G14 v := (exit_arr 14).trans (arr14 h)
theorem end_dlr (h : Holds m c v) : Pipeline.afterTail₀ cfgs (dats m) 0 (V0 m) [hostOps1] c main_v74 = v.Dlr := by
  rw [tail_eq, post_at_main_v74, exit_14 h]
  exact res_dlr v

theorem exit_15 (h : Holds m c v) : exit m c (Proc.devRef .tc main_v72_6) = G15 v := (exit_arr 15).trans (arr15 h)
theorem end_dli (h : Holds m c v) : Pipeline.afterTail₀ cfgs (dats m) 0 (V0 m) [hostOps1] c main_v76 = v.Dli := by
  rw [tail_eq, post_at_main_v76, exit_15 h]
  exact res_dli v

theorem exit_10 (h : Holds m c v) : exit m c (Proc.devRef .tc main_v72_1) = G10 v := (exit_arr 10).trans (arr10 h)
theorem end_dbr (h : Holds m c v) : Pipeline.afterTail₀ cfgs (dats m) 0 (V0 m) [hostOps1] c main_v95 = v.Dbr := by
  rw [tail_eq, post_at_main_v95, exit_10 h]
  exact res_dbr v

theorem exit_11 (h : Holds m c v) : exit m c (Proc.devRef .tc main_v72_2) = G11 v := (exit_arr 11).trans (arr11 h)
theorem end_dbi (h : Holds m c v) : Pipeline.afterTail₀ cfgs (dats m) 0 (V0 m) [hostOps1] c main_v114 = v.Dbi := by
  rw [tail_eq, post_at_main_v114, exit_11 h]
  exact res_dbi v

theorem exit_12 (h : Holds m c v) : exit m c (Proc.devRef .tc main_v72_3) = G12 v := (exit_arr 12).trans (arr12 h)
theorem end_dcr (h : Holds m c v) : Pipeline.afterTail₀ cfgs (dats m) 0 (V0 m) [hostOps1] c main_v133 = v.Dcr := by
  rw [tail_eq, post_at_main_v133, exit_12 h]
  exact res_dcr v

theorem exit_13 (h : Holds m c v) : exit m c (Proc.devRef .tc main_v72_4) = G13 v := (exit_arr 13).trans (arr13 h)
theorem end_dci (h : Holds m c v) : Pipeline.afterTail₀ cfgs (dats m) 0 (V0 m) [hostOps1] c main_v152 = v.Dci := by
  rw [tail_eq, post_at_main_v152, exit_13 h]
  exact res_dci v

theorem exit_16 (h : Holds m c v) : exit m c (Proc.devRef .tc main_v72_7) = G16 v := (exit_arr 16).trans (arr16 h)
theorem end_dd (h : Holds m c v) : Pipeline.afterTail₀ cfgs (dats m) 0 (V0 m) [hostOps1] c main_v154 = v.Dd := by
  rw [tail_eq, post_at_main_v154, exit_16 h]
  exact res_dd v

end Results

end Cert.KernelIdeal.Around
end
-- ==== Proof.TwoLoop.lean ====
/- The run of a host program with no kernel whose @main is stretches of operations, a counted loop, stretches, a second
   counted loop and stretches: every buffer ends at the fold of the stretches and of the loops' trips, in that order. -/
module

public import Idealize.ShloMosaic.Lib.Pipeline.Regions
public import Idealize.ShloMosaic.Lib.StableHlo.RunLoop

@[expose] public section

noncomputable section

namespace TwoLoop

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)
open TcCoe

variable {nD : Nat} {τ : Topo} {sig : RefSig} {F : FTy → Type} {Λ₀ : Labels}

local notation "𝕄" => MT nD τ sig Unit (Elt F) ℕ (Option PUnit) ℕ

/-- One counted loop of @main: its regions, the operations of its condition and body, and its trip count. -/
structure Loop (F : FTy → Type) (pcs : Fin 0 → PCfg sig Λ₀ (Elt F)) {nL : Nat}
    (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  step : loops l = HostLoop.step l cond body
  condOps : List (HloOp τ sig (Elt F))
  bodyI : List (List (HloOp τ sig (Elt F)))
  plain : Plain bodyI
  chain : body = Pipeline.chain (bodyI.map fun ops => (seq ops : Prog _ PUnit))
  n : ℕ

variable {pcs : Fin 0 → PCfg sig Λ₀ (Elt F)} {nL : Nat}
  {loops : Fin nL → Prog (TpuEff nD τ sig (Elt F) (HostLoop.Sig (Pipeline.Sig Λ₀ (Fin 0) fun p => (pcs p).Adm) nL) .tc) PUnit}

/-- The buffers after the loop's trips and its failing condition, from the buffers `W` at its entry. -/
abbrev Loop.out (A : Loop F pcs loops) (W : Dev nD → Valuation τ sig (Elt F)) (c : Dev nD) : Valuation τ sig (Elt F) :=
  after A.condOps (atTrip A.condOps A.bodyI W A.n c)

/-- The core's debt, carried unchanged beside the buffers. -/
abbrev debt (c : Dev nD) : sProp 𝕄 := iprop(∃ W, owes (c : Thread nD τ) (0 : CellTallies nD τ sig Unit) W)

/-- A condition's specification over the buffers alone holds with the debt beside them. -/
theorem cond_debt {defs₀ : Defs nD τ sig (Elt F) Λ₀} {A : Loop F pcs loops} {W : Dev nD → Valuation τ sig (Elt F)}
    (h : CondSpec pcs defs₀ loops A.cond A.condOps A.bodyI W A.n) :
    LoopCond pcs defs₀ Variants.none loops (debt (F := F)) A.cond A.condOps A.bodyI W A.n := fun k hk c bd => by
  have after_cond : ∀ v : Elt F .i1,
      iprop(iprop(⌜v = 1#1 ↔ k < A.n⌝ ∗ boundary (c : Thread nD τ) ∗ held (c : Thread nD τ) (ucRefs τ sig) (after A.condOps (atTrip A.condOps A.bodyI W k c))) ∗ debt (F := F) c)
        ⊢ iprop(⌜v = 1#1 ↔ k < A.n⌝ ∗ boundary (c : Thread nD τ) ∗ held (c : Thread nD τ) (ucRefs τ sig) (after A.condOps (atTrip A.condOps A.bodyI W k c)) ∗ debt (F := F) c) := fun v => by
    iintro ⟨⟨%hv, Hb, Hh⟩, HR⟩
    isplitr; · ipureintro; exact hv
    isplitl [Hb]; · iexact Hb
    isplitl [Hh] <;> iassumption
  have spec := h k hk c bd
  refine BIBase.Entails.trans ?_ (((sep_mono_left spec).trans (wp_frame_r _ _ _)).trans (wp_mono _ _ _ after_cond))
  iintro ⟨Hb, Hh, HR⟩
  isplitl [Hb Hh]; · isplitl [Hb] <;> iassumption
  iexact HR

section
variable (pcs)
abbrev adm0 : (p : Fin 0) → (pcs p).Adm := fun p => p.elim0
abbrev tk0 : Fin 0 → Ticket (Ix := Unit) (Name := ℕ) (U := Option PUnit) (Lvl := ℕ) (nD := nD) (τ := τ) pcs (adm0 pcs) := fun j => j.elim0
abbrev lev : GSem nD τ sig → Finset Unit := fun _ => ∅
abbrev lvl : GSem nD τ sig → Unit → ℕ := fun _ _ => 0
end

/-- A loop as one segment of @main. -/
abbrev Loop.seg (A : Loop F pcs loops) (defs₀ : Defs nD τ sig (Elt F) Λ₀) (W : Dev nD → Valuation τ sig (Elt F))
    (h : CondSpec pcs defs₀ loops A.cond A.condOps A.bodyI W A.n) : CSeg pcs (adm0 pcs) defs₀ Variants.none lev lvl loops (tk0 pcs) :=
  loopSeg _ _ _ _ _ _ _ _ A.l A.cond A.body A.step A.condOps A.bodyI A.plain A.chain A.n W (debt (F := F)) (cond_debt h)

/-- The stretches `ops` as segments of @main, from the buffers `W`. -/
abbrev strip (defs₀ : Defs nD τ sig (Elt F) Λ₀) (items : List (List (HloOp τ sig (Elt F)))) (h : Plain items)
    (W : Dev nD → Valuation τ sig (Elt F)) : List (CSeg pcs (adm0 pcs) defs₀ Variants.none lev lvl loops (tk0 pcs)) :=
  segsOf _ _ _ _ _ _ _ _ (debt (F := F)) items h W

/-- The buffers at the first loop's entry, at the second's, and at @main's end. -/
abbrev at0 (pre : List (List (HloOp τ sig (Elt F)))) (m : (ℓ : Loc nD τ sig) → Buf (Elt F) ℓ) (c : Dev nD) : Valuation τ sig (Elt F) :=
  afterL pre (launchContents m c)
abbrev at1 (A : Loop F pcs loops) (pre mid : List (List (HloOp τ sig (Elt F)))) (m : (ℓ : Loc nD τ sig) → Buf (Elt F) ℓ) (c : Dev nD) : Valuation τ sig (Elt F) :=
  afterL mid (A.out (at0 pre m) c)
abbrev at2 (A B : Loop F pcs loops) (pre mid post : List (List (HloOp τ sig (Elt F)))) (m : (ℓ : Loc nD τ sig) → Buf (Elt F) ℓ) (c : Dev nD) :
    Valuation τ sig (Elt F) :=
  afterL post (B.out (at1 A pre mid m) c)

theorem run [∀ e, Nonempty (Elt F e)] (defs₀ : Defs nD τ sig (Elt F) Λ₀)
    (main : Dev nD → Prog (TpuEff nD τ sig (Elt F) (HostLoop.Sig (Pipeline.Sig Λ₀ (Fin 0) fun p => (pcs p).Adm) nL) .tc) PUnit)
    (A B : Loop F pcs loops) (pre mid post : List (List (HloOp τ sig (Elt F)))) (hpre : Plain pre) (hmid : Plain mid) (hpost : Plain post)
    (hmain : ∀ c, main c = Pipeline.chain ((pre.map fun ops => (seq ops : Prog _ PUnit)) ++ HostLoop.enter A.l ::
      ((mid.map fun ops => (seq ops : Prog _ PUnit)) ++ HostLoop.enter B.l :: post.map fun ops => (seq ops : Prog _ PUnit))))
    (m : (ℓ : Loc nD τ sig) → Buf (Elt F) ℓ) (ρ : Dev nD → PrngReg)
    (hA : CondSpec pcs defs₀ loops A.cond A.condOps A.bodyI (at0 pre m) A.n)
    (hB : CondSpec pcs defs₀ loops B.cond B.condOps B.bodyI (at1 A pre mid m) B.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = at2 A B pre mid post m c (Proc.devRef .tc b)) := by
  refine Pipeline.θ_run_regions_loop_kit (Ix := Unit) (Name := ℕ) (U := Option PUnit) (Lvl := ℕ) (J := Fin 0) (P := Fin 0) (Val := Elt F)
    pcs (adm0 pcs) (fun k => k.1.elim0) defs₀ Variants.none lev lvl loops (tk0 pcs) m ρ main
    (strip defs₀ pre hpre (launchContents m) ++ A.seg defs₀ (at0 pre m) hA ::
      (strip defs₀ mid hmid (A.out (at0 pre m)) ++ B.seg defs₀ (at1 A pre mid m) hB :: strip defs₀ post hpost (B.out (at1 A pre mid m))))
    (fun c Q => ?_)
    (CSeg.pairwise_disjoint_of_T_empty _ fun s _ => Finset.eq_empty_of_isEmpty s.T)
    (O₀ := 0) (hL := fun _ _ => rfl) (G := fun _ => iprop(emp)) (u₀ := 1)
    (hu₀ := ?_)
    (T₀ := fun c => iprop(held (c : Thread nD τ) (ucRefs τ sig) (launchContents m c) ∗ debt (F := F) c))
    (Tₙ := fun c => iprop(held (c : Thread nD τ) (ucRefs τ sig) (at2 A B pre mid post m c)))
    (hch := ?_)
    (hinit := ?_)
    (QY := fun c s => ∀ b ∈ ucRefs τ sig, s.mem ((c : Dev nD), b) = at2 A B pre mid post m c b)
    (hfin := fun c s' => ?_)
    (hQ := fun _ h c b hb => h c _ (devRef_mem_ucRefs b hb))
  · have e : Pipeline.chain (List.map CSeg.prog (strip (pcs := pcs) (loops := loops) defs₀ pre hpre (launchContents m) ++ A.seg defs₀ (at0 pre m) hA ::
        (strip defs₀ mid hmid (A.out (at0 pre m)) ++ B.seg defs₀ (at1 A pre mid m) hB :: strip defs₀ post hpost (B.out (at1 A pre mid m))))) = main c := by
      rw [hmain c, List.map_append, List.map_cons, List.map_append, List.map_cons, segsOf_prog, segsOf_prog, segsOf_prog]
      rfl
    rw [← e]
    exact BIBase.Entails.rfl
  · iintro -
    imodintro
    isplitl []
    · rw [Finset.univ_eq_empty, BI.bigSep_empty]; iempintro
    · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
      iempintro
  · exact CSeg.Chains.append (segsOf_chains _ _ _ _ _ _ _ _ (debt (F := F)) pre hpre _)
      ⟨fun _ => .rfl, CSeg.Chains.append (segsOf_chains _ _ _ _ _ _ _ _ (debt (F := F)) mid hmid _)
        ⟨fun _ => .rfl, segsOf_chains _ _ _ _ _ _ _ _ (debt (F := F)) post hpost _⟩⟩
  · refine Pipeline.initEach lev lvl fun c => ?_
    rw [show unscopedBufs c (fun b => m ((c : Thread nD τ).loc b)) = held (c : Thread nD τ) (ucRefs τ sig) (launchContents m c) from Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (fun b => at2 A B pre mid post m c b) s') $$ [Hh HSI]
    · isplitl [Hh] <;> iassumption
    icases Hr with ⟨%h, HSI⟩
    imodintro
    isplitr; · ipureintro; exact h
    iexact HSI

end TwoLoop

end
-- ==== Proof.RefRun.lean ====
/- The run of the reference program: @main is stretches of operations around two counted loops of 2048 trips, the forward scan
   and the adjoint scan. Every execution ends with every buffer at the fold of the stretches and trips (`run_fold`). -/
module

public import proofs.«01_k».proof.Proof.Gen.ReferenceIdeal
public import proofs.«01_k».proof.Proof.TwoLoop
public import Idealize.ShloMosaic.Lib.StableHlo.RunRead
public import Idealize.ShloMosaic.Lib.Scf.ExitTest
public import Idealize.ShloMosaic.Lib.Scf.Counter

@[expose] public section

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The contents of an array of a shape and an element type. -/
abbrev Arr (F : FTy → Type) (s : Shape) (e : EltTy) := (⟨s, e⟩ : BufTy).Contents (Elt F)

/-! ## The operations of @main and of the two loops, in order -/

abbrev hostOps0 : List (HloOp τ sig (Elt F)) :=
  ( reshape main_arg0 main_v0 (rfl : (.f32 : EltTy) = .f32) shapeCasts_S2x2048x1024_S2x2048x64x16
  :: binary main_v0 main_arg4 main_v1 ((fun l r => Host.dotGeneral dot_S2x2048x64x16_S64x64x16_S64x2x2048x64_3_2_01_1_2_0 none l r) : Arr F S2x2048x64x16 .f32 → Arr F S64x64x16 .f32 → Arr F S64x2x2048x64 .f32)
  :: unary main_v1 main_v2 ((transpose S2048x2x64x64 [2, 1, 0, 3] · transposes_S64x2x2048x64_S2048x2x64x64_2_1_0_3) : Arr F S64x2x2048x64 .f32 → Arr F S2048x2x64x64 .f32)
  :: binary main_v0 main_arg5 main_v3 ((fun l r => Host.dotGeneral dot_S2x2048x64x16_S64x64x16_S64x2x2048x64_3_2_01_1_2_0 none l r) : Arr F S2x2048x64x16 .f32 → Arr F S64x64x16 .f32 → Arr F S64x2x2048x64 .f32)
  :: unary main_v3 main_v4 ((transpose S2048x2x64x64 [2, 1, 0, 3] · transposes_S64x2x2048x64_S2048x2x64x64_2_1_0_3) : Arr F S64x2x2048x64 .f32 → Arr F S2048x2x64x64 .f32)
  :: nullary main_cst (constant S_ .f32 0x00000000#32)
  :: unary main_cst main_v5 (broadcastInDim S2x64x64 ![] bcast_S_S2x64x64 : Arr F S_ .f32 → Arr F S2x64x64 .f32)
  :: unary main_arg2 main_v6 (broadcastInDim S1x64x64 ![1, 2] bcast_S64x64_S1x64x64_1_2 : Arr F S64x64 .f32 → Arr F S1x64x64 .f32)
  :: unary main_arg3 main_v7 (broadcastInDim S1x64x64 ![1, 2] bcast_S64x64_S1x64x64_1_2 : Arr F S64x64 .f32 → Arr F S1x64x64 .f32)
  :: unary main_arg2 main_v8 (broadcastInDim S1x64x64 ![1, 2] bcast_S64x64_S1x64x64_1_2 : Arr F S64x64 .f32 → Arr F S1x64x64 .f32)
  :: unary main_arg3 main_v9 (broadcastInDim S1x64x64 ![1, 2] bcast_S64x64_S1x64x64_1_2 : Arr F S64x64 .f32 → Arr F S1x64x64 .f32)
  :: nullary main_cst_0 (constant S_ .f32 0x00000000#32)
  :: unary main_cst_0 main_v10 (broadcastInDim S2048x2x64x64 ![] bcast_S_S2048x2x64x64 : Arr F S_ .f32 → Arr F S2048x2x64x64 .f32)
  :: nullary main_cst_1 (constant S_ .f32 0x00000000#32)
  :: unary main_cst_1 main_v11 (broadcastInDim S2048x2x64x64 ![] bcast_S_S2048x2x64x64 : Arr F S_ .f32 → Arr F S2048x2x64x64 .f32)
  :: nullary main_cst_2 (constant S_ .f32 0x00000000#32)
  :: unary main_cst_2 main_v12 (broadcastInDim S2048x2x64x64 ![] bcast_S_S2048x2x64x64 : Arr F S_ .f32 → Arr F S2048x2x64x64 .f32)
  :: nullary main_cst_3 (constant S_ .f32 0x00000000#32)
  :: unary main_cst_3 main_v13 (broadcastInDim S2048x2x64x64 ![] bcast_S_S2048x2x64x64 : Arr F S_ .f32 → Arr F S2048x2x64x64 .f32)
  :: nullary main_c (constantI S_ 32 0#32)
  :: unary main_v2 main_v14_0 id
  :: unary main_v4 main_v14_1 id
  :: unary main_v6 main_v14_2 id
  :: unary main_v7 main_v14_3 id
  :: unary main_v8 main_v14_4 id
  :: unary main_v9 main_v14_5 id
  :: unary main_c main_v14_6 id
  :: unary main_v5 main_v14_7 id
  :: unary main_v5 main_v14_8 id
  :: unary main_v10 main_v14_9 id
  :: unary main_v11 main_v14_10 id
  :: unary main_v12 main_v14_11 id
  :: unary main_v13 main_v14_12 id
  :: [] )
theorem hostOps0_sub : (hostOps0 : List (HloOp τ sig (Elt F))).Forall fun op => op.bufs ⊆ tcRefs τ sig :=
  ⟨reshape_bufs_sub .., binary_bufs_sub .., unary_bufs_sub .., binary_bufs_sub .., unary_bufs_sub .., nullary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_1 : List (HloOp τ sig (Elt F)) :=
  ( binary main_v14_9 main_arg6 main_v15 ((fun l r => Host.dotGeneral dot_S2048x2x64x64_S64x16x64_S64x2048x2x16_3_2_01_1_2_0 none l r) : Arr F S2048x2x64x64 .f32 → Arr F S64x16x64 .f32 → Arr F S64x2048x2x16 .f32)
  :: unary main_v15 main_v16 ((transpose S2x2048x64x16 [2, 1, 0, 3] · transposes_S64x2048x2x16_S2x2048x64x16_2_1_0_3) : Arr F S64x2048x2x16 .f32 → Arr F S2x2048x64x16 .f32)
  :: binary main_v14_10 main_arg7 main_v17 ((fun l r => Host.dotGeneral dot_S2048x2x64x64_S64x16x64_S64x2048x2x16_3_2_01_1_2_0 none l r) : Arr F S2048x2x64x64 .f32 → Arr F S64x16x64 .f32 → Arr F S64x2048x2x16 .f32)
  :: unary main_v17 main_v18 ((transpose S2x2048x64x16 [2, 1, 0, 3] · transposes_S64x2048x2x16_S2x2048x64x16_2_1_0_3) : Arr F S64x2048x2x16 .f32 → Arr F S2x2048x64x16 .f32)
  :: binary main_v16 main_v18 main_v19 (subf : Arr F S2x2048x64x16 .f32 → Arr F S2x2048x64x16 .f32 → Arr F S2x2048x64x16 .f32)
  :: reshape main_v19 main_v20 (rfl : (.f32 : EltTy) = .f32) shapeCasts_S2x2048x64x16_S2x2048x1024
  :: unary main_arg8 main_v21 (broadcastInDim S1x1x1024 ![1, 2] bcast_S1x1024_S1x1x1024_1_2 : Arr F S1x1024 .f32 → Arr F S1x1x1024 .f32)
  :: unary main_v21 main_v22 (broadcastInDim S2x2048x1024 ![0, 1, 2] bcast_S1x1x1024_S2x2048x1024_0_1_2 : Arr F S1x1x1024 .f32 → Arr F S2x2048x1024 .f32)
  :: binary main_v22 main_arg0 main_v23 (mulf : Arr F S2x2048x1024 .f32 → Arr F S2x2048x1024 .f32 → Arr F S2x2048x1024 .f32)
  :: binary main_v20 main_v23 main_v24 (addf : Arr F S2x2048x1024 .f32 → Arr F S2x2048x1024 .f32 → Arr F S2x2048x1024 .f32)
  :: nullary main_cst_4 (constant S_ .f32 0x00000000#32)
  :: unary main_cst_4 main_v25 (broadcastInDim S2x64x64 ![] bcast_S_S2x64x64 : Arr F S_ .f32 → Arr F S2x64x64 .f32)
  :: nullary main_cst_5 (constant S_ .f32 0x00000000#32)
  :: unary main_cst_5 main_v26 (broadcastInDim S2x64x64 ![] bcast_S_S2x64x64 : Arr F S_ .f32 → Arr F S2x64x64 .f32)
  :: reshape main_arg1 main_v27 (rfl : (.f32 : EltTy) = .f32) shapeCasts_S2x2048x1024_S2x2048x1024
  :: reshape main_arg1 main_v28 (rfl : (.f32 : EltTy) = .f32) shapeCasts_S2x2048x1024_S2x2048x1024
  :: unary main_v21 main_v29 (broadcastInDim S2x2048x1024 ![0, 1, 2] bcast_S1x1x1024_S2x2048x1024_0_1_2 : Arr F S1x1x1024 .f32 → Arr F S2x2048x1024 .f32)
  :: binary main_v29 main_v28 main_v30 (mulf : Arr F S2x2048x1024 .f32 → Arr F S2x2048x1024 .f32 → Arr F S2x2048x1024 .f32)
  :: binary main_v28 main_arg0 main_v31 (mulf : Arr F S2x2048x1024 .f32 → Arr F S2x2048x1024 .f32 → Arr F S2x2048x1024 .f32)
  :: nullary main_cst_6 (constant S_ .f32 0x00000000#32)
  :: binary main_v31 main_cst_6 main_v32 ((fun x v => Host.reduceAdd x v reducesTo_S2x2048x1024_S1024_d0_1 h_S_) : Arr F S2x2048x1024 .f32 → Arr F S_ .f32 → Arr F S1024 .f32)
  :: reshape main_v32 main_v33 (rfl : (.f32 : EltTy) = .f32) shapeCasts_S1024_S1x1x1024
  :: nullary main_cst_7 (constant S_ .f32 0x00000000#32)
  :: binary main_v33 main_cst_7 main_v34 ((fun x v => Host.reduceAdd x v reducesTo_S1x1x1024_S1024_d0_1 h_S_) : Arr F S1x1x1024 .f32 → Arr F S_ .f32 → Arr F S1024 .f32)
  :: unary main_v34 main_v35 (broadcastInDim S1x1024 ![1] bcast_S1024_S1x1024_1 : Arr F S1024 .f32 → Arr F S1x1024 .f32)
  :: reshape main_v27 main_v36 (rfl : (.f32 : EltTy) = .f32) shapeCasts_S2x2048x1024_S2x2048x64x16
  :: unary main_v36 main_v37 (Host.negf : Arr F S2x2048x64x16 .f32 → Arr F S2x2048x64x16 .f32)
  :: unary main_v37 main_v38 ((transpose S64x2048x2x16 [2, 1, 0, 3] · transposes_S2x2048x64x16_S64x2048x2x16_2_1_0_3) : Arr F S2x2048x64x16 .f32 → Arr F S64x2048x2x16 .f32)
  :: binary main_v38 main_v14_10 main_v39 ((fun l r => Host.dotGeneral dot_S64x2048x2x16_S2048x2x64x64_S64x16x64_12_01_3_3_0_2 none l r) : Arr F S64x2048x2x16 .f32 → Arr F S2048x2x64x64 .f32 → Arr F S64x16x64 .f32)
  :: binary main_v38 main_arg7 main_v40 ((fun l r => Host.dotGeneral dot_S64x2048x2x16_S64x16x64_S64x2048x2x64_3_1_12_2_0_0 none l r) : Arr F S64x2048x2x16 .f32 → Arr F S64x16x64 .f32 → Arr F S64x2048x2x64 .f32)
  :: unary main_v40 main_v41 ((transpose S2048x2x64x64 [1, 2, 0, 3] · transposes_S64x2048x2x64_S2048x2x64x64_1_2_0_3) : Arr F S64x2048x2x64 .f32 → Arr F S2048x2x64x64 .f32)
  :: unary main_v36 main_v42 ((transpose S64x2048x2x16 [2, 1, 0, 3] · transposes_S2x2048x64x16_S64x2048x2x16_2_1_0_3) : Arr F S2x2048x64x16 .f32 → Arr F S64x2048x2x16 .f32)
  :: binary main_v42 main_v14_9 main_v43 ((fun l r => Host.dotGeneral dot_S64x2048x2x16_S2048x2x64x64_S64x16x64_12_01_3_3_0_2 none l r) : Arr F S64x2048x2x16 .f32 → Arr F S2048x2x64x64 .f32 → Arr F S64x16x64 .f32)
  :: binary main_v42 main_arg6 main_v44 ((fun l r => Host.dotGeneral dot_S64x2048x2x16_S64x16x64_S64x2048x2x64_3_1_12_2_0_0 none l r) : Arr F S64x2048x2x16 .f32 → Arr F S64x16x64 .f32 → Arr F S64x2048x2x64 .f32)
  :: unary main_v44 main_v45 ((transpose S2048x2x64x64 [1, 2, 0, 3] · transposes_S64x2048x2x64_S2048x2x64x64_1_2_0_3) : Arr F S64x2048x2x64 .f32 → Arr F S2048x2x64x64 .f32)
  :: nullary main_cst_8 (constant S_ .f32 0x00000000#32)
  :: unary main_cst_8 main_v46 (broadcastInDim S2x64x64 ![] bcast_S_S2x64x64 : Arr F S_ .f32 → Arr F S2x64x64 .f32)
  :: nullary main_cst_9 (constant S_ .f32 0x00000000#32)
  :: unary main_cst_9 main_v47 (broadcastInDim S2x64x64 ![] bcast_S_S2x64x64 : Arr F S_ .f32 → Arr F S2x64x64 .f32)
  :: nullary main_cst_10 (constant S_ .f32 0x00000000#32)
  :: unary main_cst_10 main_v48 (broadcastInDim S64x64 ![] bcast_S_S64x64 : Arr F S_ .f32 → Arr F S64x64 .f32)
  :: nullary main_cst_11 (constant S_ .f32 0x00000000#32)
  :: unary main_cst_11 main_v49 (broadcastInDim S64x64 ![] bcast_S_S64x64 : Arr F S_ .f32 → Arr F S64x64 .f32)
  :: nullary main_cst_12 (constant S_ .f32 0x00000000#32)
  :: unary main_cst_12 main_v50 (broadcastInDim S2048x2x64x64 ![] bcast_S_S2048x2x64x64 : Arr F S_ .f32 → Arr F S2048x2x64x64 .f32)
  :: nullary main_cst_13 (constant S_ .f32 0x00000000#32)
  :: unary main_cst_13 main_v51 (broadcastInDim S2048x2x64x64 ![] bcast_S_S2048x2x64x64 : Arr F S_ .f32 → Arr F S2048x2x64x64 .f32)
  :: nullary main_c_14 (constantI S_ 32 0#32)
  :: unary main_v45 main_v52_0 id
  :: unary main_v41 main_v52_1 id
  :: unary main_v14_11 main_v52_2 id
  :: unary main_v14_12 main_v52_3 id
  :: unary main_v6 main_v52_4 id
  :: unary main_v7 main_v52_5 id
  :: unary main_v8 main_v52_6 id
  :: unary main_v9 main_v52_7 id
  :: unary main_c_14 main_v52_8 id
  :: unary main_v48 main_v52_9 id
  :: unary main_v49 main_v52_10 id
  :: unary main_v46 main_v52_11 id
  :: unary main_v47 main_v52_12 id
  :: unary main_v50 main_v52_13 id
  :: unary main_v51 main_v52_14 id
  :: [] )
theorem hostOps0_1_sub : (hostOps0_1 : List (HloOp τ sig (Elt F))).Forall fun op => op.bufs ⊆ tcRefs τ sig :=
  ⟨binary_bufs_sub .., unary_bufs_sub .., binary_bufs_sub .., unary_bufs_sub .., binary_bufs_sub .., reshape_bufs_sub .., unary_bufs_sub .., unary_bufs_sub .., binary_bufs_sub .., binary_bufs_sub .., nullary_bufs_sub .., unary_bufs_sub .., nullary_bufs_sub .., unary_bufs_sub .., reshape_bufs_sub .., reshape_bufs_sub .., unary_bufs_sub .., binary_bufs_sub .., binary_bufs_sub .., nullary_bufs_sub .., binary_bufs_sub .., reshape_bufs_sub .., nullary_bufs_sub .., binary_bufs_sub .., unary_bufs_sub .., reshape_bufs_sub .., unary_bufs_sub .., unary_bufs_sub .., binary_bufs_sub .., binary_bufs_sub .., unary_bufs_sub .., unary_bufs_sub .., binary_bufs_sub .., binary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_2 : List (HloOp τ sig (Elt F)) :=
  [ unary main_v52_14 main_v53 ((transpose S64x2x2048x64 [2, 1, 0, 3] · transposes_S2048x2x64x64_S64x2x2048x64_2_1_0_3) : Arr F S2048x2x64x64 .f32 → Arr F S64x2x2048x64 .f32),
    binary main_v53 main_v0 main_v54 ((fun l r => Host.dotGeneral dot_S64x2x2048x64_S2x2048x64x16_S64x64x16_12_01_3_3_0_2 none l r) : Arr F S64x2x2048x64 .f32 → Arr F S2x2048x64x16 .f32 → Arr F S64x64x16 .f32),
    binary main_v53 main_arg5 main_v55 ((fun l r => Host.dotGeneral dot_S64x2x2048x64_S64x64x16_S64x2x2048x16_3_1_12_2_0_0 none l r) : Arr F S64x2x2048x64 .f32 → Arr F S64x64x16 .f32 → Arr F S64x2x2048x16 .f32),
    unary main_v55 main_v56 ((transpose S2x2048x64x16 [1, 2, 0, 3] · transposes_S64x2x2048x16_S2x2048x64x16_1_2_0_3) : Arr F S64x2x2048x16 .f32 → Arr F S2x2048x64x16 .f32),
    unary main_v52_13 main_v57 ((transpose S64x2x2048x64 [2, 1, 0, 3] · transposes_S2048x2x64x64_S64x2x2048x64_2_1_0_3) : Arr F S2048x2x64x64 .f32 → Arr F S64x2x2048x64 .f32),
    binary main_v57 main_v0 main_v58 ((fun l r => Host.dotGeneral dot_S64x2x2048x64_S2x2048x64x16_S64x64x16_12_01_3_3_0_2 none l r) : Arr F S64x2x2048x64 .f32 → Arr F S2x2048x64x16 .f32 → Arr F S64x64x16 .f32),
    binary main_v57 main_arg4 main_v59 ((fun l r => Host.dotGeneral dot_S64x2x2048x64_S64x64x16_S64x2x2048x16_3_1_12_2_0_0 none l r) : Arr F S64x2x2048x64 .f32 → Arr F S64x64x16 .f32 → Arr F S64x2x2048x16 .f32),
    unary main_v59 main_v60 ((transpose S2x2048x64x16 [1, 2, 0, 3] · transposes_S64x2x2048x16_S2x2048x64x16_1_2_0_3) : Arr F S64x2x2048x16 .f32 → Arr F S2x2048x64x16 .f32),
    binary main_v56 main_v60 main_v61 (addf : Arr F S2x2048x64x16 .f32 → Arr F S2x2048x64x16 .f32 → Arr F S2x2048x64x16 .f32),
    reshape main_v61 main_v62 (rfl : (.f32 : EltTy) = .f32) shapeCasts_S2x2048x64x16_S2x2048x1024,
    binary main_v30 main_v62 main_v63 (addf : Arr F S2x2048x1024 .f32 → Arr F S2x2048x1024 .f32 → Arr F S2x2048x1024 .f32) ]
theorem hostOps0_2_sub : (hostOps0_2 : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., unary_bufs_sub .., binary_bufs_sub .., reshape_bufs_sub .., binary_bufs_sub ..⟩
abbrev part0_ops0 : List (HloOp τ sig (Elt F)) :=
  ( reshape main_arg0 main_v0 (rfl : (.f32 : EltTy) = .f32) shapeCasts_S2x2048x1024_S2x2048x64x16
  :: binary main_v0 main_arg4 main_v1 ((fun l r => Host.dotGeneral dot_S2x2048x64x16_S64x64x16_S64x2x2048x64_3_2_01_1_2_0 none l r) : Arr F S2x2048x64x16 .f32 → Arr F S64x64x16 .f32 → Arr F S64x2x2048x64 .f32)
  :: unary main_v1 main_v2 ((transpose S2048x2x64x64 [2, 1, 0, 3] · transposes_S64x2x2048x64_S2048x2x64x64_2_1_0_3) : Arr F S64x2x2048x64 .f32 → Arr F S2048x2x64x64 .f32)
  :: binary main_v0 main_arg5 main_v3 ((fun l r => Host.dotGeneral dot_S2x2048x64x16_S64x64x16_S64x2x2048x64_3_2_01_1_2_0 none l r) : Arr F S2x2048x64x16 .f32 → Arr F S64x64x16 .f32 → Arr F S64x2x2048x64 .f32)
  :: unary main_v3 main_v4 ((transpose S2048x2x64x64 [2, 1, 0, 3] · transposes_S64x2x2048x64_S2048x2x64x64_2_1_0_3) : Arr F S64x2x2048x64 .f32 → Arr F S2048x2x64x64 .f32)
  :: nullary main_cst (constant S_ .f32 0x00000000#32)
  :: unary main_cst main_v5 (broadcastInDim S2x64x64 ![] bcast_S_S2x64x64 : Arr F S_ .f32 → Arr F S2x64x64 .f32)
  :: unary main_arg2 main_v6 (broadcastInDim S1x64x64 ![1, 2] bcast_S64x64_S1x64x64_1_2 : Arr F S64x64 .f32 → Arr F S1x64x64 .f32)
  :: unary main_arg3 main_v7 (broadcastInDim S1x64x64 ![1, 2] bcast_S64x64_S1x64x64_1_2 : Arr F S64x64 .f32 → Arr F S1x64x64 .f32)
  :: unary main_arg2 main_v8 (broadcastInDim S1x64x64 ![1, 2] bcast_S64x64_S1x64x64_1_2 : Arr F S64x64 .f32 → Arr F S1x64x64 .f32)
  :: unary main_arg3 main_v9 (broadcastInDim S1x64x64 ![1, 2] bcast_S64x64_S1x64x64_1_2 : Arr F S64x64 .f32 → Arr F S1x64x64 .f32)
  :: nullary main_cst_0 (constant S_ .f32 0x00000000#32)
  :: unary main_cst_0 main_v10 (broadcastInDim S2048x2x64x64 ![] bcast_S_S2048x2x64x64 : Arr F S_ .f32 → Arr F S2048x2x64x64 .f32)
  :: nullary main_cst_1 (constant S_ .f32 0x00000000#32)
  :: unary main_cst_1 main_v11 (broadcastInDim S2048x2x64x64 ![] bcast_S_S2048x2x64x64 : Arr F S_ .f32 → Arr F S2048x2x64x64 .f32)
  :: nullary main_cst_2 (constant S_ .f32 0x00000000#32)
  :: unary main_cst_2 main_v12 (broadcastInDim S2048x2x64x64 ![] bcast_S_S2048x2x64x64 : Arr F S_ .f32 → Arr F S2048x2x64x64 .f32)
  :: nullary main_cst_3 (constant S_ .f32 0x00000000#32)
  :: unary main_cst_3 main_v13 (broadcastInDim S2048x2x64x64 ![] bcast_S_S2048x2x64x64 : Arr F S_ .f32 → Arr F S2048x2x64x64 .f32)
  :: nullary main_c (constantI S_ 32 0#32)
  :: unary main_v2 main_v14_0 id
  :: unary main_v4 main_v14_1 id
  :: unary main_v6 main_v14_2 id
  :: unary main_v7 main_v14_3 id
  :: unary main_v8 main_v14_4 id
  :: unary main_v9 main_v14_5 id
  :: unary main_c main_v14_6 id
  :: unary main_v5 main_v14_7 id
  :: unary main_v5 main_v14_8 id
  :: unary main_v10 main_v14_9 id
  :: unary main_v11 main_v14_10 id
  :: unary main_v12 main_v14_11 id
  :: unary main_v13 main_v14_12 id
  :: [] )
theorem part0_ops0_sub : (part0_ops0 : List (HloOp τ sig (Elt F))).Forall fun op => op.bufs ⊆ tcRefs τ sig :=
  ⟨reshape_bufs_sub .., binary_bufs_sub .., unary_bufs_sub .., binary_bufs_sub .., unary_bufs_sub .., nullary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev part0_ops1 : List (HloOp τ sig (Elt F)) :=
  [ binary main_v14_9 main_arg6 main_v15 ((fun l r => Host.dotGeneral dot_S2048x2x64x64_S64x16x64_S64x2048x2x16_3_2_01_1_2_0 none l r) : Arr F S2048x2x64x64 .f32 → Arr F S64x16x64 .f32 → Arr F S64x2048x2x16 .f32),
    unary main_v15 main_v16 ((transpose S2x2048x64x16 [2, 1, 0, 3] · transposes_S64x2048x2x16_S2x2048x64x16_2_1_0_3) : Arr F S64x2048x2x16 .f32 → Arr F S2x2048x64x16 .f32),
    binary main_v14_10 main_arg7 main_v17 ((fun l r => Host.dotGeneral dot_S2048x2x64x64_S64x16x64_S64x2048x2x16_3_2_01_1_2_0 none l r) : Arr F S2048x2x64x64 .f32 → Arr F S64x16x64 .f32 → Arr F S64x2048x2x16 .f32),
    unary main_v17 main_v18 ((transpose S2x2048x64x16 [2, 1, 0, 3] · transposes_S64x2048x2x16_S2x2048x64x16_2_1_0_3) : Arr F S64x2048x2x16 .f32 → Arr F S2x2048x64x16 .f32),
    binary main_v16 main_v18 main_v19 (subf : Arr F S2x2048x64x16 .f32 → Arr F S2x2048x64x16 .f32 → Arr F S2x2048x64x16 .f32),
    reshape main_v19 main_v20 (rfl : (.f32 : EltTy) = .f32) shapeCasts_S2x2048x64x16_S2x2048x1024,
    unary main_arg8 main_v21 (broadcastInDim S1x1x1024 ![1, 2] bcast_S1x1024_S1x1x1024_1_2 : Arr F S1x1024 .f32 → Arr F S1x1x1024 .f32),
    unary main_v21 main_v22 (broadcastInDim S2x2048x1024 ![0, 1, 2] bcast_S1x1x1024_S2x2048x1024_0_1_2 : Arr F S1x1x1024 .f32 → Arr F S2x2048x1024 .f32),
    binary main_v22 main_arg0 main_v23 (mulf : Arr F S2x2048x1024 .f32 → Arr F S2x2048x1024 .f32 → Arr F S2x2048x1024 .f32),
    binary main_v20 main_v23 main_v24 (addf : Arr F S2x2048x1024 .f32 → Arr F S2x2048x1024 .f32 → Arr F S2x2048x1024 .f32),
    nullary main_cst_4 (constant S_ .f32 0x00000000#32),
    unary main_cst_4 main_v25 (broadcastInDim S2x64x64 ![] bcast_S_S2x64x64 : Arr F S_ .f32 → Arr F S2x64x64 .f32),
    nullary main_cst_5 (constant S_ .f32 0x00000000#32),
    unary main_cst_5 main_v26 (broadcastInDim S2x64x64 ![] bcast_S_S2x64x64 : Arr F S_ .f32 → Arr F S2x64x64 .f32),
    reshape main_arg1 main_v27 (rfl : (.f32 : EltTy) = .f32) shapeCasts_S2x2048x1024_S2x2048x1024,
    reshape main_arg1 main_v28 (rfl : (.f32 : EltTy) = .f32) shapeCasts_S2x2048x1024_S2x2048x1024,
    unary main_v21 main_v29 (broadcastInDim S2x2048x1024 ![0, 1, 2] bcast_S1x1x1024_S2x2048x1024_0_1_2 : Arr F S1x1x1024 .f32 → Arr F S2x2048x1024 .f32),
    binary main_v29 main_v28 main_v30 (mulf : Arr F S2x2048x1024 .f32 → Arr F S2x2048x1024 .f32 → Arr F S2x2048x1024 .f32),
    binary main_v28 main_arg0 main_v31 (mulf : Arr F S2x2048x1024 .f32 → Arr F S2x2048x1024 .f32 → Arr F S2x2048x1024 .f32),
    nullary main_cst_6 (constant S_ .f32 0x00000000#32),
    binary main_v31 main_cst_6 main_v32 ((fun x v => Host.reduceAdd x v reducesTo_S2x2048x1024_S1024_d0_1 h_S_) : Arr F S2x2048x1024 .f32 → Arr F S_ .f32 → Arr F S1024 .f32),
    reshape main_v32 main_v33 (rfl : (.f32 : EltTy) = .f32) shapeCasts_S1024_S1x1x1024,
    nullary main_cst_7 (constant S_ .f32 0x00000000#32),
    binary main_v33 main_cst_7 main_v34 ((fun x v => Host.reduceAdd x v reducesTo_S1x1x1024_S1024_d0_1 h_S_) : Arr F S1x1x1024 .f32 → Arr F S_ .f32 → Arr F S1024 .f32),
    unary main_v34 main_v35 (broadcastInDim S1x1024 ![1] bcast_S1024_S1x1024_1 : Arr F S1024 .f32 → Arr F S1x1024 .f32),
    reshape main_v27 main_v36 (rfl : (.f32 : EltTy) = .f32) shapeCasts_S2x2048x1024_S2x2048x64x16 ]
theorem part0_ops1_sub : (part0_ops1 : List (HloOp τ sig (Elt F))).Forall fun op => op.bufs ⊆ tcRefs τ sig :=
  ⟨binary_bufs_sub .., unary_bufs_sub .., binary_bufs_sub .., unary_bufs_sub .., binary_bufs_sub .., reshape_bufs_sub .., unary_bufs_sub .., unary_bufs_sub .., binary_bufs_sub .., binary_bufs_sub .., nullary_bufs_sub .., unary_bufs_sub .., nullary_bufs_sub .., unary_bufs_sub .., reshape_bufs_sub .., reshape_bufs_sub .., unary_bufs_sub .., binary_bufs_sub .., binary_bufs_sub .., nullary_bufs_sub .., binary_bufs_sub .., reshape_bufs_sub .., nullary_bufs_sub .., binary_bufs_sub .., unary_bufs_sub .., reshape_bufs_sub ..⟩
theorem main_part0_chain (c : Dev nD) : main_part0 (F := F) c = (Pipeline.chainK
  [ seq part0_ops0,
    HostLoop.enter 0 ]
  (seq part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

abbrev part1_ops0 : List (HloOp τ sig (Elt F)) :=
  ( unary main_v36 main_v37 (Host.negf : Arr F S2x2048x64x16 .f32 → Arr F S2x2048x64x16 .f32)
  :: unary main_v37 main_v38 ((transpose S64x2048x2x16 [2, 1, 0, 3] · transposes_S2x2048x64x16_S64x2048x2x16_2_1_0_3) : Arr F S2x2048x64x16 .f32 → Arr F S64x2048x2x16 .f32)
  :: binary main_v38 main_v14_10 main_v39 ((fun l r => Host.dotGeneral dot_S64x2048x2x16_S2048x2x64x64_S64x16x64_12_01_3_3_0_2 none l r) : Arr F S64x2048x2x16 .f32 → Arr F S2048x2x64x64 .f32 → Arr F S64x16x64 .f32)
  :: binary main_v38 main_arg7 main_v40 ((fun l r => Host.dotGeneral dot_S64x2048x2x16_S64x16x64_S64x2048x2x64_3_1_12_2_0_0 none l r) : Arr F S64x2048x2x16 .f32 → Arr F S64x16x64 .f32 → Arr F S64x2048x2x64 .f32)
  :: unary main_v40 main_v41 ((transpose S2048x2x64x64 [1, 2, 0, 3] · transposes_S64x2048x2x64_S2048x2x64x64_1_2_0_3) : Arr F S64x2048x2x64 .f32 → Arr F S2048x2x64x64 .f32)
  :: unary main_v36 main_v42 ((transpose S64x2048x2x16 [2, 1, 0, 3] · transposes_S2x2048x64x16_S64x2048x2x16_2_1_0_3) : Arr F S2x2048x64x16 .f32 → Arr F S64x2048x2x16 .f32)
  :: binary main_v42 main_v14_9 main_v43 ((fun l r => Host.dotGeneral dot_S64x2048x2x16_S2048x2x64x64_S64x16x64_12_01_3_3_0_2 none l r) : Arr F S64x2048x2x16 .f32 → Arr F S2048x2x64x64 .f32 → Arr F S64x16x64 .f32)
  :: binary main_v42 main_arg6 main_v44 ((fun l r => Host.dotGeneral dot_S64x2048x2x16_S64x16x64_S64x2048x2x64_3_1_12_2_0_0 none l r) : Arr F S64x2048x2x16 .f32 → Arr F S64x16x64 .f32 → Arr F S64x2048x2x64 .f32)
  :: unary main_v44 main_v45 ((transpose S2048x2x64x64 [1, 2, 0, 3] · transposes_S64x2048x2x64_S2048x2x64x64_1_2_0_3) : Arr F S64x2048x2x64 .f32 → Arr F S2048x2x64x64 .f32)
  :: nullary main_cst_8 (constant S_ .f32 0x00000000#32)
  :: unary main_cst_8 main_v46 (broadcastInDim S2x64x64 ![] bcast_S_S2x64x64 : Arr F S_ .f32 → Arr F S2x64x64 .f32)
  :: nullary main_cst_9 (constant S_ .f32 0x00000000#32)
  :: unary main_cst_9 main_v47 (broadcastInDim S2x64x64 ![] bcast_S_S2x64x64 : Arr F S_ .f32 → Arr F S2x64x64 .f32)
  :: nullary main_cst_10 (constant S_ .f32 0x00000000#32)
  :: unary main_cst_10 main_v48 (broadcastInDim S64x64 ![] bcast_S_S64x64 : Arr F S_ .f32 → Arr F S64x64 .f32)
  :: nullary main_cst_11 (constant S_ .f32 0x00000000#32)
  :: unary main_cst_11 main_v49 (broadcastInDim S64x64 ![] bcast_S_S64x64 : Arr F S_ .f32 → Arr F S64x64 .f32)
  :: nullary main_cst_12 (constant S_ .f32 0x00000000#32)
  :: unary main_cst_12 main_v50 (broadcastInDim S2048x2x64x64 ![] bcast_S_S2048x2x64x64 : Arr F S_ .f32 → Arr F S2048x2x64x64 .f32)
  :: nullary main_cst_13 (constant S_ .f32 0x00000000#32)
  :: unary main_cst_13 main_v51 (broadcastInDim S2048x2x64x64 ![] bcast_S_S2048x2x64x64 : Arr F S_ .f32 → Arr F S2048x2x64x64 .f32)
  :: nullary main_c_14 (constantI S_ 32 0#32)
  :: unary main_v45 main_v52_0 id
  :: unary main_v41 main_v52_1 id
  :: unary main_v14_11 main_v52_2 id
  :: unary main_v14_12 main_v52_3 id
  :: unary main_v6 main_v52_4 id
  :: unary main_v7 main_v52_5 id
  :: unary main_v8 main_v52_6 id
  :: unary main_v9 main_v52_7 id
  :: unary main_c_14 main_v52_8 id
  :: unary main_v48 main_v52_9 id
  :: unary main_v49 main_v52_10 id
  :: unary main_v46 main_v52_11 id
  :: unary main_v47 main_v52_12 id
  :: unary main_v50 main_v52_13 id
  :: unary main_v51 main_v52_14 id
  :: [] )
theorem part1_ops0_sub : (part1_ops0 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev part1_ops1 : List (HloOp τ sig (Elt F)) :=
  [ unary main_v52_14 main_v53 ((transpose S64x2x2048x64 [2, 1, 0, 3] · transposes_S2048x2x64x64_S64x2x2048x64_2_1_0_3) : Arr F S2048x2x64x64 .f32 → Arr F S64x2x2048x64 .f32),
    binary main_v53 main_v0 main_v54 ((fun l r => Host.dotGeneral dot_S64x2x2048x64_S2x2048x64x16_S64x64x16_12_01_3_3_0_2 none l r) : Arr F S64x2x2048x64 .f32 → Arr F S2x2048x64x16 .f32 → Arr F S64x64x16 .f32),
    binary main_v53 main_arg5 main_v55 ((fun l r => Host.dotGeneral dot_S64x2x2048x64_S64x64x16_S64x2x2048x16_3_1_12_2_0_0 none l r) : Arr F S64x2x2048x64 .f32 → Arr F S64x64x16 .f32 → Arr F S64x2x2048x16 .f32),
    unary main_v55 main_v56 ((transpose S2x2048x64x16 [1, 2, 0, 3] · transposes_S64x2x2048x16_S2x2048x64x16_1_2_0_3) : Arr F S64x2x2048x16 .f32 → Arr F S2x2048x64x16 .f32),
    unary main_v52_13 main_v57 ((transpose S64x2x2048x64 [2, 1, 0, 3] · transposes_S2048x2x64x64_S64x2x2048x64_2_1_0_3) : Arr F S2048x2x64x64 .f32 → Arr F S64x2x2048x64 .f32),
    binary main_v57 main_v0 main_v58 ((fun l r => Host.dotGeneral dot_S64x2x2048x64_S2x2048x64x16_S64x64x16_12_01_3_3_0_2 none l r) : Arr F S64x2x2048x64 .f32 → Arr F S2x2048x64x16 .f32 → Arr F S64x64x16 .f32),
    binary main_v57 main_arg4 main_v59 ((fun l r => Host.dotGeneral dot_S64x2x2048x64_S64x64x16_S64x2x2048x16_3_1_12_2_0_0 none l r) : Arr F S64x2x2048x64 .f32 → Arr F S64x64x16 .f32 → Arr F S64x2x2048x16 .f32),
    unary main_v59 main_v60 ((transpose S2x2048x64x16 [1, 2, 0, 3] · transposes_S64x2x2048x16_S2x2048x64x16_1_2_0_3) : Arr F S64x2x2048x16 .f32 → Arr F S2x2048x64x16 .f32),
    binary main_v56 main_v60 main_v61 (addf : Arr F S2x2048x64x16 .f32 → Arr F S2x2048x64x16 .f32 → Arr F S2x2048x64x16 .f32),
    reshape main_v61 main_v62 (rfl : (.f32 : EltTy) = .f32) shapeCasts_S2x2048x64x16_S2x2048x1024,
    binary main_v30 main_v62 main_v63 (addf : Arr F S2x2048x1024 .f32 → Arr F S2x2048x1024 .f32 → Arr F S2x2048x1024 .f32) ]
theorem part1_ops1_sub : (part1_ops1 : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., unary_bufs_sub .., binary_bufs_sub .., reshape_bufs_sub .., binary_bufs_sub ..⟩
theorem main_part1_chain (c : Dev nD) : main_part1 (F := F) c = (Pipeline.chain
  [ seq part1_ops0,
    HostLoop.enter 1,
    seq part1_ops1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem main_chain_windows (c : Dev nD) : main (F := F) c = (Pipeline.chain
  [ seq part0_ops0,
    HostLoop.enter 0,
    seq part0_ops1,
    seq part1_ops0,
    HostLoop.enter 1,
    seq part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

abbrev main_groups (c : Dev nD) : List (Group nD τ sig (Elt F) (HostLoop.Sig (Pipeline.Sig Λ₀ (Fin 0) fun p => (pcfgs (F := F) p).Adm) 2)) :=
  [ .ops [part0_ops0],
    .prog (HostLoop.enter 0),
    .ops [part0_ops1, part1_ops0],
    .prog (HostLoop.enter 1),
    .ops [part1_ops1] ]

theorem main_chain_cut (c : Dev nD) : (Pipeline.chain
  [ seq part0_ops0,
    HostLoop.enter 0,
    seq part0_ops1,
    seq part1_ops0,
    HostLoop.enter 1,
    seq part1_ops1 ] : Prog (TpuEff nD τ sig (Elt F) (HostLoop.Sig (Pipeline.Sig Λ₀ (Fin 0) fun p => (pcfgs (F := F) p).Adm) 2) .tc) PUnit) = Pipeline.chain ((main_groups (F := F) c).flatMap Group.cut) := by
  chain_rfl

theorem main_chain_whole (c : Dev nD) : Pipeline.chain ((main_groups (F := F) c).map Group.whole) = (Pipeline.chain
  [ seq hostOps0,
    HostLoop.enter 0,
    seq hostOps0_1,
    HostLoop.enter 1,
    seq hostOps0_2 ] : Prog (TpuEff nD τ sig (Elt F) (HostLoop.Sig (Pipeline.Sig Λ₀ (Fin 0) fun p => (pcfgs (F := F) p).Adm) 2) .tc) PUnit) := by
  chain_rfl

theorem main_chain (c : Dev nD) : main (F := F) c = (Pipeline.chain
  [ seq hostOps0,
    HostLoop.enter 0,
    seq hostOps0_1,
    HostLoop.enter 1,
    seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (chain_cut_eq_whole (main_groups (F := F) c)).trans (main_chain_whole (F := F) c)

abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v14_0 : TRef sig ⟨S2048x2x64x64, .f32⟩) ![(.of main_v14_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x2x64x64, .f32⟩) (fun x i => Host.dynamicSlice S1x2x64x64 x (fun k => (i k (Shape.Idx.first h_S_)).toInt) sliceFits_S2048x2x64x64_S1x2x64x64),
    TRef.reshape (.of main_while0b_call0_v0 : TRef sig ⟨S1x2x64x64, .f32⟩) (.of main_while0b_v64 : TRef sig ⟨S2x64x64, .f32⟩) (rfl : (.f32 : EltTy) = .f32) shapeCasts_S1x2x64x64_S2x64x64 ]
theorem while0Ops0_sub : (while0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v14_1 : TRef sig ⟨S2048x2x64x64, .f32⟩) ![(.of main_v14_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x2x64x64, .f32⟩) (fun x i => Host.dynamicSlice S1x2x64x64 x (fun k => (i k (Shape.Idx.first h_S_)).toInt) sliceFits_S2048x2x64x64_S1x2x64x64),
    TRef.reshape (.of main_while0b_call1_v0 : TRef sig ⟨S1x2x64x64, .f32⟩) (.of main_while0b_v65 : TRef sig ⟨S2x64x64, .f32⟩) (rfl : (.f32 : EltTy) = .f32) shapeCasts_S1x2x64x64_S2x64x64 ]
theorem while0Ops0_1_sub : (while0Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while0Ops0_2 : List (HloOp τ sig (Elt F)) :=
  [ unary main_v14_2 main_while0b_v66 (broadcastInDim S2x64x64 ![0, 1, 2] bcast_S1x64x64_S2x64x64_0_1_2 : Arr F S1x64x64 .f32 → Arr F S2x64x64 .f32),
    binary main_while0b_v66 main_v14_7 main_while0b_v67 (mulf : Arr F S2x64x64 .f32 → Arr F S2x64x64 .f32 → Arr F S2x64x64 .f32),
    unary main_v14_3 main_while0b_v68 (broadcastInDim S2x64x64 ![0, 1, 2] bcast_S1x64x64_S2x64x64_0_1_2 : Arr F S1x64x64 .f32 → Arr F S2x64x64 .f32),
    binary main_while0b_v68 main_v14_8 main_while0b_v69 (mulf : Arr F S2x64x64 .f32 → Arr F S2x64x64 .f32 → Arr F S2x64x64 .f32),
    binary main_while0b_v67 main_while0b_v69 main_while0b_v70 (subf : Arr F S2x64x64 .f32 → Arr F S2x64x64 .f32 → Arr F S2x64x64 .f32),
    binary main_while0b_v70 main_while0b_v64 main_while0b_v71 (addf : Arr F S2x64x64 .f32 → Arr F S2x64x64 .f32 → Arr F S2x64x64 .f32),
    unary main_v14_4 main_while0b_v72 (broadcastInDim S2x64x64 ![0, 1, 2] bcast_S1x64x64_S2x64x64_0_1_2 : Arr F S1x64x64 .f32 → Arr F S2x64x64 .f32),
    binary main_while0b_v72 main_v14_8 main_while0b_v73 (mulf : Arr F S2x64x64 .f32 → Arr F S2x64x64 .f32 → Arr F S2x64x64 .f32),
    unary main_v14_5 main_while0b_v74 (broadcastInDim S2x64x64 ![0, 1, 2] bcast_S1x64x64_S2x64x64_0_1_2 : Arr F S1x64x64 .f32 → Arr F S2x64x64 .f32),
    binary main_while0b_v74 main_v14_7 main_while0b_v75 (mulf : Arr F S2x64x64 .f32 → Arr F S2x64x64 .f32 → Arr F S2x64x64 .f32),
    binary main_while0b_v73 main_while0b_v75 main_while0b_v76 (addf : Arr F S2x64x64 .f32 → Arr F S2x64x64 .f32 → Arr F S2x64x64 .f32),
    binary main_while0b_v76 main_while0b_v65 main_while0b_v77 (addf : Arr F S2x64x64 .f32 → Arr F S2x64x64 .f32 → Arr F S2x64x64 .f32) ]
theorem while0Ops0_2_sub : (while0Ops0_2 : List (HloOp τ sig (Elt F))).Forall fun op => op.bufs ⊆ tcRefs τ sig :=
  ⟨unary_bufs_sub .., binary_bufs_sub .., unary_bufs_sub .., binary_bufs_sub .., binary_bufs_sub .., binary_bufs_sub .., unary_bufs_sub .., binary_bufs_sub .., unary_bufs_sub .., binary_bufs_sub .., binary_bufs_sub .., binary_bufs_sub ..⟩
abbrev while0Ops0_3 : List (HloOp τ sig (Elt F)) :=
  [ TRef.unary (.of main_while0b_v71 : TRef sig ⟨S2x64x64, .f32⟩) (.of main_while0b_call2_v0 : TRef sig ⟨S1x2x64x64, .f32⟩) (broadcastInDim S1x2x64x64 ![1, 2, 3] bcast_S2x64x64_S1x2x64x64_1_2_3),
    TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.binaryIndexed (.of main_v14_9 : TRef sig ⟨S2048x2x64x64, .f32⟩) (.of main_while0b_call2_v0 : TRef sig ⟨S1x2x64x64, .f32⟩) ![(.of main_v14_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_v78 : TRef sig ⟨S2048x2x64x64, .f32⟩) (fun x u i => Host.dynamicUpdateSlice x u (fun k => (i k (Shape.Idx.first h_S_)).toInt) updateFits_S2048x2x64x64_S1x2x64x64) ]
theorem while0Ops0_3_sub : (while0Ops0_3 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_4 : List (HloOp τ sig (Elt F)) :=
  [ TRef.unary (.of main_while0b_v77 : TRef sig ⟨S2x64x64, .f32⟩) (.of main_while0b_call3_v0 : TRef sig ⟨S1x2x64x64, .f32⟩) (broadcastInDim S1x2x64x64 ![1, 2, 3] bcast_S2x64x64_S1x2x64x64_1_2_3),
    TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.binaryIndexed (.of main_v14_10 : TRef sig ⟨S2048x2x64x64, .f32⟩) (.of main_while0b_call3_v0 : TRef sig ⟨S1x2x64x64, .f32⟩) ![(.of main_v14_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_v79 : TRef sig ⟨S2048x2x64x64, .f32⟩) (fun x u i => Host.dynamicUpdateSlice x u (fun k => (i k (Shape.Idx.first h_S_)).toInt) updateFits_S2048x2x64x64_S1x2x64x64) ]
theorem while0Ops0_4_sub : (while0Ops0_4 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_5 : List (HloOp τ sig (Elt F)) :=
  [ TRef.unary (.of main_v14_7 : TRef sig ⟨S2x64x64, .f32⟩) (.of main_while0b_call4_v0 : TRef sig ⟨S1x2x64x64, .f32⟩) (broadcastInDim S1x2x64x64 ![1, 2, 3] bcast_S2x64x64_S1x2x64x64_1_2_3),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.binaryIndexed (.of main_v14_11 : TRef sig ⟨S2048x2x64x64, .f32⟩) (.of main_while0b_call4_v0 : TRef sig ⟨S1x2x64x64, .f32⟩) ![(.of main_v14_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_v80 : TRef sig ⟨S2048x2x64x64, .f32⟩) (fun x u i => Host.dynamicUpdateSlice x u (fun k => (i k (Shape.Idx.first h_S_)).toInt) updateFits_S2048x2x64x64_S1x2x64x64) ]
theorem while0Ops0_5_sub : (while0Ops0_5 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_6 : List (HloOp τ sig (Elt F)) :=
  [ TRef.unary (.of main_v14_8 : TRef sig ⟨S2x64x64, .f32⟩) (.of main_while0b_call5_v0 : TRef sig ⟨S1x2x64x64, .f32⟩) (broadcastInDim S1x2x64x64 ![1, 2, 3] bcast_S2x64x64_S1x2x64x64_1_2_3),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.binaryIndexed (.of main_v14_12 : TRef sig ⟨S2048x2x64x64, .f32⟩) (.of main_while0b_call5_v0 : TRef sig ⟨S1x2x64x64, .f32⟩) ![(.of main_v14_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩)] (.of main_while0b_v81 : TRef sig ⟨S2048x2x64x64, .f32⟩) (fun x u i => Host.dynamicUpdateSlice x u (fun k => (i k (Shape.Idx.first h_S_)).toInt) updateFits_S2048x2x64x64_S1x2x64x64) ]
theorem while0Ops0_6_sub : (while0Ops0_6 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while0Ops0_7 : List (HloOp τ sig (Elt F)) :=
  [ nullary main_while0b_c_27 (constantI S_ 32 1#32),
    binary main_v14_6 main_while0b_c_27 main_while0b_v82 (addi : Arr F S_ .i32 → Arr F S_ .i32 → Arr F S_ .i32),
    unary main_while0b_v82 main_v14_6 id,
    unary main_while0b_v71 main_v14_7 id,
    unary main_while0b_v77 main_v14_8 id,
    unary main_while0b_v78 main_v14_9 id,
    unary main_while0b_v79 main_v14_10 id,
    unary main_while0b_v80 main_v14_11 id,
    unary main_while0b_v81 main_v14_12 id ]
theorem while0Ops0_7_sub : (while0Ops0_7 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, Pipeline.chain_cons, Pipeline.chain_cons, chain_seq_cons]
  chain_rfl

abbrev while1Ops0 : List (HloOp τ sig (Elt F)) :=
  [ nullary main_while1b_c_29 (constantI S_ 32 2048#32),
    binary main_while1b_c_29 main_v52_8 main_while1b_v64 (subi : Arr F S_ .i32 → Arr F S_ .i32 → Arr F S_ .i32),
    nullary main_while1b_c_30 (constantI S_ 32 1#32),
    binary main_while1b_v64 main_while1b_c_30 main_while1b_v65 (subi : Arr F S_ .i32 → Arr F S_ .i32 → Arr F S_ .i32) ]
theorem while1Ops0_sub : (while1Ops0 : List (HloOp τ sig (Elt F))).Forall fun op => op.bufs ⊆ tcRefs τ sig :=
  ⟨nullary_bufs_sub .., binary_bufs_sub .., nullary_bufs_sub .., binary_bufs_sub ..⟩
abbrev while1Ops0_1 : List (HloOp τ sig (Elt F)) :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.nullary (.of main_while1b_call6_c_1 : TRef sig ⟨S_, .i32⟩) (constantI S_ 32 0#32),
    TRef.unaryIndexed (.of main_v52_0 : TRef sig ⟨S2048x2x64x64, .f32⟩) ![(.of main_while1b_v65 : TRef sig ⟨S_, .i32⟩), (.of main_while1b_call6_c : TRef sig ⟨S_, .i32⟩), (.of main_while1b_call6_c_0 : TRef sig ⟨S_, .i32⟩), (.of main_while1b_call6_c_1 : TRef sig ⟨S_, .i32⟩)] (.of main_while1b_call6_v0 : TRef sig ⟨S1x2x64x64, .f32⟩) (fun x i => Host.dynamicSlice S1x2x64x64 x (fun k => (i k (Shape.Idx.first h_S_)).toInt) sliceFits_S2048x2x64x64_S1x2x64x64),
    TRef.reshape (.of main_while1b_call6_v0 : TRef sig ⟨S1x2x64x64, .f32⟩) (.of main_while1b_v66 : TRef sig ⟨S2x64x64, .f32⟩) (rfl : (.f32 : EltTy) = .f32) shapeCasts_S1x2x64x64_S2x64x64 ]
theorem while1Ops0_1_sub : (while1Ops0_1 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_2 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.unaryIndexed (.of main_v52_1 : TRef sig ⟨S2048x2x64x64, .f32⟩) ![(.of main_while1b_v65 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩)] (.of main_while1b_call7_v0 : TRef sig ⟨S1x2x64x64, .f32⟩) (fun x i => Host.dynamicSlice S1x2x64x64 x (fun k => (i k (Shape.Idx.first h_S_)).toInt) sliceFits_S2048x2x64x64_S1x2x64x64),
    TRef.reshape (.of main_while1b_call7_v0 : TRef sig ⟨S1x2x64x64, .f32⟩) (.of main_while1b_v67 : TRef sig ⟨S2x64x64, .f32⟩) (rfl : (.f32 : EltTy) = .f32) shapeCasts_S1x2x64x64_S2x64x64 ]
theorem while1Ops0_2_sub : (while1Ops0_2 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_3 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.unaryIndexed (.of main_v52_2 : TRef sig ⟨S2048x2x64x64, .f32⟩) ![(.of main_while1b_v65 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩)] (.of main_while1b_call8_v0 : TRef sig ⟨S1x2x64x64, .f32⟩) (fun x i => Host.dynamicSlice S1x2x64x64 x (fun k => (i k (Shape.Idx.first h_S_)).toInt) sliceFits_S2048x2x64x64_S1x2x64x64),
    TRef.reshape (.of main_while1b_call8_v0 : TRef sig ⟨S1x2x64x64, .f32⟩) (.of main_while1b_v68 : TRef sig ⟨S2x64x64, .f32⟩) (rfl : (.f32 : EltTy) = .f32) shapeCasts_S1x2x64x64_S2x64x64 ]
theorem while1Ops0_3_sub : (while1Ops0_3 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_4 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.unaryIndexed (.of main_v52_3 : TRef sig ⟨S2048x2x64x64, .f32⟩) ![(.of main_while1b_v65 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_call9_v0 : TRef sig ⟨S1x2x64x64, .f32⟩) (fun x i => Host.dynamicSlice S1x2x64x64 x (fun k => (i k (Shape.Idx.first h_S_)).toInt) sliceFits_S2048x2x64x64_S1x2x64x64),
    TRef.reshape (.of main_while1b_call9_v0 : TRef sig ⟨S1x2x64x64, .f32⟩) (.of main_while1b_v69 : TRef sig ⟨S2x64x64, .f32⟩) (rfl : (.f32 : EltTy) = .f32) shapeCasts_S1x2x64x64_S2x64x64 ]
theorem while1Ops0_4_sub : (while1Ops0_4 : List (HloOp τ sig (Elt F))).Forall fun op => op.bufs ⊆ tcRefs τ sig :=
  ⟨nullary_bufs_sub .., nullary_bufs_sub .., nullary_bufs_sub .., unaryIndexed_bufs_sub .., reshape_bufs_sub ..⟩
abbrev while1Ops0_5 : List (HloOp τ sig (Elt F)) :=
  ( binary main_v52_11 main_while1b_v66 main_while1b_v70 (addf : Arr F S2x64x64 .f32 → Arr F S2x64x64 .f32 → Arr F S2x64x64 .f32)
  :: binary main_v52_12 main_while1b_v67 main_while1b_v71 (addf : Arr F S2x64x64 .f32 → Arr F S2x64x64 .f32 → Arr F S2x64x64 .f32)
  :: unary main_v52_7 main_while1b_v72 (broadcastInDim S2x64x64 ![0, 1, 2] bcast_S1x64x64_S2x64x64_0_1_2 : Arr F S1x64x64 .f32 → Arr F S2x64x64 .f32)
  :: binary main_while1b_v72 main_while1b_v71 main_while1b_v73 (mulf : Arr F S2x64x64 .f32 → Arr F S2x64x64 .f32 → Arr F S2x64x64 .f32)
  :: binary main_while1b_v71 main_while1b_v68 main_while1b_v74 (mulf : Arr F S2x64x64 .f32 → Arr F S2x64x64 .f32 → Arr F S2x64x64 .f32)
  :: nullary main_while1b_cst_31 (constant S_ .f32 0x00000000#32)
  :: binary main_while1b_v74 main_while1b_cst_31 main_while1b_v75 ((fun x v => Host.reduceAdd x v reducesTo_S2x64x64_S64x64_d0 h_S_) : Arr F S2x64x64 .f32 → Arr F S_ .f32 → Arr F S64x64 .f32)
  :: reshape main_while1b_v75 main_while1b_v76 (rfl : (.f32 : EltTy) = .f32) shapeCasts_S64x64_S1x64x64
  :: nullary main_while1b_cst_32 (constant S_ .f32 0x00000000#32)
  :: binary main_while1b_v76 main_while1b_cst_32 main_while1b_v77 ((fun x v => Host.reduceAdd x v reducesTo_S1x64x64_S64x64_d0 h_S_) : Arr F S1x64x64 .f32 → Arr F S_ .f32 → Arr F S64x64 .f32)
  :: binary main_v52_10 main_while1b_v77 main_while1b_v78 (addf : Arr F S64x64 .f32 → Arr F S64x64 .f32 → Arr F S64x64 .f32)
  :: unary main_v52_6 main_while1b_v79 (broadcastInDim S2x64x64 ![0, 1, 2] bcast_S1x64x64_S2x64x64_0_1_2 : Arr F S1x64x64 .f32 → Arr F S2x64x64 .f32)
  :: binary main_while1b_v79 main_while1b_v71 main_while1b_v80 (mulf : Arr F S2x64x64 .f32 → Arr F S2x64x64 .f32 → Arr F S2x64x64 .f32)
  :: binary main_while1b_v71 main_while1b_v69 main_while1b_v81 (mulf : Arr F S2x64x64 .f32 → Arr F S2x64x64 .f32 → Arr F S2x64x64 .f32)
  :: nullary main_while1b_cst_33 (constant S_ .f32 0x00000000#32)
  :: binary main_while1b_v81 main_while1b_cst_33 main_while1b_v82 ((fun x v => Host.reduceAdd x v reducesTo_S2x64x64_S64x64_d0 h_S_) : Arr F S2x64x64 .f32 → Arr F S_ .f32 → Arr F S64x64 .f32)
  :: reshape main_while1b_v82 main_while1b_v83 (rfl : (.f32 : EltTy) = .f32) shapeCasts_S64x64_S1x64x64
  :: nullary main_while1b_cst_34 (constant S_ .f32 0x00000000#32)
  :: binary main_while1b_v83 main_while1b_cst_34 main_while1b_v84 ((fun x v => Host.reduceAdd x v reducesTo_S1x64x64_S64x64_d0 h_S_) : Arr F S1x64x64 .f32 → Arr F S_ .f32 → Arr F S64x64 .f32)
  :: binary main_v52_9 main_while1b_v84 main_while1b_v85 (addf : Arr F S64x64 .f32 → Arr F S64x64 .f32 → Arr F S64x64 .f32)
  :: unary main_while1b_v70 main_while1b_v86 (Host.negf : Arr F S2x64x64 .f32 → Arr F S2x64x64 .f32)
  :: unary main_v52_5 main_while1b_v87 (broadcastInDim S2x64x64 ![0, 1, 2] bcast_S1x64x64_S2x64x64_0_1_2 : Arr F S1x64x64 .f32 → Arr F S2x64x64 .f32)
  :: binary main_while1b_v87 main_while1b_v86 main_while1b_v88 (mulf : Arr F S2x64x64 .f32 → Arr F S2x64x64 .f32 → Arr F S2x64x64 .f32)
  :: binary main_while1b_v80 main_while1b_v88 main_while1b_v89 (addf : Arr F S2x64x64 .f32 → Arr F S2x64x64 .f32 → Arr F S2x64x64 .f32)
  :: binary main_while1b_v86 main_while1b_v69 main_while1b_v90 (mulf : Arr F S2x64x64 .f32 → Arr F S2x64x64 .f32 → Arr F S2x64x64 .f32)
  :: nullary main_while1b_cst_35 (constant S_ .f32 0x00000000#32)
  :: binary main_while1b_v90 main_while1b_cst_35 main_while1b_v91 ((fun x v => Host.reduceAdd x v reducesTo_S2x64x64_S64x64_d0 h_S_) : Arr F S2x64x64 .f32 → Arr F S_ .f32 → Arr F S64x64 .f32)
  :: reshape main_while1b_v91 main_while1b_v92 (rfl : (.f32 : EltTy) = .f32) shapeCasts_S64x64_S1x64x64
  :: nullary main_while1b_cst_36 (constant S_ .f32 0x00000000#32)
  :: binary main_while1b_v92 main_while1b_cst_36 main_while1b_v93 ((fun x v => Host.reduceAdd x v reducesTo_S1x64x64_S64x64_d0 h_S_) : Arr F S1x64x64 .f32 → Arr F S_ .f32 → Arr F S64x64 .f32)
  :: binary main_while1b_v78 main_while1b_v93 main_while1b_v94 (addf : Arr F S64x64 .f32 → Arr F S64x64 .f32 → Arr F S64x64 .f32)
  :: unary main_v52_4 main_while1b_v95 (broadcastInDim S2x64x64 ![0, 1, 2] bcast_S1x64x64_S2x64x64_0_1_2 : Arr F S1x64x64 .f32 → Arr F S2x64x64 .f32)
  :: binary main_while1b_v95 main_while1b_v70 main_while1b_v96 (mulf : Arr F S2x64x64 .f32 → Arr F S2x64x64 .f32 → Arr F S2x64x64 .f32)
  :: binary main_while1b_v73 main_while1b_v96 main_while1b_v97 (addf : Arr F S2x64x64 .f32 → Arr F S2x64x64 .f32 → Arr F S2x64x64 .f32)
  :: binary main_while1b_v70 main_while1b_v68 main_while1b_v98 (mulf : Arr F S2x64x64 .f32 → Arr F S2x64x64 .f32 → Arr F S2x64x64 .f32)
  :: nullary main_while1b_cst_37 (constant S_ .f32 0x00000000#32)
  :: binary main_while1b_v98 main_while1b_cst_37 main_while1b_v99 ((fun x v => Host.reduceAdd x v reducesTo_S2x64x64_S64x64_d0 h_S_) : Arr F S2x64x64 .f32 → Arr F S_ .f32 → Arr F S64x64 .f32)
  :: reshape main_while1b_v99 main_while1b_v100 (rfl : (.f32 : EltTy) = .f32) shapeCasts_S64x64_S1x64x64
  :: nullary main_while1b_cst_38 (constant S_ .f32 0x00000000#32)
  :: binary main_while1b_v100 main_while1b_cst_38 main_while1b_v101 ((fun x v => Host.reduceAdd x v reducesTo_S1x64x64_S64x64_d0 h_S_) : Arr F S1x64x64 .f32 → Arr F S_ .f32 → Arr F S64x64 .f32)
  :: binary main_while1b_v85 main_while1b_v101 main_while1b_v102 (addf : Arr F S64x64 .f32 → Arr F S64x64 .f32 → Arr F S64x64 .f32)
  :: [] )
theorem while1Ops0_5_sub : (while1Ops0_5 : List (HloOp τ sig (Elt F))).Forall fun op => op.bufs ⊆ tcRefs τ sig :=
  ⟨binary_bufs_sub .., binary_bufs_sub .., unary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., nullary_bufs_sub .., binary_bufs_sub .., reshape_bufs_sub .., nullary_bufs_sub .., binary_bufs_sub .., binary_bufs_sub .., unary_bufs_sub .., unary_bufs_sub .., binary_bufs_sub .., binary_bufs_sub .., binary_bufs_sub .., nullary_bufs_sub .., binary_bufs_sub .., reshape_bufs_sub .., nullary_bufs_sub .., binary_bufs_sub .., binary_bufs_sub .., unary_bufs_sub .., binary_bufs_sub .., binary_bufs_sub .., binary_bufs_sub .., nullary_bufs_sub .., binary_bufs_sub .., reshape_bufs_sub .., nullary_bufs_sub .., binary_bufs_sub .., binary_bufs_sub ..⟩
abbrev while1Ops0_6 : List (HloOp τ sig (Elt F)) :=
  [ TRef.unary (.of main_while1b_v70 : TRef sig ⟨S2x64x64, .f32⟩) (.of main_while1b_call10_v0 : TRef sig ⟨S1x2x64x64, .f32⟩) (broadcastInDim S1x2x64x64 ![1, 2, 3] bcast_S2x64x64_S1x2x64x64_1_2_3),
    TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.binaryIndexed (.of main_v52_13 : TRef sig ⟨S2048x2x64x64, .f32⟩) (.of main_while1b_call10_v0 : TRef sig ⟨S1x2x64x64, .f32⟩) ![(.of main_while1b_v65 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_v103 : TRef sig ⟨S2048x2x64x64, .f32⟩) (fun x u i => Host.dynamicUpdateSlice x u (fun k => (i k (Shape.Idx.first h_S_)).toInt) updateFits_S2048x2x64x64_S1x2x64x64) ]
theorem while1Ops0_6_sub : (while1Ops0_6 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_7 : List (HloOp τ sig (Elt F)) :=
  [ TRef.unary (.of main_while1b_v71 : TRef sig ⟨S2x64x64, .f32⟩) (.of main_while1b_call11_v0 : TRef sig ⟨S1x2x64x64, .f32⟩) (broadcastInDim S1x2x64x64 ![1, 2, 3] bcast_S2x64x64_S1x2x64x64_1_2_3),
    TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.binaryIndexed (.of main_v52_14 : TRef sig ⟨S2048x2x64x64, .f32⟩) (.of main_while1b_call11_v0 : TRef sig ⟨S1x2x64x64, .f32⟩) ![(.of main_while1b_v65 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_v104 : TRef sig ⟨S2048x2x64x64, .f32⟩) (fun x u i => Host.dynamicUpdateSlice x u (fun k => (i k (Shape.Idx.first h_S_)).toInt) updateFits_S2048x2x64x64_S1x2x64x64) ]
theorem while1Ops0_7_sub : (while1Ops0_7 : List (HloOp τ sig (Elt F))).Forall fun op => op.bufs ⊆ tcRefs τ sig :=
  ⟨unary_bufs_sub .., nullary_bufs_sub .., nullary_bufs_sub .., nullary_bufs_sub .., binaryIndexed_bufs_sub ..⟩
abbrev while1Ops0_8 : List (HloOp τ sig (Elt F)) :=
  [ nullary main_while1b_c_39 (constantI S_ 32 1#32),
    binary main_v52_8 main_while1b_c_39 main_while1b_v105 (addi : Arr F S_ .i32 → Arr F S_ .i32 → Arr F S_ .i32),
    unary main_while1b_v105 main_v52_8 id,
    unary main_while1b_v102 main_v52_9 id,
    unary main_while1b_v94 main_v52_10 id,
    unary main_while1b_v97 main_v52_11 id,
    unary main_while1b_v89 main_v52_12 id,
    unary main_while1b_v103 main_v52_13 id,
    unary main_while1b_v104 main_v52_14 id ]
theorem while1Ops0_8_sub : (while1Ops0_8 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, chain_seq_cons, Pipeline.chain_cons, Pipeline.chain_cons, chain_seq_cons]
  chain_rfl

/-! ## What each stretch writes -/

theorem hostOps0_fresh : (hostOps0 : List (HloOp τ sig (Elt F))).Forall fun op => op.fresh = ∅ := forall_fresh_of_map rfl
abbrev hostOps0_W : List (Ref sig .tc) := [main_v0, main_v1, main_v2, main_v3, main_v4, main_cst, main_v5, main_v6, main_v7, main_v8, main_v9, main_cst_0, main_v10, main_cst_1, main_v11, main_cst_2, main_v12, main_cst_3, main_v13, main_c, main_v14_0, main_v14_1, main_v14_2, main_v14_3, main_v14_4, main_v14_5, main_v14_6, main_v14_7, main_v14_8, main_v14_9, main_v14_10, main_v14_11, main_v14_12]
theorem hostOps0_writes : (hostOps0 : List (HloOp τ sig (Elt F))).Forall fun op => op.writes ⊆ (hostOps0_W.map (Proc.devRef (τ := τ) .tc)).toFinset :=
  forall_writes_sub_of_map rfl
theorem hostOps0_1_fresh : (hostOps0_1 : List (HloOp τ sig (Elt F))).Forall fun op => op.fresh = ∅ := forall_fresh_of_map rfl
abbrev hostOps0_1_W : List (Ref sig .tc) := [main_v15, main_v16, main_v17, main_v18, main_v19, main_v20, main_v21, main_v22, main_v23, main_v24, main_cst_4, main_v25, main_cst_5, main_v26, main_v27, main_v28, main_v29, main_v30, main_v31, main_cst_6, main_v32, main_v33, main_cst_7, main_v34, main_v35, main_v36, main_v37, main_v38, main_v39, main_v40, main_v41, main_v42, main_v43, main_v44, main_v45, main_cst_8, main_v46, main_cst_9, main_v47, main_cst_10, main_v48, main_cst_11, main_v49, main_cst_12, main_v50, main_cst_13, main_v51, main_c_14, main_v52_0, main_v52_1, main_v52_2, main_v52_3, main_v52_4, main_v52_5, main_v52_6, main_v52_7, main_v52_8, main_v52_9, main_v52_10, main_v52_11, main_v52_12, main_v52_13, main_v52_14]
theorem hostOps0_1_writes : (hostOps0_1 : List (HloOp τ sig (Elt F))).Forall fun op => op.writes ⊆ (hostOps0_1_W.map (Proc.devRef (τ := τ) .tc)).toFinset :=
  forall_writes_sub_of_map rfl
theorem hostOps0_2_fresh : (hostOps0_2 : List (HloOp τ sig (Elt F))).Forall fun op => op.fresh = ∅ := forall_fresh_of_map rfl
abbrev hostOps0_2_W : List (Ref sig .tc) := [main_v53, main_v54, main_v55, main_v56, main_v57, main_v58, main_v59, main_v60, main_v61, main_v62, main_v63]
theorem hostOps0_2_writes : (hostOps0_2 : List (HloOp τ sig (Elt F))).Forall fun op => op.writes ⊆ (hostOps0_2_W.map (Proc.devRef (τ := τ) .tc)).toFinset :=
  forall_writes_sub_of_map rfl
theorem while0Ops0_fresh : (while0Ops0 : List (HloOp τ sig (Elt F))).Forall fun op => op.fresh = ∅ := forall_fresh_of_map rfl
abbrev while0Ops0_W : List (Ref sig .tc) := [main_while0b_call0_c, main_while0b_call0_c_0, main_while0b_call0_c_1, main_while0b_call0_v0, main_while0b_v64]
theorem while0Ops0_writes : (while0Ops0 : List (HloOp τ sig (Elt F))).Forall fun op => op.writes ⊆ (while0Ops0_W.map (Proc.devRef (τ := τ) .tc)).toFinset :=
  forall_writes_sub_of_map rfl
theorem while0Ops0_1_fresh : (while0Ops0_1 : List (HloOp τ sig (Elt F))).Forall fun op => op.fresh = ∅ := forall_fresh_of_map rfl
abbrev while0Ops0_1_W : List (Ref sig .tc) := [main_while0b_call1_c, main_while0b_call1_c_0, main_while0b_call1_c_1, main_while0b_call1_v0, main_while0b_v65]
theorem while0Ops0_1_writes : (while0Ops0_1 : List (HloOp τ sig (Elt F))).Forall fun op => op.writes ⊆ (while0Ops0_1_W.map (Proc.devRef (τ := τ) .tc)).toFinset :=
  forall_writes_sub_of_map rfl
theorem while0Ops0_2_fresh : (while0Ops0_2 : List (HloOp τ sig (Elt F))).Forall fun op => op.fresh = ∅ := forall_fresh_of_map rfl
abbrev while0Ops0_2_W : List (Ref sig .tc) := [main_while0b_v66, main_while0b_v67, main_while0b_v68, main_while0b_v69, main_while0b_v70, main_while0b_v71, main_while0b_v72, main_while0b_v73, main_while0b_v74, main_while0b_v75, main_while0b_v76, main_while0b_v77]
theorem while0Ops0_2_writes : (while0Ops0_2 : List (HloOp τ sig (Elt F))).Forall fun op => op.writes ⊆ (while0Ops0_2_W.map (Proc.devRef (τ := τ) .tc)).toFinset :=
  forall_writes_sub_of_map rfl
theorem while0Ops0_3_fresh : (while0Ops0_3 : List (HloOp τ sig (Elt F))).Forall fun op => op.fresh = ∅ := forall_fresh_of_map rfl
abbrev while0Ops0_3_W : List (Ref sig .tc) := [main_while0b_call2_v0, main_while0b_call2_c, main_while0b_call2_c_0, main_while0b_call2_c_1, main_while0b_v78]
theorem while0Ops0_3_writes : (while0Ops0_3 : List (HloOp τ sig (Elt F))).Forall fun op => op.writes ⊆ (while0Ops0_3_W.map (Proc.devRef (τ := τ) .tc)).toFinset :=
  forall_writes_sub_of_map rfl
theorem while0Ops0_4_fresh : (while0Ops0_4 : List (HloOp τ sig (Elt F))).Forall fun op => op.fresh = ∅ := forall_fresh_of_map rfl
abbrev while0Ops0_4_W : List (Ref sig .tc) := [main_while0b_call3_v0, main_while0b_call3_c, main_while0b_call3_c_0, main_while0b_call3_c_1, main_while0b_v79]
theorem while0Ops0_4_writes : (while0Ops0_4 : List (HloOp τ sig (Elt F))).Forall fun op => op.writes ⊆ (while0Ops0_4_W.map (Proc.devRef (τ := τ) .tc)).toFinset :=
  forall_writes_sub_of_map rfl
theorem while0Ops0_5_fresh : (while0Ops0_5 : List (HloOp τ sig (Elt F))).Forall fun op => op.fresh = ∅ := forall_fresh_of_map rfl
abbrev while0Ops0_5_W : List (Ref sig .tc) := [main_while0b_call4_v0, main_while0b_call4_c, main_while0b_call4_c_0, main_while0b_call4_c_1, main_while0b_v80]
theorem while0Ops0_5_writes : (while0Ops0_5 : List (HloOp τ sig (Elt F))).Forall fun op => op.writes ⊆ (while0Ops0_5_W.map (Proc.devRef (τ := τ) .tc)).toFinset :=
  forall_writes_sub_of_map rfl
theorem while0Ops0_6_fresh : (while0Ops0_6 : List (HloOp τ sig (Elt F))).Forall fun op => op.fresh = ∅ := forall_fresh_of_map rfl
abbrev while0Ops0_6_W : List (Ref sig .tc) := [main_while0b_call5_v0, main_while0b_call5_c, main_while0b_call5_c_0, main_while0b_call5_c_1, main_while0b_v81]
theorem while0Ops0_6_writes : (while0Ops0_6 : List (HloOp τ sig (Elt F))).Forall fun op => op.writes ⊆ (while0Ops0_6_W.map (Proc.devRef (τ := τ) .tc)).toFinset :=
  forall_writes_sub_of_map rfl
theorem while0Ops0_7_fresh : (while0Ops0_7 : List (HloOp τ sig (Elt F))).Forall fun op => op.fresh = ∅ := forall_fresh_of_map rfl
abbrev while0Ops0_7_W : List (Ref sig .tc) := [main_while0b_c_27, main_while0b_v82, main_v14_6, main_v14_7, main_v14_8, main_v14_9, main_v14_10, main_v14_11, main_v14_12]
theorem while0Ops0_7_writes : (while0Ops0_7 : List (HloOp τ sig (Elt F))).Forall fun op => op.writes ⊆ (while0Ops0_7_W.map (Proc.devRef (τ := τ) .tc)).toFinset :=
  forall_writes_sub_of_map rfl
theorem while1Ops0_fresh : (while1Ops0 : List (HloOp τ sig (Elt F))).Forall fun op => op.fresh = ∅ := forall_fresh_of_map rfl
abbrev while1Ops0_W : List (Ref sig .tc) := [main_while1b_c_29, main_while1b_v64, main_while1b_c_30, main_while1b_v65]
theorem while1Ops0_writes : (while1Ops0 : List (HloOp τ sig (Elt F))).Forall fun op => op.writes ⊆ (while1Ops0_W.map (Proc.devRef (τ := τ) .tc)).toFinset :=
  forall_writes_sub_of_map rfl
theorem while1Ops0_1_fresh : (while1Ops0_1 : List (HloOp τ sig (Elt F))).Forall fun op => op.fresh = ∅ := forall_fresh_of_map rfl
abbrev while1Ops0_1_W : List (Ref sig .tc) := [main_while1b_call6_c, main_while1b_call6_c_0, main_while1b_call6_c_1, main_while1b_call6_v0, main_while1b_v66]
theorem while1Ops0_1_writes : (while1Ops0_1 : List (HloOp τ sig (Elt F))).Forall fun op => op.writes ⊆ (while1Ops0_1_W.map (Proc.devRef (τ := τ) .tc)).toFinset :=
  forall_writes_sub_of_map rfl
theorem while1Ops0_2_fresh : (while1Ops0_2 : List (HloOp τ sig (Elt F))).Forall fun op => op.fresh = ∅ := forall_fresh_of_map rfl
abbrev while1Ops0_2_W : List (Ref sig .tc) := [main_while1b_call7_c, main_while1b_call7_c_0, main_while1b_call7_c_1, main_while1b_call7_v0, main_while1b_v67]
theorem while1Ops0_2_writes : (while1Ops0_2 : List (HloOp τ sig (Elt F))).Forall fun op => op.writes ⊆ (while1Ops0_2_W.map (Proc.devRef (τ := τ) .tc)).toFinset :=
  forall_writes_sub_of_map rfl
theorem while1Ops0_3_fresh : (while1Ops0_3 : List (HloOp τ sig (Elt F))).Forall fun op => op.fresh = ∅ := forall_fresh_of_map rfl
abbrev while1Ops0_3_W : List (Ref sig .tc) := [main_while1b_call8_c, main_while1b_call8_c_0, main_while1b_call8_c_1, main_while1b_call8_v0, main_while1b_v68]
theorem while1Ops0_3_writes : (while1Ops0_3 : List (HloOp τ sig (Elt F))).Forall fun op => op.writes ⊆ (while1Ops0_3_W.map (Proc.devRef (τ := τ) .tc)).toFinset :=
  forall_writes_sub_of_map rfl
theorem while1Ops0_4_fresh : (while1Ops0_4 : List (HloOp τ sig (Elt F))).Forall fun op => op.fresh = ∅ := forall_fresh_of_map rfl
abbrev while1Ops0_4_W : List (Ref sig .tc) := [main_while1b_call9_c, main_while1b_call9_c_0, main_while1b_call9_c_1, main_while1b_call9_v0, main_while1b_v69]
theorem while1Ops0_4_writes : (while1Ops0_4 : List (HloOp τ sig (Elt F))).Forall fun op => op.writes ⊆ (while1Ops0_4_W.map (Proc.devRef (τ := τ) .tc)).toFinset :=
  forall_writes_sub_of_map rfl
theorem while1Ops0_5_fresh : (while1Ops0_5 : List (HloOp τ sig (Elt F))).Forall fun op => op.fresh = ∅ := forall_fresh_of_map rfl
abbrev while1Ops0_5_W : List (Ref sig .tc) := [main_while1b_v70, main_while1b_v71, main_while1b_v72, main_while1b_v73, main_while1b_v74, main_while1b_cst_31, main_while1b_v75, main_while1b_v76, main_while1b_cst_32, main_while1b_v77, main_while1b_v78, main_while1b_v79, main_while1b_v80, main_while1b_v81, main_while1b_cst_33, main_while1b_v82, main_while1b_v83, main_while1b_cst_34, main_while1b_v84, main_while1b_v85, main_while1b_v86, main_while1b_v87, main_while1b_v88, main_while1b_v89, main_while1b_v90, main_while1b_cst_35, main_while1b_v91, main_while1b_v92, main_while1b_cst_36, main_while1b_v93, main_while1b_v94, main_while1b_v95, main_while1b_v96, main_while1b_v97, main_while1b_v98, main_while1b_cst_37, main_while1b_v99, main_while1b_v100, main_while1b_cst_38, main_while1b_v101, main_while1b_v102]
theorem while1Ops0_5_writes : (while1Ops0_5 : List (HloOp τ sig (Elt F))).Forall fun op => op.writes ⊆ (while1Ops0_5_W.map (Proc.devRef (τ := τ) .tc)).toFinset :=
  forall_writes_sub_of_map rfl
theorem while1Ops0_6_fresh : (while1Ops0_6 : List (HloOp τ sig (Elt F))).Forall fun op => op.fresh = ∅ := forall_fresh_of_map rfl
abbrev while1Ops0_6_W : List (Ref sig .tc) := [main_while1b_call10_v0, main_while1b_call10_c, main_while1b_call10_c_0, main_while1b_call10_c_1, main_while1b_v103]
theorem while1Ops0_6_writes : (while1Ops0_6 : List (HloOp τ sig (Elt F))).Forall fun op => op.writes ⊆ (while1Ops0_6_W.map (Proc.devRef (τ := τ) .tc)).toFinset :=
  forall_writes_sub_of_map rfl
theorem while1Ops0_7_fresh : (while1Ops0_7 : List (HloOp τ sig (Elt F))).Forall fun op => op.fresh = ∅ := forall_fresh_of_map rfl
abbrev while1Ops0_7_W : List (Ref sig .tc) := [main_while1b_call11_v0, main_while1b_call11_c, main_while1b_call11_c_0, main_while1b_call11_c_1, main_while1b_v104]
theorem while1Ops0_7_writes : (while1Ops0_7 : List (HloOp τ sig (Elt F))).Forall fun op => op.writes ⊆ (while1Ops0_7_W.map (Proc.devRef (τ := τ) .tc)).toFinset :=
  forall_writes_sub_of_map rfl
theorem while1Ops0_8_fresh : (while1Ops0_8 : List (HloOp τ sig (Elt F))).Forall fun op => op.fresh = ∅ := forall_fresh_of_map rfl
abbrev while1Ops0_8_W : List (Ref sig .tc) := [main_while1b_c_39, main_while1b_v105, main_v52_8, main_v52_9, main_v52_10, main_v52_11, main_v52_12, main_v52_13, main_v52_14]
theorem while1Ops0_8_writes : (while1Ops0_8 : List (HloOp τ sig (Elt F))).Forall fun op => op.writes ⊆ (while1Ops0_8_W.map (Proc.devRef (τ := τ) .tc)).toFinset :=
  forall_writes_sub_of_map rfl

/-! ## The forward scan's loop -/

abbrev cond0 : List (HloOp τ sig (Elt F)) :=
  [ nullary main_while0c_c_27 (constantI S_ 32 2048#32),
    binary main_v14_6 main_while0c_c_27 main_while0c_v64 (cmpi .slt) ]
abbrev cond0_W : List (Ref sig .tc) := [main_while0c_c_27, main_while0c_v64]
theorem cond0_writes : (cond0 : List (HloOp τ sig (Elt F))).Forall fun op => op.writes ⊆ (cond0_W.map (Proc.devRef (τ := τ) .tc)).toFinset :=
  forall_writes_sub_of_map rfl
abbrev body0 : List (List (HloOp τ sig (Elt F))) := [while0Ops0, while0Ops0_1, while0Ops0_2, while0Ops0_3, while0Ops0_4, while0Ops0_5, while0Ops0_6, while0Ops0_7]
theorem plain0 : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))

/-- The loop with its regions, its operations and its 2048 trips. -/
abbrev loop0 : TwoLoop.Loop F (pcfgs (F := F)) (loops (F := F)) :=
  ⟨0, main_while0_cond, main_while0_body, rfl, cond0, body0, plain0, by rw [while0_body_chain]; rfl, 2048⟩

theorem ctr0_cond (V : Valuation τ sig (Elt F)) : after cond0 V (Proc.devRef .tc main_v14_6) = V (Proc.devRef .tc main_v14_6) :=
  after_of_writes_sub cond0 V cond0_writes (by decide +kernel)
theorem ctr0_while0Ops0 (V : Valuation τ sig (Elt F)) : after while0Ops0 V (Proc.devRef .tc main_v14_6) = V (Proc.devRef .tc main_v14_6) :=
  after_of_writes_sub while0Ops0 V while0Ops0_writes (by decide +kernel)
theorem ctr0_while0Ops0_1 (V : Valuation τ sig (Elt F)) : after while0Ops0_1 V (Proc.devRef .tc main_v14_6) = V (Proc.devRef .tc main_v14_6) :=
  after_of_writes_sub while0Ops0_1 V while0Ops0_1_writes (by decide +kernel)
theorem ctr0_while0Ops0_2 (V : Valuation τ sig (Elt F)) : after while0Ops0_2 V (Proc.devRef .tc main_v14_6) = V (Proc.devRef .tc main_v14_6) :=
  after_of_writes_sub while0Ops0_2 V while0Ops0_2_writes (by decide +kernel)
theorem ctr0_while0Ops0_3 (V : Valuation τ sig (Elt F)) : after while0Ops0_3 V (Proc.devRef .tc main_v14_6) = V (Proc.devRef .tc main_v14_6) :=
  after_of_writes_sub while0Ops0_3 V while0Ops0_3_writes (by decide +kernel)
theorem ctr0_while0Ops0_4 (V : Valuation τ sig (Elt F)) : after while0Ops0_4 V (Proc.devRef .tc main_v14_6) = V (Proc.devRef .tc main_v14_6) :=
  after_of_writes_sub while0Ops0_4 V while0Ops0_4_writes (by decide +kernel)
theorem ctr0_while0Ops0_5 (V : Valuation τ sig (Elt F)) : after while0Ops0_5 V (Proc.devRef .tc main_v14_6) = V (Proc.devRef .tc main_v14_6) :=
  after_of_writes_sub while0Ops0_5 V while0Ops0_5_writes (by decide +kernel)
theorem ctr0_while0Ops0_6 (V : Valuation τ sig (Elt F)) : after while0Ops0_6 V (Proc.devRef .tc main_v14_6) = V (Proc.devRef .tc main_v14_6) :=
  after_of_writes_sub while0Ops0_6 V while0Ops0_6_writes (by decide +kernel)

set_option maxRecDepth 100000 in
theorem ctr0_step (X : Valuation τ sig (Elt F)) :
    after while0Ops0_7 X (Proc.devRef .tc main_v14_6) = addi (X (Proc.devRef .tc main_v14_6)) (constantI S_ 32 1#32) := by
  after_results
  rfl

/-- Before trip `k` the counter is the induction variable at `k`, if it begins at 0. -/
theorem ctr0 (W : Dev nD → Valuation τ sig (Elt F)) (c : Dev nD) (h : W c (Proc.devRef .tc main_v14_6) = fun _ => (0#32 : BitVec 32)) :
    ∀ k, atTrip cond0 body0 W k c (Proc.devRef .tc main_v14_6) = fun _ => Scf.iv 0#32 1#32 k
  | 0 => by rw [atTrip_zero, h, Scf.iv_zero]
  | k + 1 => by
    rw [atTrip_succ]
    simp only [afterL_cons, afterL_nil]
    rw [ctr0_step, ctr0_while0Ops0_6, ctr0_while0Ops0_5, ctr0_while0Ops0_4, ctr0_while0Ops0_3, ctr0_while0Ops0_2, ctr0_while0Ops0_1, ctr0_while0Ops0, ctr0_cond, ctr0 W c h k, Scf.iv_succ]
    rfl

set_option backward.isDefEq.respectTransparency.types false in
theorem spec0 (W : Dev nD → Valuation τ sig (Elt F)) (h : ∀ c, W c (Proc.devRef .tc main_v14_6) = fun _ => (0#32 : BitVec 32)) :
    CondSpec (pcfgs (F := F)) defs₀ loops (main_while0_cond (F := F)) cond0 body0 W 2048 := by
  intro k hk c bd
  have hctr := ctr0 W c (h c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) main_v14_6 HostLoop.idx0)
        (HloOp.result _ (atTrip cond0 body0 W k c) main_while0c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The adjoint scan's loop -/

abbrev cond1 : List (HloOp τ sig (Elt F)) :=
  [ nullary main_while1c_c_29 (constantI S_ 32 2048#32),
    binary main_v52_8 main_while1c_c_29 main_while1c_v64 (cmpi .slt) ]
abbrev cond1_W : List (Ref sig .tc) := [main_while1c_c_29, main_while1c_v64]
theorem cond1_writes : (cond1 : List (HloOp τ sig (Elt F))).Forall fun op => op.writes ⊆ (cond1_W.map (Proc.devRef (τ := τ) .tc)).toFinset :=
  forall_writes_sub_of_map rfl
abbrev body1 : List (List (HloOp τ sig (Elt F))) := [while1Ops0, while1Ops0_1, while1Ops0_2, while1Ops0_3, while1Ops0_4, while1Ops0_5, while1Ops0_6, while1Ops0_7, while1Ops0_8]
theorem plain1 : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.nil)))))))))

/-- The loop with its regions, its operations and its 2048 trips. -/
abbrev loop1 : TwoLoop.Loop F (pcfgs (F := F)) (loops (F := F)) :=
  ⟨1, main_while1_cond, main_while1_body, rfl, cond1, body1, plain1, by rw [while1_body_chain]; rfl, 2048⟩

theorem ctr1_cond (V : Valuation τ sig (Elt F)) : after cond1 V (Proc.devRef .tc main_v52_8) = V (Proc.devRef .tc main_v52_8) :=
  after_of_writes_sub cond1 V cond1_writes (by decide +kernel)
theorem ctr1_while1Ops0 (V : Valuation τ sig (Elt F)) : after while1Ops0 V (Proc.devRef .tc main_v52_8) = V (Proc.devRef .tc main_v52_8) :=
  after_of_writes_sub while1Ops0 V while1Ops0_writes (by decide +kernel)
theorem ctr1_while1Ops0_1 (V : Valuation τ sig (Elt F)) : after while1Ops0_1 V (Proc.devRef .tc main_v52_8) = V (Proc.devRef .tc main_v52_8) :=
  after_of_writes_sub while1Ops0_1 V while1Ops0_1_writes (by decide +kernel)
theorem ctr1_while1Ops0_2 (V : Valuation τ sig (Elt F)) : after while1Ops0_2 V (Proc.devRef .tc main_v52_8) = V (Proc.devRef .tc main_v52_8) :=
  after_of_writes_sub while1Ops0_2 V while1Ops0_2_writes (by decide +kernel)
theorem ctr1_while1Ops0_3 (V : Valuation τ sig (Elt F)) : after while1Ops0_3 V (Proc.devRef .tc main_v52_8) = V (Proc.devRef .tc main_v52_8) :=
  after_of_writes_sub while1Ops0_3 V while1Ops0_3_writes (by decide +kernel)
theorem ctr1_while1Ops0_4 (V : Valuation τ sig (Elt F)) : after while1Ops0_4 V (Proc.devRef .tc main_v52_8) = V (Proc.devRef .tc main_v52_8) :=
  after_of_writes_sub while1Ops0_4 V while1Ops0_4_writes (by decide +kernel)
theorem ctr1_while1Ops0_5 (V : Valuation τ sig (Elt F)) : after while1Ops0_5 V (Proc.devRef .tc main_v52_8) = V (Proc.devRef .tc main_v52_8) :=
  after_of_writes_sub while1Ops0_5 V while1Ops0_5_writes (by decide +kernel)
theorem ctr1_while1Ops0_6 (V : Valuation τ sig (Elt F)) : after while1Ops0_6 V (Proc.devRef .tc main_v52_8) = V (Proc.devRef .tc main_v52_8) :=
  after_of_writes_sub while1Ops0_6 V while1Ops0_6_writes (by decide +kernel)
theorem ctr1_while1Ops0_7 (V : Valuation τ sig (Elt F)) : after while1Ops0_7 V (Proc.devRef .tc main_v52_8) = V (Proc.devRef .tc main_v52_8) :=
  after_of_writes_sub while1Ops0_7 V while1Ops0_7_writes (by decide +kernel)

set_option maxRecDepth 100000 in
theorem ctr1_step (X : Valuation τ sig (Elt F)) :
    after while1Ops0_8 X (Proc.devRef .tc main_v52_8) = addi (X (Proc.devRef .tc main_v52_8)) (constantI S_ 32 1#32) := by
  after_results
  rfl

/-- Before trip `k` the counter is the induction variable at `k`, if it begins at 0. -/
theorem ctr1 (W : Dev nD → Valuation τ sig (Elt F)) (c : Dev nD) (h : W c (Proc.devRef .tc main_v52_8) = fun _ => (0#32 : BitVec 32)) :
    ∀ k, atTrip cond1 body1 W k c (Proc.devRef .tc main_v52_8) = fun _ => Scf.iv 0#32 1#32 k
  | 0 => by rw [atTrip_zero, h, Scf.iv_zero]
  | k + 1 => by
    rw [atTrip_succ]
    simp only [afterL_cons, afterL_nil]
    rw [ctr1_step, ctr1_while1Ops0_7, ctr1_while1Ops0_6, ctr1_while1Ops0_5, ctr1_while1Ops0_4, ctr1_while1Ops0_3, ctr1_while1Ops0_2, ctr1_while1Ops0_1, ctr1_while1Ops0, ctr1_cond, ctr1 W c h k, Scf.iv_succ]
    rfl

set_option backward.isDefEq.respectTransparency.types false in
theorem spec1 (W : Dev nD → Valuation τ sig (Elt F)) (h : ∀ c, W c (Proc.devRef .tc main_v52_8) = fun _ => (0#32 : BitVec 32)) :
    CondSpec (pcfgs (F := F)) defs₀ loops (main_while1_cond (F := F)) cond1 body1 W 2048 := by
  intro k hk c bd
  have hctr := ctr1 W c (h c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) main_v52_8 HostLoop.idx0)
        (HloOp.result _ (atTrip cond1 body1 W k c) main_while1c_c_29 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The run -/

abbrev preI : List (List (HloOp τ sig (Elt F))) := [hostOps0]
abbrev midI : List (List (HloOp τ sig (Elt F))) := [hostOps0_1]
abbrev postI : List (List (HloOp τ sig (Elt F))) := [hostOps0_2]

theorem hpre : Plain (preI (F := F)) := .cons hostOps0_sub (hf := List.forall_iff_forall_mem.mp hostOps0_fresh) (.nil)
theorem hmid : Plain (midI (F := F)) := .cons hostOps0_1_sub (hf := List.forall_iff_forall_mem.mp hostOps0_1_fresh) (.nil)
theorem hpost : Plain (postI (F := F)) := .cons hostOps0_2_sub (hf := List.forall_iff_forall_mem.mp hostOps0_2_fresh) (.nil)

variable (m : (ℓ : Loc nD τ sig) → Buf (Elt F) ℓ) (ρ : Dev nD → PrngReg)

/-- The buffers before trip `k` of the forward and of the adjoint loop, and at the end. -/
abbrev fwd (k : ℕ) (c : Dev nD) : Valuation τ sig (Elt F) := atTrip cond0 body0 (TwoLoop.at0 preI m) k c
abbrev adj (k : ℕ) (c : Dev nD) : Valuation τ sig (Elt F) := atTrip cond1 body1 (TwoLoop.at1 loop0 preI midI m) k c
abbrev fin (c : Dev nD) : Valuation τ sig (Elt F) := TwoLoop.at2 loop0 loop1 preI midI postI m c

set_option maxRecDepth 100000 in
theorem ctr0_entry (c : Dev nD) : TwoLoop.at0 preI m c (Proc.devRef .tc main_v14_6) = fun _ => (0#32 : BitVec 32) := by
  simp only [TwoLoop.at0, afterL_cons, afterL_nil]
  after_reads_simp
  rfl

set_option maxRecDepth 100000 in
theorem ctr1_read (V : Valuation τ sig (Elt F)) : after hostOps0_1 V (Proc.devRef .tc main_v52_8) = fun _ => (0#32 : BitVec 32) := by
  after_reads_simp
  rfl

theorem ctr1_entry (c : Dev nD) : TwoLoop.at1 loop0 preI midI m c (Proc.devRef .tc main_v52_8) = fun _ => (0#32 : BitVec 32) := by
  simp only [TwoLoop.at1, afterL_cons, afterL_nil]
  exact ctr1_read _

set_option maxRecDepth 100000 in
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  TwoLoop.run defs₀ main loop0 loop1 preI midI postI hpre hmid hpost (fun c => by rw [main_chain]; rfl) m ρ
    (spec0 _ (ctr0_entry m)) (spec1 _ (ctr1_entry m))

end Cert.ReferenceIdeal.Scan

end
-- ==== Proof.RefFrame.lean ====
/- The reference program leaves its arguments as they were and has no semaphore: its frame. -/
module

public import proofs.«01_k».proof.Proof.RefRun
public import Idealize.ShloMosaic.Lib.Quiescent

@[expose] public section

noncomputable section

namespace Cert.ReferenceIdeal.Scan

open Cert.ReferenceIdeal Cert.ReferenceIdeal.Gen
open Idealize.ShloMosaic Idealize.ShloMosaic.TcCoe
open Idealize.SL.Sem
open Idealize.ShloMosaic.StableHlo

variable {F : FTy → Type} [FloatOps F]

/-- A reference that no stretch of a list writes keeps its contents through the list. -/
theorem afterL_keep {r : Ref sig .tc} {items : List (List (HloOp τ sig (Elt F)))} {Ws : List (List (Ref sig .tc))}
    (h : List.Forall₂ (fun ops W => List.Forall (fun op => op.writes ⊆ (W.map (Proc.devRef (τ := τ) .tc)).toFinset) ops) items Ws)
    (hr : r ∉ Ws.flatten) (V : Valuation τ sig (Elt F)) : afterL items V (Proc.devRef .tc r) = V (Proc.devRef .tc r) := by
  induction h generalizing V with
  | nil => rfl
  | cons h0 _ ih =>
    rw [List.flatten_cons, List.mem_append, not_or] at hr
    rw [afterL_cons, ih hr.2, after_of_writes_sub _ _ h0 hr.1]

/-- A reference that neither the condition nor the body writes keeps its contents through any number of trips. -/
theorem atTrip_keep {r : Ref sig .tc} {co : List (HloOp τ sig (Elt F))} {items : List (List (HloOp τ sig (Elt F)))}
    {W0 : List (Ref sig .tc)} {Ws : List (List (Ref sig .tc))}
    (h0 : List.Forall (fun op => op.writes ⊆ (W0.map (Proc.devRef (τ := τ) .tc)).toFinset) co)
    (h : List.Forall₂ (fun ops W => List.Forall (fun op => op.writes ⊆ (W.map (Proc.devRef (τ := τ) .tc)).toFinset) ops) items Ws)
    (hr0 : r ∉ W0) (hr : r ∉ Ws.flatten) (W : Dev nD → Valuation τ sig (Elt F)) (c : Dev nD) :
    ∀ k, atTrip co items W k c (Proc.devRef .tc r) = W c (Proc.devRef .tc r)
  | 0 => rfl
  | k + 1 => by rw [atTrip_succ, afterL_keep h hr, after_of_writes_sub _ _ h0 hr0, atTrip_keep h0 h hr0 hr W c k]

abbrev body0_W : List (List (Ref sig .tc)) := [while0Ops0_W, while0Ops0_1_W, while0Ops0_2_W, while0Ops0_3_W, while0Ops0_4_W, while0Ops0_5_W, while0Ops0_6_W, while0Ops0_7_W]
theorem body0_writes : List.Forall₂ (fun ops W => List.Forall (fun op => op.writes ⊆ (W.map (Proc.devRef (τ := τ) .tc)).toFinset) ops) (body0 (F := F)) body0_W :=
  .cons while0Ops0_writes (.cons while0Ops0_1_writes (.cons while0Ops0_2_writes (.cons while0Ops0_3_writes (.cons while0Ops0_4_writes (.cons while0Ops0_5_writes (.cons while0Ops0_6_writes (.cons while0Ops0_7_writes (.nil))))))))
abbrev body1_W : List (List (Ref sig .tc)) := [while1Ops0_W, while1Ops0_1_W, while1Ops0_2_W, while1Ops0_3_W, while1Ops0_4_W, while1Ops0_5_W, while1Ops0_6_W, while1Ops0_7_W, while1Ops0_8_W]
theorem body1_writes : List.Forall₂ (fun ops W => List.Forall (fun op => op.writes ⊆ (W.map (Proc.devRef (τ := τ) .tc)).toFinset) ops) (body1 (F := F)) body1_W :=
  .cons while1Ops0_writes (.cons while1Ops0_1_writes (.cons while1Ops0_2_writes (.cons while1Ops0_3_writes (.cons while1Ops0_4_writes (.cons while1Ops0_5_writes (.cons while1Ops0_6_writes (.cons while1Ops0_7_writes (.cons while1Ops0_8_writes (.nil)))))))))

variable (m : (ℓ : Loc nD τ sig) → Buf (Elt F) ℓ) (ρ : Dev nD → PrngReg)

/-- What is written anywhere in @main. -/
abbrev written : List (Ref sig .tc) := hostOps0_W ++ cond0_W ++ body0_W.flatten ++ hostOps0_1_W ++ cond1_W ++ body1_W.flatten ++ hostOps0_2_W

theorem fin_keep (r : Ref sig .tc) (hr : r ∉ written) (c : Dev nD) : fin m c (Proc.devRef .tc r) = m ((c.tc : Thread nD τ).loc r) := by
  simp only [written, List.mem_append, not_or] at hr
  obtain ⟨⟨⟨⟨⟨⟨h0, h1⟩, h2⟩, h3⟩, h4⟩, h5⟩, h6⟩ := hr
  show after hostOps0_2 (after cond1 (atTrip cond1 body1 (TwoLoop.at1 loop0 preI midI m) 2048 c)) (Proc.devRef .tc r) = _
  rw [after_of_writes_sub _ _ hostOps0_2_writes h6, after_of_writes_sub _ _ cond1_writes h4, atTrip_keep cond1_writes body1_writes h4 h5]
  show after hostOps0_1 (after cond0 (atTrip cond0 body0 (TwoLoop.at0 preI m) 2048 c)) (Proc.devRef .tc r) = _
  rw [after_of_writes_sub _ _ hostOps0_1_writes h3, after_of_writes_sub _ _ cond0_writes h1, atTrip_keep cond0_writes body0_writes h1 h2]
  show after hostOps0 (launchContents m c) (Proc.devRef .tc r) = _
  rw [after_of_writes_sub _ _ hostOps0_writes h0]

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h c main_arg0 rfl).trans (fin_keep m main_arg0 (by decide +kernel) c),
      (h c main_arg1 rfl).trans (fin_keep m main_arg1 (by decide +kernel) c),
      (h c main_arg2 rfl).trans (fin_keep m main_arg2 (by decide +kernel) c),
      (h c main_arg3 rfl).trans (fin_keep m main_arg3 (by decide +kernel) c),
      (h c main_arg4 rfl).trans (fin_keep m main_arg4 (by decide +kernel) c),
      (h c main_arg5 rfl).trans (fin_keep m main_arg5 (by decide +kernel) c),
      (h c main_arg6 rfl).trans (fin_keep m main_arg6 (by decide +kernel) c),
      (h c main_arg7 rfl).trans (fin_keep m main_arg7 (by decide +kernel) c),
      (h c main_arg8 rfl).trans (fin_keep m main_arg8 (by decide +kernel) c)⟩,
      sem_eq_zero_of_no_sems rfl _⟩) (run_fold m ρ)

end Cert.ReferenceIdeal.Scan

end
-- ==== Proof.RefSteps.lean ====
/- The reference's stretches of operations as functions of the arrays they read, and one trip of each of its two loops. -/
module

public import proofs.«01_k».proof.Proof.RefFrame
public import Idealize.ShloMosaic.PureOps.Ideal

@[expose] public section

set_option maxRecDepth 100000

noncomputable section

namespace Cert.ReferenceIdeal.Scan

open Cert.ReferenceIdeal Cert.ReferenceIdeal.Gen
open Idealize.ShloMosaic Idealize.ShloMosaic.TcCoe
open Idealize.SL.Sem
open Idealize.ShloMosaic.StableHlo

/-! ## The functions -/

/-- The inputs through one part of the input matrices, step by step. -/
def seqB (u : FVec Ideal S2x2048x1024 .f32) (b : FVec Ideal S64x64x16 .f32) : FVec Ideal S2048x2x64x64 .f32 :=
  transpose S2048x2x64x64 [2, 1, 0, 3] (Host.dotGeneral dot_S2x2048x64x16_S64x64x16_S64x2x2048x64_3_2_01_1_2_0 none
    (shapeCast S2x2048x64x16 u shapeCasts_S2x2048x1024_S2x2048x64x16) b) transposes_S64x2x2048x64_S2048x2x64x64_2_1_0_3

/-- The channels by groups. -/
def grp (u : FVec Ideal S2x2048x1024 .f32) : FVec Ideal S2x2048x64x16 .f32 := shapeCast S2x2048x64x16 u shapeCasts_S2x2048x1024_S2x2048x64x16

def lam3 (a : FVec Ideal S64x64 .f32) : FVec Ideal S1x64x64 .f32 := broadcastInDim S1x64x64 ![1, 2] bcast_S64x64_S1x64x64_1_2 a
def zero3 : FVec Ideal S2x64x64 .f32 := broadcastInDim S2x64x64 ![] bcast_S_S2x64x64 (constant S_ .f32 0x00000000#32)
def zero2 : FVec Ideal S64x64 .f32 := broadcastInDim S64x64 ![] bcast_S_S64x64 (constant S_ .f32 0x00000000#32)

/-- The place of step k in a stack, as the program writes it. -/
def place (k : IVec S_ 32) : Fin 4 → ℤ :=
  fun j => ((![k, constantI S_ 32 0#32, constantI S_ 32 0#32, constantI S_ 32 0#32] : Fin 4 → IVec S_ 32) j (Shape.Idx.first h_S_)).toInt

/-- A step of a stack, and a stack with a step replaced. -/
def slcAt (x : FVec Ideal S2048x2x64x64 .f32) (q : Fin 4 → ℤ) : FVec Ideal S2x64x64 .f32 :=
  shapeCast S2x64x64 (Host.dynamicSlice S1x2x64x64 x q sliceFits_S2048x2x64x64_S1x2x64x64) shapeCasts_S1x2x64x64_S2x64x64
def updAt (x : FVec Ideal S2048x2x64x64 .f32) (a : FVec Ideal S2x64x64 .f32) (q : Fin 4 → ℤ) : FVec Ideal S2048x2x64x64 .f32 :=
  Host.dynamicUpdateSlice x (broadcastInDim S1x2x64x64 ![1, 2, 3] bcast_S2x64x64_S1x2x64x64_1_2_3 a) q updateFits_S2048x2x64x64_S1x2x64x64
def slc (x : FVec Ideal S2048x2x64x64 .f32) (k : IVec S_ 32) : FVec Ideal S2x64x64 .f32 := slcAt x (place k)
def upd (x : FVec Ideal S2048x2x64x64 .f32) (a : FVec Ideal S2x64x64 .f32) (k : IVec S_ 32) : FVec Ideal S2048x2x64x64 .f32 := updAt x a (place k)

theorem four {α : Type} {f g : Fin 4 → α} (h0 : f 0 = g 0) (h1 : f 1 = g 1) (h2 : f 2 = g 2) (h3 : f 3 = g 3) : f = g :=
  funext (Fin.forall_fin_succ.2 ⟨h0, Fin.forall_fin_succ.2 ⟨h1, Fin.forall_fin_succ.2 ⟨h2, Fin.forall_fin_succ.2 ⟨h3, fun j => j.elim0⟩⟩⟩⟩)

/-- The sum of two slices. -/
def plus (a b : FVec Ideal S2x64x64 .f32) : FVec Ideal S2x64x64 .f32 := addf a b

def wide (a : FVec Ideal S1x64x64 .f32) : FVec Ideal S2x64x64 .f32 := broadcastInDim S2x64x64 ![0, 1, 2] bcast_S1x64x64_S2x64x64_0_1_2 a

/-- One step of the state. -/
def newRe (l1 l2 : FVec Ideal S1x64x64 .f32) (hr hi x : FVec Ideal S2x64x64 .f32) : FVec Ideal S2x64x64 .f32 :=
  addf (subf (mulf (wide l1) hr) (mulf (wide l2) hi)) x
def newIm (l1 l2 : FVec Ideal S1x64x64 .f32) (hr hi x : FVec Ideal S2x64x64 .f32) : FVec Ideal S2x64x64 .f32 :=
  addf (addf (mulf (wide l1) hi) (mulf (wide l2) hr)) x

/-- The adjoint carried back over one step. -/
def carRe (l1 l2 : FVec Ideal S1x64x64 .f32) (ar ai : FVec Ideal S2x64x64 .f32) : FVec Ideal S2x64x64 .f32 :=
  addf (mulf (wide l2) ai) (mulf (wide l1) ar)
def carIm (l1 l2 : FVec Ideal S1x64x64 .f32) (ar ai : FVec Ideal S2x64x64 .f32) : FVec Ideal S2x64x64 .f32 :=
  addf (mulf (wide l1) ai) (mulf (wide l2) (Host.negf ar))

/-- The sum over the batch rows. -/
def sumB (a : FVec Ideal S2x64x64 .f32) : FVec Ideal S64x64 .f32 :=
  Host.reduceAdd (shapeCast S1x64x64 (Host.reduceAdd a (constant S_ .f32 0x00000000#32) reducesTo_S2x64x64_S64x64_d0 h_S_) shapeCasts_S64x64_S1x64x64)
    (constant S_ .f32 0x00000000#32) reducesTo_S1x64x64_S64x64_d0 h_S_

/-- One step's part of the factor's gradient, added to what is there. -/
def accRe (g : FVec Ideal S64x64 .f32) (ar ai hr hi : FVec Ideal S2x64x64 .f32) : FVec Ideal S64x64 .f32 :=
  addf (addf g (sumB (mulf ai hi))) (sumB (mulf ar hr))
def accIm (g : FVec Ideal S64x64 .f32) (ar ai hr hi : FVec Ideal S2x64x64 .f32) : FVec Ideal S64x64 .f32 :=
  addf (addf g (sumB (mulf ai hr))) (sumB (mulf (Host.negf ar) hi))

/-- The output's cotangent by groups, as the program reshapes it. -/
def grpY (y : FVec Ideal S2x2048x1024 .f32) : FVec Ideal S2x2048x64x16 .f32 :=
  shapeCast S2x2048x64x16 (shapeCast S2x2048x1024 y shapeCasts_S2x2048x1024_S2x2048x1024) shapeCasts_S2x2048x1024_S2x2048x64x16
def trY (y : FVec Ideal S2x2048x64x16 .f32) : FVec Ideal S64x2048x2x16 .f32 :=
  transpose S64x2048x2x16 [2, 1, 0, 3] y transposes_S2x2048x64x16_S64x2048x2x16_2_1_0_3
/-- The cotangents of the states, step by step. -/
def seqC (y : FVec Ideal S64x2048x2x16 .f32) (c : FVec Ideal S64x16x64 .f32) : FVec Ideal S2048x2x64x64 .f32 :=
  transpose S2048x2x64x64 [1, 2, 0, 3] (Host.dotGeneral dot_S64x2048x2x16_S64x16x64_S64x2048x2x64_3_1_12_2_0_0 none y c)
    transposes_S64x2048x2x64_S2048x2x64x64_1_2_0_3
/-- The gradient of an output matrix from the states. -/
def gradC (y : FVec Ideal S64x2048x2x16 .f32) (h : FVec Ideal S2048x2x64x64 .f32) : FVec Ideal S64x16x64 .f32 :=
  Host.dotGeneral dot_S64x2048x2x16_S2048x2x64x64_S64x16x64_12_01_3_3_0_2 none y h
/-- The skip's part of the input's gradient, and the skip's gradient. -/
def skipU (d : FVec Ideal S1x1024 .f32) (y : FVec Ideal S2x2048x1024 .f32) : FVec Ideal S2x2048x1024 .f32 :=
  mulf (broadcastInDim S2x2048x1024 ![0, 1, 2] bcast_S1x1x1024_S2x2048x1024_0_1_2 (broadcastInDim S1x1x1024 ![1, 2] bcast_S1x1024_S1x1x1024_1_2 d))
    (shapeCast S2x2048x1024 y shapeCasts_S2x2048x1024_S2x2048x1024)
def skipD (y u : FVec Ideal S2x2048x1024 .f32) : FVec Ideal S1x1024 .f32 :=
  broadcastInDim S1x1024 ![1] bcast_S1024_S1x1024_1 (Host.reduceAdd
    (shapeCast S1x1x1024 (Host.reduceAdd (mulf (shapeCast S2x2048x1024 y shapeCasts_S2x2048x1024_S2x2048x1024) u)
      (constant S_ .f32 0x00000000#32) reducesTo_S2x2048x1024_S1024_d0_1 h_S_) shapeCasts_S1024_S1x1x1024)
    (constant S_ .f32 0x00000000#32) reducesTo_S1x1x1024_S1024_d0_1 h_S_)

/-- The adjoint's stack, groups first. -/
def trA (a : FVec Ideal S2048x2x64x64 .f32) : FVec Ideal S64x2x2048x64 .f32 :=
  transpose S64x2x2048x64 [2, 1, 0, 3] a transposes_S2048x2x64x64_S64x2x2048x64_2_1_0_3
/-- The gradient of an input matrix, and the input's gradient through it. -/
def gradB (a : FVec Ideal S2048x2x64x64 .f32) (u : FVec Ideal S2x2048x64x16 .f32) : FVec Ideal S64x64x16 .f32 :=
  Host.dotGeneral dot_S64x2x2048x64_S2x2048x64x16_S64x64x16_12_01_3_3_0_2 none (trA a) u
def backU (a : FVec Ideal S2048x2x64x64 .f32) (b : FVec Ideal S64x64x16 .f32) : FVec Ideal S2x2048x64x16 .f32 :=
  transpose S2x2048x64x16 [1, 2, 0, 3] (Host.dotGeneral dot_S64x2x2048x64_S64x64x16_S64x2x2048x16_3_1_12_2_0_0 none (trA a) b)
    transposes_S64x2x2048x16_S2x2048x64x16_1_2_0_3
def gradU (s : FVec Ideal S2x2048x1024 .f32) (ar ai : FVec Ideal S2048x2x64x64 .f32) (br bi : FVec Ideal S64x64x16 .f32) : FVec Ideal S2x2048x1024 .f32 :=
  addf s (shapeCast S2x2048x1024 (addf (backU ai bi) (backU ar br)) shapeCasts_S2x2048x64x16_S2x2048x1024)

/-- The step the adjoint's trip k is at. -/
def back (k : IVec S_ 32) : IVec S_ 32 := subi (subi (constantI S_ 32 2048#32) k) (constantI S_ 32 1#32)

section Reads

variable (V : Valuation τ sig (Elt Ideal))

theorem hostOps0_read_v14_0 : after (hostOps0 (F := Ideal)) V (Proc.devRef .tc main_v14_0) = seqB (V (Proc.devRef .tc main_arg0)) (V (Proc.devRef .tc main_arg4)) := by
  after_results; rfl

theorem hostOps0_read_v14_1 : after (hostOps0 (F := Ideal)) V (Proc.devRef .tc main_v14_1) = seqB (V (Proc.devRef .tc main_arg0)) (V (Proc.devRef .tc main_arg5)) := by
  after_results; rfl

theorem hostOps0_read_v14_2 : after (hostOps0 (F := Ideal)) V (Proc.devRef .tc main_v14_2) = lam3 (V (Proc.devRef .tc main_arg2)) := by
  after_results; rfl

theorem hostOps0_read_v14_3 : after (hostOps0 (F := Ideal)) V (Proc.devRef .tc main_v14_3) = lam3 (V (Proc.devRef .tc main_arg3)) := by
  after_results; rfl

theorem hostOps0_read_v14_4 : after (hostOps0 (F := Ideal)) V (Proc.devRef .tc main_v14_4) = lam3 (V (Proc.devRef .tc main_arg2)) := by
  after_results; rfl

theorem hostOps0_read_v14_5 : after (hostOps0 (F := Ideal)) V (Proc.devRef .tc main_v14_5) = lam3 (V (Proc.devRef .tc main_arg3)) := by
  after_results; rfl

theorem hostOps0_read_v14_7 : after (hostOps0 (F := Ideal)) V (Proc.devRef .tc main_v14_7) = zero3 := by
  after_results; rfl

theorem hostOps0_read_v14_8 : after (hostOps0 (F := Ideal)) V (Proc.devRef .tc main_v14_8) = zero3 := by
  after_results; rfl

theorem hostOps0_read_v0 : after (hostOps0 (F := Ideal)) V (Proc.devRef .tc main_v0) = grp (V (Proc.devRef .tc main_arg0)) := by
  after_results; rfl

theorem hostOps0_read_v6 : after (hostOps0 (F := Ideal)) V (Proc.devRef .tc main_v6) = lam3 (V (Proc.devRef .tc main_arg2)) := by
  after_results; rfl

theorem hostOps0_read_v7 : after (hostOps0 (F := Ideal)) V (Proc.devRef .tc main_v7) = lam3 (V (Proc.devRef .tc main_arg3)) := by
  after_results; rfl

theorem hostOps0_read_v8 : after (hostOps0 (F := Ideal)) V (Proc.devRef .tc main_v8) = lam3 (V (Proc.devRef .tc main_arg2)) := by
  after_results; rfl

theorem hostOps0_read_v9 : after (hostOps0 (F := Ideal)) V (Proc.devRef .tc main_v9) = lam3 (V (Proc.devRef .tc main_arg3)) := by
  after_results; rfl

theorem while0Ops0_read_while0b_v64 : after (while0Ops0 (F := Ideal)) V (Proc.devRef .tc main_while0b_v64) = slc (V (Proc.devRef .tc main_v14_0)) (V (Proc.devRef .tc main_v14_6)) := by
  after_results
  refine Eq.trans (?_ : _ = slcAt (V (Proc.devRef .tc main_v14_0)) ?q) (congrArg (slcAt _) (?_ : ?q = place _))
  rotate_left
  · rfl
  · exact four rfl rfl rfl rfl

theorem while0Ops0_1_read_while0b_v65 : after (while0Ops0_1 (F := Ideal)) V (Proc.devRef .tc main_while0b_v65) = slc (V (Proc.devRef .tc main_v14_1)) (V (Proc.devRef .tc main_v14_6)) := by
  after_results
  refine Eq.trans (?_ : _ = slcAt (V (Proc.devRef .tc main_v14_1)) ?q) (congrArg (slcAt _) (?_ : ?q = place _))
  rotate_left
  · rfl
  · exact four rfl rfl rfl rfl

theorem while0Ops0_2_read_while0b_v71 : after (while0Ops0_2 (F := Ideal)) V (Proc.devRef .tc main_while0b_v71) = newRe (V (Proc.devRef .tc main_v14_2)) (V (Proc.devRef .tc main_v14_3)) (V (Proc.devRef .tc main_v14_7)) (V (Proc.devRef .tc main_v14_8)) (V (Proc.devRef .tc main_while0b_v64)) := by
  after_results; rfl

theorem while0Ops0_2_read_while0b_v77 : after (while0Ops0_2 (F := Ideal)) V (Proc.devRef .tc main_while0b_v77) = newIm (V (Proc.devRef .tc main_v14_4)) (V (Proc.devRef .tc main_v14_5)) (V (Proc.devRef .tc main_v14_7)) (V (Proc.devRef .tc main_v14_8)) (V (Proc.devRef .tc main_while0b_v65)) := by
  after_results; rfl

theorem while0Ops0_3_read_while0b_v78 : after (while0Ops0_3 (F := Ideal)) V (Proc.devRef .tc main_while0b_v78) = upd (V (Proc.devRef .tc main_v14_9)) (V (Proc.devRef .tc main_while0b_v71)) (V (Proc.devRef .tc main_v14_6)) := by
  after_results
  refine Eq.trans (?_ : _ = updAt (V (Proc.devRef .tc main_v14_9)) (V (Proc.devRef .tc main_while0b_v71)) ?q) (congrArg (updAt _ _) (?_ : ?q = place _))
  rotate_left
  · rfl
  · exact four rfl rfl rfl rfl

theorem while0Ops0_4_read_while0b_v79 : after (while0Ops0_4 (F := Ideal)) V (Proc.devRef .tc main_while0b_v79) = upd (V (Proc.devRef .tc main_v14_10)) (V (Proc.devRef .tc main_while0b_v77)) (V (Proc.devRef .tc main_v14_6)) := by
  after_results
  refine Eq.trans (?_ : _ = updAt (V (Proc.devRef .tc main_v14_10)) (V (Proc.devRef .tc main_while0b_v77)) ?q) (congrArg (updAt _ _) (?_ : ?q = place _))
  rotate_left
  · rfl
  · exact four rfl rfl rfl rfl

theorem while0Ops0_5_read_while0b_v80 : after (while0Ops0_5 (F := Ideal)) V (Proc.devRef .tc main_while0b_v80) = upd (V (Proc.devRef .tc main_v14_11)) (V (Proc.devRef .tc main_v14_7)) (V (Proc.devRef .tc main_v14_6)) := by
  after_results
  refine Eq.trans (?_ : _ = updAt (V (Proc.devRef .tc main_v14_11)) (V (Proc.devRef .tc main_v14_7)) ?q) (congrArg (updAt _ _) (?_ : ?q = place _))
  rotate_left
  · rfl
  · exact four rfl rfl rfl rfl

theorem while0Ops0_6_read_while0b_v81 : after (while0Ops0_6 (F := Ideal)) V (Proc.devRef .tc main_while0b_v81) = upd (V (Proc.devRef .tc main_v14_12)) (V (Proc.devRef .tc main_v14_8)) (V (Proc.devRef .tc main_v14_6)) := by
  after_results
  refine Eq.trans (?_ : _ = updAt (V (Proc.devRef .tc main_v14_12)) (V (Proc.devRef .tc main_v14_8)) ?q) (congrArg (updAt _ _) (?_ : ?q = place _))
  rotate_left
  · rfl
  · exact four rfl rfl rfl rfl

theorem while0Ops0_7_read_v14_7 : after (while0Ops0_7 (F := Ideal)) V (Proc.devRef .tc main_v14_7) = (V (Proc.devRef .tc main_while0b_v71)) := by
  after_results; rfl

theorem while0Ops0_7_read_v14_8 : after (while0Ops0_7 (F := Ideal)) V (Proc.devRef .tc main_v14_8) = (V (Proc.devRef .tc main_while0b_v77)) := by
  after_results; rfl

theorem while0Ops0_7_read_v14_9 : after (while0Ops0_7 (F := Ideal)) V (Proc.devRef .tc main_v14_9) = (V (Proc.devRef .tc main_while0b_v78)) := by
  after_results; rfl

theorem while0Ops0_7_read_v14_10 : after (while0Ops0_7 (F := Ideal)) V (Proc.devRef .tc main_v14_10) = (V (Proc.devRef .tc main_while0b_v79)) := by
  after_results; rfl

theorem while0Ops0_7_read_v14_11 : after (while0Ops0_7 (F := Ideal)) V (Proc.devRef .tc main_v14_11) = (V (Proc.devRef .tc main_while0b_v80)) := by
  after_results; rfl

theorem while0Ops0_7_read_v14_12 : after (while0Ops0_7 (F := Ideal)) V (Proc.devRef .tc main_v14_12) = (V (Proc.devRef .tc main_while0b_v81)) := by
  after_results; rfl

theorem hostOps0_1_read_v30 : after (hostOps0_1 (F := Ideal)) V (Proc.devRef .tc main_v30) = skipU (V (Proc.devRef .tc main_arg8)) (V (Proc.devRef .tc main_arg1)) := by
  after_results; rfl

theorem hostOps0_1_read_v35 : after (hostOps0_1 (F := Ideal)) V (Proc.devRef .tc main_v35) = skipD (V (Proc.devRef .tc main_arg1)) (V (Proc.devRef .tc main_arg0)) := by
  after_results; rfl

theorem hostOps0_1_read_v39 : after (hostOps0_1 (F := Ideal)) V (Proc.devRef .tc main_v39) = gradC (trY (Host.negf (grpY (V (Proc.devRef .tc main_arg1))))) (V (Proc.devRef .tc main_v14_10)) := by
  after_results; rfl

theorem hostOps0_1_read_v43 : after (hostOps0_1 (F := Ideal)) V (Proc.devRef .tc main_v43) = gradC (trY (grpY (V (Proc.devRef .tc main_arg1)))) (V (Proc.devRef .tc main_v14_9)) := by
  after_results; rfl

theorem hostOps0_1_read_v52_0 : after (hostOps0_1 (F := Ideal)) V (Proc.devRef .tc main_v52_0) = seqC (trY (grpY (V (Proc.devRef .tc main_arg1)))) (V (Proc.devRef .tc main_arg6)) := by
  after_results; rfl

theorem hostOps0_1_read_v52_1 : after (hostOps0_1 (F := Ideal)) V (Proc.devRef .tc main_v52_1) = seqC (trY (Host.negf (grpY (V (Proc.devRef .tc main_arg1))))) (V (Proc.devRef .tc main_arg7)) := by
  after_results; rfl

theorem hostOps0_1_read_v52_2 : after (hostOps0_1 (F := Ideal)) V (Proc.devRef .tc main_v52_2) = (V (Proc.devRef .tc main_v14_11)) := by
  after_results; rfl

theorem hostOps0_1_read_v52_3 : after (hostOps0_1 (F := Ideal)) V (Proc.devRef .tc main_v52_3) = (V (Proc.devRef .tc main_v14_12)) := by
  after_results; rfl

theorem hostOps0_1_read_v52_4 : after (hostOps0_1 (F := Ideal)) V (Proc.devRef .tc main_v52_4) = (V (Proc.devRef .tc main_v6)) := by
  after_results; rfl

theorem hostOps0_1_read_v52_5 : after (hostOps0_1 (F := Ideal)) V (Proc.devRef .tc main_v52_5) = (V (Proc.devRef .tc main_v7)) := by
  after_results; rfl

theorem hostOps0_1_read_v52_6 : after (hostOps0_1 (F := Ideal)) V (Proc.devRef .tc main_v52_6) = (V (Proc.devRef .tc main_v8)) := by
  after_results; rfl

theorem hostOps0_1_read_v52_7 : after (hostOps0_1 (F := Ideal)) V (Proc.devRef .tc main_v52_7) = (V (Proc.devRef .tc main_v9)) := by
  after_results; rfl

theorem hostOps0_1_read_v52_9 : after (hostOps0_1 (F := Ideal)) V (Proc.devRef .tc main_v52_9) = zero2 := by
  after_results; rfl

theorem hostOps0_1_read_v52_10 : after (hostOps0_1 (F := Ideal)) V (Proc.devRef .tc main_v52_10) = zero2 := by
  after_results; rfl

theorem hostOps0_1_read_v52_11 : after (hostOps0_1 (F := Ideal)) V (Proc.devRef .tc main_v52_11) = zero3 := by
  after_results; rfl

theorem hostOps0_1_read_v52_12 : after (hostOps0_1 (F := Ideal)) V (Proc.devRef .tc main_v52_12) = zero3 := by
  after_results; rfl

theorem while1Ops0_read_while1b_v65 : after (while1Ops0 (F := Ideal)) V (Proc.devRef .tc main_while1b_v65) = back (V (Proc.devRef .tc main_v52_8)) := by
  after_results; rfl

theorem while1Ops0_1_read_while1b_v66 : after (while1Ops0_1 (F := Ideal)) V (Proc.devRef .tc main_while1b_v66) = slc (V (Proc.devRef .tc main_v52_0)) (V (Proc.devRef .tc main_while1b_v65)) := by
  after_results
  refine Eq.trans (?_ : _ = slcAt (V (Proc.devRef .tc main_v52_0)) ?q) (congrArg (slcAt _) (?_ : ?q = place _))
  rotate_left
  · rfl
  · exact four rfl rfl rfl rfl

theorem while1Ops0_2_read_while1b_v67 : after (while1Ops0_2 (F := Ideal)) V (Proc.devRef .tc main_while1b_v67) = slc (V (Proc.devRef .tc main_v52_1)) (V (Proc.devRef .tc main_while1b_v65)) := by
  after_results
  refine Eq.trans (?_ : _ = slcAt (V (Proc.devRef .tc main_v52_1)) ?q) (congrArg (slcAt _) (?_ : ?q = place _))
  rotate_left
  · rfl
  · exact four rfl rfl rfl rfl

theorem while1Ops0_3_read_while1b_v68 : after (while1Ops0_3 (F := Ideal)) V (Proc.devRef .tc main_while1b_v68) = slc (V (Proc.devRef .tc main_v52_2)) (V (Proc.devRef .tc main_while1b_v65)) := by
  after_results
  refine Eq.trans (?_ : _ = slcAt (V (Proc.devRef .tc main_v52_2)) ?q) (congrArg (slcAt _) (?_ : ?q = place _))
  rotate_left
  · rfl
  · exact four rfl rfl rfl rfl

theorem while1Ops0_4_read_while1b_v69 : after (while1Ops0_4 (F := Ideal)) V (Proc.devRef .tc main_while1b_v69) = slc (V (Proc.devRef .tc main_v52_3)) (V (Proc.devRef .tc main_while1b_v65)) := by
  after_results
  refine Eq.trans (?_ : _ = slcAt (V (Proc.devRef .tc main_v52_3)) ?q) (congrArg (slcAt _) (?_ : ?q = place _))
  rotate_left
  · rfl
  · exact four rfl rfl rfl rfl

theorem while1Ops0_5_read_while1b_v70 : after (while1Ops0_5 (F := Ideal)) V (Proc.devRef .tc main_while1b_v70) = plus (V (Proc.devRef .tc main_v52_11)) (V (Proc.devRef .tc main_while1b_v66)) := by
  after_results; rfl

theorem while1Ops0_5_read_while1b_v71 : after (while1Ops0_5 (F := Ideal)) V (Proc.devRef .tc main_while1b_v71) = plus (V (Proc.devRef .tc main_v52_12)) (V (Proc.devRef .tc main_while1b_v67)) := by
  after_results; rfl

theorem while1Ops0_5_read_while1b_v97 : after (while1Ops0_5 (F := Ideal)) V (Proc.devRef .tc main_while1b_v97) = carRe (V (Proc.devRef .tc main_v52_4)) (V (Proc.devRef .tc main_v52_7)) (plus (V (Proc.devRef .tc main_v52_11)) (V (Proc.devRef .tc main_while1b_v66))) (plus (V (Proc.devRef .tc main_v52_12)) (V (Proc.devRef .tc main_while1b_v67))) := by
  after_results; rfl

theorem while1Ops0_5_read_while1b_v89 : after (while1Ops0_5 (F := Ideal)) V (Proc.devRef .tc main_while1b_v89) = carIm (V (Proc.devRef .tc main_v52_6)) (V (Proc.devRef .tc main_v52_5)) (plus (V (Proc.devRef .tc main_v52_11)) (V (Proc.devRef .tc main_while1b_v66))) (plus (V (Proc.devRef .tc main_v52_12)) (V (Proc.devRef .tc main_while1b_v67))) := by
  after_results; rfl

theorem while1Ops0_5_read_while1b_v102 : after (while1Ops0_5 (F := Ideal)) V (Proc.devRef .tc main_while1b_v102) = accRe (V (Proc.devRef .tc main_v52_9)) (plus (V (Proc.devRef .tc main_v52_11)) (V (Proc.devRef .tc main_while1b_v66))) (plus (V (Proc.devRef .tc main_v52_12)) (V (Proc.devRef .tc main_while1b_v67))) (V (Proc.devRef .tc main_while1b_v68)) (V (Proc.devRef .tc main_while1b_v69)) := by
  after_results; rfl

theorem while1Ops0_5_read_while1b_v94 : after (while1Ops0_5 (F := Ideal)) V (Proc.devRef .tc main_while1b_v94) = accIm (V (Proc.devRef .tc main_v52_10)) (plus (V (Proc.devRef .tc main_v52_11)) (V (Proc.devRef .tc main_while1b_v66))) (plus (V (Proc.devRef .tc main_v52_12)) (V (Proc.devRef .tc main_while1b_v67))) (V (Proc.devRef .tc main_while1b_v68)) (V (Proc.devRef .tc main_while1b_v69)) := by
  after_results; rfl

theorem while1Ops0_6_read_while1b_v103 : after (while1Ops0_6 (F := Ideal)) V (Proc.devRef .tc main_while1b_v103) = upd (V (Proc.devRef .tc main_v52_13)) (V (Proc.devRef .tc main_while1b_v70)) (V (Proc.devRef .tc main_while1b_v65)) := by
  after_results
  refine Eq.trans (?_ : _ = updAt (V (Proc.devRef .tc main_v52_13)) (V (Proc.devRef .tc main_while1b_v70)) ?q) (congrArg (updAt _ _) (?_ : ?q = place _))
  rotate_left
  · rfl
  · exact four rfl rfl rfl rfl

theorem while1Ops0_7_read_while1b_v104 : after (while1Ops0_7 (F := Ideal)) V (Proc.devRef .tc main_while1b_v104) = upd (V (Proc.devRef .tc main_v52_14)) (V (Proc.devRef .tc main_while1b_v71)) (V (Proc.devRef .tc main_while1b_v65)) := by
  after_results
  refine Eq.trans (?_ : _ = updAt (V (Proc.devRef .tc main_v52_14)) (V (Proc.devRef .tc main_while1b_v71)) ?q) (congrArg (updAt _ _) (?_ : ?q = place _))
  rotate_left
  · rfl
  · exact four rfl rfl rfl rfl

theorem while1Ops0_8_read_v52_9 : after (while1Ops0_8 (F := Ideal)) V (Proc.devRef .tc main_v52_9) = (V (Proc.devRef .tc main_while1b_v102)) := by
  after_results; rfl

theorem while1Ops0_8_read_v52_10 : after (while1Ops0_8 (F := Ideal)) V (Proc.devRef .tc main_v52_10) = (V (Proc.devRef .tc main_while1b_v94)) := by
  after_results; rfl

theorem while1Ops0_8_read_v52_11 : after (while1Ops0_8 (F := Ideal)) V (Proc.devRef .tc main_v52_11) = (V (Proc.devRef .tc main_while1b_v97)) := by
  after_results; rfl

theorem while1Ops0_8_read_v52_12 : after (while1Ops0_8 (F := Ideal)) V (Proc.devRef .tc main_v52_12) = (V (Proc.devRef .tc main_while1b_v89)) := by
  after_results; rfl

theorem while1Ops0_8_read_v52_13 : after (while1Ops0_8 (F := Ideal)) V (Proc.devRef .tc main_v52_13) = (V (Proc.devRef .tc main_while1b_v103)) := by
  after_results; rfl

theorem while1Ops0_8_read_v52_14 : after (while1Ops0_8 (F := Ideal)) V (Proc.devRef .tc main_v52_14) = (V (Proc.devRef .tc main_while1b_v104)) := by
  after_results; rfl

theorem hostOps0_2_read_v54 : after (hostOps0_2 (F := Ideal)) V (Proc.devRef .tc main_v54) = gradB (V (Proc.devRef .tc main_v52_14)) (V (Proc.devRef .tc main_v0)) := by
  after_results; rfl

theorem hostOps0_2_read_v58 : after (hostOps0_2 (F := Ideal)) V (Proc.devRef .tc main_v58) = gradB (V (Proc.devRef .tc main_v52_13)) (V (Proc.devRef .tc main_v0)) := by
  after_results; rfl

theorem hostOps0_2_read_v63 : after (hostOps0_2 (F := Ideal)) V (Proc.devRef .tc main_v63) = gradU (V (Proc.devRef .tc main_v30)) (V (Proc.devRef .tc main_v52_13)) (V (Proc.devRef .tc main_v52_14)) (V (Proc.devRef .tc main_arg4)) (V (Proc.devRef .tc main_arg5)) := by
  after_results; rfl

/-! ## One trip -/

theorem while0Ops0_6_keep_while0b_v71 : after (while0Ops0_6 (F := Ideal)) V (Proc.devRef .tc main_while0b_v71) = V (Proc.devRef .tc main_while0b_v71) :=
  after_of_writes_sub while0Ops0_6 V while0Ops0_6_writes (by decide +kernel)

theorem while0Ops0_5_keep_while0b_v71 : after (while0Ops0_5 (F := Ideal)) V (Proc.devRef .tc main_while0b_v71) = V (Proc.devRef .tc main_while0b_v71) :=
  after_of_writes_sub while0Ops0_5 V while0Ops0_5_writes (by decide +kernel)

theorem while0Ops0_4_keep_while0b_v71 : after (while0Ops0_4 (F := Ideal)) V (Proc.devRef .tc main_while0b_v71) = V (Proc.devRef .tc main_while0b_v71) :=
  after_of_writes_sub while0Ops0_4 V while0Ops0_4_writes (by decide +kernel)

theorem while0Ops0_3_keep_while0b_v71 : after (while0Ops0_3 (F := Ideal)) V (Proc.devRef .tc main_while0b_v71) = V (Proc.devRef .tc main_while0b_v71) :=
  after_of_writes_sub while0Ops0_3 V while0Ops0_3_writes (by decide +kernel)

theorem while0Ops0_1_keep_v14_2 : after (while0Ops0_1 (F := Ideal)) V (Proc.devRef .tc main_v14_2) = V (Proc.devRef .tc main_v14_2) :=
  after_of_writes_sub while0Ops0_1 V while0Ops0_1_writes (by decide +kernel)

theorem while0Ops0_1_keep_v14_3 : after (while0Ops0_1 (F := Ideal)) V (Proc.devRef .tc main_v14_3) = V (Proc.devRef .tc main_v14_3) :=
  after_of_writes_sub while0Ops0_1 V while0Ops0_1_writes (by decide +kernel)

theorem while0Ops0_1_keep_v14_7 : after (while0Ops0_1 (F := Ideal)) V (Proc.devRef .tc main_v14_7) = V (Proc.devRef .tc main_v14_7) :=
  after_of_writes_sub while0Ops0_1 V while0Ops0_1_writes (by decide +kernel)

theorem while0Ops0_1_keep_v14_8 : after (while0Ops0_1 (F := Ideal)) V (Proc.devRef .tc main_v14_8) = V (Proc.devRef .tc main_v14_8) :=
  after_of_writes_sub while0Ops0_1 V while0Ops0_1_writes (by decide +kernel)

theorem while0Ops0_1_keep_while0b_v64 : after (while0Ops0_1 (F := Ideal)) V (Proc.devRef .tc main_while0b_v64) = V (Proc.devRef .tc main_while0b_v64) :=
  after_of_writes_sub while0Ops0_1 V while0Ops0_1_writes (by decide +kernel)

theorem while0Ops0_keep_v14_2 : after (while0Ops0 (F := Ideal)) V (Proc.devRef .tc main_v14_2) = V (Proc.devRef .tc main_v14_2) :=
  after_of_writes_sub while0Ops0 V while0Ops0_writes (by decide +kernel)

theorem while0Ops0_keep_v14_3 : after (while0Ops0 (F := Ideal)) V (Proc.devRef .tc main_v14_3) = V (Proc.devRef .tc main_v14_3) :=
  after_of_writes_sub while0Ops0 V while0Ops0_writes (by decide +kernel)

theorem while0Ops0_keep_v14_7 : after (while0Ops0 (F := Ideal)) V (Proc.devRef .tc main_v14_7) = V (Proc.devRef .tc main_v14_7) :=
  after_of_writes_sub while0Ops0 V while0Ops0_writes (by decide +kernel)

theorem while0Ops0_keep_v14_8 : after (while0Ops0 (F := Ideal)) V (Proc.devRef .tc main_v14_8) = V (Proc.devRef .tc main_v14_8) :=
  after_of_writes_sub while0Ops0 V while0Ops0_writes (by decide +kernel)

theorem cond0_keep_v14_2 : after (cond0 (F := Ideal)) V (Proc.devRef .tc main_v14_2) = V (Proc.devRef .tc main_v14_2) :=
  after_of_writes_sub cond0 V cond0_writes (by decide +kernel)

theorem cond0_keep_v14_3 : after (cond0 (F := Ideal)) V (Proc.devRef .tc main_v14_3) = V (Proc.devRef .tc main_v14_3) :=
  after_of_writes_sub cond0 V cond0_writes (by decide +kernel)

theorem cond0_keep_v14_7 : after (cond0 (F := Ideal)) V (Proc.devRef .tc main_v14_7) = V (Proc.devRef .tc main_v14_7) :=
  after_of_writes_sub cond0 V cond0_writes (by decide +kernel)

theorem cond0_keep_v14_8 : after (cond0 (F := Ideal)) V (Proc.devRef .tc main_v14_8) = V (Proc.devRef .tc main_v14_8) :=
  after_of_writes_sub cond0 V cond0_writes (by decide +kernel)

theorem cond0_keep_v14_0 : after (cond0 (F := Ideal)) V (Proc.devRef .tc main_v14_0) = V (Proc.devRef .tc main_v14_0) :=
  after_of_writes_sub cond0 V cond0_writes (by decide +kernel)

theorem cond0_keep_v14_6 : after (cond0 (F := Ideal)) V (Proc.devRef .tc main_v14_6) = V (Proc.devRef .tc main_v14_6) :=
  after_of_writes_sub cond0 V cond0_writes (by decide +kernel)

theorem while0Ops0_6_keep_while0b_v77 : after (while0Ops0_6 (F := Ideal)) V (Proc.devRef .tc main_while0b_v77) = V (Proc.devRef .tc main_while0b_v77) :=
  after_of_writes_sub while0Ops0_6 V while0Ops0_6_writes (by decide +kernel)

theorem while0Ops0_5_keep_while0b_v77 : after (while0Ops0_5 (F := Ideal)) V (Proc.devRef .tc main_while0b_v77) = V (Proc.devRef .tc main_while0b_v77) :=
  after_of_writes_sub while0Ops0_5 V while0Ops0_5_writes (by decide +kernel)

theorem while0Ops0_4_keep_while0b_v77 : after (while0Ops0_4 (F := Ideal)) V (Proc.devRef .tc main_while0b_v77) = V (Proc.devRef .tc main_while0b_v77) :=
  after_of_writes_sub while0Ops0_4 V while0Ops0_4_writes (by decide +kernel)

theorem while0Ops0_3_keep_while0b_v77 : after (while0Ops0_3 (F := Ideal)) V (Proc.devRef .tc main_while0b_v77) = V (Proc.devRef .tc main_while0b_v77) :=
  after_of_writes_sub while0Ops0_3 V while0Ops0_3_writes (by decide +kernel)

theorem while0Ops0_1_keep_v14_4 : after (while0Ops0_1 (F := Ideal)) V (Proc.devRef .tc main_v14_4) = V (Proc.devRef .tc main_v14_4) :=
  after_of_writes_sub while0Ops0_1 V while0Ops0_1_writes (by decide +kernel)

theorem while0Ops0_1_keep_v14_5 : after (while0Ops0_1 (F := Ideal)) V (Proc.devRef .tc main_v14_5) = V (Proc.devRef .tc main_v14_5) :=
  after_of_writes_sub while0Ops0_1 V while0Ops0_1_writes (by decide +kernel)

theorem while0Ops0_keep_v14_4 : after (while0Ops0 (F := Ideal)) V (Proc.devRef .tc main_v14_4) = V (Proc.devRef .tc main_v14_4) :=
  after_of_writes_sub while0Ops0 V while0Ops0_writes (by decide +kernel)

theorem while0Ops0_keep_v14_5 : after (while0Ops0 (F := Ideal)) V (Proc.devRef .tc main_v14_5) = V (Proc.devRef .tc main_v14_5) :=
  after_of_writes_sub while0Ops0 V while0Ops0_writes (by decide +kernel)

theorem while0Ops0_keep_v14_1 : after (while0Ops0 (F := Ideal)) V (Proc.devRef .tc main_v14_1) = V (Proc.devRef .tc main_v14_1) :=
  after_of_writes_sub while0Ops0 V while0Ops0_writes (by decide +kernel)

theorem while0Ops0_keep_v14_6 : after (while0Ops0 (F := Ideal)) V (Proc.devRef .tc main_v14_6) = V (Proc.devRef .tc main_v14_6) :=
  after_of_writes_sub while0Ops0 V while0Ops0_writes (by decide +kernel)

theorem cond0_keep_v14_4 : after (cond0 (F := Ideal)) V (Proc.devRef .tc main_v14_4) = V (Proc.devRef .tc main_v14_4) :=
  after_of_writes_sub cond0 V cond0_writes (by decide +kernel)

theorem cond0_keep_v14_5 : after (cond0 (F := Ideal)) V (Proc.devRef .tc main_v14_5) = V (Proc.devRef .tc main_v14_5) :=
  after_of_writes_sub cond0 V cond0_writes (by decide +kernel)

theorem cond0_keep_v14_1 : after (cond0 (F := Ideal)) V (Proc.devRef .tc main_v14_1) = V (Proc.devRef .tc main_v14_1) :=
  after_of_writes_sub cond0 V cond0_writes (by decide +kernel)

theorem while0Ops0_6_keep_while0b_v78 : after (while0Ops0_6 (F := Ideal)) V (Proc.devRef .tc main_while0b_v78) = V (Proc.devRef .tc main_while0b_v78) :=
  after_of_writes_sub while0Ops0_6 V while0Ops0_6_writes (by decide +kernel)

theorem while0Ops0_5_keep_while0b_v78 : after (while0Ops0_5 (F := Ideal)) V (Proc.devRef .tc main_while0b_v78) = V (Proc.devRef .tc main_while0b_v78) :=
  after_of_writes_sub while0Ops0_5 V while0Ops0_5_writes (by decide +kernel)

theorem while0Ops0_4_keep_while0b_v78 : after (while0Ops0_4 (F := Ideal)) V (Proc.devRef .tc main_while0b_v78) = V (Proc.devRef .tc main_while0b_v78) :=
  after_of_writes_sub while0Ops0_4 V while0Ops0_4_writes (by decide +kernel)

theorem while0Ops0_2_keep_v14_9 : after (while0Ops0_2 (F := Ideal)) V (Proc.devRef .tc main_v14_9) = V (Proc.devRef .tc main_v14_9) :=
  after_of_writes_sub while0Ops0_2 V while0Ops0_2_writes (by decide +kernel)

theorem while0Ops0_2_keep_v14_6 : after (while0Ops0_2 (F := Ideal)) V (Proc.devRef .tc main_v14_6) = V (Proc.devRef .tc main_v14_6) :=
  after_of_writes_sub while0Ops0_2 V while0Ops0_2_writes (by decide +kernel)

theorem while0Ops0_1_keep_v14_9 : after (while0Ops0_1 (F := Ideal)) V (Proc.devRef .tc main_v14_9) = V (Proc.devRef .tc main_v14_9) :=
  after_of_writes_sub while0Ops0_1 V while0Ops0_1_writes (by decide +kernel)

theorem while0Ops0_1_keep_v14_6 : after (while0Ops0_1 (F := Ideal)) V (Proc.devRef .tc main_v14_6) = V (Proc.devRef .tc main_v14_6) :=
  after_of_writes_sub while0Ops0_1 V while0Ops0_1_writes (by decide +kernel)

theorem while0Ops0_keep_v14_9 : after (while0Ops0 (F := Ideal)) V (Proc.devRef .tc main_v14_9) = V (Proc.devRef .tc main_v14_9) :=
  after_of_writes_sub while0Ops0 V while0Ops0_writes (by decide +kernel)

theorem cond0_keep_v14_9 : after (cond0 (F := Ideal)) V (Proc.devRef .tc main_v14_9) = V (Proc.devRef .tc main_v14_9) :=
  after_of_writes_sub cond0 V cond0_writes (by decide +kernel)

theorem while0Ops0_6_keep_while0b_v79 : after (while0Ops0_6 (F := Ideal)) V (Proc.devRef .tc main_while0b_v79) = V (Proc.devRef .tc main_while0b_v79) :=
  after_of_writes_sub while0Ops0_6 V while0Ops0_6_writes (by decide +kernel)

theorem while0Ops0_5_keep_while0b_v79 : after (while0Ops0_5 (F := Ideal)) V (Proc.devRef .tc main_while0b_v79) = V (Proc.devRef .tc main_while0b_v79) :=
  after_of_writes_sub while0Ops0_5 V while0Ops0_5_writes (by decide +kernel)

theorem while0Ops0_3_keep_v14_10 : after (while0Ops0_3 (F := Ideal)) V (Proc.devRef .tc main_v14_10) = V (Proc.devRef .tc main_v14_10) :=
  after_of_writes_sub while0Ops0_3 V while0Ops0_3_writes (by decide +kernel)

theorem while0Ops0_3_keep_v14_6 : after (while0Ops0_3 (F := Ideal)) V (Proc.devRef .tc main_v14_6) = V (Proc.devRef .tc main_v14_6) :=
  after_of_writes_sub while0Ops0_3 V while0Ops0_3_writes (by decide +kernel)

theorem while0Ops0_2_keep_v14_10 : after (while0Ops0_2 (F := Ideal)) V (Proc.devRef .tc main_v14_10) = V (Proc.devRef .tc main_v14_10) :=
  after_of_writes_sub while0Ops0_2 V while0Ops0_2_writes (by decide +kernel)

theorem while0Ops0_1_keep_v14_10 : after (while0Ops0_1 (F := Ideal)) V (Proc.devRef .tc main_v14_10) = V (Proc.devRef .tc main_v14_10) :=
  after_of_writes_sub while0Ops0_1 V while0Ops0_1_writes (by decide +kernel)

theorem while0Ops0_keep_v14_10 : after (while0Ops0 (F := Ideal)) V (Proc.devRef .tc main_v14_10) = V (Proc.devRef .tc main_v14_10) :=
  after_of_writes_sub while0Ops0 V while0Ops0_writes (by decide +kernel)

theorem cond0_keep_v14_10 : after (cond0 (F := Ideal)) V (Proc.devRef .tc main_v14_10) = V (Proc.devRef .tc main_v14_10) :=
  after_of_writes_sub cond0 V cond0_writes (by decide +kernel)

theorem while0Ops0_6_keep_while0b_v80 : after (while0Ops0_6 (F := Ideal)) V (Proc.devRef .tc main_while0b_v80) = V (Proc.devRef .tc main_while0b_v80) :=
  after_of_writes_sub while0Ops0_6 V while0Ops0_6_writes (by decide +kernel)

theorem while0Ops0_4_keep_v14_11 : after (while0Ops0_4 (F := Ideal)) V (Proc.devRef .tc main_v14_11) = V (Proc.devRef .tc main_v14_11) :=
  after_of_writes_sub while0Ops0_4 V while0Ops0_4_writes (by decide +kernel)

theorem while0Ops0_4_keep_v14_7 : after (while0Ops0_4 (F := Ideal)) V (Proc.devRef .tc main_v14_7) = V (Proc.devRef .tc main_v14_7) :=
  after_of_writes_sub while0Ops0_4 V while0Ops0_4_writes (by decide +kernel)

theorem while0Ops0_4_keep_v14_6 : after (while0Ops0_4 (F := Ideal)) V (Proc.devRef .tc main_v14_6) = V (Proc.devRef .tc main_v14_6) :=
  after_of_writes_sub while0Ops0_4 V while0Ops0_4_writes (by decide +kernel)

theorem while0Ops0_3_keep_v14_11 : after (while0Ops0_3 (F := Ideal)) V (Proc.devRef .tc main_v14_11) = V (Proc.devRef .tc main_v14_11) :=
  after_of_writes_sub while0Ops0_3 V while0Ops0_3_writes (by decide +kernel)

theorem while0Ops0_3_keep_v14_7 : after (while0Ops0_3 (F := Ideal)) V (Proc.devRef .tc main_v14_7) = V (Proc.devRef .tc main_v14_7) :=
  after_of_writes_sub while0Ops0_3 V while0Ops0_3_writes (by decide +kernel)

theorem while0Ops0_2_keep_v14_11 : after (while0Ops0_2 (F := Ideal)) V (Proc.devRef .tc main_v14_11) = V (Proc.devRef .tc main_v14_11) :=
  after_of_writes_sub while0Ops0_2 V while0Ops0_2_writes (by decide +kernel)

theorem while0Ops0_2_keep_v14_7 : after (while0Ops0_2 (F := Ideal)) V (Proc.devRef .tc main_v14_7) = V (Proc.devRef .tc main_v14_7) :=
  after_of_writes_sub while0Ops0_2 V while0Ops0_2_writes (by decide +kernel)

theorem while0Ops0_1_keep_v14_11 : after (while0Ops0_1 (F := Ideal)) V (Proc.devRef .tc main_v14_11) = V (Proc.devRef .tc main_v14_11) :=
  after_of_writes_sub while0Ops0_1 V while0Ops0_1_writes (by decide +kernel)

theorem while0Ops0_keep_v14_11 : after (while0Ops0 (F := Ideal)) V (Proc.devRef .tc main_v14_11) = V (Proc.devRef .tc main_v14_11) :=
  after_of_writes_sub while0Ops0 V while0Ops0_writes (by decide +kernel)

theorem cond0_keep_v14_11 : after (cond0 (F := Ideal)) V (Proc.devRef .tc main_v14_11) = V (Proc.devRef .tc main_v14_11) :=
  after_of_writes_sub cond0 V cond0_writes (by decide +kernel)

theorem while0Ops0_5_keep_v14_12 : after (while0Ops0_5 (F := Ideal)) V (Proc.devRef .tc main_v14_12) = V (Proc.devRef .tc main_v14_12) :=
  after_of_writes_sub while0Ops0_5 V while0Ops0_5_writes (by decide +kernel)

theorem while0Ops0_5_keep_v14_8 : after (while0Ops0_5 (F := Ideal)) V (Proc.devRef .tc main_v14_8) = V (Proc.devRef .tc main_v14_8) :=
  after_of_writes_sub while0Ops0_5 V while0Ops0_5_writes (by decide +kernel)

theorem while0Ops0_5_keep_v14_6 : after (while0Ops0_5 (F := Ideal)) V (Proc.devRef .tc main_v14_6) = V (Proc.devRef .tc main_v14_6) :=
  after_of_writes_sub while0Ops0_5 V while0Ops0_5_writes (by decide +kernel)

theorem while0Ops0_4_keep_v14_12 : after (while0Ops0_4 (F := Ideal)) V (Proc.devRef .tc main_v14_12) = V (Proc.devRef .tc main_v14_12) :=
  after_of_writes_sub while0Ops0_4 V while0Ops0_4_writes (by decide +kernel)

theorem while0Ops0_4_keep_v14_8 : after (while0Ops0_4 (F := Ideal)) V (Proc.devRef .tc main_v14_8) = V (Proc.devRef .tc main_v14_8) :=
  after_of_writes_sub while0Ops0_4 V while0Ops0_4_writes (by decide +kernel)

theorem while0Ops0_3_keep_v14_12 : after (while0Ops0_3 (F := Ideal)) V (Proc.devRef .tc main_v14_12) = V (Proc.devRef .tc main_v14_12) :=
  after_of_writes_sub while0Ops0_3 V while0Ops0_3_writes (by decide +kernel)

theorem while0Ops0_3_keep_v14_8 : after (while0Ops0_3 (F := Ideal)) V (Proc.devRef .tc main_v14_8) = V (Proc.devRef .tc main_v14_8) :=
  after_of_writes_sub while0Ops0_3 V while0Ops0_3_writes (by decide +kernel)

theorem while0Ops0_2_keep_v14_12 : after (while0Ops0_2 (F := Ideal)) V (Proc.devRef .tc main_v14_12) = V (Proc.devRef .tc main_v14_12) :=
  after_of_writes_sub while0Ops0_2 V while0Ops0_2_writes (by decide +kernel)

theorem while0Ops0_2_keep_v14_8 : after (while0Ops0_2 (F := Ideal)) V (Proc.devRef .tc main_v14_8) = V (Proc.devRef .tc main_v14_8) :=
  after_of_writes_sub while0Ops0_2 V while0Ops0_2_writes (by decide +kernel)

theorem while0Ops0_1_keep_v14_12 : after (while0Ops0_1 (F := Ideal)) V (Proc.devRef .tc main_v14_12) = V (Proc.devRef .tc main_v14_12) :=
  after_of_writes_sub while0Ops0_1 V while0Ops0_1_writes (by decide +kernel)

theorem while0Ops0_keep_v14_12 : after (while0Ops0 (F := Ideal)) V (Proc.devRef .tc main_v14_12) = V (Proc.devRef .tc main_v14_12) :=
  after_of_writes_sub while0Ops0 V while0Ops0_writes (by decide +kernel)

theorem cond0_keep_v14_12 : after (cond0 (F := Ideal)) V (Proc.devRef .tc main_v14_12) = V (Proc.devRef .tc main_v14_12) :=
  after_of_writes_sub cond0 V cond0_writes (by decide +kernel)

theorem trip0_v14_7 : afterL (body0 (F := Ideal)) (after (cond0 (F := Ideal)) V) (Proc.devRef .tc main_v14_7) =
    newRe (V (Proc.devRef .tc main_v14_2)) (V (Proc.devRef .tc main_v14_3)) (V (Proc.devRef .tc main_v14_7)) (V (Proc.devRef .tc main_v14_8)) (slc (V (Proc.devRef .tc main_v14_0)) (V (Proc.devRef .tc main_v14_6))) := by
  simp only [afterL_cons, afterL_nil]
  rw [while0Ops0_7_read_v14_7, while0Ops0_6_keep_while0b_v71, while0Ops0_5_keep_while0b_v71, while0Ops0_4_keep_while0b_v71, while0Ops0_3_keep_while0b_v71, while0Ops0_2_read_while0b_v71, while0Ops0_1_keep_v14_2, while0Ops0_1_keep_v14_3, while0Ops0_1_keep_v14_7, while0Ops0_1_keep_v14_8, while0Ops0_1_keep_while0b_v64, while0Ops0_keep_v14_2, while0Ops0_keep_v14_3, while0Ops0_keep_v14_7, while0Ops0_keep_v14_8, while0Ops0_read_while0b_v64, cond0_keep_v14_2, cond0_keep_v14_3, cond0_keep_v14_7, cond0_keep_v14_8, cond0_keep_v14_0, cond0_keep_v14_6]

theorem trip0_v14_8 : afterL (body0 (F := Ideal)) (after (cond0 (F := Ideal)) V) (Proc.devRef .tc main_v14_8) =
    newIm (V (Proc.devRef .tc main_v14_4)) (V (Proc.devRef .tc main_v14_5)) (V (Proc.devRef .tc main_v14_7)) (V (Proc.devRef .tc main_v14_8)) (slc (V (Proc.devRef .tc main_v14_1)) (V (Proc.devRef .tc main_v14_6))) := by
  simp only [afterL_cons, afterL_nil]
  rw [while0Ops0_7_read_v14_8, while0Ops0_6_keep_while0b_v77, while0Ops0_5_keep_while0b_v77, while0Ops0_4_keep_while0b_v77, while0Ops0_3_keep_while0b_v77, while0Ops0_2_read_while0b_v77, while0Ops0_1_keep_v14_4, while0Ops0_1_keep_v14_5, while0Ops0_1_keep_v14_7, while0Ops0_1_keep_v14_8, while0Ops0_1_read_while0b_v65, while0Ops0_keep_v14_4, while0Ops0_keep_v14_5, while0Ops0_keep_v14_7, while0Ops0_keep_v14_8, while0Ops0_keep_v14_1, while0Ops0_keep_v14_6, cond0_keep_v14_4, cond0_keep_v14_5, cond0_keep_v14_7, cond0_keep_v14_8, cond0_keep_v14_1, cond0_keep_v14_6]

theorem trip0_v14_9 : afterL (body0 (F := Ideal)) (after (cond0 (F := Ideal)) V) (Proc.devRef .tc main_v14_9) =
    upd (V (Proc.devRef .tc main_v14_9)) (newRe (V (Proc.devRef .tc main_v14_2)) (V (Proc.devRef .tc main_v14_3)) (V (Proc.devRef .tc main_v14_7)) (V (Proc.devRef .tc main_v14_8)) (slc (V (Proc.devRef .tc main_v14_0)) (V (Proc.devRef .tc main_v14_6)))) (V (Proc.devRef .tc main_v14_6)) := by
  simp only [afterL_cons, afterL_nil]
  rw [while0Ops0_7_read_v14_9, while0Ops0_6_keep_while0b_v78, while0Ops0_5_keep_while0b_v78, while0Ops0_4_keep_while0b_v78, while0Ops0_3_read_while0b_v78, while0Ops0_2_keep_v14_9, while0Ops0_2_read_while0b_v71, while0Ops0_2_keep_v14_6, while0Ops0_1_keep_v14_9, while0Ops0_1_keep_v14_2, while0Ops0_1_keep_v14_3, while0Ops0_1_keep_v14_7, while0Ops0_1_keep_v14_8, while0Ops0_1_keep_while0b_v64, while0Ops0_1_keep_v14_6, while0Ops0_keep_v14_9, while0Ops0_keep_v14_2, while0Ops0_keep_v14_3, while0Ops0_keep_v14_7, while0Ops0_keep_v14_8, while0Ops0_read_while0b_v64, while0Ops0_keep_v14_6, cond0_keep_v14_9, cond0_keep_v14_2, cond0_keep_v14_3, cond0_keep_v14_7, cond0_keep_v14_8, cond0_keep_v14_0, cond0_keep_v14_6]

theorem trip0_v14_10 : afterL (body0 (F := Ideal)) (after (cond0 (F := Ideal)) V) (Proc.devRef .tc main_v14_10) =
    upd (V (Proc.devRef .tc main_v14_10)) (newIm (V (Proc.devRef .tc main_v14_4)) (V (Proc.devRef .tc main_v14_5)) (V (Proc.devRef .tc main_v14_7)) (V (Proc.devRef .tc main_v14_8)) (slc (V (Proc.devRef .tc main_v14_1)) (V (Proc.devRef .tc main_v14_6)))) (V (Proc.devRef .tc main_v14_6)) := by
  simp only [afterL_cons, afterL_nil]
  rw [while0Ops0_7_read_v14_10, while0Ops0_6_keep_while0b_v79, while0Ops0_5_keep_while0b_v79, while0Ops0_4_read_while0b_v79, while0Ops0_3_keep_v14_10, while0Ops0_3_keep_while0b_v77, while0Ops0_3_keep_v14_6, while0Ops0_2_keep_v14_10, while0Ops0_2_read_while0b_v77, while0Ops0_2_keep_v14_6, while0Ops0_1_keep_v14_10, while0Ops0_1_keep_v14_4, while0Ops0_1_keep_v14_5, while0Ops0_1_keep_v14_7, while0Ops0_1_keep_v14_8, while0Ops0_1_read_while0b_v65, while0Ops0_1_keep_v14_6, while0Ops0_keep_v14_10, while0Ops0_keep_v14_4, while0Ops0_keep_v14_5, while0Ops0_keep_v14_7, while0Ops0_keep_v14_8, while0Ops0_keep_v14_1, while0Ops0_keep_v14_6, cond0_keep_v14_10, cond0_keep_v14_4, cond0_keep_v14_5, cond0_keep_v14_7, cond0_keep_v14_8, cond0_keep_v14_1, cond0_keep_v14_6]

theorem trip0_v14_11 : afterL (body0 (F := Ideal)) (after (cond0 (F := Ideal)) V) (Proc.devRef .tc main_v14_11) =
    upd (V (Proc.devRef .tc main_v14_11)) (V (Proc.devRef .tc main_v14_7)) (V (Proc.devRef .tc main_v14_6)) := by
  simp only [afterL_cons, afterL_nil]
  rw [while0Ops0_7_read_v14_11, while0Ops0_6_keep_while0b_v80, while0Ops0_5_read_while0b_v80, while0Ops0_4_keep_v14_11, while0Ops0_4_keep_v14_7, while0Ops0_4_keep_v14_6, while0Ops0_3_keep_v14_11, while0Ops0_3_keep_v14_7, while0Ops0_3_keep_v14_6, while0Ops0_2_keep_v14_11, while0Ops0_2_keep_v14_7, while0Ops0_2_keep_v14_6, while0Ops0_1_keep_v14_11, while0Ops0_1_keep_v14_7, while0Ops0_1_keep_v14_6, while0Ops0_keep_v14_11, while0Ops0_keep_v14_7, while0Ops0_keep_v14_6, cond0_keep_v14_11, cond0_keep_v14_7, cond0_keep_v14_6]

theorem trip0_v14_12 : afterL (body0 (F := Ideal)) (after (cond0 (F := Ideal)) V) (Proc.devRef .tc main_v14_12) =
    upd (V (Proc.devRef .tc main_v14_12)) (V (Proc.devRef .tc main_v14_8)) (V (Proc.devRef .tc main_v14_6)) := by
  simp only [afterL_cons, afterL_nil]
  rw [while0Ops0_7_read_v14_12, while0Ops0_6_read_while0b_v81, while0Ops0_5_keep_v14_12, while0Ops0_5_keep_v14_8, while0Ops0_5_keep_v14_6, while0Ops0_4_keep_v14_12, while0Ops0_4_keep_v14_8, while0Ops0_4_keep_v14_6, while0Ops0_3_keep_v14_12, while0Ops0_3_keep_v14_8, while0Ops0_3_keep_v14_6, while0Ops0_2_keep_v14_12, while0Ops0_2_keep_v14_8, while0Ops0_2_keep_v14_6, while0Ops0_1_keep_v14_12, while0Ops0_1_keep_v14_8, while0Ops0_1_keep_v14_6, while0Ops0_keep_v14_12, while0Ops0_keep_v14_8, while0Ops0_keep_v14_6, cond0_keep_v14_12, cond0_keep_v14_8, cond0_keep_v14_6]

theorem while1Ops0_7_keep_while1b_v102 : after (while1Ops0_7 (F := Ideal)) V (Proc.devRef .tc main_while1b_v102) = V (Proc.devRef .tc main_while1b_v102) :=
  after_of_writes_sub while1Ops0_7 V while1Ops0_7_writes (by decide +kernel)

theorem while1Ops0_6_keep_while1b_v102 : after (while1Ops0_6 (F := Ideal)) V (Proc.devRef .tc main_while1b_v102) = V (Proc.devRef .tc main_while1b_v102) :=
  after_of_writes_sub while1Ops0_6 V while1Ops0_6_writes (by decide +kernel)

theorem while1Ops0_4_keep_v52_9 : after (while1Ops0_4 (F := Ideal)) V (Proc.devRef .tc main_v52_9) = V (Proc.devRef .tc main_v52_9) :=
  after_of_writes_sub while1Ops0_4 V while1Ops0_4_writes (by decide +kernel)

theorem while1Ops0_4_keep_v52_11 : after (while1Ops0_4 (F := Ideal)) V (Proc.devRef .tc main_v52_11) = V (Proc.devRef .tc main_v52_11) :=
  after_of_writes_sub while1Ops0_4 V while1Ops0_4_writes (by decide +kernel)

theorem while1Ops0_4_keep_while1b_v66 : after (while1Ops0_4 (F := Ideal)) V (Proc.devRef .tc main_while1b_v66) = V (Proc.devRef .tc main_while1b_v66) :=
  after_of_writes_sub while1Ops0_4 V while1Ops0_4_writes (by decide +kernel)

theorem while1Ops0_4_keep_v52_12 : after (while1Ops0_4 (F := Ideal)) V (Proc.devRef .tc main_v52_12) = V (Proc.devRef .tc main_v52_12) :=
  after_of_writes_sub while1Ops0_4 V while1Ops0_4_writes (by decide +kernel)

theorem while1Ops0_4_keep_while1b_v67 : after (while1Ops0_4 (F := Ideal)) V (Proc.devRef .tc main_while1b_v67) = V (Proc.devRef .tc main_while1b_v67) :=
  after_of_writes_sub while1Ops0_4 V while1Ops0_4_writes (by decide +kernel)

theorem while1Ops0_4_keep_while1b_v68 : after (while1Ops0_4 (F := Ideal)) V (Proc.devRef .tc main_while1b_v68) = V (Proc.devRef .tc main_while1b_v68) :=
  after_of_writes_sub while1Ops0_4 V while1Ops0_4_writes (by decide +kernel)

theorem while1Ops0_3_keep_v52_9 : after (while1Ops0_3 (F := Ideal)) V (Proc.devRef .tc main_v52_9) = V (Proc.devRef .tc main_v52_9) :=
  after_of_writes_sub while1Ops0_3 V while1Ops0_3_writes (by decide +kernel)

theorem while1Ops0_3_keep_v52_11 : after (while1Ops0_3 (F := Ideal)) V (Proc.devRef .tc main_v52_11) = V (Proc.devRef .tc main_v52_11) :=
  after_of_writes_sub while1Ops0_3 V while1Ops0_3_writes (by decide +kernel)

theorem while1Ops0_3_keep_while1b_v66 : after (while1Ops0_3 (F := Ideal)) V (Proc.devRef .tc main_while1b_v66) = V (Proc.devRef .tc main_while1b_v66) :=
  after_of_writes_sub while1Ops0_3 V while1Ops0_3_writes (by decide +kernel)

theorem while1Ops0_3_keep_v52_12 : after (while1Ops0_3 (F := Ideal)) V (Proc.devRef .tc main_v52_12) = V (Proc.devRef .tc main_v52_12) :=
  after_of_writes_sub while1Ops0_3 V while1Ops0_3_writes (by decide +kernel)

theorem while1Ops0_3_keep_while1b_v67 : after (while1Ops0_3 (F := Ideal)) V (Proc.devRef .tc main_while1b_v67) = V (Proc.devRef .tc main_while1b_v67) :=
  after_of_writes_sub while1Ops0_3 V while1Ops0_3_writes (by decide +kernel)

theorem while1Ops0_3_keep_v52_3 : after (while1Ops0_3 (F := Ideal)) V (Proc.devRef .tc main_v52_3) = V (Proc.devRef .tc main_v52_3) :=
  after_of_writes_sub while1Ops0_3 V while1Ops0_3_writes (by decide +kernel)

theorem while1Ops0_3_keep_while1b_v65 : after (while1Ops0_3 (F := Ideal)) V (Proc.devRef .tc main_while1b_v65) = V (Proc.devRef .tc main_while1b_v65) :=
  after_of_writes_sub while1Ops0_3 V while1Ops0_3_writes (by decide +kernel)

theorem while1Ops0_2_keep_v52_9 : after (while1Ops0_2 (F := Ideal)) V (Proc.devRef .tc main_v52_9) = V (Proc.devRef .tc main_v52_9) :=
  after_of_writes_sub while1Ops0_2 V while1Ops0_2_writes (by decide +kernel)

theorem while1Ops0_2_keep_v52_11 : after (while1Ops0_2 (F := Ideal)) V (Proc.devRef .tc main_v52_11) = V (Proc.devRef .tc main_v52_11) :=
  after_of_writes_sub while1Ops0_2 V while1Ops0_2_writes (by decide +kernel)

theorem while1Ops0_2_keep_while1b_v66 : after (while1Ops0_2 (F := Ideal)) V (Proc.devRef .tc main_while1b_v66) = V (Proc.devRef .tc main_while1b_v66) :=
  after_of_writes_sub while1Ops0_2 V while1Ops0_2_writes (by decide +kernel)

theorem while1Ops0_2_keep_v52_12 : after (while1Ops0_2 (F := Ideal)) V (Proc.devRef .tc main_v52_12) = V (Proc.devRef .tc main_v52_12) :=
  after_of_writes_sub while1Ops0_2 V while1Ops0_2_writes (by decide +kernel)

theorem while1Ops0_2_keep_v52_2 : after (while1Ops0_2 (F := Ideal)) V (Proc.devRef .tc main_v52_2) = V (Proc.devRef .tc main_v52_2) :=
  after_of_writes_sub while1Ops0_2 V while1Ops0_2_writes (by decide +kernel)

theorem while1Ops0_2_keep_while1b_v65 : after (while1Ops0_2 (F := Ideal)) V (Proc.devRef .tc main_while1b_v65) = V (Proc.devRef .tc main_while1b_v65) :=
  after_of_writes_sub while1Ops0_2 V while1Ops0_2_writes (by decide +kernel)

theorem while1Ops0_2_keep_v52_3 : after (while1Ops0_2 (F := Ideal)) V (Proc.devRef .tc main_v52_3) = V (Proc.devRef .tc main_v52_3) :=
  after_of_writes_sub while1Ops0_2 V while1Ops0_2_writes (by decide +kernel)

theorem while1Ops0_1_keep_v52_9 : after (while1Ops0_1 (F := Ideal)) V (Proc.devRef .tc main_v52_9) = V (Proc.devRef .tc main_v52_9) :=
  after_of_writes_sub while1Ops0_1 V while1Ops0_1_writes (by decide +kernel)

theorem while1Ops0_1_keep_v52_11 : after (while1Ops0_1 (F := Ideal)) V (Proc.devRef .tc main_v52_11) = V (Proc.devRef .tc main_v52_11) :=
  after_of_writes_sub while1Ops0_1 V while1Ops0_1_writes (by decide +kernel)

theorem while1Ops0_1_keep_v52_12 : after (while1Ops0_1 (F := Ideal)) V (Proc.devRef .tc main_v52_12) = V (Proc.devRef .tc main_v52_12) :=
  after_of_writes_sub while1Ops0_1 V while1Ops0_1_writes (by decide +kernel)

theorem while1Ops0_1_keep_v52_1 : after (while1Ops0_1 (F := Ideal)) V (Proc.devRef .tc main_v52_1) = V (Proc.devRef .tc main_v52_1) :=
  after_of_writes_sub while1Ops0_1 V while1Ops0_1_writes (by decide +kernel)

theorem while1Ops0_1_keep_while1b_v65 : after (while1Ops0_1 (F := Ideal)) V (Proc.devRef .tc main_while1b_v65) = V (Proc.devRef .tc main_while1b_v65) :=
  after_of_writes_sub while1Ops0_1 V while1Ops0_1_writes (by decide +kernel)

theorem while1Ops0_1_keep_v52_2 : after (while1Ops0_1 (F := Ideal)) V (Proc.devRef .tc main_v52_2) = V (Proc.devRef .tc main_v52_2) :=
  after_of_writes_sub while1Ops0_1 V while1Ops0_1_writes (by decide +kernel)

theorem while1Ops0_1_keep_v52_3 : after (while1Ops0_1 (F := Ideal)) V (Proc.devRef .tc main_v52_3) = V (Proc.devRef .tc main_v52_3) :=
  after_of_writes_sub while1Ops0_1 V while1Ops0_1_writes (by decide +kernel)

theorem while1Ops0_keep_v52_9 : after (while1Ops0 (F := Ideal)) V (Proc.devRef .tc main_v52_9) = V (Proc.devRef .tc main_v52_9) :=
  after_of_writes_sub while1Ops0 V while1Ops0_writes (by decide +kernel)

theorem while1Ops0_keep_v52_11 : after (while1Ops0 (F := Ideal)) V (Proc.devRef .tc main_v52_11) = V (Proc.devRef .tc main_v52_11) :=
  after_of_writes_sub while1Ops0 V while1Ops0_writes (by decide +kernel)

theorem while1Ops0_keep_v52_0 : after (while1Ops0 (F := Ideal)) V (Proc.devRef .tc main_v52_0) = V (Proc.devRef .tc main_v52_0) :=
  after_of_writes_sub while1Ops0 V while1Ops0_writes (by decide +kernel)

theorem while1Ops0_keep_v52_12 : after (while1Ops0 (F := Ideal)) V (Proc.devRef .tc main_v52_12) = V (Proc.devRef .tc main_v52_12) :=
  after_of_writes_sub while1Ops0 V while1Ops0_writes (by decide +kernel)

theorem while1Ops0_keep_v52_1 : after (while1Ops0 (F := Ideal)) V (Proc.devRef .tc main_v52_1) = V (Proc.devRef .tc main_v52_1) :=
  after_of_writes_sub while1Ops0 V while1Ops0_writes (by decide +kernel)

theorem while1Ops0_keep_v52_2 : after (while1Ops0 (F := Ideal)) V (Proc.devRef .tc main_v52_2) = V (Proc.devRef .tc main_v52_2) :=
  after_of_writes_sub while1Ops0 V while1Ops0_writes (by decide +kernel)

theorem while1Ops0_keep_v52_3 : after (while1Ops0 (F := Ideal)) V (Proc.devRef .tc main_v52_3) = V (Proc.devRef .tc main_v52_3) :=
  after_of_writes_sub while1Ops0 V while1Ops0_writes (by decide +kernel)

theorem cond1_keep_v52_9 : after (cond1 (F := Ideal)) V (Proc.devRef .tc main_v52_9) = V (Proc.devRef .tc main_v52_9) :=
  after_of_writes_sub cond1 V cond1_writes (by decide +kernel)

theorem cond1_keep_v52_11 : after (cond1 (F := Ideal)) V (Proc.devRef .tc main_v52_11) = V (Proc.devRef .tc main_v52_11) :=
  after_of_writes_sub cond1 V cond1_writes (by decide +kernel)

theorem cond1_keep_v52_0 : after (cond1 (F := Ideal)) V (Proc.devRef .tc main_v52_0) = V (Proc.devRef .tc main_v52_0) :=
  after_of_writes_sub cond1 V cond1_writes (by decide +kernel)

theorem cond1_keep_v52_8 : after (cond1 (F := Ideal)) V (Proc.devRef .tc main_v52_8) = V (Proc.devRef .tc main_v52_8) :=
  after_of_writes_sub cond1 V cond1_writes (by decide +kernel)

theorem cond1_keep_v52_12 : after (cond1 (F := Ideal)) V (Proc.devRef .tc main_v52_12) = V (Proc.devRef .tc main_v52_12) :=
  after_of_writes_sub cond1 V cond1_writes (by decide +kernel)

theorem cond1_keep_v52_1 : after (cond1 (F := Ideal)) V (Proc.devRef .tc main_v52_1) = V (Proc.devRef .tc main_v52_1) :=
  after_of_writes_sub cond1 V cond1_writes (by decide +kernel)

theorem cond1_keep_v52_2 : after (cond1 (F := Ideal)) V (Proc.devRef .tc main_v52_2) = V (Proc.devRef .tc main_v52_2) :=
  after_of_writes_sub cond1 V cond1_writes (by decide +kernel)

theorem cond1_keep_v52_3 : after (cond1 (F := Ideal)) V (Proc.devRef .tc main_v52_3) = V (Proc.devRef .tc main_v52_3) :=
  after_of_writes_sub cond1 V cond1_writes (by decide +kernel)

theorem while1Ops0_7_keep_while1b_v94 : after (while1Ops0_7 (F := Ideal)) V (Proc.devRef .tc main_while1b_v94) = V (Proc.devRef .tc main_while1b_v94) :=
  after_of_writes_sub while1Ops0_7 V while1Ops0_7_writes (by decide +kernel)

theorem while1Ops0_6_keep_while1b_v94 : after (while1Ops0_6 (F := Ideal)) V (Proc.devRef .tc main_while1b_v94) = V (Proc.devRef .tc main_while1b_v94) :=
  after_of_writes_sub while1Ops0_6 V while1Ops0_6_writes (by decide +kernel)

theorem while1Ops0_4_keep_v52_10 : after (while1Ops0_4 (F := Ideal)) V (Proc.devRef .tc main_v52_10) = V (Proc.devRef .tc main_v52_10) :=
  after_of_writes_sub while1Ops0_4 V while1Ops0_4_writes (by decide +kernel)

theorem while1Ops0_3_keep_v52_10 : after (while1Ops0_3 (F := Ideal)) V (Proc.devRef .tc main_v52_10) = V (Proc.devRef .tc main_v52_10) :=
  after_of_writes_sub while1Ops0_3 V while1Ops0_3_writes (by decide +kernel)

theorem while1Ops0_2_keep_v52_10 : after (while1Ops0_2 (F := Ideal)) V (Proc.devRef .tc main_v52_10) = V (Proc.devRef .tc main_v52_10) :=
  after_of_writes_sub while1Ops0_2 V while1Ops0_2_writes (by decide +kernel)

theorem while1Ops0_1_keep_v52_10 : after (while1Ops0_1 (F := Ideal)) V (Proc.devRef .tc main_v52_10) = V (Proc.devRef .tc main_v52_10) :=
  after_of_writes_sub while1Ops0_1 V while1Ops0_1_writes (by decide +kernel)

theorem while1Ops0_keep_v52_10 : after (while1Ops0 (F := Ideal)) V (Proc.devRef .tc main_v52_10) = V (Proc.devRef .tc main_v52_10) :=
  after_of_writes_sub while1Ops0 V while1Ops0_writes (by decide +kernel)

theorem cond1_keep_v52_10 : after (cond1 (F := Ideal)) V (Proc.devRef .tc main_v52_10) = V (Proc.devRef .tc main_v52_10) :=
  after_of_writes_sub cond1 V cond1_writes (by decide +kernel)

theorem while1Ops0_7_keep_while1b_v97 : after (while1Ops0_7 (F := Ideal)) V (Proc.devRef .tc main_while1b_v97) = V (Proc.devRef .tc main_while1b_v97) :=
  after_of_writes_sub while1Ops0_7 V while1Ops0_7_writes (by decide +kernel)

theorem while1Ops0_6_keep_while1b_v97 : after (while1Ops0_6 (F := Ideal)) V (Proc.devRef .tc main_while1b_v97) = V (Proc.devRef .tc main_while1b_v97) :=
  after_of_writes_sub while1Ops0_6 V while1Ops0_6_writes (by decide +kernel)

theorem while1Ops0_4_keep_v52_4 : after (while1Ops0_4 (F := Ideal)) V (Proc.devRef .tc main_v52_4) = V (Proc.devRef .tc main_v52_4) :=
  after_of_writes_sub while1Ops0_4 V while1Ops0_4_writes (by decide +kernel)

theorem while1Ops0_4_keep_v52_7 : after (while1Ops0_4 (F := Ideal)) V (Proc.devRef .tc main_v52_7) = V (Proc.devRef .tc main_v52_7) :=
  after_of_writes_sub while1Ops0_4 V while1Ops0_4_writes (by decide +kernel)

theorem while1Ops0_3_keep_v52_4 : after (while1Ops0_3 (F := Ideal)) V (Proc.devRef .tc main_v52_4) = V (Proc.devRef .tc main_v52_4) :=
  after_of_writes_sub while1Ops0_3 V while1Ops0_3_writes (by decide +kernel)

theorem while1Ops0_3_keep_v52_7 : after (while1Ops0_3 (F := Ideal)) V (Proc.devRef .tc main_v52_7) = V (Proc.devRef .tc main_v52_7) :=
  after_of_writes_sub while1Ops0_3 V while1Ops0_3_writes (by decide +kernel)

theorem while1Ops0_2_keep_v52_4 : after (while1Ops0_2 (F := Ideal)) V (Proc.devRef .tc main_v52_4) = V (Proc.devRef .tc main_v52_4) :=
  after_of_writes_sub while1Ops0_2 V while1Ops0_2_writes (by decide +kernel)

theorem while1Ops0_2_keep_v52_7 : after (while1Ops0_2 (F := Ideal)) V (Proc.devRef .tc main_v52_7) = V (Proc.devRef .tc main_v52_7) :=
  after_of_writes_sub while1Ops0_2 V while1Ops0_2_writes (by decide +kernel)

theorem while1Ops0_1_keep_v52_4 : after (while1Ops0_1 (F := Ideal)) V (Proc.devRef .tc main_v52_4) = V (Proc.devRef .tc main_v52_4) :=
  after_of_writes_sub while1Ops0_1 V while1Ops0_1_writes (by decide +kernel)

theorem while1Ops0_1_keep_v52_7 : after (while1Ops0_1 (F := Ideal)) V (Proc.devRef .tc main_v52_7) = V (Proc.devRef .tc main_v52_7) :=
  after_of_writes_sub while1Ops0_1 V while1Ops0_1_writes (by decide +kernel)

theorem while1Ops0_keep_v52_4 : after (while1Ops0 (F := Ideal)) V (Proc.devRef .tc main_v52_4) = V (Proc.devRef .tc main_v52_4) :=
  after_of_writes_sub while1Ops0 V while1Ops0_writes (by decide +kernel)

theorem while1Ops0_keep_v52_7 : after (while1Ops0 (F := Ideal)) V (Proc.devRef .tc main_v52_7) = V (Proc.devRef .tc main_v52_7) :=
  after_of_writes_sub while1Ops0 V while1Ops0_writes (by decide +kernel)

theorem cond1_keep_v52_4 : after (cond1 (F := Ideal)) V (Proc.devRef .tc main_v52_4) = V (Proc.devRef .tc main_v52_4) :=
  after_of_writes_sub cond1 V cond1_writes (by decide +kernel)

theorem cond1_keep_v52_7 : after (cond1 (F := Ideal)) V (Proc.devRef .tc main_v52_7) = V (Proc.devRef .tc main_v52_7) :=
  after_of_writes_sub cond1 V cond1_writes (by decide +kernel)

theorem while1Ops0_7_keep_while1b_v89 : after (while1Ops0_7 (F := Ideal)) V (Proc.devRef .tc main_while1b_v89) = V (Proc.devRef .tc main_while1b_v89) :=
  after_of_writes_sub while1Ops0_7 V while1Ops0_7_writes (by decide +kernel)

theorem while1Ops0_6_keep_while1b_v89 : after (while1Ops0_6 (F := Ideal)) V (Proc.devRef .tc main_while1b_v89) = V (Proc.devRef .tc main_while1b_v89) :=
  after_of_writes_sub while1Ops0_6 V while1Ops0_6_writes (by decide +kernel)

theorem while1Ops0_4_keep_v52_6 : after (while1Ops0_4 (F := Ideal)) V (Proc.devRef .tc main_v52_6) = V (Proc.devRef .tc main_v52_6) :=
  after_of_writes_sub while1Ops0_4 V while1Ops0_4_writes (by decide +kernel)

theorem while1Ops0_4_keep_v52_5 : after (while1Ops0_4 (F := Ideal)) V (Proc.devRef .tc main_v52_5) = V (Proc.devRef .tc main_v52_5) :=
  after_of_writes_sub while1Ops0_4 V while1Ops0_4_writes (by decide +kernel)

theorem while1Ops0_3_keep_v52_6 : after (while1Ops0_3 (F := Ideal)) V (Proc.devRef .tc main_v52_6) = V (Proc.devRef .tc main_v52_6) :=
  after_of_writes_sub while1Ops0_3 V while1Ops0_3_writes (by decide +kernel)

theorem while1Ops0_3_keep_v52_5 : after (while1Ops0_3 (F := Ideal)) V (Proc.devRef .tc main_v52_5) = V (Proc.devRef .tc main_v52_5) :=
  after_of_writes_sub while1Ops0_3 V while1Ops0_3_writes (by decide +kernel)

theorem while1Ops0_2_keep_v52_6 : after (while1Ops0_2 (F := Ideal)) V (Proc.devRef .tc main_v52_6) = V (Proc.devRef .tc main_v52_6) :=
  after_of_writes_sub while1Ops0_2 V while1Ops0_2_writes (by decide +kernel)

theorem while1Ops0_2_keep_v52_5 : after (while1Ops0_2 (F := Ideal)) V (Proc.devRef .tc main_v52_5) = V (Proc.devRef .tc main_v52_5) :=
  after_of_writes_sub while1Ops0_2 V while1Ops0_2_writes (by decide +kernel)

theorem while1Ops0_1_keep_v52_6 : after (while1Ops0_1 (F := Ideal)) V (Proc.devRef .tc main_v52_6) = V (Proc.devRef .tc main_v52_6) :=
  after_of_writes_sub while1Ops0_1 V while1Ops0_1_writes (by decide +kernel)

theorem while1Ops0_1_keep_v52_5 : after (while1Ops0_1 (F := Ideal)) V (Proc.devRef .tc main_v52_5) = V (Proc.devRef .tc main_v52_5) :=
  after_of_writes_sub while1Ops0_1 V while1Ops0_1_writes (by decide +kernel)

theorem while1Ops0_keep_v52_6 : after (while1Ops0 (F := Ideal)) V (Proc.devRef .tc main_v52_6) = V (Proc.devRef .tc main_v52_6) :=
  after_of_writes_sub while1Ops0 V while1Ops0_writes (by decide +kernel)

theorem while1Ops0_keep_v52_5 : after (while1Ops0 (F := Ideal)) V (Proc.devRef .tc main_v52_5) = V (Proc.devRef .tc main_v52_5) :=
  after_of_writes_sub while1Ops0 V while1Ops0_writes (by decide +kernel)

theorem cond1_keep_v52_6 : after (cond1 (F := Ideal)) V (Proc.devRef .tc main_v52_6) = V (Proc.devRef .tc main_v52_6) :=
  after_of_writes_sub cond1 V cond1_writes (by decide +kernel)

theorem cond1_keep_v52_5 : after (cond1 (F := Ideal)) V (Proc.devRef .tc main_v52_5) = V (Proc.devRef .tc main_v52_5) :=
  after_of_writes_sub cond1 V cond1_writes (by decide +kernel)

theorem while1Ops0_7_keep_while1b_v103 : after (while1Ops0_7 (F := Ideal)) V (Proc.devRef .tc main_while1b_v103) = V (Proc.devRef .tc main_while1b_v103) :=
  after_of_writes_sub while1Ops0_7 V while1Ops0_7_writes (by decide +kernel)

theorem while1Ops0_5_keep_v52_13 : after (while1Ops0_5 (F := Ideal)) V (Proc.devRef .tc main_v52_13) = V (Proc.devRef .tc main_v52_13) :=
  after_of_writes_sub while1Ops0_5 V while1Ops0_5_writes (by decide +kernel)

theorem while1Ops0_5_keep_while1b_v65 : after (while1Ops0_5 (F := Ideal)) V (Proc.devRef .tc main_while1b_v65) = V (Proc.devRef .tc main_while1b_v65) :=
  after_of_writes_sub while1Ops0_5 V while1Ops0_5_writes (by decide +kernel)

theorem while1Ops0_4_keep_v52_13 : after (while1Ops0_4 (F := Ideal)) V (Proc.devRef .tc main_v52_13) = V (Proc.devRef .tc main_v52_13) :=
  after_of_writes_sub while1Ops0_4 V while1Ops0_4_writes (by decide +kernel)

theorem while1Ops0_4_keep_while1b_v65 : after (while1Ops0_4 (F := Ideal)) V (Proc.devRef .tc main_while1b_v65) = V (Proc.devRef .tc main_while1b_v65) :=
  after_of_writes_sub while1Ops0_4 V while1Ops0_4_writes (by decide +kernel)

theorem while1Ops0_3_keep_v52_13 : after (while1Ops0_3 (F := Ideal)) V (Proc.devRef .tc main_v52_13) = V (Proc.devRef .tc main_v52_13) :=
  after_of_writes_sub while1Ops0_3 V while1Ops0_3_writes (by decide +kernel)

theorem while1Ops0_2_keep_v52_13 : after (while1Ops0_2 (F := Ideal)) V (Proc.devRef .tc main_v52_13) = V (Proc.devRef .tc main_v52_13) :=
  after_of_writes_sub while1Ops0_2 V while1Ops0_2_writes (by decide +kernel)

theorem while1Ops0_1_keep_v52_13 : after (while1Ops0_1 (F := Ideal)) V (Proc.devRef .tc main_v52_13) = V (Proc.devRef .tc main_v52_13) :=
  after_of_writes_sub while1Ops0_1 V while1Ops0_1_writes (by decide +kernel)

theorem while1Ops0_keep_v52_13 : after (while1Ops0 (F := Ideal)) V (Proc.devRef .tc main_v52_13) = V (Proc.devRef .tc main_v52_13) :=
  after_of_writes_sub while1Ops0 V while1Ops0_writes (by decide +kernel)

theorem cond1_keep_v52_13 : after (cond1 (F := Ideal)) V (Proc.devRef .tc main_v52_13) = V (Proc.devRef .tc main_v52_13) :=
  after_of_writes_sub cond1 V cond1_writes (by decide +kernel)

theorem while1Ops0_6_keep_v52_14 : after (while1Ops0_6 (F := Ideal)) V (Proc.devRef .tc main_v52_14) = V (Proc.devRef .tc main_v52_14) :=
  after_of_writes_sub while1Ops0_6 V while1Ops0_6_writes (by decide +kernel)

theorem while1Ops0_6_keep_while1b_v71 : after (while1Ops0_6 (F := Ideal)) V (Proc.devRef .tc main_while1b_v71) = V (Proc.devRef .tc main_while1b_v71) :=
  after_of_writes_sub while1Ops0_6 V while1Ops0_6_writes (by decide +kernel)

theorem while1Ops0_6_keep_while1b_v65 : after (while1Ops0_6 (F := Ideal)) V (Proc.devRef .tc main_while1b_v65) = V (Proc.devRef .tc main_while1b_v65) :=
  after_of_writes_sub while1Ops0_6 V while1Ops0_6_writes (by decide +kernel)

theorem while1Ops0_5_keep_v52_14 : after (while1Ops0_5 (F := Ideal)) V (Proc.devRef .tc main_v52_14) = V (Proc.devRef .tc main_v52_14) :=
  after_of_writes_sub while1Ops0_5 V while1Ops0_5_writes (by decide +kernel)

theorem while1Ops0_4_keep_v52_14 : after (while1Ops0_4 (F := Ideal)) V (Proc.devRef .tc main_v52_14) = V (Proc.devRef .tc main_v52_14) :=
  after_of_writes_sub while1Ops0_4 V while1Ops0_4_writes (by decide +kernel)

theorem while1Ops0_3_keep_v52_14 : after (while1Ops0_3 (F := Ideal)) V (Proc.devRef .tc main_v52_14) = V (Proc.devRef .tc main_v52_14) :=
  after_of_writes_sub while1Ops0_3 V while1Ops0_3_writes (by decide +kernel)

theorem while1Ops0_2_keep_v52_14 : after (while1Ops0_2 (F := Ideal)) V (Proc.devRef .tc main_v52_14) = V (Proc.devRef .tc main_v52_14) :=
  after_of_writes_sub while1Ops0_2 V while1Ops0_2_writes (by decide +kernel)

theorem while1Ops0_1_keep_v52_14 : after (while1Ops0_1 (F := Ideal)) V (Proc.devRef .tc main_v52_14) = V (Proc.devRef .tc main_v52_14) :=
  after_of_writes_sub while1Ops0_1 V while1Ops0_1_writes (by decide +kernel)

theorem while1Ops0_keep_v52_14 : after (while1Ops0 (F := Ideal)) V (Proc.devRef .tc main_v52_14) = V (Proc.devRef .tc main_v52_14) :=
  after_of_writes_sub while1Ops0 V while1Ops0_writes (by decide +kernel)

theorem cond1_keep_v52_14 : after (cond1 (F := Ideal)) V (Proc.devRef .tc main_v52_14) = V (Proc.devRef .tc main_v52_14) :=
  after_of_writes_sub cond1 V cond1_writes (by decide +kernel)

theorem trip1_v52_9 : afterL (body1 (F := Ideal)) (after (cond1 (F := Ideal)) V) (Proc.devRef .tc main_v52_9) =
    accRe (V (Proc.devRef .tc main_v52_9)) (plus (V (Proc.devRef .tc main_v52_11)) (slc (V (Proc.devRef .tc main_v52_0)) (back (V (Proc.devRef .tc main_v52_8))))) (plus (V (Proc.devRef .tc main_v52_12)) (slc (V (Proc.devRef .tc main_v52_1)) (back (V (Proc.devRef .tc main_v52_8))))) (slc (V (Proc.devRef .tc main_v52_2)) (back (V (Proc.devRef .tc main_v52_8)))) (slc (V (Proc.devRef .tc main_v52_3)) (back (V (Proc.devRef .tc main_v52_8)))) := by
  simp only [afterL_cons, afterL_nil]
  rw [while1Ops0_8_read_v52_9, while1Ops0_7_keep_while1b_v102, while1Ops0_6_keep_while1b_v102, while1Ops0_5_read_while1b_v102, while1Ops0_4_keep_v52_9, while1Ops0_4_keep_v52_11, while1Ops0_4_keep_while1b_v66, while1Ops0_4_keep_v52_12, while1Ops0_4_keep_while1b_v67, while1Ops0_4_keep_while1b_v68, while1Ops0_4_read_while1b_v69, while1Ops0_3_keep_v52_9, while1Ops0_3_keep_v52_11, while1Ops0_3_keep_while1b_v66, while1Ops0_3_keep_v52_12, while1Ops0_3_keep_while1b_v67, while1Ops0_3_read_while1b_v68, while1Ops0_3_keep_v52_3, while1Ops0_3_keep_while1b_v65, while1Ops0_2_keep_v52_9, while1Ops0_2_keep_v52_11, while1Ops0_2_keep_while1b_v66, while1Ops0_2_keep_v52_12, while1Ops0_2_read_while1b_v67, while1Ops0_2_keep_v52_2, while1Ops0_2_keep_while1b_v65, while1Ops0_2_keep_v52_3, while1Ops0_1_keep_v52_9, while1Ops0_1_keep_v52_11, while1Ops0_1_read_while1b_v66, while1Ops0_1_keep_v52_12, while1Ops0_1_keep_v52_1, while1Ops0_1_keep_while1b_v65, while1Ops0_1_keep_v52_2, while1Ops0_1_keep_v52_3, while1Ops0_keep_v52_9, while1Ops0_keep_v52_11, while1Ops0_keep_v52_0, while1Ops0_read_while1b_v65, while1Ops0_keep_v52_12, while1Ops0_keep_v52_1, while1Ops0_keep_v52_2, while1Ops0_keep_v52_3, cond1_keep_v52_9, cond1_keep_v52_11, cond1_keep_v52_0, cond1_keep_v52_8, cond1_keep_v52_12, cond1_keep_v52_1, cond1_keep_v52_2, cond1_keep_v52_3]

theorem trip1_v52_10 : afterL (body1 (F := Ideal)) (after (cond1 (F := Ideal)) V) (Proc.devRef .tc main_v52_10) =
    accIm (V (Proc.devRef .tc main_v52_10)) (plus (V (Proc.devRef .tc main_v52_11)) (slc (V (Proc.devRef .tc main_v52_0)) (back (V (Proc.devRef .tc main_v52_8))))) (plus (V (Proc.devRef .tc main_v52_12)) (slc (V (Proc.devRef .tc main_v52_1)) (back (V (Proc.devRef .tc main_v52_8))))) (slc (V (Proc.devRef .tc main_v52_2)) (back (V (Proc.devRef .tc main_v52_8)))) (slc (V (Proc.devRef .tc main_v52_3)) (back (V (Proc.devRef .tc main_v52_8)))) := by
  simp only [afterL_cons, afterL_nil]
  rw [while1Ops0_8_read_v52_10, while1Ops0_7_keep_while1b_v94, while1Ops0_6_keep_while1b_v94, while1Ops0_5_read_while1b_v94, while1Ops0_4_keep_v52_10, while1Ops0_4_keep_v52_11, while1Ops0_4_keep_while1b_v66, while1Ops0_4_keep_v52_12, while1Ops0_4_keep_while1b_v67, while1Ops0_4_keep_while1b_v68, while1Ops0_4_read_while1b_v69, while1Ops0_3_keep_v52_10, while1Ops0_3_keep_v52_11, while1Ops0_3_keep_while1b_v66, while1Ops0_3_keep_v52_12, while1Ops0_3_keep_while1b_v67, while1Ops0_3_read_while1b_v68, while1Ops0_3_keep_v52_3, while1Ops0_3_keep_while1b_v65, while1Ops0_2_keep_v52_10, while1Ops0_2_keep_v52_11, while1Ops0_2_keep_while1b_v66, while1Ops0_2_keep_v52_12, while1Ops0_2_read_while1b_v67, while1Ops0_2_keep_v52_2, while1Ops0_2_keep_while1b_v65, while1Ops0_2_keep_v52_3, while1Ops0_1_keep_v52_10, while1Ops0_1_keep_v52_11, while1Ops0_1_read_while1b_v66, while1Ops0_1_keep_v52_12, while1Ops0_1_keep_v52_1, while1Ops0_1_keep_while1b_v65, while1Ops0_1_keep_v52_2, while1Ops0_1_keep_v52_3, while1Ops0_keep_v52_10, while1Ops0_keep_v52_11, while1Ops0_keep_v52_0, while1Ops0_read_while1b_v65, while1Ops0_keep_v52_12, while1Ops0_keep_v52_1, while1Ops0_keep_v52_2, while1Ops0_keep_v52_3, cond1_keep_v52_10, cond1_keep_v52_11, cond1_keep_v52_0, cond1_keep_v52_8, cond1_keep_v52_12, cond1_keep_v52_1, cond1_keep_v52_2, cond1_keep_v52_3]

theorem trip1_v52_11 : afterL (body1 (F := Ideal)) (after (cond1 (F := Ideal)) V) (Proc.devRef .tc main_v52_11) =
    carRe (V (Proc.devRef .tc main_v52_4)) (V (Proc.devRef .tc main_v52_7)) (plus (V (Proc.devRef .tc main_v52_11)) (slc (V (Proc.devRef .tc main_v52_0)) (back (V (Proc.devRef .tc main_v52_8))))) (plus (V (Proc.devRef .tc main_v52_12)) (slc (V (Proc.devRef .tc main_v52_1)) (back (V (Proc.devRef .tc main_v52_8))))) := by
  simp only [afterL_cons, afterL_nil]
  rw [while1Ops0_8_read_v52_11, while1Ops0_7_keep_while1b_v97, while1Ops0_6_keep_while1b_v97, while1Ops0_5_read_while1b_v97, while1Ops0_4_keep_v52_4, while1Ops0_4_keep_v52_7, while1Ops0_4_keep_v52_11, while1Ops0_4_keep_while1b_v66, while1Ops0_4_keep_v52_12, while1Ops0_4_keep_while1b_v67, while1Ops0_3_keep_v52_4, while1Ops0_3_keep_v52_7, while1Ops0_3_keep_v52_11, while1Ops0_3_keep_while1b_v66, while1Ops0_3_keep_v52_12, while1Ops0_3_keep_while1b_v67, while1Ops0_2_keep_v52_4, while1Ops0_2_keep_v52_7, while1Ops0_2_keep_v52_11, while1Ops0_2_keep_while1b_v66, while1Ops0_2_keep_v52_12, while1Ops0_2_read_while1b_v67, while1Ops0_1_keep_v52_4, while1Ops0_1_keep_v52_7, while1Ops0_1_keep_v52_11, while1Ops0_1_read_while1b_v66, while1Ops0_1_keep_v52_12, while1Ops0_1_keep_v52_1, while1Ops0_1_keep_while1b_v65, while1Ops0_keep_v52_4, while1Ops0_keep_v52_7, while1Ops0_keep_v52_11, while1Ops0_keep_v52_0, while1Ops0_read_while1b_v65, while1Ops0_keep_v52_12, while1Ops0_keep_v52_1, cond1_keep_v52_4, cond1_keep_v52_7, cond1_keep_v52_11, cond1_keep_v52_0, cond1_keep_v52_8, cond1_keep_v52_12, cond1_keep_v52_1]

theorem trip1_v52_12 : afterL (body1 (F := Ideal)) (after (cond1 (F := Ideal)) V) (Proc.devRef .tc main_v52_12) =
    carIm (V (Proc.devRef .tc main_v52_6)) (V (Proc.devRef .tc main_v52_5)) (plus (V (Proc.devRef .tc main_v52_11)) (slc (V (Proc.devRef .tc main_v52_0)) (back (V (Proc.devRef .tc main_v52_8))))) (plus (V (Proc.devRef .tc main_v52_12)) (slc (V (Proc.devRef .tc main_v52_1)) (back (V (Proc.devRef .tc main_v52_8))))) := by
  simp only [afterL_cons, afterL_nil]
  rw [while1Ops0_8_read_v52_12, while1Ops0_7_keep_while1b_v89, while1Ops0_6_keep_while1b_v89, while1Ops0_5_read_while1b_v89, while1Ops0_4_keep_v52_6, while1Ops0_4_keep_v52_5, while1Ops0_4_keep_v52_11, while1Ops0_4_keep_while1b_v66, while1Ops0_4_keep_v52_12, while1Ops0_4_keep_while1b_v67, while1Ops0_3_keep_v52_6, while1Ops0_3_keep_v52_5, while1Ops0_3_keep_v52_11, while1Ops0_3_keep_while1b_v66, while1Ops0_3_keep_v52_12, while1Ops0_3_keep_while1b_v67, while1Ops0_2_keep_v52_6, while1Ops0_2_keep_v52_5, while1Ops0_2_keep_v52_11, while1Ops0_2_keep_while1b_v66, while1Ops0_2_keep_v52_12, while1Ops0_2_read_while1b_v67, while1Ops0_1_keep_v52_6, while1Ops0_1_keep_v52_5, while1Ops0_1_keep_v52_11, while1Ops0_1_read_while1b_v66, while1Ops0_1_keep_v52_12, while1Ops0_1_keep_v52_1, while1Ops0_1_keep_while1b_v65, while1Ops0_keep_v52_6, while1Ops0_keep_v52_5, while1Ops0_keep_v52_11, while1Ops0_keep_v52_0, while1Ops0_read_while1b_v65, while1Ops0_keep_v52_12, while1Ops0_keep_v52_1, cond1_keep_v52_6, cond1_keep_v52_5, cond1_keep_v52_11, cond1_keep_v52_0, cond1_keep_v52_8, cond1_keep_v52_12, cond1_keep_v52_1]

theorem trip1_v52_13 : afterL (body1 (F := Ideal)) (after (cond1 (F := Ideal)) V) (Proc.devRef .tc main_v52_13) =
    upd (V (Proc.devRef .tc main_v52_13)) (plus (V (Proc.devRef .tc main_v52_11)) (slc (V (Proc.devRef .tc main_v52_0)) (back (V (Proc.devRef .tc main_v52_8))))) (back (V (Proc.devRef .tc main_v52_8))) := by
  simp only [afterL_cons, afterL_nil]
  rw [while1Ops0_8_read_v52_13, while1Ops0_7_keep_while1b_v103, while1Ops0_6_read_while1b_v103, while1Ops0_5_keep_v52_13, while1Ops0_5_read_while1b_v70, while1Ops0_5_keep_while1b_v65, while1Ops0_4_keep_v52_13, while1Ops0_4_keep_v52_11, while1Ops0_4_keep_while1b_v66, while1Ops0_4_keep_while1b_v65, while1Ops0_3_keep_v52_13, while1Ops0_3_keep_v52_11, while1Ops0_3_keep_while1b_v66, while1Ops0_3_keep_while1b_v65, while1Ops0_2_keep_v52_13, while1Ops0_2_keep_v52_11, while1Ops0_2_keep_while1b_v66, while1Ops0_2_keep_while1b_v65, while1Ops0_1_keep_v52_13, while1Ops0_1_keep_v52_11, while1Ops0_1_read_while1b_v66, while1Ops0_1_keep_while1b_v65, while1Ops0_keep_v52_13, while1Ops0_keep_v52_11, while1Ops0_keep_v52_0, while1Ops0_read_while1b_v65, cond1_keep_v52_13, cond1_keep_v52_11, cond1_keep_v52_0, cond1_keep_v52_8]

theorem trip1_v52_14 : afterL (body1 (F := Ideal)) (after (cond1 (F := Ideal)) V) (Proc.devRef .tc main_v52_14) =
    upd (V (Proc.devRef .tc main_v52_14)) (plus (V (Proc.devRef .tc main_v52_12)) (slc (V (Proc.devRef .tc main_v52_1)) (back (V (Proc.devRef .tc main_v52_8))))) (back (V (Proc.devRef .tc main_v52_8))) := by
  simp only [afterL_cons, afterL_nil]
  rw [while1Ops0_8_read_v52_14, while1Ops0_7_read_while1b_v104, while1Ops0_6_keep_v52_14, while1Ops0_6_keep_while1b_v71, while1Ops0_6_keep_while1b_v65, while1Ops0_5_keep_v52_14, while1Ops0_5_read_while1b_v71, while1Ops0_5_keep_while1b_v65, while1Ops0_4_keep_v52_14, while1Ops0_4_keep_v52_12, while1Ops0_4_keep_while1b_v67, while1Ops0_4_keep_while1b_v65, while1Ops0_3_keep_v52_14, while1Ops0_3_keep_v52_12, while1Ops0_3_keep_while1b_v67, while1Ops0_3_keep_while1b_v65, while1Ops0_2_keep_v52_14, while1Ops0_2_keep_v52_12, while1Ops0_2_read_while1b_v67, while1Ops0_2_keep_while1b_v65, while1Ops0_1_keep_v52_14, while1Ops0_1_keep_v52_12, while1Ops0_1_keep_v52_1, while1Ops0_1_keep_while1b_v65, while1Ops0_keep_v52_14, while1Ops0_keep_v52_12, while1Ops0_keep_v52_1, while1Ops0_read_while1b_v65, cond1_keep_v52_14, cond1_keep_v52_12, cond1_keep_v52_1, cond1_keep_v52_8]

end Reads

end Cert.ReferenceIdeal.Scan
end
-- ==== Proof.RefElems.lean ====
/- The reference's functions, read at an element. -/
module

public import proofs.«01_k».proof.Proof.RefSteps
public import proofs.«01_k».proof.Proof.Model
public import Idealize.ShloMosaic.Lib.Pointwise

@[expose] public section

set_option maxRecDepth 16384

noncomputable section

namespace Cert.ReferenceIdeal.Scan

open Cert.ReferenceIdeal Cert.ReferenceIdeal.Gen
open Idealize.ShloMosaic Idealize.ShloMosaic.TcCoe
open Idealize.SL.Sem
open Model (ch cg cp)

variable (b : Fin 2) (t : Fin 2048) (g p : Fin 64) (h : Fin 16) (c : Fin 1024)

theorem ch_eq (g : Fin 64) (h : Fin 16) : (⟨g.val * 16 + h.val, by omega⟩ : Fin 1024) = ch g h :=
  Fin.ext (by show g.val * 16 + h.val = 16 * g.val + h.val; omega)

theorem seqB_at (u : FVec Ideal S2x2048x1024 .f32) (w : FVec Ideal S64x64x16 .f32) :
    seqB u w (ix4 t b g p) = ∑ h : Fin 16, (show EReal from u (ix3 b t (ch g h))) * w (ix3 g p h) := by
  pointwise [seqB]
  exact Finset.sum_congr rfl fun x _ => congrArg (fun q => (show EReal from u (ix3 b t q)) * w (ix3 g p x)) (ch_eq g x)
theorem grp_at (u : FVec Ideal S2x2048x1024 .f32) : grp u (ix4 b t g h) = u (ix3 b t (ch g h)) := by
  pointwise [grp]
  exact congrArg (fun q => u (ix3 b t q)) (ch_eq g h)
theorem grpY_at (u : FVec Ideal S2x2048x1024 .f32) : grpY u (ix4 b t g h) = u (ix3 b t (ch g h)) := by
  pointwise [grpY]
  exact congrArg (fun q => u (ix3 b t q)) (ch_eq g h)
theorem lam3_at (a : FVec Ideal S64x64 .f32) : lam3 a (ix3 0 g p) = a (ix2 g p) := by
  pointwise [lam3]
theorem wide_at (a : FVec Ideal S1x64x64 .f32) : wide a (ix3 b g p) = a (ix3 0 g p) := by
  pointwise [wide]
theorem zero3_at : zero3 (ix3 b g p) = (0 : EReal) := by
  pointwise [zero3]
theorem zero2_at : zero2 (ix2 g p) = (0 : EReal) := by
  pointwise [zero2]
/-! ## Steps of a stack -/

theorem start_zero (q : Fin 4 → ℤ) (a : Fin 4) (h : q a = 0) : Host.clampedStart S2048x2x64x64 S1x2x64x64 rfl q a = 0 := by
  refine Host.clampedStart_of_le (s := S2048x2x64x64) (t := S1x2x64x64) rfl q a 0 h ?_
  clear h; revert a; decide

theorem start_step (q : Fin 4 → ℤ) (n : ℕ) (hn : n < 2048) (h : q 0 = n) : Host.clampedStart S2048x2x64x64 S1x2x64x64 rfl q 0 = n :=
  Host.clampedStart_of_le (s := S2048x2x64x64) (t := S1x2x64x64) rfl q 0 n h (by show n + 1 ≤ 2048; omega)

theorem slc_at (x : FVec Ideal S2048x2x64x64 .f32) (k : IVec S_ 32) (hk : (k (Shape.Idx.first h_S_)).toInt = t.val) :
    slc x k (ix3 b g p) = x (ix4 t b g p) := by
  have e0 := start_step (place k) t.val t.isLt hk
  have e1 := start_zero (place k) 1 rfl
  have e2 := start_zero (place k) 2 rfl
  have e3 := start_zero (place k) 3 rfl
  unfold slc
  pointwise [slcAt]
  simp only [e0, e1, e2, e3, Nat.zero_add]

theorem upd_at (x : FVec Ideal S2048x2x64x64 .f32) (a : FVec Ideal S2x64x64 .f32) (k : IVec S_ 32) (n : ℕ) (hn : n < 2048)
    (hk : (k (Shape.Idx.first h_S_)).toInt = n) :
    upd x a k (ix4 t b g p) = if t.val = n then a (ix3 b g p) else x (ix4 t b g p) := by
  have e0 := start_step (place k) n hn hk
  have e1 := start_zero (place k) 1 rfl
  have e2 := start_zero (place k) 2 rfl
  have e3 := start_zero (place k) 3 rfl
  unfold upd
  pointwise [updAt]
  simp only [e0, e1, e2, e3, Nat.zero_add, Nat.sub_zero]
  by_cases h : t.val = n
  · rw [if_pos h, dif_pos (by omega)]
  · rw [if_neg h, dif_neg fun q => h (by omega)]

theorem iv_toNat (k : ℕ) (hk : k < 2048) : (Scf.iv 0#32 1#32 k).toNat = k := by
  simp only [Scf.iv, BitVec.mul_one, BitVec.zero_add, BitVec.toNat_ofNat]
  omega

theorem iv_toInt (k : ℕ) (hk : k < 2048) : (Scf.iv 0#32 1#32 k).toInt = k := by
  rw [BitVec.toInt_eq_toNat_of_lt (by rw [iv_toNat k hk]; omega), iv_toNat k hk]

theorem back_toInt (k : ℕ) (hk : k < 2048) (i : S_.Idx) : (back (fun _ => Scf.iv 0#32 1#32 k) i).toInt = ((2047 - k : ℕ) : ℤ) := by
  show (2048#32 - Scf.iv 0#32 1#32 k - 1#32).toInt = _
  have e : (2048#32 - Scf.iv 0#32 1#32 k - 1#32).toNat = 2047 - k := by
    rw [BitVec.toNat_sub, BitVec.toNat_sub, iv_toNat k hk]
    show (2 ^ 32 - 1 + (2 ^ 32 - k + 2048) % 2 ^ 32) % 2 ^ 32 = 2047 - k
    omega
  rw [BitVec.toInt_eq_toNat_of_lt (by rw [e]; omega), e]

/-! ## Sums -/

theorem sumB_at (a : FVec Ideal S2x64x64 .f32) : sumB a (ix2 g p) = ∑ b : Fin 2, (show EReal from a (ix3 b g p)) := by
  pointwise [sumB]
  exact Fin.sum_univ_one _
theorem trY_at (y : FVec Ideal S2x2048x64x16 .f32) : trY y (ix4 g t b h) = y (ix4 b t g h) := by
  pointwise [trY]
theorem seqC_at (y : FVec Ideal S64x2048x2x16 .f32) (c : FVec Ideal S64x16x64 .f32) :
    seqC y c (ix4 t b g p) = ∑ h : Fin 16, (show EReal from y (ix4 g t b h)) * c (ix3 g h p) := by
  pointwise [seqC]
theorem gradC_at (y : FVec Ideal S64x2048x2x16 .f32) (s : FVec Ideal S2048x2x64x64 .f32) :
    gradC y s (ix3 g h p) = ∑ b : Fin 2, ∑ t : Fin 2048, (show EReal from y (ix4 g t b h)) * s (ix4 t b g p) := by
  pointwise [gradC]
  exact Finset.sum_comm
theorem skipU_at (d : FVec Ideal S1x1024 .f32) (y : FVec Ideal S2x2048x1024 .f32) : skipU d y (ix3 b t c) = (show EReal from d (ix2 0 c)) * y (ix3 b t c) := by
  pointwise [skipU]
theorem sum_first {B T : ℕ} (hr : (⟨3, ![B, T, 1024]⟩ : Shape).ReducesTo [0, 1] S1024) (a : (⟨3, ![B, T, 1024]⟩ : Shape).Idx → EReal)
    (hd : ∀ i c, hr.drop i = ix1 c ↔ i 2 = c) (c : Fin 1024) :
    Ideal.hostReduceAdd hr a 0 (ix1 c) = ∑ b : Fin B, ∑ t : Fin T, a (ix3 b t c) := by
  unfold Ideal.hostReduceAdd
  rw [zero_add, ← Fintype.sum_prod_type']
  symm
  refine Finset.sum_nbij' (fun q => ix3 q.1 q.2 c) (fun i => (i 0, i 1)) ?_ ?_ ?_ ?_ ?_
  · intro q _
    exact Finset.mem_filter.2 ⟨Finset.mem_univ _, (hd _ _).2 rfl⟩
  · intro i _; exact Finset.mem_univ _
  · intro q _; rfl
  · intro i hi
    have h := (hd _ _).1 (Finset.mem_filter.1 hi).2
    funext x; fin_cases x
    · rfl
    · rfl
    · exact h.symm
  · intro q _; rfl

theorem drop_eq {B T : ℕ} (hr : (⟨3, ![B, T, 1024]⟩ : Shape).ReducesTo [0, 1] S1024) (i : (⟨3, ![B, T, 1024]⟩ : Shape).Idx) (c : Fin 1024)
    (e : (hr.drop i 0).val = (i 2).val) : hr.drop i = ix1 c ↔ i 2 = c := by
  constructor
  · intro h; exact Fin.ext (e.symm.trans (congrArg Fin.val (congrFun h 0)))
  · intro h; funext x; fin_cases x; exact Fin.ext (e.trans (congrArg Fin.val h))

theorem skipD_at (y u : FVec Ideal S2x2048x1024 .f32) : skipD y u (ix2 0 c) = ∑ b : Fin 2, ∑ t : Fin 2048, (show EReal from y (ix3 b t c)) * u (ix3 b t c) := by
  pointwise [skipD]
  rw [sum_first _ _ (fun i c => drop_eq _ i c rfl)]
  refine (Fin.sum_univ_one _).trans ((Fin.sum_univ_one _).trans ?_)
  pointwise
  exact sum_first _ _ (fun i c => drop_eq _ i c rfl) c
theorem gradB_at (a : FVec Ideal S2048x2x64x64 .f32) (u : FVec Ideal S2x2048x64x16 .f32) :
    gradB a u (ix3 g p h) = ∑ b : Fin 2, ∑ t : Fin 2048, (show EReal from a (ix4 t b g p)) * u (ix4 b t g h) := by
  pointwise [gradB, trA]
theorem backU_at (a : FVec Ideal S2048x2x64x64 .f32) (w : FVec Ideal S64x64x16 .f32) :
    backU a w (ix4 b t g h) = ∑ p : Fin 64, (show EReal from a (ix4 t b g p)) * w (ix3 g p h) := by
  pointwise [backU, trA]
theorem gradU_at (s : FVec Ideal S2x2048x1024 .f32) (ar ai : FVec Ideal S2048x2x64x64 .f32) (br bi : FVec Ideal S64x64x16 .f32) :
    gradU s ar ai br bi (ix3 b t c) = (show EReal from s (ix3 b t c)) + (backU ai bi (ix4 b t (cg c) (cp c)) + backU ar br (ix4 b t (cg c) (cp c))) := by
  pointwise [gradU]
  rfl

end Cert.ReferenceIdeal.Scan
end
-- ==== Proof.RefLoops.lean ====
/- The two loops of the reference, trip by trip: the state and its adjoint. -/
module

public import proofs.«01_k».proof.Proof.RefElems

@[expose] public section

set_option maxRecDepth 16384

noncomputable section

namespace Cert.ReferenceIdeal.Scan

open Cert.ReferenceIdeal Cert.ReferenceIdeal.Gen
open Idealize.ShloMosaic Idealize.ShloMosaic.TcCoe
open Idealize.SL.Sem
open Model (ch cg cp)
open _root_.Scan

variable (v : Model.Vals)

/-! ## One step at an element -/

theorem newRe_at (l1 l2 : FVec Ideal S1x64x64 .f32) (hr hi x : FVec Ideal S2x64x64 .f32) (b : Fin 2) (g p : Fin 64) :
    newRe l1 l2 hr hi x (ix3 b g p) = (show EReal from l1 (ix3 0 g p)) * hr (ix3 b g p) - (show EReal from l2 (ix3 0 g p)) * hi (ix3 b g p) + x (ix3 b g p) := by
  pointwise [newRe, wide]
theorem newIm_at (l1 l2 : FVec Ideal S1x64x64 .f32) (hr hi x : FVec Ideal S2x64x64 .f32) (b : Fin 2) (g p : Fin 64) :
    newIm l1 l2 hr hi x (ix3 b g p) = (show EReal from l1 (ix3 0 g p)) * hi (ix3 b g p) + (show EReal from l2 (ix3 0 g p)) * hr (ix3 b g p) + x (ix3 b g p) := by
  pointwise [newIm, wide]
theorem plus_at (x y : FVec Ideal S2x64x64 .f32) (b : Fin 2) (g p : Fin 64) :
    plus x y (ix3 b g p) = (show EReal from x (ix3 b g p)) + y (ix3 b g p) := by
  pointwise [plus]
theorem carRe_at (l1 l2 : FVec Ideal S1x64x64 .f32) (ar ai : FVec Ideal S2x64x64 .f32) (b : Fin 2) (g p : Fin 64) :
    carRe l1 l2 ar ai (ix3 b g p) = (show EReal from l2 (ix3 0 g p)) * ai (ix3 b g p) + (show EReal from l1 (ix3 0 g p)) * ar (ix3 b g p) := by
  pointwise [carRe, wide]
theorem carIm_at (l1 l2 : FVec Ideal S1x64x64 .f32) (ar ai : FVec Ideal S2x64x64 .f32) (b : Fin 2) (g p : Fin 64) :
    carIm l1 l2 ar ai (ix3 b g p) = (show EReal from l1 (ix3 0 g p)) * ai (ix3 b g p) + (show EReal from l2 (ix3 0 g p)) * -(show EReal from ar (ix3 b g p)) := by
  pointwise [carIm, wide]
theorem accRe_at (a : FVec Ideal S64x64 .f32) (ar ai hr hi : FVec Ideal S2x64x64 .f32) (g p : Fin 64) :
    accRe a ar ai hr hi (ix2 g p) = (show EReal from a (ix2 g p)) + (∑ b : Fin 2, (show EReal from ai (ix3 b g p)) * hi (ix3 b g p))
      + (∑ b : Fin 2, (show EReal from ar (ix3 b g p)) * hr (ix3 b g p)) :=
  congrArg₂ (· + ·) (congrArg₂ (· + ·) rfl (sumB_at g p _)) (sumB_at g p _)
theorem accIm_at (a : FVec Ideal S64x64 .f32) (ar ai hr hi : FVec Ideal S2x64x64 .f32) (g p : Fin 64) :
    accIm a ar ai hr hi (ix2 g p) = (show EReal from a (ix2 g p)) + (∑ b : Fin 2, (show EReal from ai (ix3 b g p)) * hr (ix3 b g p))
      + (∑ b : Fin 2, (-(show EReal from ar (ix3 b g p))) * hi (ix3 b g p)) :=
  congrArg₂ (· + ·) (congrArg₂ (· + ·) rfl (sumB_at g p _)) (sumB_at g p _)

/-! ## The state -/

/-- What the forward loop holds before trip k. -/
structure Fwd (hr hi : FVec Ideal S2x64x64 .f32) (s1 s2 s3 s4 : FVec Ideal S2048x2x64x64 .f32) (k : ℕ) : Prop where
  now : ∀ b g p, Cx (hr (ix3 b g p)) (hi (ix3 b g p)) (v.st b g p k)
  after : ∀ (t : Fin 2048) b g p, t.val < k → Cx (s1 (ix4 t b g p)) (s2 (ix4 t b g p)) (v.st b g p (t.val + 1))
  before : ∀ (t : Fin 2048) b g p, t.val < k → Cx (s3 (ix4 t b g p)) (s4 (ix4 t b g p)) (v.st b g p t.val)

theorem Fwd.step {x1 x2 : FVec Ideal S2048x2x64x64 .f32} {l1 l2 : FVec Ideal S1x64x64 .f32} {hr hi : FVec Ideal S2x64x64 .f32}
    {s1 s2 s3 s4 : FVec Ideal S2048x2x64x64 .f32} {k : ℕ} (hk : k < 2048) {q : IVec S_ 32} (hq : (q (Shape.Idx.first h_S_)).toInt = k)
    (hx : ∀ (t : Fin 2048) b g p, Cx (x1 (ix4 t b g p)) (x2 (ix4 t b g p)) (v.x b g p t.val))
    (hl : ∀ g p, Cx (l1 (ix3 0 g p)) (l2 (ix3 0 g p)) (v.lam g p)) (h : Fwd v hr hi s1 s2 s3 s4 k) :
    Fwd v (newRe l1 l2 hr hi (slc x1 q)) (newIm l1 l2 hr hi (slc x2 q)) (upd s1 (newRe l1 l2 hr hi (slc x1 q)) q)
      (upd s2 (newIm l1 l2 hr hi (slc x2 q)) q) (upd s3 hr q) (upd s4 hi q) (k + 1) := by
  have hn : ∀ b g p, Cx (newRe l1 l2 hr hi (slc x1 q) (ix3 b g p)) (newIm l1 l2 hr hi (slc x2 q) (ix3 b g p)) (v.st b g p (k + 1)) := fun b g p => by
    rw [newRe_at, newIm_at, slc_at b ⟨k, hk⟩ g p x1 q hq, slc_at b ⟨k, hk⟩ g p x2 q hq]
    exact ((hl g p).mul (h.now b g p)).add (hx ⟨k, hk⟩ b g p)
  refine ⟨hn, fun t b g p ht => ?_, fun t b g p ht => ?_⟩
  · rw [upd_at b t g p _ _ q k hk hq, upd_at b t g p _ _ q k hk hq]
    by_cases e : t.val = k
    · rw [if_pos e, if_pos e, e]; exact hn b g p
    · rw [if_neg e, if_neg e]; exact h.after t b g p (by omega)
  · rw [upd_at b t g p _ _ q k hk hq, upd_at b t g p _ _ q k hk hq]
    by_cases e : t.val = k
    · rw [if_pos e, if_pos e, e]; exact h.now b g p
    · rw [if_neg e, if_neg e]; exact h.before t b g p (by omega)

/-! ## The adjoint -/

/-- The factor's gradient over the last k steps. -/
def part (g p : Fin 64) (k : ℕ) : ℂ := ∑ j ∈ Finset.range k, ∑ b, starRingEnd ℂ (v.st b g p (2047 - j)) * v.ad b g p (j + 1)

/-- What the backward loop holds before trip k. -/
structure Adj (g1 g2 : FVec Ideal S64x64 .f32) (cr ci : FVec Ideal S2x64x64 .f32) (s1 s2 : FVec Ideal S2048x2x64x64 .f32) (k : ℕ) : Prop where
  sum : ∀ g p, Cx (g1 (ix2 g p)) (g2 (ix2 g p)) (part v g p k)
  now : ∀ b g p, Cx (cr (ix3 b g p)) (ci (ix3 b g p)) (starRingEnd ℂ (v.lam g p) * v.ad b g p k)
  all : ∀ (t : Fin 2048) b g p, 2048 ≤ t.val + k → Cx (s1 (ix4 t b g p)) (s2 (ix4 t b g p)) (v.aj b g p t)

theorem acc_add {e f : EReal} {z : ℂ} (h : Cx e f z) {ar ai hr hi : Fin 2 → EReal} {a s : Fin 2 → ℂ}
    (ha : ∀ b, Cx (ar b) (ai b) (a b)) (hs : ∀ b, Cx (hr b) (hi b) (s b)) :
    Cx (e + (∑ b, ai b * hi b) + ∑ b, ar b * hr b) (f + (∑ b, ai b * hr b) + ∑ b, (-ar b) * hi b) (z + ∑ b, starRingEnd ℂ (s b) * a b) := by
  obtain ⟨rfl, rfl⟩ := h
  simp only [Fin.sum_univ_two, (ha _).1, (ha _).2, (hs _).1, (hs _).2]
  simp only [← EReal.coe_neg, ← EReal.coe_mul, ← EReal.coe_add]
  refine ⟨congrArg Real.toEReal ?_, congrArg Real.toEReal ?_⟩
  · simp only [Complex.add_re, Complex.mul_re, Complex.conj_re, Complex.conj_im]; ring
  · simp only [Complex.add_im, Complex.mul_im, Complex.conj_re, Complex.conj_im]; ring

theorem Adj.step {w1 w2 x3 x4 : FVec Ideal S2048x2x64x64 .f32} {l1 l2 : FVec Ideal S1x64x64 .f32} {g1 g2 : FVec Ideal S64x64 .f32}
    {cr ci : FVec Ideal S2x64x64 .f32} {s1 s2 : FVec Ideal S2048x2x64x64 .f32} {k : ℕ} (hk : k < 2048) {q : IVec S_ 32}
    (hq : (q (Shape.Idx.first h_S_)).toInt = ((2047 - k : ℕ) : ℤ))
    (hw : ∀ (t : Fin 2048) b g p, Cx (w1 (ix4 t b g p)) (w2 (ix4 t b g p)) (v.w b g p t.val))
    (hx : ∀ (t : Fin 2048) b g p, Cx (x3 (ix4 t b g p)) (x4 (ix4 t b g p)) (v.st b g p t.val))
    (hl : ∀ g p, Cx (l1 (ix3 0 g p)) (l2 (ix3 0 g p)) (v.lam g p)) (h : Adj v g1 g2 cr ci s1 s2 k) :
    Adj v (accRe g1 (plus cr (slc w1 q)) (plus ci (slc w2 q)) (slc x3 q) (slc x4 q))
      (accIm g2 (plus cr (slc w1 q)) (plus ci (slc w2 q)) (slc x3 q) (slc x4 q))
      (carRe l1 l2 (plus cr (slc w1 q)) (plus ci (slc w2 q))) (carIm l1 l2 (plus cr (slc w1 q)) (plus ci (slc w2 q)))
      (upd s1 (plus cr (slc w1 q)) q) (upd s2 (plus ci (slc w2 q)) q) (k + 1) := by
  have hn : ∀ b g p, Cx (plus cr (slc w1 q) (ix3 b g p)) (plus ci (slc w2 q) (ix3 b g p)) (v.ad b g p (k + 1)) := fun b g p => by
    rw [plus_at, plus_at, slc_at b ⟨2047 - k, by omega⟩ g p w1 q hq, slc_at b ⟨2047 - k, by omega⟩ g p w2 q hq]
    exact (h.now b g p).add (hw ⟨2047 - k, by omega⟩ b g p)
  have hs : ∀ b g p, Cx (slc x3 q (ix3 b g p)) (slc x4 q (ix3 b g p)) (v.st b g p (2047 - k)) := fun b g p => by
    rw [slc_at b ⟨2047 - k, by omega⟩ g p x3 q hq, slc_at b ⟨2047 - k, by omega⟩ g p x4 q hq]
    exact hx ⟨2047 - k, by omega⟩ b g p
  refine ⟨fun g p => ?_, fun b g p => ?_, fun t b g p ht => ?_⟩
  · rw [accRe_at, accIm_at, part, Finset.sum_range_succ]
    exact acc_add (h.sum g p) (fun b => hn b g p) (fun b => hs b g p)
  · rw [carRe_at, carIm_at, mul_neg, ← sub_eq_add_neg, add_comm]
    exact (hl g p).conj_mul (hn b g p)
  · rw [upd_at b t g p _ _ q (2047 - k) (by omega) hq, upd_at b t g p _ _ q (2047 - k) (by omega) hq]
    by_cases e : t.val = 2047 - k
    · rw [if_pos e, if_pos e]
      have e' : 2048 - t.val = k + 1 := by omega
      rw [Model.Vals.aj, e']; exact hn b g p
    · rw [if_neg e, if_neg e]; exact h.all t b g p (by omega)

theorem part_all (g p : Fin 64) : part v g p 2048 = v.dlam g p := by
  unfold part Model.Vals.dlam
  rw [Finset.sum_comm]
  refine Finset.sum_congr rfl fun b _ => ?_
  rw [← Finset.sum_range_reflect, ← Fin.sum_univ_eq_sum_range (fun j => starRingEnd ℂ (v.st b g p (2047 - (2048 - 1 - j))) * v.ad b g p (2048 - 1 - j + 1))]
  refine Finset.sum_congr rfl fun t _ => ?_
  have ht := t.isLt
  have e1 : 2047 - (2048 - 1 - t.val) = t.val := by omega
  have e2 : 2048 - 1 - t.val + 1 = 2048 - t.val := by omega
  rw [e1, e2]; rfl

end Cert.ReferenceIdeal.Scan
end
-- ==== Proof.RefValues.lean ====
/- The reference's results, from the numbers its arguments hold. -/
module

public import proofs.«01_k».proof.Proof.RefLoops
public import proofs.«01_k».proof.Proof.Results

@[expose] public section

set_option maxRecDepth 16384

noncomputable section

namespace Cert.ReferenceIdeal.Scan

open Cert.ReferenceIdeal Cert.ReferenceIdeal.Gen
open Idealize.ShloMosaic Idealize.ShloMosaic.TcCoe
open Idealize.SL.Sem
open Idealize.ShloMosaic.StableHlo
open Model (ch cg cp)
open _root_.Scan

variable {v : Model.Vals}
variable {a0 a1 : FVec Ideal S2x2048x1024 .f32} {a2 a3 : FVec Ideal S64x64 .f32} {a4 a5 : FVec Ideal S64x64x16 .f32}
  {a6 a7 : FVec Ideal S64x16x64 .f32} {a8 : FVec Ideal S1x1024 .f32}

/-! ## What goes into the loops -/

theorem ofNat_val (t : Fin 2048) : Fin.ofNat 2048 t.val = t := Fin.ext (Nat.mod_eq_of_lt t.isLt)

theorem lam_of (h : v.Of a0 a1 a2 a3 a4 a5 a6 a7 a8) (g p : Fin 64) : Cx (lam3 a2 (ix3 0 g p)) (lam3 a3 (ix3 0 g p)) (v.lam g p) := by
  rw [lam3_at, lam3_at]; exact ⟨h.lr g p, h.li g p⟩

theorem x_of (h : v.Of a0 a1 a2 a3 a4 a5 a6 a7 a8) (t : Fin 2048) (b : Fin 2) (g p : Fin 64) :
    Cx (seqB a0 a4 (ix4 t b g p)) (seqB a0 a5 (ix4 t b g p)) (v.x b g p t.val) := by
  rw [seqB_at, seqB_at]
  unfold Model.Vals.x
  rw [ofNat_val]
  exact ⟨coe_sum_mul _ _ (fun q => h.u b t _) (fun q => h.br g p q), coe_sum_mul _ _ (fun q => h.u b t _) (fun q => h.bi g p q)⟩

theorem trGrp_at (y : FVec Ideal S2x2048x1024 .f32) (g : Fin 64) (t : Fin 2048) (b : Fin 2) (q : Fin 16) :
    trY (grpY y) (ix4 g t b q) = y (ix3 b t (ch g q)) := by
  rw [trY_at, grpY_at]
theorem trNeg_at (y : FVec Ideal S2x2048x1024 .f32) (g : Fin 64) (t : Fin 2048) (b : Fin 2) (q : Fin 16) :
    trY (Host.negf (grpY y)) (ix4 g t b q) = -(show EReal from y (ix3 b t (ch g q))) :=
  (trY_at b t g q _).trans (congrArg Neg.neg (grpY_at b t g q y))

theorem w_of (h : v.Of a0 a1 a2 a3 a4 a5 a6 a7 a8) (t : Fin 2048) (b : Fin 2) (g p : Fin 64) :
    Cx (seqC (trY (grpY a1)) a6 (ix4 t b g p)) (seqC (trY (Host.negf (grpY a1))) a7 (ix4 t b g p)) (v.w b g p t.val) := by
  rw [seqC_at, seqC_at]
  unfold Model.Vals.w
  rw [ofNat_val]
  refine ⟨coe_sum_mul _ _ (fun q => (trGrp_at a1 g t b q).trans (h.dy b t _)) (fun q => h.cr g q p),
    (coe_sum_mul (fun q => -v.dy b t (ch g q)) _ (fun q => (trNeg_at a1 g t b q).trans ?_) (fun q => h.ci g q p)).trans ?_⟩
  · rw [EReal.coe_neg]; exact congrArg Neg.neg (h.dy b t _)
  · simp only [neg_mul, Finset.sum_neg_distrib]

/-! ## What comes out -/

theorem gradC_re (h : v.Of a0 a1 a2 a3 a4 a5 a6 a7 a8) {s1 s2 : FVec Ideal S2048x2x64x64 .f32}
    (hs : ∀ (t : Fin 2048) b g p, Cx (s1 (ix4 t b g p)) (s2 (ix4 t b g p)) (v.st b g p (t.val + 1))) : gradC (trY (grpY a1)) s1 = v.Dcr := by
  funext i; idx_vars i; revert i0 i1 i2; intro g q p
  rw [gradC_at]
  show _ = ((v.dcr g q p : ℝ) : EReal)
  unfold Model.Vals.dcr
  rw [← coe_sum]
  refine Finset.sum_congr rfl fun b _ => (coe_sum_mul _ _ (fun t => (trGrp_at a1 g t b q).trans (h.dy b t _)) (fun t => (hs t b g p).1)).trans ?_
  exact congrArg Real.toEReal (Finset.sum_congr rfl fun t _ => mul_comm _ _)

theorem gradC_im (h : v.Of a0 a1 a2 a3 a4 a5 a6 a7 a8) {s1 s2 : FVec Ideal S2048x2x64x64 .f32}
    (hs : ∀ (t : Fin 2048) b g p, Cx (s1 (ix4 t b g p)) (s2 (ix4 t b g p)) (v.st b g p (t.val + 1))) :
    gradC (trY (Host.negf (grpY a1))) s2 = v.Dci := by
  funext i; idx_vars i; revert i0 i1 i2; intro g q p
  rw [gradC_at]
  show _ = ((v.dci g q p : ℝ) : EReal)
  unfold Model.Vals.dci
  rw [← coe_sum]
  refine Finset.sum_congr rfl fun b _ => (coe_sum_mul (fun t => -v.dy b t (ch g q)) _ (fun t => (trNeg_at a1 g t b q).trans ?_)
    (fun t => (hs t b g p).2)).trans ?_
  · rw [EReal.coe_neg]; exact congrArg Neg.neg (h.dy b t _)
  · refine congrArg Real.toEReal ?_
    rw [← Finset.sum_neg_distrib]
    exact Finset.sum_congr rfl fun t _ => by ring

theorem skipD_of (h : v.Of a0 a1 a2 a3 a4 a5 a6 a7 a8) : skipD a1 a0 = v.Dd := by
  funext i; idx_vars i; revert i0 i1; intro z c
  obtain rfl : z = 0 := Subsingleton.elim _ _
  rw [skipD_at]
  show _ = ((v.dd c : ℝ) : EReal)
  unfold Model.Vals.dd
  rw [← coe_sum]
  exact Finset.sum_congr rfl fun b _ => coe_sum_mul _ _ (fun t => h.dy b t c) (fun t => h.u b t c)

theorem gradB_re (h : v.Of a0 a1 a2 a3 a4 a5 a6 a7 a8) {s1 s2 : FVec Ideal S2048x2x64x64 .f32}
    (hs : ∀ (t : Fin 2048) b g p, Cx (s1 (ix4 t b g p)) (s2 (ix4 t b g p)) (v.aj b g p t)) : gradB s1 (grp a0) = v.Dbr := by
  funext i; idx_vars i; revert i0 i1 i2; intro g p q
  rw [gradB_at]
  show _ = ((v.dbr g p q : ℝ) : EReal)
  unfold Model.Vals.dbr
  rw [← coe_sum]
  refine Finset.sum_congr rfl fun b _ => (coe_sum_mul _ _ (fun t => (hs t b g p).1) (fun t => (grp_at b t g q a0).trans (h.u b t _))).trans ?_
  exact congrArg Real.toEReal (Finset.sum_congr rfl fun t _ => mul_comm _ _)

theorem gradB_im (h : v.Of a0 a1 a2 a3 a4 a5 a6 a7 a8) {s1 s2 : FVec Ideal S2048x2x64x64 .f32}
    (hs : ∀ (t : Fin 2048) b g p, Cx (s1 (ix4 t b g p)) (s2 (ix4 t b g p)) (v.aj b g p t)) : gradB s2 (grp a0) = v.Dbi := by
  funext i; idx_vars i; revert i0 i1 i2; intro g p q
  rw [gradB_at]
  show _ = ((v.dbi g p q : ℝ) : EReal)
  unfold Model.Vals.dbi
  rw [← coe_sum]
  refine Finset.sum_congr rfl fun b _ => (coe_sum_mul _ _ (fun t => (hs t b g p).2) (fun t => (grp_at b t g q a0).trans (h.u b t _))).trans ?_
  exact congrArg Real.toEReal (Finset.sum_congr rfl fun t _ => mul_comm _ _)

theorem gradU_of (h : v.Of a0 a1 a2 a3 a4 a5 a6 a7 a8) {s1 s2 : FVec Ideal S2048x2x64x64 .f32}
    (hs : ∀ (t : Fin 2048) b g p, Cx (s1 (ix4 t b g p)) (s2 (ix4 t b g p)) (v.aj b g p t)) : gradU (skipU a8 a1) s1 s2 a4 a5 = v.Du := by
  funext i; idx_vars i; revert i0 i1 i2; intro b t c
  rw [gradU_at, skipU_at, backU_at, backU_at]
  show _ = ((v.du b t c : ℝ) : EReal)
  have e1 := coe_sum_mul _ _ (fun p => (hs t b (cg c) p).1) (fun p => h.br (cg c) p (cp c))
  have e2 := coe_sum_mul _ _ (fun p => (hs t b (cg c) p).2) (fun p => h.bi (cg c) p (cp c))
  refine (congrArg₂ (· + ·) (congrArg₂ (· * ·) (h.d c) (h.dy b t c)) (congrArg₂ (· + ·) e2 e1)).trans ?_
  show ((v.d c : ℝ) : EReal) * ((v.dy b t c : ℝ) : EReal) + (((_ : ℝ) : EReal) + ((_ : ℝ) : EReal)) = _
  rw [← EReal.coe_mul, ← EReal.coe_add, ← EReal.coe_add]
  refine congrArg Real.toEReal ?_
  unfold Model.Vals.du
  ring

/-! ## The run -/

variable (m : (ℓ : Loc nD τ sig) → Buf (Elt Ideal) ℓ) (c : Dev nD)

/-- The arguments hold the numbers. -/
def Holds (v : Model.Vals) : Prop :=
  v.Of (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8))

theorem keep0 (W : Dev nD → Valuation τ sig (Elt Ideal)) (c : Dev nD) (r : Ref sig .tc) (h0 : r ∉ cond0_W) (h : r ∉ body0_W.flatten) (k : ℕ) :
    atTrip cond0 body0 W k c (Proc.devRef .tc r) = W c (Proc.devRef .tc r) := atTrip_keep cond0_writes body0_writes h0 h W c k
theorem keep1 (W : Dev nD → Valuation τ sig (Elt Ideal)) (c : Dev nD) (r : Ref sig .tc) (h0 : r ∉ cond1_W) (h : r ∉ body1_W.flatten) (k : ℕ) :
    atTrip cond1 body1 W k c (Proc.devRef .tc r) = W c (Proc.devRef .tc r) := atTrip_keep cond1_writes body1_writes h0 h W c k

/-- The forward loop from buffers that hold its inputs. -/
theorem fwd_at (W : Dev nD → Valuation τ sig (Elt Ideal)) (h : v.Of a0 a1 a2 a3 a4 a5 a6 a7 a8)
    (hc : W c (Proc.devRef .tc main_v14_6) = fun _ => (0#32 : BitVec 32))
    (e0 : W c (Proc.devRef .tc main_v14_0) = seqB a0 a4) (e1 : W c (Proc.devRef .tc main_v14_1) = seqB a0 a5)
    (e2 : W c (Proc.devRef .tc main_v14_2) = lam3 a2) (e3 : W c (Proc.devRef .tc main_v14_3) = lam3 a3)
    (e4 : W c (Proc.devRef .tc main_v14_4) = lam3 a2) (e5 : W c (Proc.devRef .tc main_v14_5) = lam3 a3)
    (e7 : W c (Proc.devRef .tc main_v14_7) = zero3) (e8 : W c (Proc.devRef .tc main_v14_8) = zero3) :
    ∀ k, k ≤ 2048 → Fwd v (atTrip cond0 body0 W k c (Proc.devRef .tc main_v14_7)) (atTrip cond0 body0 W k c (Proc.devRef .tc main_v14_8))
      (atTrip cond0 body0 W k c (Proc.devRef .tc main_v14_9)) (atTrip cond0 body0 W k c (Proc.devRef .tc main_v14_10))
      (atTrip cond0 body0 W k c (Proc.devRef .tc main_v14_11)) (atTrip cond0 body0 W k c (Proc.devRef .tc main_v14_12)) k := by
  intro k
  induction k with
  | zero =>
    intro _
    refine ⟨fun b g p => ?_, fun _ _ _ _ hk => absurd hk (Nat.not_lt_zero _), fun _ _ _ _ hk => absurd hk (Nat.not_lt_zero _)⟩
    rw [atTrip_zero, e7, e8, zero3_at]
    exact Cx.zero
  | succ k ih =>
    intro hk
    rw [atTrip_succ, trip0_v14_7, trip0_v14_8, trip0_v14_9, trip0_v14_10, trip0_v14_11, trip0_v14_12, ctr0 W c hc k,
      keep0 W c main_v14_0 (by decide +kernel) (by decide +kernel) k, keep0 W c main_v14_1 (by decide +kernel) (by decide +kernel) k, keep0 W c main_v14_2 (by decide +kernel) (by decide +kernel) k, keep0 W c main_v14_3 (by decide +kernel) (by decide +kernel) k, keep0 W c main_v14_4 (by decide +kernel) (by decide +kernel) k, keep0 W c main_v14_5 (by decide +kernel) (by decide +kernel) k,
      e0, e1, e2, e3, e4, e5]
    exact (ih (by omega)).step v (by omega) (iv_toInt k (by omega)) (x_of h) (lam_of h)

/-- The backward loop likewise. -/
theorem adj_at (W : Dev nD → Valuation τ sig (Elt Ideal)) (h : v.Of a0 a1 a2 a3 a4 a5 a6 a7 a8) {x3 x4 : FVec Ideal S2048x2x64x64 .f32}
    (hx : ∀ (t : Fin 2048) b g p, Cx (x3 (ix4 t b g p)) (x4 (ix4 t b g p)) (v.st b g p t.val))
    (hc : W c (Proc.devRef .tc main_v52_8) = fun _ => (0#32 : BitVec 32))
    (e0 : W c (Proc.devRef .tc main_v52_0) = seqC (trY (grpY a1)) a6) (e1 : W c (Proc.devRef .tc main_v52_1) = seqC (trY (Host.negf (grpY a1))) a7)
    (e2 : W c (Proc.devRef .tc main_v52_2) = x3) (e3 : W c (Proc.devRef .tc main_v52_3) = x4)
    (e4 : W c (Proc.devRef .tc main_v52_4) = lam3 a2) (e5 : W c (Proc.devRef .tc main_v52_5) = lam3 a3)
    (e6 : W c (Proc.devRef .tc main_v52_6) = lam3 a2) (e7 : W c (Proc.devRef .tc main_v52_7) = lam3 a3)
    (e9 : W c (Proc.devRef .tc main_v52_9) = zero2) (e10 : W c (Proc.devRef .tc main_v52_10) = zero2)
    (e11 : W c (Proc.devRef .tc main_v52_11) = zero3) (e12 : W c (Proc.devRef .tc main_v52_12) = zero3) :
    ∀ k, k ≤ 2048 → Adj v (atTrip cond1 body1 W k c (Proc.devRef .tc main_v52_9)) (atTrip cond1 body1 W k c (Proc.devRef .tc main_v52_10))
      (atTrip cond1 body1 W k c (Proc.devRef .tc main_v52_11)) (atTrip cond1 body1 W k c (Proc.devRef .tc main_v52_12))
      (atTrip cond1 body1 W k c (Proc.devRef .tc main_v52_13)) (atTrip cond1 body1 W k c (Proc.devRef .tc main_v52_14)) k := by
  intro k
  induction k with
  | zero =>
    intro _
    refine ⟨fun g p => ?_, fun b g p => ?_, fun t _ _ _ hk => absurd t.isLt (by omega)⟩
    · rw [atTrip_zero, e9, e10, zero2_at]
      exact Cx.zero
    · rw [atTrip_zero, e11, e12, zero3_at]
      exact Cx.zero.of_eq (mul_zero _).symm
  | succ k ih =>
    intro hk
    rw [atTrip_succ, trip1_v52_9, trip1_v52_10, trip1_v52_11, trip1_v52_12, trip1_v52_13, trip1_v52_14, ctr1 W c hc k,
      keep1 W c main_v52_0 (by decide +kernel) (by decide +kernel) k, keep1 W c main_v52_1 (by decide +kernel) (by decide +kernel) k, keep1 W c main_v52_2 (by decide +kernel) (by decide +kernel) k, keep1 W c main_v52_3 (by decide +kernel) (by decide +kernel) k, keep1 W c main_v52_4 (by decide +kernel) (by decide +kernel) k, keep1 W c main_v52_5 (by decide +kernel) (by decide +kernel) k, keep1 W c main_v52_6 (by decide +kernel) (by decide +kernel) k, keep1 W c main_v52_7 (by decide +kernel) (by decide +kernel) k,
      e0, e1, e2, e3, e4, e5, e6, e7]
    exact (ih (by omega)).step v (by omega) (back_toInt k (by omega) _) (w_of h) hx (lam_of h)

/-! ## The results -/

/-- The buffers the middle stretch and the last one begin from. -/
def midV : Valuation τ sig (Elt Ideal) := after cond0 (fwd m 2048 c)
def endV : Valuation τ sig (Elt Ideal) := after cond1 (adj m 2048 c)

theorem midV_keep (r : Ref sig .tc) (h0 : r ∉ cond0_W) (h : r ∉ body0_W.flatten) :
    midV m c (Proc.devRef .tc r) = after hostOps0 (launchContents m c) (Proc.devRef .tc r) := by
  unfold midV
  rw [after_of_writes_sub _ _ cond0_writes h0]
  exact keep0 _ c r h0 h 2048

theorem midV_arg (r : Ref sig .tc) (h0 : r ∉ cond0_W) (h : r ∉ body0_W.flatten) (h1 : r ∉ hostOps0_W) :
    midV m c (Proc.devRef .tc r) = m (c, Proc.devRef .tc r) := by
  rw [midV_keep m c r h0 h, after_of_writes_sub _ _ hostOps0_writes h1]

theorem midV_now (r : Ref sig .tc) (h0 : r ∉ cond0_W) : midV m c (Proc.devRef .tc r) = fwd m 2048 c (Proc.devRef .tc r) := by
  unfold midV
  rw [after_of_writes_sub _ _ cond0_writes h0]

theorem endV_keep (r : Ref sig .tc) (h0 : r ∉ cond1_W) (h : r ∉ body1_W.flatten) :
    endV m c (Proc.devRef .tc r) = after hostOps0_1 (midV m c) (Proc.devRef .tc r) := by
  unfold endV
  rw [after_of_writes_sub _ _ cond1_writes h0]
  exact keep1 _ c r h0 h 2048

theorem endV_keep2 (r : Ref sig .tc) (h0 : r ∉ cond1_W) (h : r ∉ body1_W.flatten) (h1 : r ∉ hostOps0_1_W) :
    endV m c (Proc.devRef .tc r) = midV m c (Proc.devRef .tc r) := by
  rw [endV_keep m c r h0 h, after_of_writes_sub _ _ hostOps0_1_writes h1]

theorem endV_now (r : Ref sig .tc) (h0 : r ∉ cond1_W) : endV m c (Proc.devRef .tc r) = adj m 2048 c (Proc.devRef .tc r) := by
  unfold endV
  rw [after_of_writes_sub _ _ cond1_writes h0]

theorem fin_eq : fin m c = after hostOps0_2 (endV m c) := rfl

theorem fin_end (r : Ref sig .tc) (h : r ∉ hostOps0_2_W) : fin m c (Proc.devRef .tc r) = endV m c (Proc.devRef .tc r) := by
  rw [fin_eq, after_of_writes_sub _ _ hostOps0_2_writes h]

variable {m c}

theorem fwd_end (h : Holds m c v) : Fwd v (fwd m 2048 c (Proc.devRef .tc main_v14_7)) (fwd m 2048 c (Proc.devRef .tc main_v14_8)) (fwd m 2048 c (Proc.devRef .tc main_v14_9))
    (fwd m 2048 c (Proc.devRef .tc main_v14_10)) (fwd m 2048 c (Proc.devRef .tc main_v14_11)) (fwd m 2048 c (Proc.devRef .tc main_v14_12)) 2048 :=
  fwd_at c (TwoLoop.at0 preI m) h (ctr0_entry m c) (hostOps0_read_v14_0 (launchContents m c)) (hostOps0_read_v14_1 (launchContents m c)) (hostOps0_read_v14_2 (launchContents m c)) (hostOps0_read_v14_3 (launchContents m c)) (hostOps0_read_v14_4 (launchContents m c)) (hostOps0_read_v14_5 (launchContents m c)) (hostOps0_read_v14_7 (launchContents m c)) (hostOps0_read_v14_8 (launchContents m c)) 2048 le_rfl

theorem mid_st (h : Holds m c v) (t : Fin 2048) (b : Fin 2) (g p : Fin 64) :
    Cx (midV m c (Proc.devRef .tc main_v14_9) (ix4 t b g p)) (midV m c (Proc.devRef .tc main_v14_10) (ix4 t b g p)) (v.st b g p (t.val + 1)) := by
  rw [midV_now m c main_v14_9 (by decide +kernel), midV_now m c main_v14_10 (by decide +kernel)]
  exact (fwd_end h).after t b g p t.isLt

theorem mid_st0 (h : Holds m c v) (t : Fin 2048) (b : Fin 2) (g p : Fin 64) :
    Cx (midV m c (Proc.devRef .tc main_v14_11) (ix4 t b g p)) (midV m c (Proc.devRef .tc main_v14_12) (ix4 t b g p)) (v.st b g p t.val) := by
  rw [midV_now m c main_v14_11 (by decide +kernel), midV_now m c main_v14_12 (by decide +kernel)]
  exact (fwd_end h).before t b g p t.isLt

theorem adj_end (h : Holds m c v) : Adj v (adj m 2048 c (Proc.devRef .tc main_v52_9)) (adj m 2048 c (Proc.devRef .tc main_v52_10)) (adj m 2048 c (Proc.devRef .tc main_v52_11))
    (adj m 2048 c (Proc.devRef .tc main_v52_12)) (adj m 2048 c (Proc.devRef .tc main_v52_13)) (adj m 2048 c (Proc.devRef .tc main_v52_14)) 2048 := by
  refine adj_at c (TwoLoop.at1 loop0 preI midI m) h (mid_st0 h) ?_ ?_ ?_ ?_ ?_ ?_ ?_ ?_ ?_ ?_ ?_ ?_ ?_ 2048 le_rfl
  · exact ctr1_entry m c
  · refine (hostOps0_1_read_v52_0 (midV m c)).trans ?_
    rw [midV_arg m c main_arg1 (by decide +kernel) (by decide +kernel) (by decide +kernel), midV_arg m c main_arg6 (by decide +kernel) (by decide +kernel) (by decide +kernel)]
  · refine (hostOps0_1_read_v52_1 (midV m c)).trans ?_
    rw [midV_arg m c main_arg1 (by decide +kernel) (by decide +kernel) (by decide +kernel), midV_arg m c main_arg7 (by decide +kernel) (by decide +kernel) (by decide +kernel)]
  · exact hostOps0_1_read_v52_2 (midV m c)
  · exact hostOps0_1_read_v52_3 (midV m c)
  · exact (hostOps0_1_read_v52_4 (midV m c)).trans ((midV_keep m c main_v6 (by decide +kernel) (by decide +kernel)).trans (hostOps0_read_v6 (launchContents m c)))
  · exact (hostOps0_1_read_v52_5 (midV m c)).trans ((midV_keep m c main_v7 (by decide +kernel) (by decide +kernel)).trans (hostOps0_read_v7 (launchContents m c)))
  · exact (hostOps0_1_read_v52_6 (midV m c)).trans ((midV_keep m c main_v8 (by decide +kernel) (by decide +kernel)).trans (hostOps0_read_v8 (launchContents m c)))
  · exact (hostOps0_1_read_v52_7 (midV m c)).trans ((midV_keep m c main_v9 (by decide +kernel) (by decide +kernel)).trans (hostOps0_read_v9 (launchContents m c)))
  · exact hostOps0_1_read_v52_9 (midV m c)
  · exact hostOps0_1_read_v52_10 (midV m c)
  · exact hostOps0_1_read_v52_11 (midV m c)
  · exact hostOps0_1_read_v52_12 (midV m c)

theorem end_aj (h : Holds m c v) (t : Fin 2048) (b : Fin 2) (g p : Fin 64) :
    Cx (endV m c (Proc.devRef .tc main_v52_13) (ix4 t b g p)) (endV m c (Proc.devRef .tc main_v52_14) (ix4 t b g p)) (v.aj b g p t) := by
  rw [endV_now m c main_v52_13 (by decide +kernel), endV_now m c main_v52_14 (by decide +kernel)]
  exact (adj_end h).all t b g p (by omega)

theorem end_grp : endV m c (Proc.devRef .tc main_v0) = grp (m (c, Proc.devRef .tc main_arg0)) :=
  (endV_keep2 m c main_v0 (by decide +kernel) (by decide +kernel) (by decide +kernel)).trans ((midV_keep m c main_v0 (by decide +kernel) (by decide +kernel)).trans (hostOps0_read_v0 (launchContents m c)))

theorem end_skip : endV m c (Proc.devRef .tc main_v30) = skipU (m (c, Proc.devRef .tc main_arg8)) (m (c, Proc.devRef .tc main_arg1)) := by
  rw [endV_keep m c main_v30 (by decide +kernel) (by decide +kernel), hostOps0_1_read_v30, midV_arg m c main_arg8 (by decide +kernel) (by decide +kernel) (by decide +kernel), midV_arg m c main_arg1 (by decide +kernel) (by decide +kernel) (by decide +kernel)]

theorem end_arg (r : Ref sig .tc) (h0 : r ∉ cond1_W) (h : r ∉ body1_W.flatten) (h1 : r ∉ hostOps0_1_W) (h2 : r ∉ cond0_W)
    (h3 : r ∉ body0_W.flatten) (h4 : r ∉ hostOps0_W) : endV m c (Proc.devRef .tc r) = m (c, Proc.devRef .tc r) := by
  rw [endV_keep2 m c r h0 h h1, midV_arg m c r h2 h3 h4]

theorem fin_du (h : Holds m c v) : fin m c (Proc.devRef .tc main_v63) = v.Du := by
  rw [fin_eq, hostOps0_2_read_v63, end_skip, end_arg main_arg4 (by decide +kernel) (by decide +kernel) (by decide +kernel) (by decide +kernel) (by decide +kernel) (by decide +kernel), end_arg main_arg5 (by decide +kernel) (by decide +kernel) (by decide +kernel) (by decide +kernel) (by decide +kernel) (by decide +kernel)]
  exact gradU_of h (end_aj h)

theorem fin_dbr (h : Holds m c v) : fin m c (Proc.devRef .tc main_v58) = v.Dbr := by
  rw [fin_eq, hostOps0_2_read_v58, end_grp]
  exact gradB_re h (end_aj h)

theorem fin_dbi (h : Holds m c v) : fin m c (Proc.devRef .tc main_v54) = v.Dbi := by
  rw [fin_eq, hostOps0_2_read_v54, end_grp]
  exact gradB_im h (end_aj h)

theorem fin_dlr (h : Holds m c v) : fin m c (Proc.devRef .tc main_v52_9) = v.Dlr := by
  rw [fin_end m c main_v52_9 (by decide +kernel), endV_now m c main_v52_9 (by decide +kernel)]
  funext i; idx_vars i
  exact ((adj_end h).sum i0 i1).1.trans (by rw [part_all]; rfl)

theorem fin_dli (h : Holds m c v) : fin m c (Proc.devRef .tc main_v52_10) = v.Dli := by
  rw [fin_end m c main_v52_10 (by decide +kernel), endV_now m c main_v52_10 (by decide +kernel)]
  funext i; idx_vars i
  exact ((adj_end h).sum i0 i1).2.trans (by rw [part_all]; rfl)

theorem fin_dcr (h : Holds m c v) : fin m c (Proc.devRef .tc main_v43) = v.Dcr := by
  rw [fin_end m c main_v43 (by decide +kernel), endV_keep m c main_v43 (by decide +kernel) (by decide +kernel), hostOps0_1_read_v43,
    midV_arg m c main_arg1 (by decide +kernel) (by decide +kernel) (by decide +kernel)]
  exact gradC_re h (mid_st h)

theorem fin_dci (h : Holds m c v) : fin m c (Proc.devRef .tc main_v39) = v.Dci := by
  rw [fin_end m c main_v39 (by decide +kernel), endV_keep m c main_v39 (by decide +kernel) (by decide +kernel), hostOps0_1_read_v39,
    midV_arg m c main_arg1 (by decide +kernel) (by decide +kernel) (by decide +kernel)]
  exact gradC_im h (mid_st h)

theorem fin_dd (h : Holds m c v) : fin m c (Proc.devRef .tc main_v35) = v.Dd := by
  rw [fin_end m c main_v35 (by decide +kernel), endV_keep m c main_v35 (by decide +kernel) (by decide +kernel), hostOps0_1_read_v35,
    midV_arg m c main_arg1 (by decide +kernel) (by decide +kernel) (by decide +kernel), midV_arg m c main_arg0 (by decide +kernel) (by decide +kernel) (by decide +kernel)]
  exact skipD_of h

end Cert.ReferenceIdeal.Scan
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2.Frame
public import proofs.«01_k».proof.Proof.Product2
public import proofs.«01_k».proof.Proof.Gen.Kernel3.Frame
public import proofs.«01_k».proof.Proof.Product3
public import proofs.«01_k».proof.Proof.Gen.Kernel4.Frame
public import proofs.«01_k».proof.Proof.Product4
public import proofs.«01_k».proof.Proof.Gen.Kernel5.Frame
public import proofs.«01_k».proof.Proof.Product5
public import proofs.«01_k».proof.Proof.Gen.Kernel6.Frame
public import proofs.«01_k».proof.Proof.Product6
public import proofs.«01_k».proof.Proof.Gen.Kernel7.Frame
public import proofs.«01_k».proof.Proof.Product7
public import proofs.«01_k».proof.Proof.Gen.Kernel8.Frame
public import proofs.«01_k».proof.Proof.Product8
public import proofs.«01_k».proof.Proof.Gen.Kernel9.Frame
public import proofs.«01_k».proof.Proof.Product9
public import proofs.«01_k».proof.Proof.Gen.Kernel10.Frame
public import proofs.«01_k».proof.Proof.Product10
public import proofs.«01_k».proof.Proof.Gen.Kernel11.Frame
public import proofs.«01_k».proof.Proof.Product11
public import proofs.«01_k».proof.Proof.Gen.Kernel12.Frame
public import proofs.«01_k».proof.Proof.Product12
public import proofs.«01_k».proof.Proof.Gen.Kernel13.Frame
public import proofs.«01_k».proof.Proof.Product13
public import proofs.«01_k».proof.Proof.Gen.Kernel14.Frame
public import proofs.«01_k».proof.Proof.Product14
public import proofs.«01_k».proof.Proof.Gen.Kernel15.Frame
public import proofs.«01_k».proof.Proof.Product15
public import proofs.«01_k».proof.Proof.Gen.Kernel22.Frame
public import proofs.«01_k».proof.Proof.Product22
public import proofs.«01_k».proof.Proof.Gen.Kernel23.Frame
public import proofs.«01_k».proof.Proof.Product23
public import proofs.«01_k».proof.Proof.Gen.Kernel24.Frame
public import proofs.«01_k».proof.Proof.Product24
public import proofs.«01_k».proof.Proof.Gen.Kernel25.Frame
public import proofs.«01_k».proof.Proof.Product25
public import proofs.«01_k».proof.Proof.Update
public import proofs.«01_k».proof.Proof.Row
public import proofs.«01_k».proof.Proof.Finite
public import proofs.«01_k».proof.Proof.Results
public import proofs.«01_k».proof.Proof.RefValues
public import Idealize.ShloMosaic.Adequacy
public import Idealize.ShloMosaic.Init

@[expose] public section

noncomputable section

namespace Cert.Proof

open Idealize.ShloMosaic Idealize.SL.Sem

section kernel
open Cert.KernelIdeal

/-- The kernel's results and its unchanged arguments, from arguments that hold the values `v`. -/
theorem kernel_run (m : (ℓ : Loc nD τ sig) → Buf (Elt Ideal) ℓ) (g : Dev nD → PrngReg) (v : Dev nD → Model.Vals)
    (hk : ∀ c, Around.Holds m c (v c)) :
    θ_run (defs (F := Ideal)) (onTc (τ := τ) (main (F := Ideal))) ⟨m, fun _ => 0, g⟩ (fun r => ∀ c : Dev nD,
      r.2.mem ((c.tc : Thread nD τ).loc main_v158) = (v c).Du ∧ r.2.mem ((c.tc : Thread nD τ).loc main_v74) = (v c).Dlr ∧ r.2.mem ((c.tc : Thread nD τ).loc main_v76) = (v c).Dli ∧ r.2.mem ((c.tc : Thread nD τ).loc main_v95) = (v c).Dbr ∧ r.2.mem ((c.tc : Thread nD τ).loc main_v114) = (v c).Dbi ∧ r.2.mem ((c.tc : Thread nD τ).loc main_v133) = (v c).Dcr ∧ r.2.mem ((c.tc : Thread nD τ).loc main_v152) = (v c).Dci ∧ r.2.mem ((c.tc : Thread nD τ).loc main_v154) = (v c).Dd
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) :=
  (θ_run defs _ _).mono (fun r h c => ⟨
      (Pipeline.FramePost.rest_eq h.2 c main_v158 (by decide)).trans (Cert.KernelIdeal.Around.end_du (hk c)),
      (Pipeline.FramePost.rest_eq h.2 c main_v74 (by decide)).trans (Cert.KernelIdeal.Around.end_dlr (hk c)),
      (Pipeline.FramePost.rest_eq h.2 c main_v76 (by decide)).trans (Cert.KernelIdeal.Around.end_dli (hk c)),
      (Pipeline.FramePost.rest_eq h.2 c main_v95 (by decide)).trans (Cert.KernelIdeal.Around.end_dbr (hk c)),
      (Pipeline.FramePost.rest_eq h.2 c main_v114 (by decide)).trans (Cert.KernelIdeal.Around.end_dbi (hk c)),
      (Pipeline.FramePost.rest_eq h.2 c main_v133 (by decide)).trans (Cert.KernelIdeal.Around.end_dcr (hk c)),
      (Pipeline.FramePost.rest_eq h.2 c main_v152 (by decide)).trans (Cert.KernelIdeal.Around.end_dci (hk c)),
      (Pipeline.FramePost.rest_eq h.2 c main_v154 (by decide)).trans (Cert.KernelIdeal.Around.end_dd (hk c)),
      h.1 c⟩)
    (θ_run_and (Gen.unchanged m g) (Gen.run_main m g))

end kernel

section reference
open Cert.ReferenceIdeal

/-- The reference's results and its unchanged arguments, from arguments that hold the values `v`. -/
theorem reference_run (m' : (ℓ : Loc nD τ sig) → Buf (Elt Ideal) ℓ) (g : Dev nD → PrngReg) (v : Dev nD → Model.Vals)
    (hr : ∀ c, Scan.Holds m' c (v c)) :
    θ_run (defs (F := Ideal)) (onTc (τ := τ) (main (F := Ideal))) ⟨m', fun _ => 0, g⟩ (fun r => ∀ c : Dev nD,
      r.2.mem ((c.tc : Thread nD τ).loc main_v63) = (v c).Du ∧ r.2.mem ((c.tc : Thread nD τ).loc main_v52_9) = (v c).Dlr ∧ r.2.mem ((c.tc : Thread nD τ).loc main_v52_10) = (v c).Dli ∧ r.2.mem ((c.tc : Thread nD τ).loc main_v58) = (v c).Dbr ∧ r.2.mem ((c.tc : Thread nD τ).loc main_v54) = (v c).Dbi ∧ r.2.mem ((c.tc : Thread nD τ).loc main_v43) = (v c).Dcr ∧ r.2.mem ((c.tc : Thread nD τ).loc main_v39) = (v c).Dci ∧ r.2.mem ((c.tc : Thread nD τ).loc main_v35) = (v c).Dd
      ∧ r.2.mem ((c.tc : Thread nD τ).loc main_arg0) = m' ((c.tc : Thread nD τ).loc main_arg0) ∧ r.2.mem ((c.tc : Thread nD τ).loc main_arg1) = m' ((c.tc : Thread nD τ).loc main_arg1) ∧ r.2.mem ((c.tc : Thread nD τ).loc main_arg2) = m' ((c.tc : Thread nD τ).loc main_arg2) ∧ r.2.mem ((c.tc : Thread nD τ).loc main_arg3) = m' ((c.tc : Thread nD τ).loc main_arg3) ∧ r.2.mem ((c.tc : Thread nD τ).loc main_arg4) = m' ((c.tc : Thread nD τ).loc main_arg4) ∧ r.2.mem ((c.tc : Thread nD τ).loc main_arg5) = m' ((c.tc : Thread nD τ).loc main_arg5) ∧ r.2.mem ((c.tc : Thread nD τ).loc main_arg6) = m' ((c.tc : Thread nD τ).loc main_arg6) ∧ r.2.mem ((c.tc : Thread nD τ).loc main_arg7) = m' ((c.tc : Thread nD τ).loc main_arg7) ∧ r.2.mem ((c.tc : Thread nD τ).loc main_arg8) = m' ((c.tc : Thread nD τ).loc main_arg8)) :=
  (θ_run defs _ _).mono (fun r h c => ⟨
      (h c main_v63 rfl).trans (Cert.ReferenceIdeal.Scan.fin_du (hr c)),
      (h c main_v52_9 rfl).trans (Cert.ReferenceIdeal.Scan.fin_dlr (hr c)),
      (h c main_v52_10 rfl).trans (Cert.ReferenceIdeal.Scan.fin_dli (hr c)),
      (h c main_v58 rfl).trans (Cert.ReferenceIdeal.Scan.fin_dbr (hr c)),
      (h c main_v54 rfl).trans (Cert.ReferenceIdeal.Scan.fin_dbi (hr c)),
      (h c main_v43 rfl).trans (Cert.ReferenceIdeal.Scan.fin_dcr (hr c)),
      (h c main_v39 rfl).trans (Cert.ReferenceIdeal.Scan.fin_dci (hr c)),
      (h c main_v35 rfl).trans (Cert.ReferenceIdeal.Scan.fin_dd (hr c)),
      (h c main_arg0 rfl).trans (Cert.ReferenceIdeal.Scan.fin_keep m' main_arg0 (by decide +kernel) c),
      (h c main_arg1 rfl).trans (Cert.ReferenceIdeal.Scan.fin_keep m' main_arg1 (by decide +kernel) c),
      (h c main_arg2 rfl).trans (Cert.ReferenceIdeal.Scan.fin_keep m' main_arg2 (by decide +kernel) c),
      (h c main_arg3 rfl).trans (Cert.ReferenceIdeal.Scan.fin_keep m' main_arg3 (by decide +kernel) c),
      (h c main_arg4 rfl).trans (Cert.ReferenceIdeal.Scan.fin_keep m' main_arg4 (by decide +kernel) c),
      (h c main_arg5 rfl).trans (Cert.ReferenceIdeal.Scan.fin_keep m' main_arg5 (by decide +kernel) c),
      (h c main_arg6 rfl).trans (Cert.ReferenceIdeal.Scan.fin_keep m' main_arg6 (by decide +kernel) c),
      (h c main_arg7 rfl).trans (Cert.ReferenceIdeal.Scan.fin_keep m' main_arg7 (by decide +kernel) c),
      (h c main_arg8 rfl).trans (Cert.ReferenceIdeal.Scan.fin_keep m' main_arg8 (by decide +kernel) c)⟩)
    (Scan.run_fold m' g)

/-- Equal arguments hold equal values. -/
theorem holds_of (m' : (ℓ : Loc nD τ sig) → Buf (Elt Ideal) ℓ) (c : Dev nD) (v : Model.Vals)
    {a0 a1 : (⟨3, ![2, 2048, 1024]⟩ : Shape).Idx → EReal} {a2 a3 : (⟨2, ![64, 64]⟩ : Shape).Idx → EReal}
    {a4 a5 : (⟨3, ![64, 64, 16]⟩ : Shape).Idx → EReal} {a6 a7 : (⟨3, ![64, 16, 64]⟩ : Shape).Idx → EReal}
    {a8 : (⟨2, ![1, 1024]⟩ : Shape).Idx → EReal} (h : v.Of a0 a1 a2 a3 a4 a5 a6 a7 a8)
    (e : m' (c, Proc.devRef .tc main_arg0) = a0 ∧ m' (c, Proc.devRef .tc main_arg1) = a1 ∧ m' (c, Proc.devRef .tc main_arg2) = a2 ∧ m' (c, Proc.devRef .tc main_arg3) = a3 ∧ m' (c, Proc.devRef .tc main_arg4) = a4 ∧ m' (c, Proc.devRef .tc main_arg5) = a5 ∧ m' (c, Proc.devRef .tc main_arg6) = a6 ∧ m' (c, Proc.devRef .tc main_arg7) = a7 ∧ m' (c, Proc.devRef .tc main_arg8) = a8) : Scan.Holds m' c v := by
  obtain ⟨e0, e1, e2, e3, e4, e5, e6, e7, e8⟩ := e
  unfold Scan.Holds
  rw [e0, e1, e2, e3, e4, e5, e6, e7, e8]
  exact h

end reference

section products
open Cert

theorem product2 : algebraic_Kernel2Ideal_Reference2Ideal (hKernel2Ideal := Kernel2Ideal.Gen.facts) (hReference2Ideal := Reference2Ideal.Gen.facts) := by
  intro m g m' g' _ h
  refine ⟨_, (θ_run _ _ _).mono (fun r hr c => ⟨(hr c).1.trans (Kernel2Ideal.Product.array m c), (hr c).2⟩) (Kernel2Ideal.Value.run_blocks m g),
    (θ_run _ _ _).mono (fun r hr c => ⟨(hr c).1.trans ?_, (hr c).2⟩) (Reference2Ideal.Value.run m' g')⟩
  rw [(h c).1, (h c).2]
  exact Reference2Ideal.Product.array _ _

theorem product3 : algebraic_Kernel3Ideal_Reference3Ideal (hKernel3Ideal := Kernel3Ideal.Gen.facts) (hReference3Ideal := Reference3Ideal.Gen.facts) := by
  intro m g m' g' _ h
  refine ⟨_, (θ_run _ _ _).mono (fun r hr c => ⟨(hr c).1.trans (Kernel3Ideal.Product.array m c), (hr c).2⟩) (Kernel3Ideal.Value.run m g),
    (θ_run _ _ _).mono (fun r hr c => ⟨(hr c).1.trans ?_, (hr c).2⟩) (Reference3Ideal.Value.run m' g')⟩
  rw [(h c).1, (h c).2]
  exact Reference3Ideal.Product.array _ _

theorem product4 : algebraic_Kernel4Ideal_Reference4Ideal (hKernel4Ideal := Kernel4Ideal.Gen.facts) (hReference4Ideal := Reference4Ideal.Gen.facts) := by
  intro m g m' g' _ h
  refine ⟨_, (θ_run _ _ _).mono (fun r hr c => ⟨(hr c).1.trans (Kernel4Ideal.Product.array m c), (hr c).2⟩) (Kernel4Ideal.Value.run m g),
    (θ_run _ _ _).mono (fun r hr c => ⟨(hr c).1.trans ?_, (hr c).2⟩) (Reference4Ideal.Value.run m' g')⟩
  rw [(h c).1, (h c).2]
  exact Reference4Ideal.Product.array _ _

theorem product5 : algebraic_Kernel5Ideal_Reference5Ideal (hKernel5Ideal := Kernel5Ideal.Gen.facts) (hReference5Ideal := Reference5Ideal.Gen.facts) := by
  intro m g m' g' _ h
  refine ⟨_, (θ_run _ _ _).mono (fun r hr c => ⟨(hr c).1.trans (Kernel5Ideal.Product.array m c), (hr c).2⟩) (Kernel5Ideal.Value.run m g),
    (θ_run _ _ _).mono (fun r hr c => ⟨(hr c).1.trans ?_, (hr c).2⟩) (Reference5Ideal.Value.run m' g')⟩
  rw [(h c).1, (h c).2]
  exact Reference5Ideal.Product.array _ _

theorem product6 : algebraic_Kernel6Ideal_Reference6Ideal (hKernel6Ideal := Kernel6Ideal.Gen.facts) (hReference6Ideal := Reference6Ideal.Gen.facts) := by
  intro m g m' g' _ h
  refine ⟨_, (θ_run _ _ _).mono (fun r hr c => ⟨(hr c).1.trans (Kernel6Ideal.Product.array m c), (hr c).2⟩) (Kernel6Ideal.Value.run_blocks m g),
    (θ_run _ _ _).mono (fun r hr c => ⟨(hr c).1.trans ?_, (hr c).2⟩) (Reference6Ideal.Value.run m' g')⟩
  rw [(h c).1, (h c).2]
  exact Reference6Ideal.Product.array _ _

theorem product7 : algebraic_Kernel7Ideal_Reference7Ideal (hKernel7Ideal := Kernel7Ideal.Gen.facts) (hReference7Ideal := Reference7Ideal.Gen.facts) := by
  intro m g m' g' _ h
  refine ⟨_, (θ_run _ _ _).mono (fun r hr c => ⟨(hr c).1.trans (Kernel7Ideal.Product.array m c), (hr c).2⟩) (Kernel7Ideal.Value.run m g),
    (θ_run _ _ _).mono (fun r hr c => ⟨(hr c).1.trans ?_, (hr c).2⟩) (Reference7Ideal.Value.run m' g')⟩
  rw [(h c).1, (h c).2]
  exact Reference7Ideal.Product.array _ _

theorem product8 : algebraic_Kernel8Ideal_Reference8Ideal (hKernel8Ideal := Kernel8Ideal.Gen.facts) (hReference8Ideal := Reference8Ideal.Gen.facts) := by
  intro m g m' g' _ h
  refine ⟨_, (θ_run _ _ _).mono (fun r hr c => ⟨(hr c).1.trans (Kernel8Ideal.Product.array m c), (hr c).2⟩) (Kernel8Ideal.Value.run_blocks m g),
    (θ_run _ _ _).mono (fun r hr c => ⟨(hr c).1.trans ?_, (hr c).2⟩) (Reference8Ideal.Value.run m' g')⟩
  rw [(h c).1, (h c).2]
  exact Reference8Ideal.Product.array _ _

theorem product9 : algebraic_Kernel9Ideal_Reference9Ideal (hKernel9Ideal := Kernel9Ideal.Gen.facts) (hReference9Ideal := Reference9Ideal.Gen.facts) := by
  intro m g m' g' _ h
  refine ⟨_, (θ_run _ _ _).mono (fun r hr c => ⟨(hr c).1.trans (Kernel9Ideal.Product.array m c), (hr c).2⟩) (Kernel9Ideal.Value.run m g),
    (θ_run _ _ _).mono (fun r hr c => ⟨(hr c).1.trans ?_, (hr c).2⟩) (Reference9Ideal.Value.run m' g')⟩
  rw [(h c).1, (h c).2]
  exact Reference9Ideal.Product.array _ _

theorem product10 : algebraic_Kernel10Ideal_Reference10Ideal (hKernel10Ideal := Kernel10Ideal.Gen.facts) (hReference10Ideal := Reference10Ideal.Gen.facts) := by
  intro m g m' g' _ h
  refine ⟨_, (θ_run _ _ _).mono (fun r hr c => ⟨(hr c).1.trans (Kernel10Ideal.Product.array m c), (hr c).2⟩) (Kernel10Ideal.Value.run m g),
    (θ_run _ _ _).mono (fun r hr c => ⟨(hr c).1.trans ?_, (hr c).2⟩) (Reference10Ideal.Value.run m' g')⟩
  rw [(h c).1, (h c).2]
  exact Reference10Ideal.Product.array _ _

theorem product11 : algebraic_Kernel11Ideal_Reference11Ideal (hKernel11Ideal := Kernel11Ideal.Gen.facts) (hReference11Ideal := Reference11Ideal.Gen.facts) := by
  intro m g m' g' _ h
  refine ⟨_, (θ_run _ _ _).mono (fun r hr c => ⟨(hr c).1.trans (Kernel11Ideal.Product.array m c), (hr c).2⟩) (Kernel11Ideal.Value.run_blocks m g),
    (θ_run _ _ _).mono (fun r hr c => ⟨(hr c).1.trans ?_, (hr c).2⟩) (Reference11Ideal.Value.run m' g')⟩
  rw [(h c).1, (h c).2]
  exact Reference11Ideal.Product.array _ _

theorem product12 : algebraic_Kernel12Ideal_Reference12Ideal (hKernel12Ideal := Kernel12Ideal.Gen.facts) (hReference12Ideal := Reference12Ideal.Gen.facts) := by
  intro m g m' g' _ h
  refine ⟨_, (θ_run _ _ _).mono (fun r hr c => ⟨(hr c).1.trans (Kernel12Ideal.Product.array m c), (hr c).2⟩) (Kernel12Ideal.Value.run_blocks m g),
    (θ_run _ _ _).mono (fun r hr c => ⟨(hr c).1.trans ?_, (hr c).2⟩) (Reference12Ideal.Value.run m' g')⟩
  rw [(h c).1, (h c).2]
  exact Reference12Ideal.Product.array _ _

theorem product13 : algebraic_Kernel13Ideal_Reference13Ideal (hKernel13Ideal := Kernel13Ideal.Gen.facts) (hReference13Ideal := Reference13Ideal.Gen.facts) := by
  intro m g m' g' _ h
  refine ⟨_, (θ_run _ _ _).mono (fun r hr c => ⟨(hr c).1.trans (Kernel13Ideal.Product.array m c), (hr c).2⟩) (Kernel13Ideal.Value.run_blocks m g),
    (θ_run _ _ _).mono (fun r hr c => ⟨(hr c).1.trans ?_, (hr c).2⟩) (Reference13Ideal.Value.run m' g')⟩
  rw [(h c).1, (h c).2]
  exact Reference13Ideal.Product.array _ _

theorem product14 : algebraic_Kernel14Ideal_Reference14Ideal (hKernel14Ideal := Kernel14Ideal.Gen.facts) (hReference14Ideal := Reference14Ideal.Gen.facts) := by
  intro m g m' g' _ h
  refine ⟨_, (θ_run _ _ _).mono (fun r hr c => ⟨(hr c).1.trans (Kernel14Ideal.Product.array m c), (hr c).2⟩) (Kernel14Ideal.Value.run_blocks m g),
    (θ_run _ _ _).mono (fun r hr c => ⟨(hr c).1.trans ?_, (hr c).2⟩) (Reference14Ideal.Value.run m' g')⟩
  rw [(h c).1, (h c).2]
  exact Reference14Ideal.Product.array _ _

theorem product15 : algebraic_Kernel15Ideal_Reference15Ideal (hKernel15Ideal := Kernel15Ideal.Gen.facts) (hReference15Ideal := Reference15Ideal.Gen.facts) := by
  intro m g m' g' _ h
  refine ⟨_, (θ_run _ _ _).mono (fun r hr c => ⟨(hr c).1.trans (Kernel15Ideal.Product.array m c), (hr c).2⟩) (Kernel15Ideal.Value.run_blocks m g),
    (θ_run _ _ _).mono (fun r hr c => ⟨(hr c).1.trans ?_, (hr c).2⟩) (Reference15Ideal.Value.run m' g')⟩
  rw [(h c).1, (h c).2.1, (h c).2.2]
  exact Reference15Ideal.Product.array _ _ _

theorem product22 : algebraic_Kernel22Ideal_Reference22Ideal (hKernel22Ideal := Kernel22Ideal.Gen.facts) (hReference22Ideal := Reference22Ideal.Gen.facts) := by
  intro m g m' g' _ h
  refine ⟨_, (θ_run _ _ _).mono (fun r hr c => ⟨(hr c).1.trans (Kernel22Ideal.Product.array m c), (hr c).2⟩) (Kernel22Ideal.Value.run_blocks m g),
    (θ_run _ _ _).mono (fun r hr c => ⟨(hr c).1.trans ?_, (hr c).2⟩) (Reference22Ideal.Value.run m' g')⟩
  rw [(h c).1, (h c).2.1, (h c).2.2]
  exact Reference22Ideal.Product.array _ _ _

theorem product23 : algebraic_Kernel23Ideal_Reference23Ideal (hKernel23Ideal := Kernel23Ideal.Gen.facts) (hReference23Ideal := Reference23Ideal.Gen.facts) := by
  intro m g m' g' _ h
  refine ⟨_, (θ_run _ _ _).mono (fun r hr c => ⟨(hr c).1.trans (Kernel23Ideal.Product.array m c), (hr c).2⟩) (Kernel23Ideal.Value.run_blocks m g),
    (θ_run _ _ _).mono (fun r hr c => ⟨(hr c).1.trans ?_, (hr c).2⟩) (Reference23Ideal.Value.run m' g')⟩
  rw [(h c).1, (h c).2.1, (h c).2.2]
  exact Reference23Ideal.Product.array _ _ _

theorem product24 : algebraic_Kernel24Ideal_Reference24Ideal (hKernel24Ideal := Kernel24Ideal.Gen.facts) (hReference24Ideal := Reference24Ideal.Gen.facts) := by
  intro m g m' g' _ h
  refine ⟨_, (θ_run _ _ _).mono (fun r hr c => ⟨(hr c).1.trans (Kernel24Ideal.Product.array m c), (hr c).2⟩) (Kernel24Ideal.Value.run_blocks m g),
    (θ_run _ _ _).mono (fun r hr c => ⟨(hr c).1.trans ?_, (hr c).2⟩) (Reference24Ideal.Value.run m' g')⟩
  rw [(h c).1, (h c).2]
  exact Reference24Ideal.Product.array _ _

theorem product25 : algebraic_Kernel25Ideal_Reference25Ideal (hKernel25Ideal := Kernel25Ideal.Gen.facts) (hReference25Ideal := Reference25Ideal.Gen.facts) := by
  intro m g m' g' _ h
  refine ⟨_, (θ_run _ _ _).mono (fun r hr c => ⟨(hr c).1.trans (Kernel25Ideal.Product.array m c), (hr c).2⟩) (Kernel25Ideal.Value.run_blocks m g),
    (θ_run _ _ _).mono (fun r hr c => ⟨(hr c).1.trans ?_, (hr c).2⟩) (Reference25Ideal.Value.run m' g')⟩
  rw [(h c).1, (h c).2]
  exact Reference25Ideal.Product.array _ _

end products

theorem claim : Cert.Claim :=
  ⟨Cert.Kernel.Gen.facts, Cert.KernelIdeal.Gen.facts, Cert.ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Cert.Pre_finite.Real.facts,
    fun m g _ => Cert.Kernel.Gen.frame m g,
    fun m g _ => Cert.KernelIdeal.Gen.frame m g,
    fun m g _ => Cert.KernelIdeal.Gen.frame m g,
    fun m g _ => Cert.ReferenceIdeal.Scan.frame m g,
    fun m g _ => Cert.ReferenceIdeal.Scan.frame m g,
    fun m g _ => Kernel2.Gen.frame m g, fun m g _ => Kernel2Ideal.Gen.frame m g,
    fun m g _ => (θ_run Reference2Ideal.defs _ _).mono (fun _ h => ⟨fun c => (h c).2, sem_eq_zero_of_no_sems rfl _⟩) (Reference2Ideal.Value.run m g),
    fun m g _ => Kernel3.Gen.frame m g, fun m g _ => Kernel3Ideal.Gen.frame m g,
    fun m g _ => (θ_run Reference3Ideal.defs _ _).mono (fun _ h => ⟨fun c => (h c).2, sem_eq_zero_of_no_sems rfl _⟩) (Reference3Ideal.Value.run m g),
    fun m g _ => Kernel4.Gen.frame m g, fun m g _ => Kernel4Ideal.Gen.frame m g,
    fun m g _ => (θ_run Reference4Ideal.defs _ _).mono (fun _ h => ⟨fun c => (h c).2, sem_eq_zero_of_no_sems rfl _⟩) (Reference4Ideal.Value.run m g),
    fun m g _ => Kernel5.Gen.frame m g, fun m g _ => Kernel5Ideal.Gen.frame m g,
    fun m g _ => (θ_run Reference5Ideal.defs _ _).mono (fun _ h => ⟨fun c => (h c).2, sem_eq_zero_of_no_sems rfl _⟩) (Reference5Ideal.Value.run m g),
    fun m g _ => Kernel6.Gen.frame m g, fun m g _ => Kernel6Ideal.Gen.frame m g,
    fun m g _ => (θ_run Reference6Ideal.defs _ _).mono (fun _ h => ⟨fun c => (h c).2, sem_eq_zero_of_no_sems rfl _⟩) (Reference6Ideal.Value.run m g),
    fun m g _ => Kernel7.Gen.frame m g, fun m g _ => Kernel7Ideal.Gen.frame m g,
    fun m g _ => (θ_run Reference7Ideal.defs _ _).mono (fun _ h => ⟨fun c => (h c).2, sem_eq_zero_of_no_sems rfl _⟩) (Reference7Ideal.Value.run m g),
    fun m g _ => Kernel8.Gen.frame m g, fun m g _ => Kernel8Ideal.Gen.frame m g,
    fun m g _ => (θ_run Reference8Ideal.defs _ _).mono (fun _ h => ⟨fun c => (h c).2, sem_eq_zero_of_no_sems rfl _⟩) (Reference8Ideal.Value.run m g),
    fun m g _ => Kernel9.Gen.frame m g, fun m g _ => Kernel9Ideal.Gen.frame m g,
    fun m g _ => (θ_run Reference9Ideal.defs _ _).mono (fun _ h => ⟨fun c => (h c).2, sem_eq_zero_of_no_sems rfl _⟩) (Reference9Ideal.Value.run m g),
    fun m g _ => Kernel10.Gen.frame m g, fun m g _ => Kernel10Ideal.Gen.frame m g,
    fun m g _ => (θ_run Reference10Ideal.defs _ _).mono (fun _ h => ⟨fun c => (h c).2, sem_eq_zero_of_no_sems rfl _⟩) (Reference10Ideal.Value.run m g),
    fun m g _ => Kernel11.Gen.frame m g, fun m g _ => Kernel11Ideal.Gen.frame m g,
    fun m g _ => (θ_run Reference11Ideal.defs _ _).mono (fun _ h => ⟨fun c => (h c).2, sem_eq_zero_of_no_sems rfl _⟩) (Reference11Ideal.Value.run m g),
    fun m g _ => Kernel12.Gen.frame m g, fun m g _ => Kernel12Ideal.Gen.frame m g,
    fun m g _ => (θ_run Reference12Ideal.defs _ _).mono (fun _ h => ⟨fun c => (h c).2, sem_eq_zero_of_no_sems rfl _⟩) (Reference12Ideal.Value.run m g),
    fun m g _ => Kernel13.Gen.frame m g, fun m g _ => Kernel13Ideal.Gen.frame m g,
    fun m g _ => (θ_run Reference13Ideal.defs _ _).mono (fun _ h => ⟨fun c => (h c).2, sem_eq_zero_of_no_sems rfl _⟩) (Reference13Ideal.Value.run m g),
    fun m g _ => Kernel14.Gen.frame m g, fun m g _ => Kernel14Ideal.Gen.frame m g,
    fun m g _ => (θ_run Reference14Ideal.defs _ _).mono (fun _ h => ⟨fun c => (h c).2, sem_eq_zero_of_no_sems rfl _⟩) (Reference14Ideal.Value.run m g),
    fun m g _ => Kernel15.Gen.frame m g, fun m g _ => Kernel15Ideal.Gen.frame m g,
    fun m g _ => (θ_run Reference15Ideal.defs _ _).mono (fun _ h => ⟨fun c => (h c).2, sem_eq_zero_of_no_sems rfl _⟩) (Reference15Ideal.Value.run m g),
    fun m g _ => Kernel16.Gen.frame m g, fun m g _ => Kernel16Ideal.Gen.frame m g,
    fun m g _ => (θ_run Reference16Ideal.defs _ _).mono (fun _ h => ⟨fun c => (h c).2.2.2, sem_eq_zero_of_no_sems rfl _⟩) (Reference16Ideal.Value.run m g),
    fun m g _ => Kernel17.Gen.frame m g, fun m g _ => Kernel17Ideal.Gen.frame m g,
    fun m g _ => (θ_run Reference17Ideal.defs _ _).mono (fun _ h => ⟨fun c => (h c).2.2.2, sem_eq_zero_of_no_sems rfl _⟩) (Reference17Ideal.Value.run m g),
    fun m g _ => Kernel18.Gen.frame m g, fun m g _ => Kernel18Ideal.Gen.frame m g,
    fun m g _ => (θ_run Reference18Ideal.defs _ _).mono (fun _ h => ⟨fun c => (h c).2.2.2, sem_eq_zero_of_no_sems rfl _⟩) (Reference18Ideal.Value.run m g),
    fun m g _ => Kernel19.Gen.frame m g, fun m g _ => Kernel19Ideal.Gen.frame m g,
    fun m g _ => (θ_run Reference19Ideal.defs _ _).mono (fun _ h => ⟨fun c => (h c).2.2.2, sem_eq_zero_of_no_sems rfl _⟩) (Reference19Ideal.Value.run m g),
    fun m g _ => Kernel20.Gen.frame m g, fun m g _ => Kernel20Ideal.Gen.frame m g,
    fun m g _ => (θ_run Reference20Ideal.defs _ _).mono (fun _ h => ⟨fun c => (h c).2.2.2, sem_eq_zero_of_no_sems rfl _⟩) (Reference20Ideal.Value.run m g),
    fun m g _ => Kernel21.Gen.frame m g, fun m g _ => Kernel21Ideal.Gen.frame m g,
    fun m g _ => (θ_run Reference21Ideal.defs _ _).mono (fun _ h => ⟨fun c => (h c).2.2.2, sem_eq_zero_of_no_sems rfl _⟩) (Reference21Ideal.Value.run m g),
    fun m g _ => Kernel22.Gen.frame m g, fun m g _ => Kernel22Ideal.Gen.frame m g,
    fun m g _ => (θ_run Reference22Ideal.defs _ _).mono (fun _ h => ⟨fun c => (h c).2, sem_eq_zero_of_no_sems rfl _⟩) (Reference22Ideal.Value.run m g),
    fun m g _ => Kernel23.Gen.frame m g, fun m g _ => Kernel23Ideal.Gen.frame m g,
    fun m g _ => (θ_run Reference23Ideal.defs _ _).mono (fun _ h => ⟨fun c => (h c).2, sem_eq_zero_of_no_sems rfl _⟩) (Reference23Ideal.Value.run m g),
    fun m g _ => Kernel24.Gen.frame m g, fun m g _ => Kernel24Ideal.Gen.frame m g,
    fun m g _ => (θ_run Reference24Ideal.defs _ _).mono (fun _ h => ⟨fun c => (h c).2, sem_eq_zero_of_no_sems rfl _⟩) (Reference24Ideal.Value.run m g),
    fun m g _ => Kernel25.Gen.frame m g, fun m g _ => Kernel25Ideal.Gen.frame m g,
    fun m g _ => (θ_run Reference25Ideal.defs _ _).mono (fun _ h => ⟨fun c => (h c).2, sem_eq_zero_of_no_sems rfl _⟩) (Reference25Ideal.Value.run m g),
    fun m g _ => Kernel26.Gen.frame m g, fun m g _ => Kernel26Ideal.Gen.frame m g,
    fun m g _ => (θ_run Reference26Ideal.defs _ _).mono (fun _ h => ⟨fun c => (h c).2, sem_eq_zero_of_no_sems rfl _⟩) (Reference26Ideal.Value.run m g),
    fun m g _ => Kernel27.Gen.frame m g, fun m g _ => Kernel27Ideal.Gen.frame m g,
    fun m g _ => (θ_run Reference27Ideal.defs _ _).mono (fun _ h => ⟨fun c => (h c).2, sem_eq_zero_of_no_sems rfl _⟩) (Reference27Ideal.Value.run m g),
    fun m g _ => Kernel28.Gen.frame m g, fun m g _ => Kernel28Ideal.Gen.frame m g,
    fun m g _ => (θ_run Reference28Ideal.defs _ _).mono (fun _ h => ⟨fun c => (h c).2, sem_eq_zero_of_no_sems rfl _⟩) (Reference28Ideal.Value.run m g),
    trivial,
    fun m g m' g' h e => by
      have hv := Cert.KernelIdeal.holds_vals m h
      refine ⟨fun c => (Cert.KernelIdeal.vals m c).Du, fun c => (Cert.KernelIdeal.vals m c).Dlr, fun c => (Cert.KernelIdeal.vals m c).Dli, fun c => (Cert.KernelIdeal.vals m c).Dbr, fun c => (Cert.KernelIdeal.vals m c).Dbi, fun c => (Cert.KernelIdeal.vals m c).Dcr, fun c => (Cert.KernelIdeal.vals m c).Dci, fun c => (Cert.KernelIdeal.vals m c).Dd, ?_, ?_⟩
      · exact kernel_run m g (Cert.KernelIdeal.vals m) hv
      · exact reference_run m' g' (Cert.KernelIdeal.vals m) (fun c => holds_of m' c _ (hv c) (e c)),
    trivial, product2,
    trivial, product3,
    trivial, product4,
    trivial, product5,
    trivial, product6,
    trivial, product7,
    trivial, product8,
    trivial, product9,
    trivial, product10,
    trivial, product11,
    trivial, product12,
    trivial, product13,
    trivial, product14,
    trivial, product15,
    trivial, Update.update16,
    trivial, Update.update17,
    trivial, Update.update18,
    trivial, Update.update19,
    trivial, Update.update20,
    trivial, Update.update21,
    trivial, product22,
    trivial, product23,
    trivial, product24,
    trivial, product25,
    trivial, Row.row26,
    trivial, Row.row27,
    trivial, Row.row28⟩

end Cert.Proof

end
